-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))).1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))).2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))).2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))).1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))).2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Mixer_MixerIdeal : Prop :=
  IdealRules.named_const.Statement Cert.MixerIdeal.κ "state_decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.MixerIdeal.κ "state_decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.MixerIdeal.κ "state_decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.MixerIdeal.κ "state_decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v71)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v71) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v247) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v5)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v5) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v18) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v21) = v0 c
          ∧ r.2.mem ((c.tc : Thread Cert.QkvRefIdeal.nD Cert.QkvRefIdeal.τ).loc Cert.QkvRefIdeal.main_v24) = v1 c
          ∧ r.2.mem ((c.tc : Thread Cert.QkvRefIdeal.nD Cert.QkvRefIdeal.τ).loc Cert.QkvRefIdeal.main_v27) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hQkv : Cert.Qkv.Facts) (hQkvIdeal : Cert.QkvIdeal.Facts) (hQkvRefIdeal : Cert.QkvRefIdeal.Facts) (hPre_finite : Cert.Pre_finite.Facts),
    quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mixer_MixerIdeal
    ∧ algebraic_MixerIdeal_MixerRefIdeal_pre_finite (hMixerIdeal := hMixerIdeal) (hMixerRefIdeal := hMixerRefIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Qkv_QkvIdeal
    ∧ algebraic_QkvIdeal_QkvRefIdeal (hQkvIdeal := hQkvIdeal) (hQkvRefIdeal := hQkvRefIdeal)
-- ==== Pre_finite.lean ====
abbrev S8x8192x1024 : Shape := ⟨3, ![8, 8192, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S1024x1024 : Shape := ⟨2, ![1024, 1024]⟩
abbrev S_ : Shape := ⟨0, ![]⟩

class Facts : Prop where
  bcast_S_S8x8192x1024 : S_.BroadcastsInDim S8x8192x1024 (![] : Fin 0 → Fin S8x8192x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S8x8192x1024 .f32) (main_arg1 : FVec F S1024 .f32) (main_arg2 : FVec F S1024x2560 .f32) (main_arg3 : FVec F S512 .f32) (main_arg4 : FVec F S4x128x128 .f32) (main_arg5 : FVec F S512 .f32) (main_arg6 : FVec F S1024x1024 .f32) : IVec S8x8192x1024 1 × IVec S1024 1 × IVec S1024x2560 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg2
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  (main_v2, main_v5, main_v8)
-- ==== Mixer.lean ====
abbrev S8x8192x1024 : Shape := ⟨3, ![8, 8192, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S1024x1024 : Shape := ⟨2, ![1024, 1024]⟩
abbrev S8192x128 : Shape := ⟨2, ![8192, 128]⟩
abbrev S_ : Shape := ⟨0, ![]⟩
abbrev S4 : Shape := ⟨1, ![4]⟩
abbrev S4x1x1 : Shape := ⟨3, ![4, 1, 1]⟩
abbrev S256x256 : Shape := ⟨2, ![256, 256]⟩
abbrev S256x128 : Shape := ⟨2, ![256, 128]⟩
abbrev S1x256x256 : Shape := ⟨3, ![1, 256, 256]⟩
abbrev S4x256x256 : Shape := ⟨3, ![4, 256, 256]⟩
abbrev S1x256x128 : Shape := ⟨3, ![1, 256, 128]⟩
abbrev S4x256x128 : Shape := ⟨3, ![4, 256, 128]⟩
abbrev S1x1024 : Shape := ⟨2, ![1, 1024]⟩
abbrev S1x512 : Shape := ⟨2, ![1, 512]⟩
abbrev S1x1024x1024 : Shape := ⟨3, ![1, 1024, 1024]⟩
abbrev S1024x128 : Shape := ⟨2, ![1024, 128]⟩
abbrev S1040x512 : Shape := ⟨2, ![1040, 512]⟩
abbrev S16x512 : Shape := ⟨2, ![16, 512]⟩
abbrev S1024x1 : Shape := ⟨2, ![1024, 1]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x128 : Shape := ⟨2, ![1, 128]⟩
abbrev S1024x512 : Shape := ⟨2, ![1024, 512]⟩
abbrev S16x128 : Shape := ⟨2, ![16, 128]⟩
abbrev S1040x128 : Shape := ⟨2, ![1040, 128]⟩
abbrev S1008x128 : Shape := ⟨2, ![1008, 128]⟩

abbrev nBuf : Space → Nat
  | .hbm => 99
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S4x128x128, .f32⟩
  | .hbm, ⟨5, _⟩ => ⟨S512, .f32⟩
  | .hbm, ⟨6, _⟩ => ⟨S1024x1024, .f32⟩
  | .hbm, ⟨7, _⟩ => ⟨S8192x128, .i32⟩
  | .hbm, ⟨8, _⟩ => ⟨S8192x128, .f32⟩
  | .hbm, ⟨9, _⟩ => ⟨S8192x128, .i32⟩
  | .hbm, ⟨10, _⟩ => ⟨S_, .i32⟩
  | .hbm, ⟨11, _⟩ => ⟨S8192x128, .i32⟩
  | .hbm, ⟨12, _⟩ => ⟨S8192x128, .i32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .i32⟩
  | .hbm, ⟨28, _⟩ => ⟨S8192x128, .i32⟩
  | .hbm, ⟨29, _⟩ => ⟨S8192x128, .i32⟩
  | .hbm, ⟨30, _⟩ => ⟨S_, .i32⟩
  | .hbm, ⟨31, _⟩ => ⟨S8192x128, .i32⟩
  | .hbm, ⟨32, _⟩ => ⟨S8192x128, .i1⟩
  | .hbm, ⟨33, _⟩ => ⟨S_, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4x1x1, .f32⟩
  | .hbm, ⟨51, _⟩ => ⟨S256x256, .i32⟩
  | .hbm, ⟨52, _⟩ => ⟨S256x256, .i32⟩
  | .hbm, ⟨53, _⟩ => ⟨S256x256, .i32⟩
  | .hbm, ⟨54, _⟩ => ⟨S256x256, .i32⟩
  | .hbm, ⟨55, _⟩ => ⟨S256x256, .f32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x128, .i32⟩
  | .hbm, ⟨64, _⟩ => ⟨S256x128, .f32⟩
  | .hbm, ⟨65, _⟩ => ⟨S1x256x256, .i1⟩
  | .hbm, ⟨66, _⟩ => ⟨S1x256x256, .f32⟩
  | .hbm, ⟨67, _⟩ => ⟨S4x256x256, .f32⟩
  | .hbm, ⟨68, _⟩ => ⟨S4x256x256, .f32⟩
  | .hbm, ⟨69, _⟩ => ⟨S4x256x256, .f32⟩
  | .hbm, ⟨70, _⟩ => ⟨S4x256x256, .f32⟩
  | .hbm, ⟨71, _⟩ => ⟨S_, .f32⟩
  | .hbm, ⟨72, _⟩ => ⟨S_, .f32⟩
  | .hbm, ⟨73, _⟩ => ⟨S4x256x256, .i1⟩
  | .hbm, ⟨74, _⟩ => ⟨S4x256x256, .f32⟩
  | .hbm, ⟨75, _⟩ => ⟨S4x256x256, .f32⟩
  | .hbm, ⟨76, _⟩ => ⟨S_, .f32⟩
  | .hbm, ⟨77, _⟩ => ⟨S256x128, .f32⟩
  | .hbm, ⟨78, _⟩ => ⟨S256x128, .f32⟩
  | .hbm, ⟨79, _⟩ => ⟨S1x256x128, .f32⟩
  | .hbm, ⟨80, _⟩ => ⟨S4x256x128, .f32⟩
  | .hbm, ⟨81, _⟩ => ⟨S4x256x128, .f32⟩
  | .hbm, ⟨82, _⟩ => ⟨S4x256x128, .f32⟩
  | .hbm, ⟨83, _⟩ => ⟨S4x256x128, .f32⟩
  | .hbm, ⟨84, _⟩ => ⟨S_, .f32⟩
  | .hbm, ⟨85, _⟩ => ⟨S256x128, .f32⟩
  | .hbm, ⟨86, _⟩ => ⟨S256x128, .f32⟩
  | .hbm, ⟨87, _⟩ => ⟨S1x256x128, .f32⟩
  | .hbm, ⟨88, _⟩ => ⟨S4x256x128, .f32⟩
  | .hbm, ⟨89, _⟩ => ⟨S4x256x128, .f32⟩
  | .hbm, ⟨90, _⟩ => ⟨S4x256x128, .f32⟩
  | .hbm, ⟨91, _⟩ => ⟨S4x256x128, .f32⟩
  | .hbm, ⟨92, _⟩ => ⟨S1x1024, .f32⟩
  | .hbm, ⟨93, _⟩ => ⟨S1024x2560, .bf16⟩
  | .hbm, ⟨94, _⟩ => ⟨S1x512, .f32⟩
  | .hbm, ⟨95, _⟩ => ⟨S4x128x128, .bf16⟩
  | .hbm, ⟨96, _⟩ => ⟨S1x512, .f32⟩
  | .hbm, ⟨97, _⟩ => ⟨S1024x1024, .bf16⟩
  | .hbm, ⟨98, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S4x256x256, .f32⟩
  | .local _ .vmem, ⟨9, _⟩ => ⟨S4x256x128, .f32⟩
  | .local _ .vmem, ⟨10, _⟩ => ⟨S4x256x128, .f32⟩
  | .local _ .vmem, ⟨11, _⟩ => ⟨S1x512, .f32⟩
  | .local _ .vmem, ⟨12, _⟩ => ⟨S4x128x128, .bf16⟩
  | .local _ .vmem, ⟨13, _⟩ => ⟨S1x512, .f32⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1024x2560, .f32⟩
  | .local _ .vmem, ⟨18, _⟩ => ⟨S1024x1024, .bf16⟩
  | .local _ .vmem, ⟨19, _⟩ => ⟨S4x128x128, .f32⟩
  | .local _ .vmem, ⟨20, _⟩ => ⟨S1040x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixerIdeal.lean ====
variable {F : FTy → Type} [FloatOps F] [Named F]
def κ : String → Option EReal := fun
  | "state_decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "state_decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "state_decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "state_decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== MixerRefIdeal.lean ====
abbrev S8x8192x1024 : Shape := ⟨3, ![8, 8192, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2560 : Shape := ⟨3, ![8, 8192, 2560]⟩
abbrev S8x8192x512 : Shape := ⟨3, ![8, 8192, 512]⟩
abbrev S8x8192x4x128 : Shape := ⟨4, ![8, 8192, 4, 128]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S8x8192x4x64 : Shape := ⟨4, ![8, 8192, 4, 64]⟩
abbrev S8x8192x4x64x1 : Shape := ⟨5, ![8, 8192, 4, 64, 1]⟩
abbrev S8x8192x4x64x2 : Shape := ⟨5, ![8, 8192, 4, 64, 2]⟩
abbrev S4 : Shape := ⟨1, ![4]⟩
abbrev S64x1 : Shape := ⟨2, ![64, 1]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S8x128x64x4x128 : Shape := ⟨5, ![8, 128, 64, 4, 128]⟩
abbrev S8x128x4x64x64 : Shape := ⟨5, ![8, 128, 4, 64, 64]⟩
abbrev S1x1x4x64x64 : Shape := ⟨5, ![1, 1, 4, 64, 64]⟩
abbrev S8x128x4x128x64 : Shape := ⟨5, ![8, 128, 4, 128, 64]⟩
abbrev S128x8x64x4x128 : Shape := ⟨5, ![128, 8, 64, 4, 128]⟩
abbrev S8x4x128x128 : Shape := ⟨4, ![8, 4, 128, 128]⟩
abbrev S1x8x64x4x128 : Shape := ⟨5, ![1, 8, 64, 4, 128]⟩
abbrev S8x64x4x128 : Shape := ⟨4, ![8, 64, 4, 128]⟩
abbrev S64x4x1 : Shape := ⟨3, ![64, 4, 1]⟩
abbrev S1x64x4x1 : Shape := ⟨4, ![1, 64, 4, 1]⟩
abbrev S8x4x128x64 : Shape := ⟨4, ![8, 4, 128, 64]⟩
abbrev S1x4x1x1 : Shape := ⟨4, ![1, 4, 1, 1]⟩
abbrev S8x8192x4 : Shape := ⟨3, ![8, 8192, 4]⟩
abbrev S8x8192x4x1 : Shape := ⟨4, ![8, 8192, 4, 1]⟩
abbrev S1x1x512 : Shape := ⟨3, ![1, 1, 512]⟩
abbrev S8x8192x1x128 : Shape := ⟨4, ![8, 8192, 1, 128]⟩
abbrev S8x8192x128 : Shape := ⟨3, ![8, 8192, 128]⟩
abbrev S8x8194x128 : Shape := ⟨3, ![8, 8194, 128]⟩
abbrev S1x8192x1 : Shape := ⟨3, ![1, 8192, 1]⟩
abbrev S8x8196x128 : Shape := ⟨3, ![8, 8196, 128]⟩
abbrev S8x8200x128 : Shape := ⟨3, ![8, 8200, 128]⟩
abbrev S8x8208x128 : Shape := ⟨3, ![8, 8208, 128]⟩
abbrev S4x128x8x8192 : Shape := ⟨4, ![4, 128, 8, 8192]⟩

abbrev nBuf : Space → Nat
  | .hbm => 398
  | .vmem => 0
  | .smem => 0
  | _ => 0

abbrev hbmTy0_0 (i : Nat) : BufTy := match i % 128 with
  | 0 => ⟨S8x8192x1024, .f32⟩
  | 1 => ⟨S1024, .f32⟩
  | 2 => ⟨S1024x2560, .f32⟩
  | 3 => ⟨S512, .f32⟩
  | 4 => ⟨S4x128x128, .f32⟩
  | 5 => ⟨S512, .f32⟩
  | 6 => ⟨S1024x1024, .f32⟩
  | 7 => ⟨S8x8192x1024, .f32⟩
  | 8 => ⟨S_, .f32⟩
  | 9 => ⟨S8x8192, .f32⟩
  | 10 => ⟨S8x8192x1, .f32⟩
  | 11 => ⟨S_, .f32⟩
  | 12 => ⟨S8x8192x1, .f32⟩
  | 13 => ⟨S8x8192x1, .f32⟩
  | 14 => ⟨S_, .f32⟩
  | 15 => ⟨S8x8192x1, .f32⟩
  | 16 => ⟨S8x8192x1, .f32⟩
  | 17 => ⟨S8x8192x1, .f32⟩
  | 18 => ⟨S8x8192x1024, .f32⟩
  | 19 => ⟨S8x8192x1024, .f32⟩
  | 20 => ⟨S1x1x1024, .f32⟩
  | 21 => ⟨S8x8192x1024, .f32⟩
  | 22 => ⟨S8x8192x1024, .f32⟩
  | 23 => ⟨S8x8192x2560, .f32⟩
  | 24 => ⟨S8x8192x512, .f32⟩
  | 25 => ⟨S8x8192x512, .f32⟩
  | 26 => ⟨S8x8192x512, .f32⟩
  | 27 => ⟨S8x8192x512, .f32⟩
  | 28 => ⟨S8x8192x512, .f32⟩
  | 29 => ⟨S8x8192x4x128, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S63, .f32⟩
  | 38 => ⟨S_, .f32⟩
  | 39 => ⟨S63, .f32⟩
  | 40 => ⟨S63, .f32⟩
  | 41 => ⟨S1, .f32⟩
  | 42 => ⟨S_, .f32⟩
  | 43 => ⟨S63, .f32⟩
  | 44 => ⟨S63, .f32⟩
  | 45 => ⟨S63, .f32⟩
  | 46 => ⟨S63, .f32⟩
  | 47 => ⟨S1, .f32⟩
  | 48 => ⟨S63, .f32⟩
  | 49 => ⟨S63, .f32⟩
  | 50 => ⟨S63, .f32⟩
  | 51 => ⟨S1, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S8192, .f32⟩
  | 60 => ⟨S8192x1, .f32⟩
  | 61 => ⟨S1x64, .f32⟩
  | 62 => ⟨S8192x64, .f32⟩
  | 63 => ⟨S8192x64, .f32⟩
  | 64 => ⟨S8192x64, .f32⟩
  | 65 => ⟨S8192x64, .f32⟩
  | 66 => ⟨S1x8192x1x64, .f32⟩
  | 67 => ⟨S8192x64, .f32⟩
  | 68 => ⟨S1x8192x1x64, .f32⟩
  | 69 => ⟨S8x8192x4x64, .f32⟩
  | 70 => ⟨S8x8192x4x64, .f32⟩
  | 71 => ⟨S8x8192x4x64, .f32⟩
  | 72 => ⟨S8x8192x4x64, .f32⟩
  | 73 => ⟨S8x8192x4x64, .f32⟩
  | 74 => ⟨S8x8192x4x64, .f32⟩
  | 75 => ⟨S8x8192x4x64, .f32⟩
  | 76 => ⟨S8x8192x4x64, .f32⟩
  | 77 => ⟨S8x8192x4x64, .f32⟩
  | 78 => ⟨S8x8192x4x64, .f32⟩
  | 79 => ⟨S8x8192x4x64, .f32⟩
  | 80 => ⟨S8x8192x4x64, .f32⟩
  | 81 => ⟨S8x8192x4x64x1, .f32⟩
  | 82 => ⟨S8x8192x4x64x1, .f32⟩
  | 83 => ⟨S8x8192x4x64x2, .f32⟩
  | 84 => ⟨S8x8192x4x128, .f32⟩
  | 85 => ⟨S8x8192x4x128, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S63, .f32⟩
  | 94 => ⟨S_, .f32⟩
  | 95 => ⟨S63, .f32⟩
  | 96 => ⟨S63, .f32⟩
  | 97 => ⟨S1, .f32⟩
  | 98 => ⟨S_, .f32⟩
  | 99 => ⟨S63, .f32⟩
  | 100 => ⟨S63, .f32⟩
  | 101 => ⟨S63, .f32⟩
  | 102 => ⟨S63, .f32⟩
  | 103 => ⟨S1, .f32⟩
  | 104 => ⟨S63, .f32⟩
  | 105 => ⟨S63, .f32⟩
  | 106 => ⟨S63, .f32⟩
  | 107 => ⟨S1, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S8192, .f32⟩
  | 116 => ⟨S8192x1, .f32⟩
  | 117 => ⟨S1x64, .f32⟩
  | 118 => ⟨S8192x64, .f32⟩
  | 119 => ⟨S8192x64, .f32⟩
  | 120 => ⟨S8192x64, .f32⟩
  | 121 => ⟨S8192x64, .f32⟩
  | 122 => ⟨S1x8192x1x64, .f32⟩
  | 123 => ⟨S8192x64, .f32⟩
  | 124 => ⟨S1x8192x1x64, .f32⟩
  | 125 => ⟨S8x8192x4x64, .f32⟩
  | 126 => ⟨S8x8192x4x64, .f32⟩
  | 127 => ⟨S8x8192x4x64, .f32⟩
  | _ => ⟨S8x8192x1024, .f32⟩

abbrev hbmTy0_1 (i : Nat) : BufTy := match i % 128 with
  | 0 => ⟨S8x8192x4x64, .f32⟩
  | 1 => ⟨S8x8192x4x64, .f32⟩
  | 2 => ⟨S8x8192x4x64, .f32⟩
  | 3 => ⟨S8x8192x4x64, .f32⟩
  | 4 => ⟨S8x8192x4x64, .f32⟩
  | 5 => ⟨S8x8192x4x64, .f32⟩
  | 6 => ⟨S8x8192x4x64, .f32⟩
  | 7 => ⟨S8x8192x4x64, .f32⟩
  | 8 => ⟨S8x8192x4x64, .f32⟩
  | 9 => ⟨S8x8192x4x64x1, .f32⟩
  | 10 => ⟨S8x8192x4x64x1, .f32⟩
  | 11 => ⟨S8x8192x4x64x2, .f32⟩
  | 12 => ⟨S8x8192x4x128, .f32⟩
  | 13 => ⟨S_, .f32⟩
  | 14 => ⟨S8x8192x4x128, .f32⟩
  | 15 => ⟨S8x8192x4x128, .f32⟩
  | 16 => ⟨S8x8192x4x128, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S4, .f32⟩
  | 26 => ⟨S64, .f32⟩
  | 27 => ⟨S64x1, .f32⟩
  | 28 => ⟨S1x64, .f32⟩
  | 29 => ⟨S64x64, .f32⟩
  | 30 => ⟨S64x64, .f32⟩
  | 31 => ⟨S64x64, .f32⟩
  | 32 => ⟨S64x64, .f32⟩
  | 33 => ⟨S1x64x64, .f32⟩
  | 34 => ⟨S4x1x1, .f32⟩
  | 35 => ⟨S4x64x64, .f32⟩
  | 36 => ⟨S4x64x64, .f32⟩
  | 37 => ⟨S4x64x64, .f32⟩
  | 38 => ⟨S4x64x64, .f32⟩
  | 39 => ⟨S64x1, .f32⟩
  | 40 => ⟨S_, .f32⟩
  | 41 => ⟨S64x1, .f32⟩
  | 42 => ⟨S64x1, .f32⟩
  | 43 => ⟨S1x4, .f32⟩
  | 44 => ⟨S64x4, .f32⟩
  | 45 => ⟨S64x4, .f32⟩
  | 46 => ⟨S64x4, .f32⟩
  | 47 => ⟨S64x4, .f32⟩
  | 48 => ⟨S64x1, .f32⟩
  | 49 => ⟨S_, .f32⟩
  | 50 => ⟨S64x1, .f32⟩
  | 51 => ⟨S64x1, .f32⟩
  | 52 => ⟨S1x4, .f32⟩
  | 53 => ⟨S64x4, .f32⟩
  | 54 => ⟨S64x4, .f32⟩
  | 55 => ⟨S64x4, .f32⟩
  | 56 => ⟨S64x4, .f32⟩
  | 57 => ⟨S_, .f32⟩
  | 58 => ⟨S4, .f32⟩
  | 59 => ⟨S4, .f32⟩
  | 60 => ⟨S4, .f32⟩
  | 61 => ⟨S8x128x64x4x128, .f32⟩
  | 62 => ⟨S8x128x64x4x128, .f32⟩
  | 63 => ⟨S8x128x64x4x128, .f32⟩
  | 64 => ⟨S8x128x4x64x64, .f32⟩
  | 65 => ⟨S1x1x4x64x64, .f32⟩
  | 66 => ⟨S8x128x4x64x64, .f32⟩
  | 67 => ⟨S8x128x4x64x64, .f32⟩
  | 68 => ⟨S8x128x4x128x64, .f32⟩
  | 69 => ⟨S8x128x64x4x128, .f32⟩
  | 70 => ⟨S128x8x64x4x128, .f32⟩
  | 71 => ⟨S128x8x64x4x128, .f32⟩
  | 72 => ⟨S128x8x64x4x128, .f32⟩
  | 73 => ⟨S_, .f32⟩
  | 74 => ⟨S8x4x128x128, .f32⟩
  | 75 => ⟨S_, .f32⟩
  | 76 => ⟨S128x8x64x4x128, .f32⟩
  | 77 => ⟨S_, .i32⟩
  | 78 => ⟨S128x8x64x4x128, .f32⟩
  | 79 => ⟨S128x8x64x4x128, .f32⟩
  | 80 => ⟨S128x8x64x4x128, .f32⟩
  | 81 => ⟨S64x4, .f32⟩
  | 82 => ⟨S4, .f32⟩
  | 83 => ⟨S64x4, .f32⟩
  | 84 => ⟨S_, .i32⟩
  | 85 => ⟨S8x4x128x128, .f32⟩
  | 86 => ⟨S128x8x64x4x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x64x4x128, .f32⟩
  | 94 => ⟨S8x64x4x128, .f32⟩
  | 95 => ⟨S_, .i32⟩
  | 96 => ⟨S_, .i32⟩
  | 97 => ⟨S_, .i32⟩
  | 98 => ⟨S_, .i32⟩
  | 99 => ⟨S1x8x64x4x128, .f32⟩
  | 100 => ⟨S8x64x4x128, .f32⟩
  | 101 => ⟨S_, .i32⟩
  | 102 => ⟨S_, .i32⟩
  | 103 => ⟨S_, .i32⟩
  | 104 => ⟨S_, .i32⟩
  | 105 => ⟨S1x8x64x4x128, .f32⟩
  | 106 => ⟨S8x64x4x128, .f32⟩
  | 107 => ⟨S64x4x1, .f32⟩
  | 108 => ⟨S1x64x4x1, .f32⟩
  | 109 => ⟨S8x64x4x128, .f32⟩
  | 110 => ⟨S8x64x4x128, .f32⟩
  | 111 => ⟨S8x4x128x64, .f32⟩
  | 112 => ⟨S8x64x4x128, .f32⟩
  | 113 => ⟨S4x1x1, .f32⟩
  | 114 => ⟨S1x4x1x1, .f32⟩
  | 115 => ⟨S8x4x128x128, .f32⟩
  | 116 => ⟨S8x4x128x128, .f32⟩
  | 117 => ⟨S64x4x1, .f32⟩
  | 118 => ⟨S1x64x4x1, .f32⟩
  | 119 => ⟨S8x64x4x128, .f32⟩
  | 120 => ⟨S8x64x4x128, .f32⟩
  | 121 => ⟨S8x4x128x128, .f32⟩
  | 122 => ⟨S8x4x128x128, .f32⟩
  | 123 => ⟨S1x8x64x4x128, .f32⟩
  | 124 => ⟨S_, .i32⟩
  | 125 => ⟨S_, .i32⟩
  | 126 => ⟨S_, .i32⟩
  | 127 => ⟨S_, .i32⟩
  | _ => ⟨S8x8192x1024, .f32⟩

abbrev hbmTy0_2 (i : Nat) : BufTy := match i % 128 with
  | 0 => ⟨S128x8x64x4x128, .f32⟩
  | 1 => ⟨S_, .i32⟩
  | 2 => ⟨S_, .i32⟩
  | 3 => ⟨S8x128x64x4x128, .f32⟩
  | 4 => ⟨S8x128x64x4x128, .f32⟩
  | 5 => ⟨S8x8192x4x128, .f32⟩
  | 6 => ⟨S_, .f32⟩
  | 7 => ⟨S8x8192x4, .f32⟩
  | 8 => ⟨S8x8192x4x1, .f32⟩
  | 9 => ⟨S_, .f32⟩
  | 10 => ⟨S8x8192x4x1, .f32⟩
  | 11 => ⟨S8x8192x4x1, .f32⟩
  | 12 => ⟨S8x8192x4x128, .f32⟩
  | 13 => ⟨S8x8192x4x128, .f32⟩
  | 14 => ⟨S8x8192x4x128, .f32⟩
  | 15 => ⟨S_, .f32⟩
  | 16 => ⟨S8x8192x4, .f32⟩
  | 17 => ⟨S8x8192x4x1, .f32⟩
  | 18 => ⟨S_, .f32⟩
  | 19 => ⟨S8x8192x4x1, .f32⟩
  | 20 => ⟨S8x8192x4x1, .f32⟩
  | 21 => ⟨S8x8192x4x128, .f32⟩
  | 22 => ⟨S8x8192x4x128, .f32⟩
  | 23 => ⟨S_, .f32⟩
  | 24 => ⟨S8x8192x4x1, .f32⟩
  | 25 => ⟨S8x8192x4x1, .f32⟩
  | 26 => ⟨S8x8192x4x1, .f32⟩
  | 27 => ⟨S8x8192x4x128, .f32⟩
  | 28 => ⟨S8x8192x4x128, .f32⟩
  | 29 => ⟨S8x8192x512, .f32⟩
  | 30 => ⟨S1x1x512, .f32⟩
  | 31 => ⟨S8x8192x512, .f32⟩
  | 32 => ⟨S8x8192x512, .f32⟩
  | 33 => ⟨S8x8192x512, .f32⟩
  | 34 => ⟨S8x8192x512, .f32⟩
  | 35 => ⟨S_, .f32⟩
  | 36 => ⟨S8x8192x512, .f32⟩
  | 37 => ⟨S8x8192x512, .f32⟩
  | 38 => ⟨S_, .f32⟩
  | 39 => ⟨S8x8192x512, .f32⟩
  | 40 => ⟨S8x8192x512, .f32⟩
  | 41 => ⟨S8x8192x512, .f32⟩
  | 42 => ⟨S8x8192x512, .f32⟩
  | 43 => ⟨S8x8192x4x128, .f32⟩
  | 44 => ⟨S_, .f32⟩
  | 45 => ⟨S_, .f32⟩
  | 46 => ⟨S8x8192x4x128, .f32⟩
  | 47 => ⟨S8192, .i32⟩
  | 48 => ⟨S8x8192x1x128, .f32⟩
  | 49 => ⟨S8x8192x128, .f32⟩
  | 50 => ⟨S_, .i32⟩
  | 51 => ⟨S_, .f32⟩
  | 52 => ⟨S8x8194x128, .f32⟩
  | 53 => ⟨S8x8192x128, .f32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .f32⟩
  | 61 => ⟨S1x8192x1, .f32⟩
  | 62 => ⟨S8x8192x128, .f32⟩
  | 63 => ⟨S8x8192x128, .f32⟩
  | 64 => ⟨S8x8192x128, .f32⟩
  | 65 => ⟨S8x8192x1x128, .f32⟩
  | 66 => ⟨S8x8192x128, .f32⟩
  | 67 => ⟨S8x8192x128, .f32⟩
  | 68 => ⟨S8x8192x1x128, .f32⟩
  | 69 => ⟨S8x8192x128, .f32⟩
  | 70 => ⟨S_, .i32⟩
  | 71 => ⟨S_, .f32⟩
  | 72 => ⟨S8x8196x128, .f32⟩
  | 73 => ⟨S8x8192x128, .f32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192, .f32⟩
  | 81 => ⟨S1x8192x1, .f32⟩
  | 82 => ⟨S8x8192x128, .f32⟩
  | 83 => ⟨S8x8192x128, .f32⟩
  | 84 => ⟨S8x8192x128, .f32⟩
  | 85 => ⟨S8x8192x1x128, .f32⟩
  | 86 => ⟨S8x8192x128, .f32⟩
  | 87 => ⟨S8x8192x128, .f32⟩
  | 88 => ⟨S8x8192x1x128, .f32⟩
  | 89 => ⟨S8x8192x128, .f32⟩
  | 90 => ⟨S_, .i32⟩
  | 91 => ⟨S_, .f32⟩
  | 92 => ⟨S8x8200x128, .f32⟩
  | 93 => ⟨S8x8192x128, .f32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S8192, .f32⟩
  | 101 => ⟨S1x8192x1, .f32⟩
  | 102 => ⟨S8x8192x128, .f32⟩
  | 103 => ⟨S8x8192x128, .f32⟩
  | 104 => ⟨S8x8192x128, .f32⟩
  | 105 => ⟨S8x8192x1x128, .f32⟩
  | 106 => ⟨S8x8192x128, .f32⟩
  | 107 => ⟨S8x8192x128, .f32⟩
  | 108 => ⟨S8x8192x1x128, .f32⟩
  | 109 => ⟨S8x8192x128, .f32⟩
  | 110 => ⟨S_, .i32⟩
  | 111 => ⟨S_, .f32⟩
  | 112 => ⟨S8x8208x128, .f32⟩
  | 113 => ⟨S8x8192x128, .f32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S8192, .f32⟩
  | 121 => ⟨S1x8192x1, .f32⟩
  | 122 => ⟨S8x8192x128, .f32⟩
  | 123 => ⟨S8x8192x128, .f32⟩
  | 124 => ⟨S8x8192x128, .f32⟩
  | 125 => ⟨S8x8192x1x128, .f32⟩
  | 126 => ⟨S8x8192x128, .f32⟩
  | 127 => ⟨S8x8192x128, .f32⟩
  | _ => ⟨S8x8192x1024, .f32⟩

abbrev hbmTy0_3 (i : Nat) : BufTy := match i % 128 with
  | 0 => ⟨S8x8192x1x128, .f32⟩
  | 1 => ⟨S8x8192x1x128, .f32⟩
  | 2 => ⟨S8x8192x1x128, .f32⟩
  | 3 => ⟨S8x8192x1x128, .f32⟩
  | 4 => ⟨S8x8192x4x128, .f32⟩
  | 5 => ⟨S4x128x8x8192, .f32⟩
  | 6 => ⟨S8x8192x4x128, .f32⟩
  | 7 => ⟨S8x8192x512, .f32⟩
  | 8 => ⟨S1x1x512, .f32⟩
  | 9 => ⟨S8x8192x512, .f32⟩
  | 10 => ⟨S8x8192x512, .f32⟩
  | 11 => ⟨S8x8192x1024, .f32⟩
  | 12 => ⟨S8x8192x1024, .f32⟩
  | 13 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | 3 => hbmTy0_3 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_cst : Ref sig .tc := ⟨.hbm, 35, rfl⟩
abbrev main_call0_v3 : Ref sig .tc := ⟨.hbm, 36, rfl⟩
abbrev main_call0_v4 : Ref sig .tc := ⟨.hbm, 37, rfl⟩
abbrev main_call0_cst_0 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_v15 : Ref sig .tc := ⟨.hbm, 50, rfl⟩
abbrev main_call0_v16 : Ref sig .tc := ⟨.hbm, 51, rfl⟩
abbrev main_v20 : Ref sig .tc := ⟨.hbm, 52, rfl⟩
abbrev main_cst_4 : Ref sig .tc := ⟨.hbm, 53, rfl⟩
abbrev main_v21 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_6 : Ref sig .tc := ⟨.hbm, 86, rfl⟩
abbrev main_cst_7 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_cst : Ref sig .tc := ⟨.hbm, 91, rfl⟩
abbrev main_call1_v3 : Ref sig .tc := ⟨.hbm, 92, rfl⟩
abbrev main_call1_v4 : Ref sig .tc := ⟨.hbm, 93, rfl⟩
abbrev main_call1_cst_0 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_v12 : Ref sig .tc := ⟨.hbm, 103, rfl⟩
abbrev main_call1_v13 : Ref sig .tc := ⟨.hbm, 104, rfl⟩
abbrev main_call1_v14 : Ref sig .tc := ⟨.hbm, 105, rfl⟩
abbrev main_call1_v15 : Ref sig .tc := ⟨.hbm, 106, rfl⟩
abbrev main_call1_v16 : Ref sig .tc := ⟨.hbm, 107, rfl⟩
abbrev main_v52 : Ref sig .tc := ⟨.hbm, 108, rfl⟩
abbrev main_cst_8 : Ref sig .tc := ⟨.hbm, 109, rfl⟩
abbrev main_v53 : Ref sig .tc := ⟨.hbm, 110, rfl⟩
abbrev main_v54 : Ref sig .tc := ⟨.hbm, 111, rfl⟩
abbrev main_cst_9 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_10 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_11 : Ref sig .tc := ⟨.hbm, 146, rfl⟩
abbrev main_v87 : Ref sig .tc := ⟨.hbm, 147, rfl⟩
abbrev main_v88 : Ref sig .tc := ⟨.hbm, 148, rfl⟩
abbrev main_cst_12 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_13 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_14 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_cst_15 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_16 : Ref sig .tc := ⟨.hbm, 201, rfl⟩
abbrev main_v137 : Ref sig .tc := ⟨.hbm, 202, rfl⟩
abbrev main_cst_17 : Ref sig .tc := ⟨.hbm, 203, rfl⟩
abbrev main_v138 : Ref sig .tc := ⟨.hbm, 204, rfl⟩
abbrev main_c : Ref sig .tc := ⟨.hbm, 205, rfl⟩
abbrev main_v139_0 : Ref sig .tc := ⟨.hbm, 206, rfl⟩
abbrev main_v139_1 : Ref sig .tc := ⟨.hbm, 207, rfl⟩
abbrev main_v139_2 : Ref sig .tc := ⟨.hbm, 208, rfl⟩
abbrev main_v139_3 : Ref sig .tc := ⟨.hbm, 209, rfl⟩
abbrev main_v139_4 : Ref sig .tc := ⟨.hbm, 210, rfl⟩
abbrev main_v139_5 : Ref sig .tc := ⟨.hbm, 211, rfl⟩
abbrev main_v139_6 : Ref sig .tc := ⟨.hbm, 212, rfl⟩
abbrev main_v139_7 : Ref sig .tc := ⟨.hbm, 213, rfl⟩
abbrev main_v139_8 : Ref sig .tc := ⟨.hbm, 214, rfl⟩
abbrev main_while0c_c_43 : Ref sig .tc := ⟨.hbm, 215, rfl⟩
abbrev main_while0c_v248 : Ref sig .tc := ⟨.hbm, 216, rfl⟩
abbrev main_while0b_call2_c : Ref sig .tc := ⟨.hbm, 217, rfl⟩
abbrev main_while0b_call2_c_0 : Ref sig .tc := ⟨.hbm, 218, rfl⟩
abbrev main_while0b_call2_c_1 : Ref sig .tc := ⟨.hbm, 219, rfl⟩
abbrev main_while0b_call2_c_2 : Ref sig .tc := ⟨.hbm, 220, rfl⟩
abbrev main_while0b_call2_v0 : Ref sig .tc := ⟨.hbm, 221, rfl⟩
abbrev main_while0b_v248 : Ref sig .tc := ⟨.hbm, 222, rfl⟩
abbrev main_while0b_call3_c : Ref sig .tc := ⟨.hbm, 223, rfl⟩
abbrev main_while0b_call3_c_0 : Ref sig .tc := ⟨.hbm, 224, rfl⟩
abbrev main_while0b_call3_c_1 : Ref sig .tc := ⟨.hbm, 225, rfl⟩
abbrev main_while0b_call3_c_2 : Ref sig .tc := ⟨.hbm, 226, rfl⟩
abbrev main_while0b_call3_v0 : Ref sig .tc := ⟨.hbm, 227, rfl⟩
abbrev main_while0b_v249 : Ref sig .tc := ⟨.hbm, 228, rfl⟩
abbrev main_while0b_call4_c : Ref sig .tc := ⟨.hbm, 229, rfl⟩
abbrev main_while0b_call4_c_0 : Ref sig .tc := ⟨.hbm, 230, rfl⟩
abbrev main_while0b_call4_c_1 : Ref sig .tc := ⟨.hbm, 231, rfl⟩
abbrev main_while0b_call4_c_2 : Ref sig .tc := ⟨.hbm, 232, rfl⟩
abbrev main_while0b_call4_v0 : Ref sig .tc := ⟨.hbm, 233, rfl⟩
abbrev main_while0b_v250 : Ref sig .tc := ⟨.hbm, 234, rfl⟩
abbrev main_while0b_v251 : Ref sig .tc := ⟨.hbm, 235, rfl⟩
abbrev main_while0b_v252 : Ref sig .tc := ⟨.hbm, 236, rfl⟩
abbrev main_while0b_v253 : Ref sig .tc := ⟨.hbm, 237, rfl⟩
abbrev main_while0b_v254 : Ref sig .tc := ⟨.hbm, 238, rfl⟩
abbrev main_while0b_v255 : Ref sig .tc := ⟨.hbm, 239, rfl⟩
abbrev main_while0b_v256 : Ref sig .tc := ⟨.hbm, 240, rfl⟩
abbrev main_while0b_v257 : Ref sig .tc := ⟨.hbm, 241, rfl⟩
abbrev main_while0b_v258 : Ref sig .tc := ⟨.hbm, 242, rfl⟩
abbrev main_while0b_v259 : Ref sig .tc := ⟨.hbm, 243, rfl⟩
abbrev main_while0b_v260 : Ref sig .tc := ⟨.hbm, 244, rfl⟩
abbrev main_while0b_v261 : Ref sig .tc := ⟨.hbm, 245, rfl⟩
abbrev main_while0b_v262 : Ref sig .tc := ⟨.hbm, 246, rfl⟩
abbrev main_while0b_v263 : Ref sig .tc := ⟨.hbm, 247, rfl⟩
abbrev main_while0b_v264 : Ref sig .tc := ⟨.hbm, 248, rfl⟩
abbrev main_while0b_v265 : Ref sig .tc := ⟨.hbm, 249, rfl⟩
abbrev main_while0b_v266 : Ref sig .tc := ⟨.hbm, 250, rfl⟩
abbrev main_while0b_call5_v0 : Ref sig .tc := ⟨.hbm, 251, rfl⟩
abbrev main_while0b_call5_c : Ref sig .tc := ⟨.hbm, 252, rfl⟩
abbrev main_while0b_call5_c_0 : Ref sig .tc := ⟨.hbm, 253, rfl⟩
abbrev main_while0b_call5_c_1 : Ref sig .tc := ⟨.hbm, 254, rfl⟩
abbrev main_while0b_call5_c_2 : Ref sig .tc := ⟨.hbm, 255, rfl⟩
abbrev main_while0b_v267 : Ref sig .tc := ⟨.hbm, 256, rfl⟩
abbrev main_while0b_c_43 : Ref sig .tc := ⟨.hbm, 257, rfl⟩
abbrev main_while0b_v268 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_cst_18 : Ref sig .tc := ⟨.hbm, 262, rfl⟩
abbrev main_v143 : Ref sig .tc := ⟨.hbm, 263, rfl⟩
abbrev main_v144 : Ref sig .tc := ⟨.hbm, 264, rfl⟩
abbrev main_cst_19 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_cst_20 : Ref sig .tc := ⟨.hbm, 271, rfl⟩
abbrev main_v150 : Ref sig .tc := ⟨.hbm, 272, rfl⟩
abbrev main_v151 : Ref sig .tc := ⟨.hbm, 273, rfl⟩
abbrev main_cst_21 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_cst_22 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_call6_v0 : Ref sig .tc := ⟨.hbm, 289, rfl⟩
abbrev main_call6_v1 : Ref sig .tc := ⟨.hbm, 290, rfl⟩
abbrev main_call6_cst : Ref sig .tc := ⟨.hbm, 291, rfl⟩
abbrev main_call6_v2 : Ref sig .tc := ⟨.hbm, 292, rfl⟩
abbrev main_call6_v3 : Ref sig .tc := ⟨.hbm, 293, rfl⟩
abbrev main_call6_cst_0 : Ref sig .tc := ⟨.hbm, 294, rfl⟩
abbrev main_call6_v4 : Ref sig .tc := ⟨.hbm, 295, rfl⟩
abbrev main_call6_v5 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_call7_cst : Ref sig .tc := ⟨.hbm, 300, rfl⟩
abbrev main_call7_v0 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_c_23 : Ref sig .tc := ⟨.hbm, 306, rfl⟩
abbrev main_call8_v0 : Ref sig .tc := ⟨.hbm, 307, rfl⟩
abbrev main_v172 : Ref sig .tc := ⟨.hbm, 308, rfl⟩
abbrev main_v173 : Ref sig .tc := ⟨.hbm, 309, rfl⟩
abbrev main_c_24 : Ref sig .tc := ⟨.hbm, 310, rfl⟩
abbrev main_v174 : Ref sig .tc := ⟨.hbm, 311, rfl⟩
abbrev main_v175 : Ref sig .tc := ⟨.hbm, 312, rfl⟩
abbrev main_c_25 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_c_26 : Ref sig .tc := ⟨.hbm, 326, rfl⟩
abbrev main_call9_v0 : Ref sig .tc := ⟨.hbm, 327, rfl⟩
abbrev main_v188 : Ref sig .tc := ⟨.hbm, 328, rfl⟩
abbrev main_v189 : Ref sig .tc := ⟨.hbm, 329, rfl⟩
abbrev main_c_27 : Ref sig .tc := ⟨.hbm, 330, rfl⟩
abbrev main_v190 : Ref sig .tc := ⟨.hbm, 331, rfl⟩
abbrev main_v191 : Ref sig .tc := ⟨.hbm, 332, rfl⟩
abbrev main_c_28 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_c_29 : Ref sig .tc := ⟨.hbm, 346, rfl⟩
abbrev main_call10_v0 : Ref sig .tc := ⟨.hbm, 347, rfl⟩
abbrev main_v204 : Ref sig .tc := ⟨.hbm, 348, rfl⟩
abbrev main_v205 : Ref sig .tc := ⟨.hbm, 349, rfl⟩
abbrev main_c_30 : Ref sig .tc := ⟨.hbm, 350, rfl⟩
abbrev main_v206 : Ref sig .tc := ⟨.hbm, 351, rfl⟩
abbrev main_v207 : Ref sig .tc := ⟨.hbm, 352, rfl⟩
abbrev main_c_31 : Ref sig .tc := ⟨.hbm, 353, rfl⟩
abbrev main_v208 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_c_32 : Ref sig .tc := ⟨.hbm, 366, rfl⟩
abbrev main_call11_v0 : Ref sig .tc := ⟨.hbm, 367, rfl⟩
abbrev main_v220 : Ref sig .tc := ⟨.hbm, 368, rfl⟩
abbrev main_v221 : Ref sig .tc := ⟨.hbm, 369, rfl⟩
abbrev main_c_33 : Ref sig .tc := ⟨.hbm, 370, rfl⟩
abbrev main_v222 : Ref sig .tc := ⟨.hbm, 371, rfl⟩
abbrev main_v223 : Ref sig .tc := ⟨.hbm, 372, rfl⟩
abbrev main_c_34 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_v237 : Ref sig .tc := ⟨.hbm, 387, rfl⟩
abbrev main_v238 : Ref sig .tc := ⟨.hbm, 388, rfl⟩
abbrev main_v239 : Ref sig .tc := ⟨.hbm, 389, rfl⟩
abbrev main_v240 : Ref sig .tc := ⟨.hbm, 390, rfl⟩
abbrev main_v241 : Ref sig .tc := ⟨.hbm, 391, rfl⟩
abbrev main_v242 : Ref sig .tc := ⟨.hbm, 392, rfl⟩
abbrev main_v243 : Ref sig .tc := ⟨.hbm, 393, rfl⟩
abbrev main_v244 : Ref sig .tc := ⟨.hbm, 394, rfl⟩
abbrev main_v245 : Ref sig .tc := ⟨.hbm, 395, rfl⟩
abbrev main_v246 : Ref sig .tc := ⟨.hbm, 396, rfl⟩
abbrev main_v247 : Ref sig .tc := ⟨.hbm, 397, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x4096, .f32⟩
  | .hbm, ⟨22, _⟩ => ⟨S_, .f32⟩
  | .hbm, ⟨23, _⟩ => ⟨S8x8192x4096, .f32⟩
  | .hbm, ⟨24, _⟩ => ⟨S8x8192x4096, .f32⟩
  | .hbm, ⟨25, _⟩ => ⟨S8x8192x4096, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x1, .f32⟩
  | .hbm, ⟨39, _⟩ => ⟨S8x8192x1024, .f32⟩
  | .hbm, ⟨40, _⟩ => ⟨S8x8192x1024, .f32⟩
  | .hbm, ⟨41, _⟩ => ⟨S1x1x1024, .f32⟩
  | .hbm, ⟨42, _⟩ => ⟨S8x8192x1024, .f32⟩
  | .hbm, ⟨43, _⟩ => ⟨S8x8192x1024, .f32⟩
  | .hbm, ⟨44, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== FfnMid.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnMidRefIdeal.lean ====
abbrev S8x8192x1024 : Shape := ⟨3, ![8, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩
abbrev S65536x1024 : Shape := ⟨2, ![65536, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x4096, .f32⟩
  | .hbm, ⟨22, _⟩ => ⟨S_, .f32⟩
  | .hbm, ⟨23, _⟩ => ⟨S8x8192x4096, .f32⟩
  | .hbm, ⟨24, _⟩ => ⟨S8x8192x4096, .f32⟩
  | .hbm, ⟨25, _⟩ => ⟨S8x8192x4096, .f32⟩
  | .hbm, ⟨26, _⟩ => ⟨S8x8192x1024, .f32⟩
  | .hbm, ⟨27, _⟩ => ⟨S8x8192x1024, .f32⟩
  | .hbm, ⟨28, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Qkv.lean ====
abbrev S8x8192x1024 : Shape := ⟨3, ![8, 8192, 1024]⟩
abbrev S1024 : Shape := ⟨1, ![1024]⟩
abbrev S1024x3072 : Shape := ⟨2, ![1024, 3072]⟩
abbrev S1x1024 : Shape := ⟨2, ![1, 1024]⟩
abbrev S8x8x8192x128 : Shape := ⟨4, ![8, 8, 8192, 128]⟩
abbrev S1x1024x1024 : Shape := ⟨3, ![1, 1024, 1024]⟩
abbrev S1x8x1024x128 : Shape := ⟨4, ![1, 8, 1024, 128]⟩
abbrev S1024x1024 : Shape := ⟨2, ![1024, 1024]⟩
abbrev S1024x1 : Shape := ⟨2, ![1024, 1]⟩
abbrev S1024x128 : Shape := ⟨2, ![1024, 128]⟩
abbrev S1x1x1024x128 : Shape := ⟨4, ![1, 1, 1024, 128]⟩

abbrev nBuf : Space → Nat
  | .hbm => 8
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S8x8x8192x128, .bf16⟩
  | .hbm, ⟨6, _⟩ => ⟨S8x8x8192x128, .bf16⟩
  | .hbm, ⟨7, _⟩ => ⟨S8x8x8192x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x8x1024x128, .bf16⟩
  | .local _ .vmem, ⟨5, _⟩ => ⟨S1x8x1024x128, .bf16⟩
  | .local _ .vmem, ⟨6, _⟩ => ⟨S1x8x1024x128, .bf16⟩
  | .local _ .vmem, ⟨7, _⟩ => ⟨S1x8x1024x128, .bf16⟩
  | .local _ .vmem, ⟨8, _⟩ => ⟨S1x8x1024x128, .bf16⟩
  | .local _ .vmem, ⟨9, _⟩ => ⟨S1x8x1024x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S8x8192x1024 : Shape := ⟨3, ![8, 8192, 1024]⟩
abbrev S1024 : Shape := ⟨1, ![1024]⟩
abbrev S1024x3072 : Shape := ⟨2, ![1024, 3072]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8192x8x128 : Shape := ⟨4, ![8, 8192, 8, 128]⟩
abbrev S8x8x8192x128 : Shape := ⟨4, ![8, 8, 8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x3072, .f32⟩
  | .hbm, ⟨20, _⟩ => ⟨S8x8192x1024, .f32⟩
  | .hbm, ⟨21, _⟩ => ⟨S8x8192x1024, .f32⟩
  | .hbm, ⟨22, _⟩ => ⟨S8x8192x1024, .f32⟩
  | .hbm, ⟨23, _⟩ => ⟨S_, .f32⟩
  | .hbm, ⟨24, _⟩ => ⟨S8x8192x1024, .f32⟩
  | .hbm, ⟨25, _⟩ => ⟨S8x8192x1024, .f32⟩
  | .hbm, ⟨26, _⟩ => ⟨S8x8192x8x128, .f32⟩
  | .hbm, ⟨27, _⟩ => ⟨S8x8x8192x128, .f32⟩
  | .hbm, ⟨28, _⟩ => ⟨S8x8x8192x128, .bf16⟩
  | .hbm, ⟨29, _⟩ => ⟨S8x8192x8x128, .f32⟩
  | .hbm, ⟨30, _⟩ => ⟨S8x8x8192x128, .f32⟩
  | .hbm, ⟨31, _⟩ => ⟨S8x8x8192x128, .bf16⟩
  | .hbm, ⟨32, _⟩ => ⟨S8x8192x8x128, .f32⟩
  | .hbm, ⟨33, _⟩ => ⟨S8x8x8192x128, .f32⟩
  | .hbm, ⟨34, _⟩ => ⟨S8x8x8192x128, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.FfnSpec.lean ====
module

public import Idealize.ShloMosaic.Lib.Pointwise

@[expose] public section

noncomputable section

/-! The feed-forward part of a layer over the extended reals, one token at a time, written without reference to any program. -/

namespace Cert.Proof.FfnSpec

open Idealize.ShloMosaic

/-- A row divided by the root of its mean square (plus the small constant), times the gain. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- One hidden unit: the squared positive part of the row's product with a column of the first matrix. -/
def hid (h : Fin 1024 → EReal) (w1 : Fin 1024 → Fin 4096 → EReal) (n : Fin 4096) : EReal :=
  max (∑ k, h k * w1 k n) 0 * max (∑ k, h k * w1 k n) 0

/-- The row after the feed-forward part and its residual. -/
def mid (x g : Fin 1024 → EReal) (w1 : Fin 1024 → Fin 4096 → EReal) (w2 : Fin 4096 → Fin 1024 → EReal) (j : Fin 1024) : EReal :=
  x j + ∑ n, hid (rms x g) w1 n * w2 n j

/-- The last layer's result: that row, normalised once more. -/
def ffn (x g : Fin 1024 → EReal) (w1 : Fin 1024 → Fin 4096 → EReal) (w2 : Fin 4096 → Fin 1024 → EReal) (fg : Fin 1024 → EReal)
    (j : Fin 1024) : EReal :=
  rms (mid x g w1 w2) fg j

/-- The result with the outer normalisation written out. -/
theorem ffn_eq (x g : Fin 1024 → EReal) (w1 : Fin 1024 → Fin 4096 → EReal) (w2 : Fin 4096 → Fin 1024 → EReal) (fg : Fin 1024 → EReal)
    (j : Fin 1024) :
    ffn x g w1 w2 fg j = mid x g w1 w2 j
      * Ideal.rsqrt (Ideal.div (∑ k, mid x g w1 w2 k * mid x g w1 w2 k) (Ideal.ofBits .f32 0x44800000#32) + Ideal.ofBits .f32 0x358637BD#32)
      * fg j := rfl

/-- The result depends on its operands' elements only. -/
theorem ffn_congr {x x' g g' : Fin 1024 → EReal} {w1 w1' : Fin 1024 → Fin 4096 → EReal} {w2 w2' : Fin 4096 → Fin 1024 → EReal}
    {fg fg' : Fin 1024 → EReal} (hx : ∀ k, x k = x' k) (hg : ∀ k, g k = g' k) (h1 : ∀ k n, w1 k n = w1' k n)
    (h2 : ∀ n j, w2 n j = w2' n j) (hf : ∀ k, fg k = fg' k) (j : Fin 1024) : ffn x g w1 w2 fg j = ffn x' g' w1' w2' fg' j := by
  obtain rfl : x = x' := funext hx
  obtain rfl : g = g' := funext hg
  obtain rfl : w1 = w1' := funext fun k => funext (h1 k)
  obtain rfl : w2 = w2' := funext fun n => funext (h2 n)
  obtain rfl : fg = fg' := funext hf
  rfl

/-- The same for the row before the last normalisation. -/
theorem mid_congr {x x' g g' : Fin 1024 → EReal} {w1 w1' : Fin 1024 → Fin 4096 → EReal} {w2 w2' : Fin 4096 → Fin 1024 → EReal}
    (hx : ∀ k, x k = x' k) (hg : ∀ k, g k = g' k) (h1 : ∀ k n, w1 k n = w1' k n) (h2 : ∀ n j, w2 n j = w2' n j) (j : Fin 1024) :
    mid x g w1 w2 j = mid x' g' w1' w2' j := by
  obtain rfl : x = x' := funext hx
  obtain rfl : g = g' := funext hg
  obtain rfl : w1 = w1' := funext fun k => funext (h1 k)
  obtain rfl : w2 = w2' := funext fun n => funext (h2 n)
  rfl

/-- The hidden units in four tiles of 1024, added tile after tile. -/
theorem mid_tiles (x g : Fin 1024 → EReal) (w1 : Fin 1024 → Fin 4096 → EReal) (w2 : Fin 4096 → Fin 1024 → EReal) (j : Fin 1024) :
    mid x g w1 w2 j = x j + (∑ n : Fin 1024, hid (rms x g) w1 ⟨n, by omega⟩ * w2 ⟨n, by omega⟩ j)
      + (∑ n : Fin 1024, hid (rms x g) w1 ⟨1024 + n, by omega⟩ * w2 ⟨1024 + n, by omega⟩ j)
      + (∑ n : Fin 1024, hid (rms x g) w1 ⟨2048 + n, by omega⟩ * w2 ⟨2048 + n, by omega⟩ j)
      + (∑ n : Fin 1024, hid (rms x g) w1 ⟨3072 + n, by omega⟩ * w2 ⟨3072 + n, by omega⟩ j) := by
  unfold mid
  rw [Fin.sum_univ_tiles 4 1024 rfl]
  simp only [Fin.sum_univ_four]
  simp only [add_assoc]
  rfl

end Cert.Proof.FfnSpec

end
-- ==== Proof.FfnBlock.lean ====
module

public import proofs.«01_k».proof.Proof.FfnSpec
public import proofs.«01_k».proof.Proof.Gen.FfnIdeal.Value

@[expose] public section

set_option maxRecDepth 16384

noncomputable section

namespace Cert.Proof.FfnBlock

open Idealize.ShloMosaic Cert.FfnIdeal Cert.FfnIdeal.Gen Cert.Proof.FfnSpec

theorem hz : (![0, 0] : Fin 2 → Nat) = fun _ => 0 := funext fun a => by fin_cases a <;> rfl

theorem pay2_apply (x0 : Vec Ideal S1024x1024 .f32) (x1 : Vec Ideal S1x1024 .f32) (r j : Fin 1024) :
    k0_pay2 x0 x1 (ix2 r j) = rms (fun k => x0 (ix2 r k)) (fun k => x1 (ix2 0 k)) j := by
  pointwise [k0_pay2, k0_pay1, rms]

theorem out_apply (x0 : Vec Ideal S1024x1024 .f32) (x1 : Vec Ideal S1x1024 .f32) (x2 : Vec Ideal S1024x4096 .bf16)
    (x3 : Vec Ideal S4096x1024 .bf16) (x4 : Vec Ideal S1x1024 .f32) (r j : Fin 1024) :
    out0_5 x0 x1 x2 x3 x4 (ix2 r j)
      = ffn (fun k => x0 (ix2 r k)) (fun k => x1 (ix2 0 k)) (fun k n => x2 (ix2 k n)) (fun n j => x3 (ix2 n j))
          (fun k => x4 (ix2 0 k)) j := by
  unfold out0_5
  rw [View.canon_unit_zero hz]
  pointwise [k0_pay5, k0_pay3, k0_pay4, k0_pay1, pay2_apply]
  rw [ffn_eq]
  simp only [mid_tiles, hid]

end Cert.Proof.FfnBlock

end
-- ==== Proof.FfnKernel.lean ====
module

public import proofs.«01_k».proof.Proof.FfnBlock
public import Idealize.ShloMosaic.Lib.Pipeline.ValueKit

@[expose] public section

set_option maxRecDepth 16384

noncomputable section

/-! The kernel's result array, as the last layer's feed-forward part and normalisation of every token. -/

namespace Cert.Proof.FfnKernel

open Idealize.ShloMosaic Idealize.ShloMosaic.TcCoe Idealize.SL.Sem
open Cert.FfnIdeal Cert.FfnIdeal.Gen Cert.Proof.FfnSpec Cert.Proof.FfnBlock

/-- The result as a function of the argument arrays: row `i 0` is token `i 0 % 8192` of sequence `i 0 / 8192`. -/
def G (x : Vec Ideal S8x8192x1024 .f32) (g : Vec Ideal S1024 .f32) (w1 : Vec Ideal S1024x4096 .f32)
    (w2 : Vec Ideal S4096x1024 .f32) (fg : Vec Ideal S1024 .f32) : Vec Ideal S65536x1024 .f32 := fun i =>
  ffn (fun k => x (ix3 ⟨(i 0).val / 8192, by have := (i 0).isLt; simp [S65536x1024] at this; omega⟩ ⟨(i 0).val % 8192, by omega⟩ k))
    (fun k => g (ix1 k)) (fun k n => w1 (ix2 k n)) (fun n j => w2 (ix2 n j)) (fun k => fg (ix1 k)) (i 1)

theorem resh_x (x : Vec Ideal S8x8192x1024 .f32) (i : Fin 65536) (k : Fin 1024) :
    shapeCast S65536x1024 x shapeCasts_S8x8192x1024_S65536x1024 (ix2 i k) = x (ix3 ⟨i.val / 8192, by omega⟩ ⟨i.val % 8192, by omega⟩ k) := by
  pointwise
theorem resh_g (x : Vec Ideal S1024 .f32) (k : Fin 1024) :
    shapeCast S1x1024 x shapeCasts_S1024_S1x1024 (ix2 0 k) = x (ix1 k) := by
  pointwise

variable (m : (ℓ : Loc nD τ sig) → Buf (Elt Ideal) ℓ) (ρ : Dev nD → PrngReg)

theorem V_x (c : Dev nD) : (V m c main_v0 : Vec Ideal S65536x1024 .f32)
    = shapeCast _ (m ((c : Thread nD τ).loc main_arg0) : Vec Ideal S8x8192x1024 .f32) shapeCasts_S8x8192x1024_S65536x1024 := by
  dsimp only [V, hostOps0]; after_results; rfl
theorem V_g (c : Dev nD) : (V m c main_v1 : Vec Ideal S1x1024 .f32)
    = shapeCast _ (m ((c : Thread nD τ).loc main_arg1) : Vec Ideal S1024 .f32) shapeCasts_S1024_S1x1024 := by
  dsimp only [V, hostOps0]; after_results; rfl
theorem V_w1 (c : Dev nD) (k : Fin 1024) (n : Fin 4096) : (V m c main_v2 : Vec Ideal S1024x4096 .bf16) (ix2 k n)
    = (m ((c : Thread nD τ).loc main_arg2) : Vec Ideal S1024x4096 .f32) (ix2 k n) := by
  dsimp only [V, hostOps0]; after_results; rfl
theorem V_w2 (c : Dev nD) (n : Fin 4096) (j : Fin 1024) : (V m c main_v3 : Vec Ideal S4096x1024 .bf16) (ix2 n j)
    = (m ((c : Thread nD τ).loc main_arg3) : Vec Ideal S4096x1024 .f32) (ix2 n j) := by
  dsimp only [V, hostOps0]; after_results; rfl
theorem V_fg (c : Dev nD) : (V m c main_v4 : Vec Ideal S1x1024 .f32)
    = shapeCast _ (m ((c : Thread nD τ).loc main_arg4) : Vec Ideal S1024 .f32) shapeCasts_S1024_S1x1024 := by
  dsimp only [V, hostOps0]; after_results; rfl

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val ∧ win0_5.index t 1 = 0 := by decide +kernel

/-- The token tile of point `t`, at an index. -/
theorem iblk0_apply (c : Dev nD) (t : Fin cfg0.N) (r k : Fin 1024) (h : t.val * 1024 + r.val < 65536) :
    (iblk m c 0 t : Vec Ideal S1024x1024 .f32) (ix2 r k) = (V m c main_v0 : Vec Ideal S65536x1024 .f32) (ix2 ⟨t.val * 1024 + r.val, h⟩ k) := by
  unfold iblk
  show (V m c main_v0 : Vec Ideal S65536x1024 .f32) ((win0_0.rect t).emb (ix2 r k)) = _
  congr 1
  funext a; apply Fin.ext
  rw [win0_0.rect_emb_val]
  fin_cases a
  · show win0_0.index t 0 * 1024 + r.val = _
    rw [(idx0 t).1]; rfl
  · show win0_0.index t 1 * 1024 + k.val = _
    rw [(idx0 t).2]; simp

theorem iblk1_eq (c : Dev nD) (t : Fin cfg0.N) : (iblk m c 1 t : Vec Ideal S1x1024 .f32) = V m c main_v1 := by
  unfold iblk
  funext y
  show (V m c main_v1 : Vec Ideal S1x1024 .f32) ((win0_1.rect t).emb y) = _
  congr 1
  funext a; apply Fin.ext
  fin_cases a
  · exact win0_1.rect_emb_val_of_index_zero t 0 (idx1 t).1 y
  · exact win0_1.rect_emb_val_of_index_zero t 1 (idx1 t).2 y
theorem iblk2_eq (c : Dev nD) (t : Fin cfg0.N) : (iblk m c 2 t : Vec Ideal S1024x4096 .bf16) = V m c main_v2 := by
  unfold iblk
  funext y
  show (V m c main_v2 : Vec Ideal S1024x4096 .bf16) ((win0_2.rect t).emb y) = _
  congr 1
  funext a; apply Fin.ext
  fin_cases a
  · exact win0_2.rect_emb_val_of_index_zero t 0 (idx2 t).1 y
  · exact win0_2.rect_emb_val_of_index_zero t 1 (idx2 t).2 y
theorem iblk3_eq (c : Dev nD) (t : Fin cfg0.N) : (iblk m c 3 t : Vec Ideal S4096x1024 .bf16) = V m c main_v3 := by
  unfold iblk
  funext y
  show (V m c main_v3 : Vec Ideal S4096x1024 .bf16) ((win0_3.rect t).emb y) = _
  congr 1
  funext a; apply Fin.ext
  fin_cases a
  · exact win0_3.rect_emb_val_of_index_zero t 0 (idx3 t).1 y
  · exact win0_3.rect_emb_val_of_index_zero t 1 (idx3 t).2 y
theorem iblk4_eq (c : Dev nD) (t : Fin cfg0.N) : (iblk m c 4 t : Vec Ideal S1x1024 .f32) = V m c main_v4 := by
  unfold iblk
  funext y
  show (V m c main_v4 : Vec Ideal S1x1024 .f32) ((win0_4.rect t).emb y) = _
  congr 1
  funext a; apply Fin.ext
  fin_cases a
  · exact win0_4.rect_emb_val_of_index_zero t 0 (idx4 t).1 y
  · exact win0_4.rect_emb_val_of_index_zero t 1 (idx4 t).2 y

/-- The kernel's whole result. -/
theorem final (c : Dev nD) :
    (dats m 0 c).arrAt 5 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  show (dats m 0 c).after 5 t y = G _ _ _ _ _ ((win0_5.rect t).emb y)
  rw [after0_5]
  obtain ⟨r, j, rfl⟩ : ∃ r j : Fin 1024, y = ix2 r j := ⟨y 0, y 1, eq_ix2 y⟩
  have hN : t.val < 64 := t.isLt
  have hr : t.val * 1024 + r.val < 65536 := by omega
  have e : (win0_5.rect t).emb (ix2 r j) = (ix2 ⟨t.val * 1024 + r.val, hr⟩ j : S65536x1024.Idx) := by
    funext a; apply Fin.ext
    rw [win0_5.rect_emb_val]
    fin_cases a
    · show win0_5.index t 0 * 1024 + r.val = _
      rw [(idx5 t).1]; rfl
    · show win0_5.index t 1 * 1024 + j.val = _
      rw [(idx5 t).2]; simp
  rw [e]
  refine (out_apply _ _ _ _ _ r j).trans ?_
  unfold G
  refine ffn_congr (fun k => ?_) (fun k => ?_) (fun k n => ?_) (fun n j => ?_) (fun k => ?_) j
  · refine (iblk0_apply m c t r k hr).trans ?_
    rw [V_x]
    exact resh_x _ _ k
  · rw [iblk1_eq, V_g]
    exact resh_g _ k
  · rw [iblk2_eq]; exact V_w1 m c k n
  · rw [iblk3_eq]; exact V_w2 m c n j
  · rw [iblk4_eq, V_fg]
    exact resh_g _ k

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1))
      (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.FfnIdeal.Value.run_blocks m ρ)

end Cert.Proof.FfnKernel

end
-- ==== Proof.FfnReference.lean ====
module

public import proofs.«01_k».proof.Proof.FfnSpec
public import proofs.«01_k».proof.Proof.Gen.FfnRefIdeal.Run
public import proofs.«01_k».proof.Proof.Gen.FfnRefIdeal.Read

@[expose] public section

set_option maxRecDepth 16384

noncomputable section

namespace Cert.Proof.FfnReference

open Idealize.ShloMosaic Idealize.ShloMosaic.TcCoe Idealize.SL.Sem Cert.FfnRefIdeal Cert.FfnRefIdeal.Read Cert.Proof.FfnSpec

variable (x0 : (⟨S8x8192x1024, .f32⟩ : BufTy).Contents (Elt Ideal)) (x1 : (⟨S1024, .f32⟩ : BufTy).Contents (Elt Ideal))
  (x2 : (⟨S1024x4096, .f32⟩ : BufTy).Contents (Elt Ideal)) (x3 : (⟨S4096x1024, .f32⟩ : BufTy).Contents (Elt Ideal))
  (x4 : (⟨S1024, .f32⟩ : BufTy).Contents (Elt Ideal))

theorem v12_apply (a : Fin 8) (b : Fin 8192) (k : Fin 1024) :
    val_main_v12 (F := Ideal) x0 x1 (ix3 a b k) = rms (fun k => x0 (ix3 a b k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v15_apply (a : Fin 8) (b : Fin 8192) (n : Fin 4096) :
    val_main_v15 (F := Ideal) x0 x1 x2 (ix3 a b n) = hid (rms (fun k => x0 (ix3 a b k)) (fun k => x1 (ix1 k))) (fun k n => x2 (ix2 k n)) n := by
  pointwise [val_main_v15, val_main_v14, val_main_v13, val_main_call0_v0, val_main_call0_cst, v12_apply, hid]

theorem v17_apply (a : Fin 8) (b : Fin 8192) (j : Fin 1024) :
    val_main_v17 (F := Ideal) x0 x1 x2 x3 (ix3 a b j) = mid (fun k => x0 (ix3 a b k)) (fun k => x1 (ix1 k)) (fun k n => x2 (ix2 k n))
      (fun n j => x3 (ix2 n j)) j := by
  pointwise [val_main_v17, val_main_v16, v15_apply, mid]

/-- The reference's result, token by token. -/
theorem v31_apply (i : Fin 65536) (j : Fin 1024) :
    val_main_v31 (F := Ideal) x0 x1 x2 x3 x4 (ix2 i j) = ffn (fun k => x0 (ix3 ⟨i.val / 8192, by omega⟩ ⟨i.val % 8192, by omega⟩ k))
      (fun k => x1 (ix1 k)) (fun k n => x2 (ix2 k n)) (fun n j => x3 (ix2 n j)) (fun k => x4 (ix1 k)) j := by
  rw [ffn_eq]
  pointwise [val_main_v31, val_main_v30, val_main_v29, val_main_v28, val_main_v27, val_main_v26, val_main_v25, val_main_v24, val_main_v23,
    val_main_v22, val_main_v21, val_main_v20, val_main_v19, val_main_v18, val_main_cst_2, val_main_cst_3, val_main_cst_4, v17_apply]

end Cert.Proof.FfnReference

end
-- ==== Proof.FfnMidBlock.lean ====
module

public import proofs.«01_k».proof.Proof.FfnSpec
public import proofs.«01_k».proof.Proof.Gen.FfnMidIdeal.Value

@[expose] public section

set_option maxRecDepth 16384

noncomputable section

namespace Cert.Proof.FfnMidBlock

open Idealize.ShloMosaic Cert.FfnMidIdeal Cert.FfnMidIdeal.Gen Cert.Proof.FfnSpec

theorem hz : (![0, 0] : Fin 2 → Nat) = fun _ => 0 := funext fun a => by fin_cases a <;> rfl

theorem pay3_apply (x0 : Vec Ideal S1024x1024 .f32) (x1 : Vec Ideal S1x1024 .f32) (r j : Fin 1024) :
    k0_pay3 x0 x1 (ix2 r j) = rms (fun k => x0 (ix2 r k)) (fun k => x1 (ix2 0 k)) j := by
  pointwise [k0_pay3, k0_pay2, rms]

theorem out_apply (x0 : Vec Ideal S1024x1024 .f32) (x1 : Vec Ideal S1x1024 .f32) (x2 : Vec Ideal S1024x4096 .bf16)
    (x3 : Vec Ideal S4096x1024 .bf16) (x4 : Vec Ideal S1x1024 .f32) (r j : Fin 1024) :
    out0_5 x0 x1 x2 x3 x4 (ix2 r j)
      = mid (fun k => x0 (ix2 r k)) (fun k => x1 (ix2 0 k)) (fun k n => x2 (ix2 k n)) (fun n j => x3 (ix2 n j)) j := by
  unfold out0_5
  rw [View.canon_unit_zero hz]
  pointwise [k0_pay1, k0_pay2, k0_pay4, k0_pay5, pay3_apply]
  rw [mid_tiles]
  simp only [hid]

end Cert.Proof.FfnMidBlock

end
-- ==== Proof.FfnMidKernel.lean ====
module

public import proofs.«01_k».proof.Proof.FfnMidBlock
public import Idealize.ShloMosaic.Lib.Pipeline.ValueKit

@[expose] public section

set_option maxRecDepth 16384

noncomputable section

/-! The kernel's result array, as an inner layer's feed-forward part of every token (the last gain is read but not used). -/

namespace Cert.Proof.FfnMidKernel

open Idealize.ShloMosaic Idealize.ShloMosaic.TcCoe Idealize.SL.Sem
open Cert.FfnMidIdeal Cert.FfnMidIdeal.Gen Cert.Proof.FfnSpec Cert.Proof.FfnMidBlock

/-- The result as a function of the argument arrays: row `i 0` is token `i 0 % 8192` of sequence `i 0 / 8192`. -/
def G (x : Vec Ideal S8x8192x1024 .f32) (g : Vec Ideal S1024 .f32) (w1 : Vec Ideal S1024x4096 .f32)
    (w2 : Vec Ideal S4096x1024 .f32) : Vec Ideal S65536x1024 .f32 := fun i =>
  mid (fun k => x (ix3 ⟨(i 0).val / 8192, by have := (i 0).isLt; simp [S65536x1024] at this; omega⟩ ⟨(i 0).val % 8192, by omega⟩ k))
    (fun k => g (ix1 k)) (fun k n => w1 (ix2 k n)) (fun n j => w2 (ix2 n j)) (i 1)

theorem resh_x (x : Vec Ideal S8x8192x1024 .f32) (i : Fin 65536) (k : Fin 1024) :
    shapeCast S65536x1024 x shapeCasts_S8x8192x1024_S65536x1024 (ix2 i k) = x (ix3 ⟨i.val / 8192, by omega⟩ ⟨i.val % 8192, by omega⟩ k) := by
  pointwise
theorem resh_g (x : Vec Ideal S1024 .f32) (k : Fin 1024) :
    shapeCast S1x1024 x shapeCasts_S1024_S1x1024 (ix2 0 k) = x (ix1 k) := by
  pointwise

variable (m : (ℓ : Loc nD τ sig) → Buf (Elt Ideal) ℓ) (ρ : Dev nD → PrngReg)

theorem V_x (c : Dev nD) : (V m c main_v0 : Vec Ideal S65536x1024 .f32)
    = shapeCast _ (m ((c : Thread nD τ).loc main_arg0) : Vec Ideal S8x8192x1024 .f32) shapeCasts_S8x8192x1024_S65536x1024 := by
  dsimp only [V, hostOps0]; after_results; rfl
theorem V_g (c : Dev nD) : (V m c main_v1 : Vec Ideal S1x1024 .f32)
    = shapeCast _ (m ((c : Thread nD τ).loc main_arg1) : Vec Ideal S1024 .f32) shapeCasts_S1024_S1x1024 := by
  dsimp only [V, hostOps0]; after_results; rfl
theorem V_w1 (c : Dev nD) (k : Fin 1024) (n : Fin 4096) : (V m c main_v2 : Vec Ideal S1024x4096 .bf16) (ix2 k n)
    = (m ((c : Thread nD τ).loc main_arg2) : Vec Ideal S1024x4096 .f32) (ix2 k n) := by
  dsimp only [V, hostOps0]; after_results; rfl
theorem V_w2 (c : Dev nD) (n : Fin 4096) (j : Fin 1024) : (V m c main_v3 : Vec Ideal S4096x1024 .bf16) (ix2 n j)
    = (m ((c : Thread nD τ).loc main_arg3) : Vec Ideal S4096x1024 .f32) (ix2 n j) := by
  dsimp only [V, hostOps0]; after_results; rfl
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx5 : ∀ t : Fin grid0.N, win0_5.index t 0 = t.val ∧ win0_5.index t 1 = 0 := by decide +kernel

/-- The token tile of point `t`, at an index. -/
theorem iblk0_apply (c : Dev nD) (t : Fin cfg0.N) (r k : Fin 1024) (h : t.val * 1024 + r.val < 65536) :
    (iblk m c 0 t : Vec Ideal S1024x1024 .f32) (ix2 r k) = (V m c main_v0 : Vec Ideal S65536x1024 .f32) (ix2 ⟨t.val * 1024 + r.val, h⟩ k) := by
  unfold iblk
  show (V m c main_v0 : Vec Ideal S65536x1024 .f32) ((win0_0.rect t).emb (ix2 r k)) = _
  congr 1
  funext a; apply Fin.ext
  rw [win0_0.rect_emb_val]
  fin_cases a
  · show win0_0.index t 0 * 1024 + r.val = _
    rw [(idx0 t).1]; rfl
  · show win0_0.index t 1 * 1024 + k.val = _
    rw [(idx0 t).2]; simp

theorem iblk1_eq (c : Dev nD) (t : Fin cfg0.N) : (iblk m c 1 t : Vec Ideal S1x1024 .f32) = V m c main_v1 := by
  unfold iblk
  funext y
  show (V m c main_v1 : Vec Ideal S1x1024 .f32) ((win0_1.rect t).emb y) = _
  congr 1
  funext a; apply Fin.ext
  fin_cases a
  · exact win0_1.rect_emb_val_of_index_zero t 0 (idx1 t).1 y
  · exact win0_1.rect_emb_val_of_index_zero t 1 (idx1 t).2 y
theorem iblk2_eq (c : Dev nD) (t : Fin cfg0.N) : (iblk m c 2 t : Vec Ideal S1024x4096 .bf16) = V m c main_v2 := by
  unfold iblk
  funext y
  show (V m c main_v2 : Vec Ideal S1024x4096 .bf16) ((win0_2.rect t).emb y) = _
  congr 1
  funext a; apply Fin.ext
  fin_cases a
  · exact win0_2.rect_emb_val_of_index_zero t 0 (idx2 t).1 y
  · exact win0_2.rect_emb_val_of_index_zero t 1 (idx2 t).2 y
theorem iblk3_eq (c : Dev nD) (t : Fin cfg0.N) : (iblk m c 3 t : Vec Ideal S4096x1024 .bf16) = V m c main_v3 := by
  unfold iblk
  funext y
  show (V m c main_v3 : Vec Ideal S4096x1024 .bf16) ((win0_3.rect t).emb y) = _
  congr 1
  funext a; apply Fin.ext
  fin_cases a
  · exact win0_3.rect_emb_val_of_index_zero t 0 (idx3 t).1 y
  · exact win0_3.rect_emb_val_of_index_zero t 1 (idx3 t).2 y
/-- The kernel's whole result. -/
theorem final (c : Dev nD) :
    (dats m 0 c).arrAt 5 cfg0.N = G (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  show (dats m 0 c).after 5 t y = G _ _ _ _ ((win0_5.rect t).emb y)
  rw [after0_5]
  obtain ⟨r, j, rfl⟩ : ∃ r j : Fin 1024, y = ix2 r j := ⟨y 0, y 1, eq_ix2 y⟩
  have hN : t.val < 64 := t.isLt
  have hr : t.val * 1024 + r.val < 65536 := by omega
  have e : (win0_5.rect t).emb (ix2 r j) = (ix2 ⟨t.val * 1024 + r.val, hr⟩ j : S65536x1024.Idx) := by
    funext a; apply Fin.ext
    rw [win0_5.rect_emb_val]
    fin_cases a
    · show win0_5.index t 0 * 1024 + r.val = _
      rw [(idx5 t).1]; rfl
    · show win0_5.index t 1 * 1024 + j.val = _
      rw [(idx5 t).2]; simp
  rw [e]
  refine (out_apply _ _ _ _ _ r j).trans ?_
  unfold G
  refine mid_congr (fun k => ?_) (fun k => ?_) (fun k n => ?_) (fun n j => ?_) j
  · refine (iblk0_apply m c t r k hr).trans ?_
    rw [V_x]
    exact resh_x _ _ k
  · rw [iblk1_eq, V_g]
    exact resh_g _ k
  · rw [iblk2_eq]; exact V_w1 m c k n
  · rw [iblk3_eq]; exact V_w2 m c n j

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v5) = G (m ((c : Thread nD τ).loc main_arg0)) (m ((c : Thread nD τ).loc main_arg1))
      (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.FfnMidIdeal.Value.run_blocks m ρ)

end Cert.Proof.FfnMidKernel

end
-- ==== Proof.FfnMidReference.lean ====
module

public import proofs.«01_k».proof.Proof.FfnSpec
public import proofs.«01_k».proof.Proof.Gen.FfnMidRefIdeal.Run
public import proofs.«01_k».proof.Proof.Gen.FfnMidRefIdeal.Read

@[expose] public section

set_option maxRecDepth 16384

noncomputable section

namespace Cert.Proof.FfnMidReference

open Idealize.ShloMosaic Idealize.ShloMosaic.TcCoe Idealize.SL.Sem Cert.FfnMidRefIdeal Cert.FfnMidRefIdeal.Read Cert.Proof.FfnSpec

variable (x0 : (⟨S8x8192x1024, .f32⟩ : BufTy).Contents (Elt Ideal)) (x1 : (⟨S1024, .f32⟩ : BufTy).Contents (Elt Ideal))
  (x2 : (⟨S1024x4096, .f32⟩ : BufTy).Contents (Elt Ideal)) (x3 : (⟨S4096x1024, .f32⟩ : BufTy).Contents (Elt Ideal))

theorem v12_apply (a : Fin 8) (b : Fin 8192) (k : Fin 1024) :
    val_main_v12 (F := Ideal) x0 x1 (ix3 a b k) = rms (fun k => x0 (ix3 a b k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v15_apply (a : Fin 8) (b : Fin 8192) (n : Fin 4096) :
    val_main_v15 (F := Ideal) x0 x1 x2 (ix3 a b n) = hid (rms (fun k => x0 (ix3 a b k)) (fun k => x1 (ix1 k))) (fun k n => x2 (ix2 k n)) n := by
  pointwise [val_main_v15, val_main_v14, val_main_v13, val_main_call0_v0, val_main_call0_cst, v12_apply, hid]

theorem v17_apply (a : Fin 8) (b : Fin 8192) (j : Fin 1024) :
    val_main_v17 (F := Ideal) x0 x1 x2 x3 (ix3 a b j) = mid (fun k => x0 (ix3 a b k)) (fun k => x1 (ix1 k)) (fun k n => x2 (ix2 k n))
      (fun n j => x3 (ix2 n j)) j := by
  pointwise [val_main_v17, val_main_v16, v15_apply, mid]

/-- The reference's result, token by token. -/
theorem v18_apply (i : Fin 65536) (j : Fin 1024) :
    val_main_v18 (F := Ideal) x0 x1 x2 x3 (ix2 i j) = mid (fun k => x0 (ix3 ⟨i.val / 8192, by omega⟩ ⟨i.val % 8192, by omega⟩ k))
      (fun k => x1 (ix1 k)) (fun k n => x2 (ix2 k n)) (fun n j => x3 (ix2 n j)) j := by
  pointwise [val_main_v18, v17_apply]

end Cert.Proof.FfnMidReference

end
-- ==== Proof.QkvBlock.lean ====
module

public import proofs.«01_k».proof.Proof.FfnSpec
public import proofs.«01_k».proof.Proof.Gen.QkvIdeal.Value
public import Idealize.ShloMosaic.Lib.Pipeline.ValueKit

@[expose] public section

set_option maxRecDepth 16384

noncomputable section

/-! One tile of the projection: 1024 tokens, normalised and multiplied by three column windows of the weights. -/

namespace Cert.Proof.QkvBlock

open Idealize.ShloMosaic Idealize.ShloMosaic.TcCoe Idealize.SL.Sem
open Cert.QkvIdeal Cert.QkvIdeal.Gen Cert.QkvIdeal.Value Cert.Proof.FfnSpec

/-- One entry of a token's projection: the normalised row times a column of the weights. -/
def col (x g : Fin 1024 → EReal) (w : Fin 1024 → EReal) : EReal := ∑ k, rms x g k * w k

/-- The entry depends on its operands' elements only. -/
theorem col_congr {x x' g g' w w' : Fin 1024 → EReal} (hx : ∀ k, x k = x' k) (hg : ∀ k, g k = g' k) (hw : ∀ k, w k = w' k) :
    col x g w = col x' g' w' := by
  obtain rfl : x = x' := funext hx
  obtain rfl : g = g' := funext hg
  obtain rfl : w = w' := funext hw
  rfl

variable (P0 : Vec Ideal S1x1024x1024 .f32) (P1 : Vec Ideal S1x1024 .f32) (P2 : Vec Ideal S1024x1024 .bf16)

/-- The normalised tile. -/
theorem pay6_apply (r k : Fin 1024) :
    k0_pay6 P0 P1 (ix2 r k) = rms (fun k => P0 (ix3 0 r k)) (fun k => P1 (ix2 0 k)) k := by
  pointwise [k0_pay6, rms]

/-- The queries' product, scaled. -/
theorem pay7_apply (r c : Fin 1024) :
    k0_pay7 P0 P1 P2 (ix2 r c)
      = col (fun k => P0 (ix3 0 r k)) (fun k => P1 (ix2 0 k)) (fun k => P2 (ix2 k c)) * Ideal.ofBits .f32 0x3E38AA3B#32 := by
  pointwise [k0_pay7, pay6_apply, col]

/-- The keys' product. -/
theorem pay18_apply (r c : Fin 1024) :
    k0_pay18 (k0_pay6 P0 P1) (k0_pay17 P2) (ix2 r c)
      = col (fun k => P0 (ix3 0 r k)) (fun k => P1 (ix2 0 k)) (fun k => P2 (ix2 k c)) := by
  pointwise [k0_pay18, k0_pay17, pay6_apply, col]

/-- The values' product. -/
theorem pay28_apply (r c : Fin 1024) :
    k0_pay28 (k0_pay6 P0 P1) P2 (ix2 r c)
      = col (fun k => P0 (ix3 0 r k)) (fun k => P1 (ix2 0 k)) (fun k => P2 (ix2 k c)) := by
  pointwise [k0_pay28, pay6_apply, col]

theorem at3 (p : Fin 8) (r : Fin 1024) (l : Fin 128) : ix3_0 (ix4 0 p r l) = ix2 r ⟨128 * p + l, by omega⟩ := by
  funext a; apply Fin.ext
  fin_cases a
  · rfl
  · show p.val * 128 + l.val = 128 * p.val + l.val; omega
theorem at4 (p : Fin 8) (r : Fin 1024) (l : Fin 128) : ix4_0 (ix4 0 p r l) = ix2 r ⟨128 * p + l, by omega⟩ := by
  funext a; apply Fin.ext
  fin_cases a
  · rfl
  · show p.val * 128 + l.val = 128 * p.val + l.val; omega
theorem at5 (p : Fin 8) (r : Fin 1024) (l : Fin 128) : ix5_0 (ix4 0 p r l) = ix2 r ⟨128 * p + l, by omega⟩ := by
  funext a; apply Fin.ext
  fin_cases a
  · rfl
  · show p.val * 128 + l.val = 128 * p.val + l.val; omega

theorem E3_apply (p : Fin 8) (r : Fin 1024) (l : Fin 128) :
    E3 P0 P1 P2 (ix4 0 p r l) = col (fun k => P0 (ix3 0 r k)) (fun k => P1 (ix2 0 k)) (fun k => P2 (ix2 k ⟨128 * p + l, by omega⟩))
      * Ideal.ofBits .f32 0x3E38AA3B#32 := by
  refine Eq.trans ?_ (pay7_apply P0 P1 P2 r ⟨128 * p + l, by omega⟩)
  show k0_pay7 P0 P1 P2 (ix3_0 (ix4 0 p r l)) = _
  rw [at3]
theorem E4_apply (p : Fin 8) (r : Fin 1024) (l : Fin 128) :
    E4 P0 P1 P2 (ix4 0 p r l) = col (fun k => P0 (ix3 0 r k)) (fun k => P1 (ix2 0 k)) (fun k => P2 (ix2 k ⟨128 * p + l, by omega⟩)) := by
  refine Eq.trans ?_ (pay18_apply P0 P1 P2 r ⟨128 * p + l, by omega⟩)
  show k0_pay18 (k0_pay6 P0 P1) (k0_pay17 P2) (ix4_0 (ix4 0 p r l)) = _
  rw [at4]
theorem E5_apply (p : Fin 8) (r : Fin 1024) (l : Fin 128) :
    E5 P0 P1 P2 (ix4 0 p r l) = col (fun k => P0 (ix3 0 r k)) (fun k => P1 (ix2 0 k)) (fun k => P2 (ix2 k ⟨128 * p + l, by omega⟩)) := by
  refine Eq.trans ?_ (pay28_apply P0 P1 P2 r ⟨128 * p + l, by omega⟩)
  show k0_pay28 (k0_pay6 P0 P1) P2 (ix5_0 (ix4 0 p r l)) = _
  rw [at5]

variable (x0 : Vec Ideal S1x1024x1024 .f32) (x1 : Vec Ideal S1x1024 .f32) (x2 : Vec Ideal S1024x3072 .bf16)

theorem ld0 (r k : Fin 1024) : (View.ld x0 r0_0 : Vec Ideal S1x1024x1024 .f32) (ix3 0 r k) = x0 (ix3 0 r k) :=
  View.ld_unit_apply_of (S := S1x1024x1024) _ ![0, 0, 0] S1x1024x1024.size _ (ix3 0 r k) (ix3 0 r k) (by
    intro a; fin_cases a <;> exact (Nat.zero_add _).symm)
theorem ld1 (k : Fin 1024) : (View.ld x1 r0_1 : Vec Ideal S1x1024 .f32) (ix2 0 k) = x1 (ix2 0 k) :=
  View.ld_unit_apply_of (S := S1x1024) _ ![0, 0] S1x1024.size _ (ix2 0 k) (ix2 0 k) (by
    intro a; fin_cases a <;> exact (Nat.zero_add _).symm)
theorem ld2 (k c : Fin 1024) : (View.ld x2 r0_2 : Vec Ideal S1024x1024 .bf16) (ix2 k c) = x2 (ix2 k ⟨c, by omega⟩) :=
  View.ld_unit_apply_of (S := S1024x3072) _ ![0, 0] S1024x1024.size _ (ix2 k c) (ix2 k ⟨c, by omega⟩) (by
    intro a; fin_cases a <;> exact (Nat.zero_add _).symm)
theorem ld11 (k c : Fin 1024) : (View.ld x2 r0_11 : Vec Ideal S1024x1024 .bf16) (ix2 k c) = x2 (ix2 k ⟨1024 + c, by omega⟩) :=
  View.ld_unit_apply_of (S := S1024x3072) _ ![0, 1024] S1024x1024.size _ (ix2 k c) (ix2 k ⟨1024 + c, by omega⟩)
    (Fin.forall_fin_two.mpr ⟨(Nat.zero_add _).symm, rfl⟩)
theorem ld12 (k c : Fin 1024) : (View.ld x2 r0_12 : Vec Ideal S1024x1024 .bf16) (ix2 k c) = x2 (ix2 k ⟨2048 + c, by omega⟩) :=
  View.ld_unit_apply_of (S := S1024x3072) _ ![0, 2048] S1024x1024.size _ (ix2 k c) (ix2 k ⟨2048 + c, by omega⟩)
    (Fin.forall_fin_two.mpr ⟨(Nat.zero_add _).symm, rfl⟩)

/-- The queries' block: pair `p` holds columns `128 p` onwards, scaled. -/
theorem out3_apply (p : Fin 8) (r : Fin 1024) (l : Fin 128) :
    out0_3 x0 x1 x2 (ix4 0 p r l) = col (fun k => x0 (ix3 0 r k)) (fun k => x1 (ix2 0 k)) (fun k => x2 (ix2 k ⟨128 * p + l, by omega⟩))
      * Ideal.ofBits .f32 0x3E38AA3B#32 := by
  unfold_out out0_3
  rw [canon3_eq]
  refine (E3_apply _ _ _ p r l).trans ?_
  exact congrArg (· * _) (col_congr (fun k => ld0 x0 r k) (fun k => ld1 x1 k) (fun k => ld2 x2 k ⟨128 * p + l, by omega⟩))
/-- The keys' block. -/
theorem out4_apply (p : Fin 8) (r : Fin 1024) (l : Fin 128) :
    out0_4 x0 x1 x2 (ix4 0 p r l) = col (fun k => x0 (ix3 0 r k)) (fun k => x1 (ix2 0 k)) (fun k => x2 (ix2 k ⟨1024 + (128 * p + l), by omega⟩)) := by
  unfold_out out0_4
  rw [canon4_eq]
  refine (E4_apply _ _ _ p r l).trans ?_
  exact col_congr (fun k => ld0 x0 r k) (fun k => ld1 x1 k) (fun k => ld11 x2 k ⟨128 * p + l, by omega⟩)
/-- The values' block. -/
theorem out5_apply (p : Fin 8) (r : Fin 1024) (l : Fin 128) :
    out0_5 x0 x1 x2 (ix4 0 p r l) = col (fun k => x0 (ix3 0 r k)) (fun k => x1 (ix2 0 k)) (fun k => x2 (ix2 k ⟨2048 + (128 * p + l), by omega⟩)) := by
  unfold_out out0_5
  rw [canon5_eq]
  refine (E5_apply _ _ _ p r l).trans ?_
  exact col_congr (fun k => ld0 x0 r k) (fun k => ld1 x1 k) (fun k => ld12 x2 k ⟨128 * p + l, by omega⟩)

end Cert.Proof.QkvBlock

end
-- ==== Proof.QkvKernel.lean ====
module

public import proofs.«01_k».proof.Proof.QkvBlock
public import Idealize.ShloMosaic.Lib.Pipeline.ValueKit

@[expose] public section

set_option maxRecDepth 16384

noncomputable section

/-! The kernel's three result arrays: every token's scaled queries, keys and values, pair after pair. -/

namespace Cert.Proof.QkvKernel

open Idealize.ShloMosaic Idealize.ShloMosaic.TcCoe Idealize.SL.Sem
open Cert.QkvIdeal Cert.QkvIdeal.Gen Cert.Proof.QkvBlock

/-- Entry `(b, p, s, l)` of the projection whose columns start at `o`: token `s` of sequence `b`, column `o + 128 p + l`. -/
def at_ (o : Nat) (ho : o + 1024 ≤ 3072) (x : Vec Ideal S8x8192x1024 .f32) (g : Vec Ideal S1024 .f32) (w : Vec Ideal S1024x3072 .f32)
    (b p : Fin 8) (s : Fin 8192) (l : Fin 128) : EReal :=
  col (fun k => x (ix3 b s k)) (fun k => g (ix1 k)) (fun k => w (ix2 k ⟨o + (128 * p + l), by omega⟩))

/-- The queries: the first 1024 columns, scaled. -/
def Gq (x : Vec Ideal S8x8192x1024 .f32) (g : Vec Ideal S1024 .f32) (w : Vec Ideal S1024x3072 .f32) : Vec Ideal S8x8x8192x128 .bf16 :=
  fun i => at_ 0 (by omega) x g w (i 0) (i 1) (i 2) (i 3) * Ideal.ofBits .f32 0x3E38AA3B#32
/-- The keys: the next 1024 columns. -/
def Gk (x : Vec Ideal S8x8192x1024 .f32) (g : Vec Ideal S1024 .f32) (w : Vec Ideal S1024x3072 .f32) : Vec Ideal S8x8x8192x128 .bf16 :=
  fun i => at_ 1024 (by omega) x g w (i 0) (i 1) (i 2) (i 3)
/-- The values: the last 1024 columns. -/
def Gv (x : Vec Ideal S8x8192x1024 .f32) (g : Vec Ideal S1024 .f32) (w : Vec Ideal S1024x3072 .f32) : Vec Ideal S8x8x8192x128 .bf16 :=
  fun i => at_ 2048 (by omega) x g w (i 0) (i 1) (i 2) (i 3)

theorem resh_g (x : Vec Ideal S1024 .f32) (k : Fin 1024) :
    shapeCast S1x1024 x shapeCasts_S1024_S1x1024 (ix2 0 k) = x (ix1 k) := by
  pointwise

variable (m : (ℓ : Loc nD τ sig) → Buf (Elt Ideal) ℓ) (ρ : Dev nD → PrngReg)

theorem V_x (c : Dev nD) : (V m c main_arg0 : Vec Ideal S8x8192x1024 .f32) = m ((c : Thread nD τ).loc main_arg0) := by
  dsimp only [V, hostOps0]; after_results <;> rfl
theorem V_g (c : Dev nD) : (V m c main_v0 : Vec Ideal S1x1024 .f32)
    = shapeCast _ (m ((c : Thread nD τ).loc main_arg1) : Vec Ideal S1024 .f32) shapeCasts_S1024_S1x1024 := by
  dsimp only [V, hostOps0]; after_results; rfl
theorem V_w (c : Dev nD) (k : Fin 1024) (n : Fin 3072) : (V m c main_v1 : Vec Ideal S1024x3072 .bf16) (ix2 k n)
    = (m ((c : Thread nD τ).loc main_arg2) : Vec Ideal S1024x3072 .f32) (ix2 k n) := by
  dsimp only [V, hostOps0]; after_results; rfl

theorem idx0 : ∀ t : Fin grid0.N, win0_0.index t 0 = t.val / 8 ∧ win0_0.index t 1 = t.val % 8 ∧ win0_0.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = t.val / 8 ∧ win0_3.index t 1 = 0 ∧ win0_3.index t 2 = t.val % 8 ∧ win0_3.index t 3 = 0 := by
  decide +kernel
theorem idx4 : ∀ t : Fin grid0.N, win0_4.index t 0 = t.val / 8 ∧ win0_4.index t 1 = 0 ∧ win0_4.index t 2 = t.val % 8 ∧ win0_4.index t 3 = 0 := by
  decide +kernel
theorem idx5 : ∀ t : Fin grid0.N, win0_5.index t 0 = t.val / 8 ∧ win0_5.index t 1 = 0 ∧ win0_5.index t 2 = t.val % 8 ∧ win0_5.index t 3 = 0 := by
  decide +kernel

/-- The token tile of point `t`, at an index. -/
theorem iblk0_apply (c : Dev nD) (t : Fin cfg0.N) (r k : Fin 1024) (hb : t.val / 8 < 8) (hs : t.val % 8 * 1024 + r.val < 8192) :
    (iblk m c 0 t : Vec Ideal S1x1024x1024 .f32) (ix3 0 r k)
      = (V m c main_arg0 : Vec Ideal S8x8192x1024 .f32) (ix3 ⟨t.val / 8, hb⟩ ⟨t.val % 8 * 1024 + r.val, hs⟩ k) := by
  unfold iblk
  show (V m c main_arg0 : Vec Ideal S8x8192x1024 .f32) ((win0_0.rect t).emb (ix3 0 r k)) = _
  congr 1
  funext a; apply Fin.ext
  rw [win0_0.rect_emb_val]
  fin_cases a
  · show win0_0.index t 0 * 1 + 0 = _
    rw [(idx0 t).1]; simp
  · show win0_0.index t 1 * 1024 + r.val = _
    rw [(idx0 t).2.1]; rfl
  · show win0_0.index t 2 * 1024 + k.val = _
    rw [(idx0 t).2.2]; simp
theorem iblk1_eq (c : Dev nD) (t : Fin cfg0.N) : (iblk m c 1 t : Vec Ideal S1x1024 .f32) = V m c main_v0 := by
  unfold iblk
  funext y
  show (V m c main_v0 : Vec Ideal S1x1024 .f32) ((win0_1.rect t).emb y) = _
  congr 1
  funext a; apply Fin.ext
  fin_cases a
  · exact win0_1.rect_emb_val_of_index_zero t 0 (idx1 t).1 y
  · exact win0_1.rect_emb_val_of_index_zero t 1 (idx1 t).2 y
theorem iblk2_eq (c : Dev nD) (t : Fin cfg0.N) : (iblk m c 2 t : Vec Ideal S1024x3072 .bf16) = V m c main_v1 := by
  unfold iblk
  funext y
  show (V m c main_v1 : Vec Ideal S1024x3072 .bf16) ((win0_2.rect t).emb y) = _
  congr 1
  funext a; apply Fin.ext
  fin_cases a
  · exact win0_2.rect_emb_val_of_index_zero t 0 (idx2 t).1 y
  · exact win0_2.rect_emb_val_of_index_zero t 1 (idx2 t).2 y

/-- A point's entry is the whole array's entry at the point's place. -/
theorem point_eq (o : Nat) (ho : o + 1024 ≤ 3072) (c : Dev nD) (t : Fin cfg0.N) (p : Fin 8) (r : Fin 1024) (l : Fin 128) (hb : t.val / 8 < 8)
    (hs : t.val % 8 * 1024 + r.val < 8192) :
    col (fun k => (iblk m c 0 t : Vec Ideal S1x1024x1024 .f32) (ix3 0 r k)) (fun k => (iblk m c 1 t : Vec Ideal S1x1024 .f32) (ix2 0 k))
        (fun k => (iblk m c 2 t : Vec Ideal S1024x3072 .bf16) (ix2 k ⟨o + (128 * p + l), by omega⟩))
      = at_ o ho (m ((c : Thread nD τ).loc main_arg0)) (m ((c : Thread nD τ).loc main_arg1)) (m ((c : Thread nD τ).loc main_arg2))
          ⟨t.val / 8, hb⟩ p ⟨t.val % 8 * 1024 + r.val, hs⟩ l := by
  unfold at_
  refine col_congr (fun k => ?_) (fun k => ?_) (fun k => ?_)
  · refine (iblk0_apply m c t r k hb hs).trans ?_
    rw [V_x]
  · rw [iblk1_eq, V_g]
    exact resh_g _ k
  · rw [iblk2_eq]; exact V_w m c k _

/-- The queries' array. -/
theorem final3 (c : Dev nD) :
    (dats m 0 c).arrAt 3 cfg0.N = Gq (m ((c : Thread nD τ).loc main_arg0)) (m ((c : Thread nD τ).loc main_arg1))
      (m ((c : Thread nD τ).loc main_arg2)) := by
  refine (dats m 0 c).arrAt_eq_of_covers 3 _ (by decide +kernel) fun t hf y => ?_
  show (dats m 0 c).after 3 t y = Gq _ _ _ ((win0_3.rect t).emb y)
  rw [after0_3]
  obtain ⟨z, p, r, l, rfl⟩ : ∃ (z : Fin 1) (p : Fin 8) (r : Fin 1024) (l : Fin 128), y = ix4 z p r l := ⟨y 0, y 1, y 2, y 3, eq_ix4 y⟩
  obtain rfl : z = 0 := Subsingleton.elim _ _
  have hN : t.val < 64 := t.isLt
  have hb : t.val / 8 < 8 := by omega
  have hs : t.val % 8 * 1024 + r.val < 8192 := by omega
  have e : (win0_3.rect t).emb (ix4 0 p r l) = (ix4 ⟨t.val / 8, hb⟩ p ⟨t.val % 8 * 1024 + r.val, hs⟩ l : S8x8x8192x128.Idx) := by
    funext a; apply Fin.ext
    rw [win0_3.rect_emb_val]
    fin_cases a
    · show win0_3.index t 0 * 1 + 0 = _
      rw [(idx3 t).1]; simp
    · show win0_3.index t 1 * 8 + p.val = _
      rw [(idx3 t).2.1]; simp
    · show win0_3.index t 2 * 1024 + r.val = _
      rw [(idx3 t).2.2.1]; rfl
    · show win0_3.index t 3 * 128 + l.val = _
      rw [(idx3 t).2.2.2]; simp
  rw [e]
  refine (out3_apply _ _ _ p r l).trans ?_
  unfold Gq
  refine congrArg (· * _) ((col_congr (fun k => rfl) (fun k => rfl) (fun k => ?_)).trans (point_eq m 0 (by omega) c t p r l hb hs))
  exact congrArg (iblk m c 2 t : Vec Ideal S1024x3072 .bf16) (congrArg (ix2 k) (Fin.ext (Nat.zero_add _).symm))
/-- The keys' array. -/
theorem final4 (c : Dev nD) :
    (dats m 0 c).arrAt 4 cfg0.N = Gk (m ((c : Thread nD τ).loc main_arg0)) (m ((c : Thread nD τ).loc main_arg1))
      (m ((c : Thread nD τ).loc main_arg2)) := by
  refine (dats m 0 c).arrAt_eq_of_covers 4 _ (by decide +kernel) fun t hf y => ?_
  show (dats m 0 c).after 4 t y = Gk _ _ _ ((win0_4.rect t).emb y)
  rw [after0_4]
  obtain ⟨z, p, r, l, rfl⟩ : ∃ (z : Fin 1) (p : Fin 8) (r : Fin 1024) (l : Fin 128), y = ix4 z p r l := ⟨y 0, y 1, y 2, y 3, eq_ix4 y⟩
  obtain rfl : z = 0 := Subsingleton.elim _ _
  have hN : t.val < 64 := t.isLt
  have hb : t.val / 8 < 8 := by omega
  have hs : t.val % 8 * 1024 + r.val < 8192 := by omega
  have e : (win0_4.rect t).emb (ix4 0 p r l) = (ix4 ⟨t.val / 8, hb⟩ p ⟨t.val % 8 * 1024 + r.val, hs⟩ l : S8x8x8192x128.Idx) := by
    funext a; apply Fin.ext
    rw [win0_4.rect_emb_val]
    fin_cases a
    · show win0_4.index t 0 * 1 + 0 = _
      rw [(idx4 t).1]; simp
    · show win0_4.index t 1 * 8 + p.val = _
      rw [(idx4 t).2.1]; simp
    · show win0_4.index t 2 * 1024 + r.val = _
      rw [(idx4 t).2.2.1]; rfl
    · show win0_4.index t 3 * 128 + l.val = _
      rw [(idx4 t).2.2.2]; simp
  rw [e]
  refine (out4_apply _ _ _ p r l).trans ?_
  unfold Gk
  exact point_eq m 1024 (by omega) c t p r l hb hs
/-- The values' array. -/
theorem final5 (c : Dev nD) :
    (dats m 0 c).arrAt 5 cfg0.N = Gv (m ((c : Thread nD τ).loc main_arg0)) (m ((c : Thread nD τ).loc main_arg1))
      (m ((c : Thread nD τ).loc main_arg2)) := by
  refine (dats m 0 c).arrAt_eq_of_covers 5 _ (by decide +kernel) fun t hf y => ?_
  show (dats m 0 c).after 5 t y = Gv _ _ _ ((win0_5.rect t).emb y)
  rw [after0_5]
  obtain ⟨z, p, r, l, rfl⟩ : ∃ (z : Fin 1) (p : Fin 8) (r : Fin 1024) (l : Fin 128), y = ix4 z p r l := ⟨y 0, y 1, y 2, y 3, eq_ix4 y⟩
  obtain rfl : z = 0 := Subsingleton.elim _ _
  have hN : t.val < 64 := t.isLt
  have hb : t.val / 8 < 8 := by omega
  have hs : t.val % 8 * 1024 + r.val < 8192 := by omega
  have e : (win0_5.rect t).emb (ix4 0 p r l) = (ix4 ⟨t.val / 8, hb⟩ p ⟨t.val % 8 * 1024 + r.val, hs⟩ l : S8x8x8192x128.Idx) := by
    funext a; apply Fin.ext
    rw [win0_5.rect_emb_val]
    fin_cases a
    · show win0_5.index t 0 * 1 + 0 = _
      rw [(idx5 t).1]; simp
    · show win0_5.index t 1 * 8 + p.val = _
      rw [(idx5 t).2.1]; simp
    · show win0_5.index t 2 * 1024 + r.val = _
      rw [(idx5 t).2.2.1]; rfl
    · show win0_5.index t 3 * 128 + l.val = _
      rw [(idx5 t).2.2.2]; simp
  rw [e]
  refine (out5_apply _ _ _ p r l).trans ?_
  unfold Gv
  exact point_eq m 2048 (by omega) c t p r l hb hs

/-- The kernel's run: the three result arrays at `Gq`, `Gk`, `Gv` of the arguments, the arguments unchanged. -/
theorem run : θ_run defs (onTc (τ := τ) (main (F := Ideal))) ⟨m, fun _ => 0, ρ⟩ fun r => ∀ c : Dev nD,
      r.2.mem ((c : Thread nD τ).loc main_v2_0) = Gq (m ((c : Thread nD τ).loc main_arg0)) (m ((c : Thread nD τ).loc main_arg1)) (m ((c : Thread nD τ).loc main_arg2))
      ∧ r.2.mem ((c : Thread nD τ).loc main_v2_1) = Gk (m ((c : Thread nD τ).loc main_arg0)) (m ((c : Thread nD τ).loc main_arg1)) (m ((c : Thread nD τ).loc main_arg2))
      ∧ r.2.mem ((c : Thread nD τ).loc main_v2_2) = Gv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩)
    (Cert.QkvIdeal.Value.run_blocks m ρ)

end Cert.Proof.QkvKernel

end
-- ==== Proof.QkvReference.lean ====
module

public import proofs.«01_k».proof.Proof.QkvBlock
public import proofs.«01_k».proof.Proof.Gen.QkvRefIdeal.Run
public import proofs.«01_k».proof.Proof.Gen.QkvRefIdeal.Read

@[expose] public section

set_option maxRecDepth 16384

noncomputable section

namespace Cert.Proof.QkvReference

open Idealize.ShloMosaic Idealize.ShloMosaic.TcCoe Idealize.SL.Sem Cert.QkvRefIdeal Cert.QkvRefIdeal.Read Cert.Proof.FfnSpec
open Cert.Proof.QkvBlock (col)

variable (x0 : (⟨S8x8192x1024, .f32⟩ : BufTy).Contents (Elt Ideal)) (x1 : (⟨S1024, .f32⟩ : BufTy).Contents (Elt Ideal))
  (x2 : (⟨S1024x3072, .f32⟩ : BufTy).Contents (Elt Ideal))

/-- The normalised tokens. -/
theorem v12_apply (a : Fin 8) (b : Fin 8192) (k : Fin 1024) :
    val_main_v12 (F := Ideal) x0 x1 (ix3 a b k) = rms (fun k => x0 (ix3 a b k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

/-- The projection of a token. -/
theorem v13_apply (a : Fin 8) (b : Fin 8192) (n : Fin 3072) :
    val_main_v13 (F := Ideal) x0 x1 x2 (ix3 a b n) = col (fun k => x0 (ix3 a b k)) (fun k => x1 (ix1 k)) (fun k => x2 (ix2 k n)) := by
  pointwise [val_main_v13, v12_apply, col]

theorem v18_apply (a : Fin 8) (b : Fin 8192) (n : Fin 1024) :
    val_main_v18 (F := Ideal) x0 x1 x2 (ix3 a b n) = col (fun k => x0 (ix3 a b k)) (fun k => x1 (ix1 k)) (fun k => x2 (ix2 k ⟨n, by omega⟩))
      * Ideal.ofBits .f32 0x3E38AA3B#32 := by
  pointwise [val_main_v18, val_main_v17, val_main_cst_2, val_main_v14, v13_apply]
theorem v15_apply (a : Fin 8) (b : Fin 8192) (n : Fin 1024) :
    val_main_v15 (F := Ideal) x0 x1 x2 (ix3 a b n) = col (fun k => x0 (ix3 a b k)) (fun k => x1 (ix1 k)) (fun k => x2 (ix2 k ⟨1024 + n, by omega⟩)) := by
  pointwise [val_main_v15, v13_apply]
theorem v16_apply (a : Fin 8) (b : Fin 8192) (n : Fin 1024) :
    val_main_v16 (F := Ideal) x0 x1 x2 (ix3 a b n) = col (fun k => x0 (ix3 a b k)) (fun k => x1 (ix1 k)) (fun k => x2 (ix2 k ⟨2048 + n, by omega⟩)) := by
  pointwise [val_main_v16, v13_apply]

/-- The queries. -/
theorem v21_apply (a p : Fin 8) (b : Fin 8192) (l : Fin 128) :
    val_main_v21 (F := Ideal) x0 x1 x2 (ix4 a p b l) = col (fun k => x0 (ix3 a b k)) (fun k => x1 (ix1 k)) (fun k => x2 (ix2 k ⟨128 * p + l, by omega⟩))
      * Ideal.ofBits .f32 0x3E38AA3B#32 := by
  refine Eq.trans ?_ (v18_apply x0 x1 x2 a b ⟨128 * p + l, by omega⟩)
  pointwise [val_main_v21, val_main_v20, val_main_v19]
  exact congrArg _ (congrArg (ix3 a b) (Fin.ext (by show p.val * 128 + l.val = 128 * p.val + l.val; omega)))
/-- The keys. -/
theorem v24_apply (a p : Fin 8) (b : Fin 8192) (l : Fin 128) :
    val_main_v24 (F := Ideal) x0 x1 x2 (ix4 a p b l) = col (fun k => x0 (ix3 a b k)) (fun k => x1 (ix1 k)) (fun k => x2 (ix2 k ⟨1024 + (128 * p + l), by omega⟩)) := by
  refine Eq.trans ?_ (v15_apply x0 x1 x2 a b ⟨128 * p + l, by omega⟩)
  pointwise [val_main_v24, val_main_v23, val_main_v22]
  exact congrArg _ (congrArg (ix3 a b) (Fin.ext (by show p.val * 128 + l.val = 128 * p.val + l.val; omega)))
/-- The values. -/
theorem v27_apply (a p : Fin 8) (b : Fin 8192) (l : Fin 128) :
    val_main_v27 (F := Ideal) x0 x1 x2 (ix4 a p b l) = col (fun k => x0 (ix3 a b k)) (fun k => x1 (ix1 k)) (fun k => x2 (ix2 k ⟨2048 + (128 * p + l), by omega⟩)) := by
  refine Eq.trans ?_ (v16_apply x0 x1 x2 a b ⟨128 * p + l, by omega⟩)
  pointwise [val_main_v27, val_main_v26, val_main_v25]
  exact congrArg _ (congrArg (ix3 a b) (Fin.ext (by show p.val * 128 + l.val = 128 * p.val + l.val; omega)))

end Cert.Proof.QkvReference

end
-- ==== Proof.MixRefPre.lean ====
module

public import proofs.«01_k».proof.Proof.Gen.MixerRefIdeal.Run
public import Idealize.ShloMosaic.PureOps.Ideal.Laws

@[expose] public section

set_option maxRecDepth 16384

noncomputable section

namespace Cert.Proof.MixRef

open Idealize.ShloMosaic Idealize.ShloMosaic.TcCoe Idealize.SL.Sem Idealize.ShloMosaic.StableHlo Cert.MixerRefIdeal Cert.MixerRefIdeal.Gen Cert.MixerRefIdeal.Value

variable {F : FTy → Type} [FloatOps F]

/-! The values of the reference before its loop, operation by operation, from the arguments. -/

def e_v0 (a_arg0 : (⟨S8x8192x1024, .f32⟩ : BufTy).Contents (Elt F)) : (⟨S8x8192x1024, .f32⟩ : BufTy).Contents (Elt F) :=
  mulf a_arg0 a_arg0

def e_cst : (⟨S_, .f32⟩ : BufTy).Contents (Elt F) :=
  (constant S_ .f32 0x00000000#32)

def e_v1 (a_arg0 : (⟨S8x8192x1024, .f32⟩ : BufTy).Contents (Elt F)) : (⟨S8x8192, .f32⟩ : BufTy).Contents (Elt F) :=
  Host.reduceAdd (e_v0 (F := F) a_arg0) (e_cst (F := F)) reducesTo_S8x8192x1024_S8x8192_d2 h_S_

def e_v2 (a_arg0 : (⟨S8x8192x1024, .f32⟩ : BufTy).Contents (Elt F)) : (⟨S8x8192x1, .f32⟩ : BufTy).Contents (Elt F) :=
  broadcastInDim S8x8192x1 ![0, 1] bcast_S8x8192_S8x8192x1_0_1 (e_v1 (F := F) a_arg0)

def e_cst_0 : (⟨S_, .f32⟩ : BufTy).Contents (Elt F) :=
  (constant S_ .f32 0x44800000#32)

def e_v3 : (⟨S8x8192x1, .f32⟩ : BufTy).Contents (Elt F) :=
  broadcastInDim S8x8192x1 ![] bcast_S_S8x8192x1 (e_cst_0 (F := F))

def e_v4 (a_arg0 : (⟨S8x8192x1024, .f32⟩ : BufTy).Contents (Elt F)) : (⟨S8x8192x1, .f32⟩ : BufTy).Contents (Elt F) :=
  Host.divf (e_v2 (F := F) a_arg0) (e_v3 (F := F))

def e_cst_1 : (⟨S_, .f32⟩ : BufTy).Contents (Elt F) :=
  (constant S_ .f32 0x358637BD#32)

def e_v5 : (⟨S8x8192x1, .f32⟩ : BufTy).Contents (Elt F) :=
  broadcastInDim S8x8192x1 ![] bcast_S_S8x8192x1 (e_cst_1 (F := F))

def e_v6 (a_arg0 : (⟨S8x8192x1024, .f32⟩ : BufTy).Contents (Elt F)) : (⟨S8x8192x1, .f32⟩ : BufTy).Contents (Elt F) :=
  addf (e_v4 (F := F) a_arg0) (e_v5 (F := F))

def e_v7 (a_arg0 : (⟨S8x8192x1024, .f32⟩ : BufTy).Contents (Elt F)) : (⟨S8x8192x1, .f32⟩ : BufTy).Contents (Elt F) :=
  Host.rsqrt (e_v6 (F := F) a_arg0)

def e_v8 (a_arg0 : (⟨S8x8192x1024, .f32⟩ : BufTy).Contents (Elt F)) : (⟨S8x8192x1024, .f32⟩ : BufTy).Contents (Elt F) :=
  broadcastInDim S8x8192x1024 ![0, 1, 2] bcast_S8x8192x1_S8x8192x1024_0_1_2 (e_v7 (F := F) a_arg0)

def e_v9 (a_arg0 : (⟨S8x8192x1024, .f32⟩ : BufTy).Contents (Elt F)) : (⟨S8x8192x1024, .f32⟩ : BufTy).Contents (Elt F) :=
  mulf a_arg0 (e_v8 (F := F) a_arg0)

def e_v10 (a_arg1 : (⟨S1024, .f32⟩ : BufTy).Contents (Elt F)) : (⟨S1x1x1024, .f32⟩ : BufTy).Contents (Elt F) :=
  broadcastInDim S1x1x1024 ![2] bcast_S1024_S1x1x1024_2 a_arg1

def e_v11 (a_arg1 : (⟨S1024, .f32⟩ : BufTy).Contents (Elt F)) : (⟨S8x8192x1024, .f32⟩ : BufTy).Contents (Elt F) :=
  broadcastInDim S8x8192x1024 ![0, 1, 2] bcast_S1x1x1024_S8x8192x1024_0_1_2 (e_v10 (F := F) a_arg1)

def e_v12 (a_arg0 : (⟨S8x8192x1024, .f32⟩ : BufTy).Contents (Elt F)) (a_arg1 : (⟨S1024, .f32⟩ : BufTy).Contents (Elt F)) : (⟨S8x8192x1024, .f32⟩ : BufTy).Contents (Elt F) :=
  mulf (e_v9 (F := F) a_arg0) (e_v11 (F := F) a_arg1)

def e_v13 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x2560, .f32⟩ : BufTy).Contents (Elt F) :=
  Host.dotGeneral dot_S8x8192x1024_S1024x2560_S8x8192x2560_2_0_01_1_n_n none (e_v12 (F := F) a_arg0 a_arg1) a_arg2

def e_v14 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x512, .f32⟩ : BufTy).Contents (Elt F) :=
  extractStridedSlice S8x8192x512 ![0, 0, 0] (e_v13 (F := F) a_arg0 a_arg1 a_arg2) slices_S8x8192x2560_S8x8192x512_0_0_0

def e_v15 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x512, .f32⟩ : BufTy).Contents (Elt F) :=
  extractStridedSlice S8x8192x512 ![0, 0, 512] (e_v13 (F := F) a_arg0 a_arg1 a_arg2) slices_S8x8192x2560_S8x8192x512_0_0_512

def e_v16 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x512, .f32⟩ : BufTy).Contents (Elt F) :=
  extractStridedSlice S8x8192x512 ![0, 0, 1024] (e_v13 (F := F) a_arg0 a_arg1 a_arg2) slices_S8x8192x2560_S8x8192x512_0_0_1024

def e_v17 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x512, .f32⟩ : BufTy).Contents (Elt F) :=
  extractStridedSlice S8x8192x512 ![0, 0, 1536] (e_v13 (F := F) a_arg0 a_arg1 a_arg2) slices_S8x8192x2560_S8x8192x512_0_0_1536

def e_v18 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x512, .f32⟩ : BufTy).Contents (Elt F) :=
  extractStridedSlice S8x8192x512 ![0, 0, 2048] (e_v13 (F := F) a_arg0 a_arg1 a_arg2) slices_S8x8192x2560_S8x8192x512_0_0_2048

def e_v19 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  shapeCast _ (e_v14 (F := F) a_arg0 a_arg1 a_arg2) shapeCasts_S8x8192x512_S8x8192x4x128

def e_cst_2 : (⟨S_, .f32⟩ : BufTy).Contents (Elt F) :=
  (constant S_ .f32 0x00000000#32)

def e_cst_3 : (⟨S_, .f32⟩ : BufTy).Contents (Elt F) :=
  (constant S_ .f32 0x3F800000#32)

def e_call0_v0 : (⟨S_, .f32⟩ : BufTy).Contents (Elt F) :=
  (e_cst_2 (F := F))

def e_call0_v1 : (⟨S_, .f32⟩ : BufTy).Contents (Elt F) :=
  (e_cst_3 (F := F))

def e_call0_v4 : (⟨S63, .f32⟩ : BufTy).Contents (Elt F) :=
  (sitofp .f32 (iotaInDim S63 32 0))

def e_call0_cst_0 : (⟨S_, .f32⟩ : BufTy).Contents (Elt F) :=
  (constant S_ .f32 0x427C0000#32)

def e_call0_v5 : (⟨S63, .f32⟩ : BufTy).Contents (Elt F) :=
  (broadcastInDim S63 ![] bcast_S_S63) (e_call0_cst_0 (F := F))

def e_call0_v6 : (⟨S63, .f32⟩ : BufTy).Contents (Elt F) :=
  Host.divf (e_call0_v4 (F := F)) (e_call0_v5 (F := F))

def e_call0_v7 : (⟨S1, .f32⟩ : BufTy).Contents (Elt F) :=
  shapeCast _ (e_call0_v0 (F := F)) shapeCasts_S_S1

def e_call0_cst_1 : (⟨S_, .f32⟩ : BufTy).Contents (Elt F) :=
  (constant S_ .f32 0x3F800000#32)

def e_call0_v8 : (⟨S63, .f32⟩ : BufTy).Contents (Elt F) :=
  (broadcastInDim S63 ![] bcast_S_S63) (e_call0_cst_1 (F := F))

def e_call0_v9 : (⟨S63, .f32⟩ : BufTy).Contents (Elt F) :=
  subf (e_call0_v8 (F := F)) (e_call0_v6 (F := F))

def e_call0_v10 : (⟨S63, .f32⟩ : BufTy).Contents (Elt F) :=
  (broadcastInDim S63 ![0] bcast_S1_S63_0) (e_call0_v7 (F := F))

def e_call0_v11 : (⟨S63, .f32⟩ : BufTy).Contents (Elt F) :=
  mulf (e_call0_v10 (F := F)) (e_call0_v9 (F := F))

def e_call0_v12 : (⟨S1, .f32⟩ : BufTy).Contents (Elt F) :=
  shapeCast _ (e_call0_v1 (F := F)) shapeCasts_S_S1

def e_call0_v13 : (⟨S63, .f32⟩ : BufTy).Contents (Elt F) :=
  (broadcastInDim S63 ![0] bcast_S1_S63_0) (e_call0_v12 (F := F))

def e_call0_v14 : (⟨S63, .f32⟩ : BufTy).Contents (Elt F) :=
  mulf (e_call0_v13 (F := F)) (e_call0_v6 (F := F))

def e_call0_v15 : (⟨S63, .f32⟩ : BufTy).Contents (Elt F) :=
  addf (e_call0_v11 (F := F)) (e_call0_v14 (F := F))

def e_call0_v16 : (⟨S1, .f32⟩ : BufTy).Contents (Elt F) :=
  (broadcastInDim S1 ![] bcast_S_S1) (e_call0_v1 (F := F))

def e_v20 : (⟨S64, .f32⟩ : BufTy).Contents (Elt F) :=
  concatenate S64 0 [⟨S63, (e_call0_v15 (F := F))⟩, ⟨S1, (e_call0_v16 (F := F))⟩] concatenates_S63_S1_S64_d0

def e_cst_4 : (⟨S_, .f32⟩ : BufTy).Contents (Elt F) :=
  (constant S_ .f32 0x461C4000#32)

def e_v21 : (⟨S64, .f32⟩ : BufTy).Contents (Elt F) :=
  broadcastInDim S64 ![] bcast_S_S64 (e_cst_4 (F := F))

def e_v22 : (⟨S64, .f32⟩ : BufTy).Contents (Elt F) :=
  Host.powf (e_v21 (F := F)) (e_v20 (F := F))

def e_cst_5 : (⟨S_, .f32⟩ : BufTy).Contents (Elt F) :=
  (constant S_ .f32 0x3F800000#32)

def e_v23 : (⟨S64, .f32⟩ : BufTy).Contents (Elt F) :=
  broadcastInDim S64 ![] bcast_S_S64 (e_cst_5 (F := F))

def e_v24 : (⟨S64, .f32⟩ : BufTy).Contents (Elt F) :=
  Host.divf (e_v23 (F := F)) (e_v22 (F := F))

def e_v25 : (⟨S8192, .f32⟩ : BufTy).Contents (Elt F) :=
  (sitofp .f32 (iotaInDim S8192 32 0))

def e_v26 : (⟨S8192x1, .f32⟩ : BufTy).Contents (Elt F) :=
  broadcastInDim S8192x1 ![0] bcast_S8192_S8192x1_0 (e_v25 (F := F))

def e_v27 : (⟨S1x64, .f32⟩ : BufTy).Contents (Elt F) :=
  broadcastInDim S1x64 ![1] bcast_S64_S1x64_1 (e_v24 (F := F))

def e_v28 : (⟨S8192x64, .f32⟩ : BufTy).Contents (Elt F) :=
  broadcastInDim S8192x64 ![0, 1] bcast_S8192x1_S8192x64_0_1 (e_v26 (F := F))

def e_v29 : (⟨S8192x64, .f32⟩ : BufTy).Contents (Elt F) :=
  broadcastInDim S8192x64 ![0, 1] bcast_S1x64_S8192x64_0_1 (e_v27 (F := F))

def e_v30 : (⟨S8192x64, .f32⟩ : BufTy).Contents (Elt F) :=
  mulf (e_v28 (F := F)) (e_v29 (F := F))

def e_v31 : (⟨S8192x64, .f32⟩ : BufTy).Contents (Elt F) :=
  Host.cos (e_v30 (F := F))

def e_v32 : (⟨S1x8192x1x64, .f32⟩ : BufTy).Contents (Elt F) :=
  broadcastInDim S1x8192x1x64 ![1, 3] bcast_S8192x64_S1x8192x1x64_1_3 (e_v31 (F := F))

def e_v33 : (⟨S8192x64, .f32⟩ : BufTy).Contents (Elt F) :=
  Host.sin (e_v30 (F := F))

def e_v34 : (⟨S1x8192x1x64, .f32⟩ : BufTy).Contents (Elt F) :=
  broadcastInDim S1x8192x1x64 ![1, 3] bcast_S8192x64_S1x8192x1x64_1_3 (e_v33 (F := F))

def e_v35 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  Host.slice S8x8192x4x64 ![0, 0, 0, 0] ![1, 1, 1, 2] (e_v19 (F := F) a_arg0 a_arg1 a_arg2) slicesBy_S8x8192x4x128_S8x8192x4x64_0s1_0s1_0s1_0s2

def e_v36 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  Host.slice S8x8192x4x64 ![0, 0, 0, 1] ![1, 1, 1, 2] (e_v19 (F := F) a_arg0 a_arg1 a_arg2) slicesBy_S8x8192x4x128_S8x8192x4x64_0s1_0s1_0s1_1s2

def e_v37 : (⟨S8x8192x4x64, .f32⟩ : BufTy).Contents (Elt F) :=
  broadcastInDim S8x8192x4x64 ![0, 1, 2, 3] bcast_S1x8192x1x64_S8x8192x4x64_0_1_2_3 (e_v32 (F := F))

def e_v38 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v35 (F := F) a_arg0 a_arg1 a_arg2) (e_v37 (F := F))

def e_v39 : (⟨S8x8192x4x64, .f32⟩ : BufTy).Contents (Elt F) :=
  broadcastInDim S8x8192x4x64 ![0, 1, 2, 3] bcast_S1x8192x1x64_S8x8192x4x64_0_1_2_3 (e_v34 (F := F))

def e_v40 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v36 (F := F) a_arg0 a_arg1 a_arg2) (e_v39 (F := F))

def e_v41 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  subf (e_v38 (F := F) a_arg0 a_arg1 a_arg2) (e_v40 (F := F) a_arg0 a_arg1 a_arg2)

def e_v42 : (⟨S8x8192x4x64, .f32⟩ : BufTy).Contents (Elt F) :=
  broadcastInDim S8x8192x4x64 ![0, 1, 2, 3] bcast_S1x8192x1x64_S8x8192x4x64_0_1_2_3 (e_v34 (F := F))

def e_v43 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v35 (F := F) a_arg0 a_arg1 a_arg2) (e_v42 (F := F))

def e_v44 : (⟨S8x8192x4x64, .f32⟩ : BufTy).Contents (Elt F) :=
  broadcastInDim S8x8192x4x64 ![0, 1, 2, 3] bcast_S1x8192x1x64_S8x8192x4x64_0_1_2_3 (e_v32 (F := F))

def e_v45 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v36 (F := F) a_arg0 a_arg1 a_arg2) (e_v44 (F := F))

def e_v46 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  addf (e_v43 (F := F) a_arg0 a_arg1 a_arg2) (e_v45 (F := F) a_arg0 a_arg1 a_arg2)

def e_v47 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x1, .f32⟩ : BufTy).Contents (Elt F) :=
  broadcastInDim S8x8192x4x64x1 ![0, 1, 2, 3] bcast_S8x8192x4x64_S8x8192x4x64x1_0_1_2_3 (e_v41 (F := F) a_arg0 a_arg1 a_arg2)

def e_v48 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x1, .f32⟩ : BufTy).Contents (Elt F) :=
  broadcastInDim S8x8192x4x64x1 ![0, 1, 2, 3] bcast_S8x8192x4x64_S8x8192x4x64x1_0_1_2_3 (e_v46 (F := F) a_arg0 a_arg1 a_arg2)

def e_v49 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x2, .f32⟩ : BufTy).Contents (Elt F) :=
  concatenate S8x8192x4x64x2 4 [⟨S8x8192x4x64x1, (e_v47 (F := F) a_arg0 a_arg1 a_arg2)⟩, ⟨S8x8192x4x64x1, (e_v48 (F := F) a_arg0 a_arg1 a_arg2)⟩] concatenates_S8x8192x4x64x1_S8x8192x4x64x1_S8x8192x4x64x2_d4

def e_v50 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  shapeCast _ (e_v49 (F := F) a_arg0 a_arg1 a_arg2) shapeCasts_S8x8192x4x64x2_S8x8192x4x128

def e_v51 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  shapeCast _ (e_v15 (F := F) a_arg0 a_arg1 a_arg2) shapeCasts_S8x8192x512_S8x8192x4x128

def e_cst_6 : (⟨S_, .f32⟩ : BufTy).Contents (Elt F) :=
  (constant S_ .f32 0x00000000#32)

def e_cst_7 : (⟨S_, .f32⟩ : BufTy).Contents (Elt F) :=
  (constant S_ .f32 0x3F800000#32)

def e_call1_v0 : (⟨S_, .f32⟩ : BufTy).Contents (Elt F) :=
  (e_cst_6 (F := F))

def e_call1_v1 : (⟨S_, .f32⟩ : BufTy).Contents (Elt F) :=
  (e_cst_7 (F := F))

def e_call1_v4 : (⟨S63, .f32⟩ : BufTy).Contents (Elt F) :=
  (sitofp .f32 (iotaInDim S63 32 0))

def e_call1_cst_0 : (⟨S_, .f32⟩ : BufTy).Contents (Elt F) :=
  (constant S_ .f32 0x427C0000#32)

def e_call1_v5 : (⟨S63, .f32⟩ : BufTy).Contents (Elt F) :=
  (broadcastInDim S63 ![] bcast_S_S63) (e_call1_cst_0 (F := F))

def e_call1_v6 : (⟨S63, .f32⟩ : BufTy).Contents (Elt F) :=
  Host.divf (e_call1_v4 (F := F)) (e_call1_v5 (F := F))

def e_call1_v7 : (⟨S1, .f32⟩ : BufTy).Contents (Elt F) :=
  shapeCast _ (e_call1_v0 (F := F)) shapeCasts_S_S1

def e_call1_cst_1 : (⟨S_, .f32⟩ : BufTy).Contents (Elt F) :=
  (constant S_ .f32 0x3F800000#32)

def e_call1_v8 : (⟨S63, .f32⟩ : BufTy).Contents (Elt F) :=
  (broadcastInDim S63 ![] bcast_S_S63) (e_call1_cst_1 (F := F))

def e_call1_v9 : (⟨S63, .f32⟩ : BufTy).Contents (Elt F) :=
  subf (e_call1_v8 (F := F)) (e_call1_v6 (F := F))

def e_call1_v10 : (⟨S63, .f32⟩ : BufTy).Contents (Elt F) :=
  (broadcastInDim S63 ![0] bcast_S1_S63_0) (e_call1_v7 (F := F))

def e_call1_v11 : (⟨S63, .f32⟩ : BufTy).Contents (Elt F) :=
  mulf (e_call1_v10 (F := F)) (e_call1_v9 (F := F))

def e_call1_v12 : (⟨S1, .f32⟩ : BufTy).Contents (Elt F) :=
  shapeCast _ (e_call1_v1 (F := F)) shapeCasts_S_S1

def e_call1_v13 : (⟨S63, .f32⟩ : BufTy).Contents (Elt F) :=
  (broadcastInDim S63 ![0] bcast_S1_S63_0) (e_call1_v12 (F := F))

def e_call1_v14 : (⟨S63, .f32⟩ : BufTy).Contents (Elt F) :=
  mulf (e_call1_v13 (F := F)) (e_call1_v6 (F := F))

def e_call1_v15 : (⟨S63, .f32⟩ : BufTy).Contents (Elt F) :=
  addf (e_call1_v11 (F := F)) (e_call1_v14 (F := F))

def e_call1_v16 : (⟨S1, .f32⟩ : BufTy).Contents (Elt F) :=
  (broadcastInDim S1 ![] bcast_S_S1) (e_call1_v1 (F := F))

def e_v52 : (⟨S64, .f32⟩ : BufTy).Contents (Elt F) :=
  concatenate S64 0 [⟨S63, (e_call1_v15 (F := F))⟩, ⟨S1, (e_call1_v16 (F := F))⟩] concatenates_S63_S1_S64_d0

def e_cst_8 : (⟨S_, .f32⟩ : BufTy).Contents (Elt F) :=
  (constant S_ .f32 0x461C4000#32)

def e_v53 : (⟨S64, .f32⟩ : BufTy).Contents (Elt F) :=
  broadcastInDim S64 ![] bcast_S_S64 (e_cst_8 (F := F))

def e_v54 : (⟨S64, .f32⟩ : BufTy).Contents (Elt F) :=
  Host.powf (e_v53 (F := F)) (e_v52 (F := F))

def e_cst_9 : (⟨S_, .f32⟩ : BufTy).Contents (Elt F) :=
  (constant S_ .f32 0x3F800000#32)

def e_v55 : (⟨S64, .f32⟩ : BufTy).Contents (Elt F) :=
  broadcastInDim S64 ![] bcast_S_S64 (e_cst_9 (F := F))

def e_v56 : (⟨S64, .f32⟩ : BufTy).Contents (Elt F) :=
  Host.divf (e_v55 (F := F)) (e_v54 (F := F))

def e_v57 : (⟨S8192, .f32⟩ : BufTy).Contents (Elt F) :=
  (sitofp .f32 (iotaInDim S8192 32 0))

def e_v58 : (⟨S8192x1, .f32⟩ : BufTy).Contents (Elt F) :=
  broadcastInDim S8192x1 ![0] bcast_S8192_S8192x1_0 (e_v57 (F := F))

def e_v59 : (⟨S1x64, .f32⟩ : BufTy).Contents (Elt F) :=
  broadcastInDim S1x64 ![1] bcast_S64_S1x64_1 (e_v56 (F := F))

def e_v60 : (⟨S8192x64, .f32⟩ : BufTy).Contents (Elt F) :=
  broadcastInDim S8192x64 ![0, 1] bcast_S8192x1_S8192x64_0_1 (e_v58 (F := F))

def e_v61 : (⟨S8192x64, .f32⟩ : BufTy).Contents (Elt F) :=
  broadcastInDim S8192x64 ![0, 1] bcast_S1x64_S8192x64_0_1 (e_v59 (F := F))

def e_v62 : (⟨S8192x64, .f32⟩ : BufTy).Contents (Elt F) :=
  mulf (e_v60 (F := F)) (e_v61 (F := F))

def e_v63 : (⟨S8192x64, .f32⟩ : BufTy).Contents (Elt F) :=
  Host.cos (e_v62 (F := F))

def e_v64 : (⟨S1x8192x1x64, .f32⟩ : BufTy).Contents (Elt F) :=
  broadcastInDim S1x8192x1x64 ![1, 3] bcast_S8192x64_S1x8192x1x64_1_3 (e_v63 (F := F))

def e_v65 : (⟨S8192x64, .f32⟩ : BufTy).Contents (Elt F) :=
  Host.sin (e_v62 (F := F))

def e_v66 : (⟨S1x8192x1x64, .f32⟩ : BufTy).Contents (Elt F) :=
  broadcastInDim S1x8192x1x64 ![1, 3] bcast_S8192x64_S1x8192x1x64_1_3 (e_v65 (F := F))

def e_v67 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  Host.slice S8x8192x4x64 ![0, 0, 0, 0] ![1, 1, 1, 2] (e_v51 (F := F) a_arg0 a_arg1 a_arg2) slicesBy_S8x8192x4x128_S8x8192x4x64_0s1_0s1_0s1_0s2

def e_v68 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  Host.slice S8x8192x4x64 ![0, 0, 0, 1] ![1, 1, 1, 2] (e_v51 (F := F) a_arg0 a_arg1 a_arg2) slicesBy_S8x8192x4x128_S8x8192x4x64_0s1_0s1_0s1_1s2

def e_v69 : (⟨S8x8192x4x64, .f32⟩ : BufTy).Contents (Elt F) :=
  broadcastInDim S8x8192x4x64 ![0, 1, 2, 3] bcast_S1x8192x1x64_S8x8192x4x64_0_1_2_3 (e_v64 (F := F))

def e_v70 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v67 (F := F) a_arg0 a_arg1 a_arg2) (e_v69 (F := F))

def e_v71 : (⟨S8x8192x4x64, .f32⟩ : BufTy).Contents (Elt F) :=
  broadcastInDim S8x8192x4x64 ![0, 1, 2, 3] bcast_S1x8192x1x64_S8x8192x4x64_0_1_2_3 (e_v66 (F := F))

def e_v72 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v68 (F := F) a_arg0 a_arg1 a_arg2) (e_v71 (F := F))

def e_v73 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  subf (e_v70 (F := F) a_arg0 a_arg1 a_arg2) (e_v72 (F := F) a_arg0 a_arg1 a_arg2)

def e_v74 : (⟨S8x8192x4x64, .f32⟩ : BufTy).Contents (Elt F) :=
  broadcastInDim S8x8192x4x64 ![0, 1, 2, 3] bcast_S1x8192x1x64_S8x8192x4x64_0_1_2_3 (e_v66 (F := F))

def e_v75 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v67 (F := F) a_arg0 a_arg1 a_arg2) (e_v74 (F := F))

def e_v76 : (⟨S8x8192x4x64, .f32⟩ : BufTy).Contents (Elt F) :=
  broadcastInDim S8x8192x4x64 ![0, 1, 2, 3] bcast_S1x8192x1x64_S8x8192x4x64_0_1_2_3 (e_v64 (F := F))

def e_v77 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  mulf (e_v68 (F := F) a_arg0 a_arg1 a_arg2) (e_v76 (F := F))

def e_v78 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64, .f32⟩ : BufTy).Contents (Elt F) :=
  addf (e_v75 (F := F) a_arg0 a_arg1 a_arg2) (e_v77 (F := F) a_arg0 a_arg1 a_arg2)

def e_v79 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x1, .f32⟩ : BufTy).Contents (Elt F) :=
  broadcastInDim S8x8192x4x64x1 ![0, 1, 2, 3] bcast_S8x8192x4x64_S8x8192x4x64x1_0_1_2_3 (e_v73 (F := F) a_arg0 a_arg1 a_arg2)

def e_v80 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x1, .f32⟩ : BufTy).Contents (Elt F) :=
  broadcastInDim S8x8192x4x64x1 ![0, 1, 2, 3] bcast_S8x8192x4x64_S8x8192x4x64x1_0_1_2_3 (e_v78 (F := F) a_arg0 a_arg1 a_arg2)

def e_v81 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x64x2, .f32⟩ : BufTy).Contents (Elt F) :=
  concatenate S8x8192x4x64x2 4 [⟨S8x8192x4x64x1, (e_v79 (F := F) a_arg0 a_arg1 a_arg2)⟩, ⟨S8x8192x4x64x1, (e_v80 (F := F) a_arg0 a_arg1 a_arg2)⟩] concatenates_S8x8192x4x64x1_S8x8192x4x64x1_S8x8192x4x64x2_d4

def e_v82 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  shapeCast _ (e_v81 (F := F) a_arg0 a_arg1 a_arg2) shapeCasts_S8x8192x4x64x2_S8x8192x4x128

def e_cst_10 : (⟨S_, .f32⟩ : BufTy).Contents (Elt F) :=
  (constant S_ .f32 0x3DB504F3#32)

def e_v83 : (⟨S8x8192x4x128, .f32⟩ : BufTy).Contents (Elt F) :=
  broadcastInDim S8x8192x4x128 ![] bcast_S_S8x8192x4x128 (e_cst_10 (F := F))

def e_v84 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  mulf (e_v82 (F := F) a_arg0 a_arg1 a_arg2) (e_v83 (F := F))

def e_v85 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x8192x4x128, .f32⟩ : BufTy).Contents (Elt F) :=
  shapeCast _ (e_v16 (F := F) a_arg0 a_arg1 a_arg2) shapeCasts_S8x8192x512_S8x8192x4x128

def e_v86 : (⟨S4, .f32⟩ : BufTy).Contents (Elt F) :=
  (sitofp .f32 (iotaInDim S4 32 0))

def e_cst_11 : (⟨S_, .f32⟩ : BufTy).Contents (Elt F) :=
  (constant S_ .f32 0xC0A00000#32)

def e_v87 : (⟨S4, .f32⟩ : BufTy).Contents (Elt F) :=
  broadcastInDim S4 ![] bcast_S_S4 (e_cst_11 (F := F))

def e_v88 : (⟨S4, .f32⟩ : BufTy).Contents (Elt F) :=
  subf (e_v87 (F := F)) (e_v86 (F := F))

def e_cst_12 : (⟨S_, .f32⟩ : BufTy).Contents (Elt F) :=
  (constant S_ .f32 0x40000000#32)

def e_v89 : (⟨S4, .f32⟩ : BufTy).Contents (Elt F) :=
  broadcastInDim S4 ![] bcast_S_S4 (e_cst_12 (F := F))

def e_v90 : (⟨S4, .f32⟩ : BufTy).Contents (Elt F) :=
  Host.powf (e_v89 (F := F)) (e_v88 (F := F))

def e_v91 : (⟨S4, .f32⟩ : BufTy).Contents (Elt F) :=
  Host.negf (e_v90 (F := F))

def e_v92 : (⟨S4, .f32⟩ : BufTy).Contents (Elt F) :=
  Host.log1p (e_v91 (F := F))

def e_v93 : (⟨S64, .f32⟩ : BufTy).Contents (Elt F) :=
  (sitofp .f32 (iotaInDim S64 32 0))

def e_v94 : (⟨S64x1, .f32⟩ : BufTy).Contents (Elt F) :=
  broadcastInDim S64x1 ![0] bcast_S64_S64x1_0 (e_v93 (F := F))

def e_v95 : (⟨S1x64, .f32⟩ : BufTy).Contents (Elt F) :=
  broadcastInDim S1x64 ![1] bcast_S64_S1x64_1 (e_v93 (F := F))

def e_v96 : (⟨S64x64, .f32⟩ : BufTy).Contents (Elt F) :=
  broadcastInDim S64x64 ![0, 1] bcast_S64x1_S64x64_0_1 (e_v94 (F := F))

def e_v97 : (⟨S64x64, .f32⟩ : BufTy).Contents (Elt F) :=
  broadcastInDim S64x64 ![0, 1] bcast_S1x64_S64x64_0_1 (e_v95 (F := F))

def e_v98 : (⟨S64x64, .f32⟩ : BufTy).Contents (Elt F) :=
  subf (e_v96 (F := F)) (e_v97 (F := F))

def e_v99 : (⟨S64x64, .f32⟩ : BufTy).Contents (Elt F) :=
  Host.absf (e_v98 (F := F))

def e_v100 : (⟨S1x64x64, .f32⟩ : BufTy).Contents (Elt F) :=
  broadcastInDim S1x64x64 ![1, 2] bcast_S64x64_S1x64x64_1_2 (e_v99 (F := F))

def e_v101 : (⟨S4x1x1, .f32⟩ : BufTy).Contents (Elt F) :=
  broadcastInDim S4x1x1 ![0] bcast_S4_S4x1x1_0 (e_v92 (F := F))

def e_v102 : (⟨S4x64x64, .f32⟩ : BufTy).Contents (Elt F) :=
  broadcastInDim S4x64x64 ![0, 1, 2] bcast_S1x64x64_S4x64x64_0_1_2 (e_v100 (F := F))

def e_v103 : (⟨S4x64x64, .f32⟩ : BufTy).Contents (Elt F) :=
  broadcastInDim S4x64x64 ![0, 1, 2] bcast_S4x1x1_S4x64x64_0_1_2 (e_v101 (F := F))

def e_v104 : (⟨S4x64x64, .f32⟩ : BufTy).Contents (Elt F) :=
  mulf (e_v102 (F := F)) (e_v103 (F := F))

def e_v105 : (⟨S4x64x64, .f32⟩ : BufTy).Contents (Elt F) :=
  Host.exp (e_v104 (F := F))

def e_v106 : (⟨S64x1, .f32⟩ : BufTy).Contents (Elt F) :=
  broadcastInDim S64x1 ![0] bcast_S64_S64x1_0 (e_v93 (F := F))

def e_cst_13 : (⟨S_, .f32⟩ : BufTy).Contents (Elt F) :=
  (constant S_ .f32 0x3F800000#32)

def e_v107 : (⟨S64x1, .f32⟩ : BufTy).Contents (Elt F) :=
  broadcastInDim S64x1 ![] bcast_S_S64x1 (e_cst_13 (F := F))

def e_v108 : (⟨S64x1, .f32⟩ : BufTy).Contents (Elt F) :=
  addf (e_v106 (F := F)) (e_v107 (F := F))

def e_v109 : (⟨S1x4, .f32⟩ : BufTy).Contents (Elt F) :=
  broadcastInDim S1x4 ![1] bcast_S4_S1x4_1 (e_v92 (F := F))

def e_v110 : (⟨S64x4, .f32⟩ : BufTy).Contents (Elt F) :=
  broadcastInDim S64x4 ![0, 1] bcast_S64x1_S64x4_0_1 (e_v108 (F := F))

def e_v111 : (⟨S64x4, .f32⟩ : BufTy).Contents (Elt F) :=
  broadcastInDim S64x4 ![0, 1] bcast_S1x4_S64x4_0_1 (e_v109 (F := F))

def e_v112 : (⟨S64x4, .f32⟩ : BufTy).Contents (Elt F) :=
  mulf (e_v110 (F := F)) (e_v111 (F := F))

def e_v113 : (⟨S64x4, .f32⟩ : BufTy).Contents (Elt F) :=
  Host.exp (e_v112 (F := F))

def e_v114 : (⟨S64x1, .f32⟩ : BufTy).Contents (Elt F) :=
  broadcastInDim S64x1 ![0] bcast_S64_S64x1_0 (e_v93 (F := F))

def e_cst_14 : (⟨S_, .f32⟩ : BufTy).Contents (Elt F) :=
  (constant S_ .f32 0x427C0000#32)

def e_v115 : (⟨S64x1, .f32⟩ : BufTy).Contents (Elt F) :=
  broadcastInDim S64x1 ![] bcast_S_S64x1 (e_cst_14 (F := F))

def e_v116 : (⟨S64x1, .f32⟩ : BufTy).Contents (Elt F) :=
  subf (e_v115 (F := F)) (e_v114 (F := F))

def e_v117 : (⟨S1x4, .f32⟩ : BufTy).Contents (Elt F) :=
  broadcastInDim S1x4 ![1] bcast_S4_S1x4_1 (e_v92 (F := F))

def e_v118 : (⟨S64x4, .f32⟩ : BufTy).Contents (Elt F) :=
  broadcastInDim S64x4 ![0, 1] bcast_S64x1_S64x4_0_1 (e_v116 (F := F))

def e_v119 : (⟨S64x4, .f32⟩ : BufTy).Contents (Elt F) :=
  broadcastInDim S64x4 ![0, 1] bcast_S1x4_S64x4_0_1 (e_v117 (F := F))

def e_v120 : (⟨S64x4, .f32⟩ : BufTy).Contents (Elt F) :=
  mulf (e_v118 (F := F)) (e_v119 (F := F))

def e_v121 : (⟨S64x4, .f32⟩ : BufTy).Contents (Elt F) :=
  Host.exp (e_v120 (F := F))

def e_cst_15 : (⟨S_, .f32⟩ : BufTy).Contents (Elt F) :=
  (constant S_ .f32 0x42800000#32)

def e_v122 : (⟨S4, .f32⟩ : BufTy).Contents (Elt F) :=
  broadcastInDim S4 ![] bcast_S_S4 (e_cst_15 (F := F))

def e_v123 : (⟨S4, .f32⟩ : BufTy).Contents (Elt F) :=
  mulf (e_v122 (F := F)) (e_v92 (F := F))

def e_v124 : (⟨S4, .f32⟩ : BufTy).Contents (Elt F) :=
  Host.exp (e_v123 (F := F))

def e_v125 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x64x4x128, .f32⟩ : BufTy).Contents (Elt F) :=
  shapeCast _ (e_v50 (F := F) a_arg0 a_arg1 a_arg2) shapeCasts_S8x8192x4x128_S8x128x64x4x128

def e_v126 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x64x4x128, .f32⟩ : BufTy).Contents (Elt F) :=
  shapeCast _ (e_v84 (F := F) a_arg0 a_arg1 a_arg2) shapeCasts_S8x8192x4x128_S8x128x64x4x128

def e_v127 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x64x4x128, .f32⟩ : BufTy).Contents (Elt F) :=
  shapeCast _ (e_v85 (F := F) a_arg0 a_arg1 a_arg2) shapeCasts_S8x8192x4x128_S8x128x64x4x128

def e_v128 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x4x64x64, .f32⟩ : BufTy).Contents (Elt F) :=
  Host.dotGeneral dot_S8x128x64x4x128_S8x128x64x4x128_S8x128x4x64x64_4_4_2_2_013_013 none (e_v125 (F := F) a_arg0 a_arg1 a_arg2) (e_v126 (F := F) a_arg0 a_arg1 a_arg2)

def e_v129 : (⟨S1x1x4x64x64, .f32⟩ : BufTy).Contents (Elt F) :=
  broadcastInDim S1x1x4x64x64 ![2, 3, 4] bcast_S4x64x64_S1x1x4x64x64_2_3_4 (e_v105 (F := F))

def e_v130 : (⟨S8x128x4x64x64, .f32⟩ : BufTy).Contents (Elt F) :=
  broadcastInDim S8x128x4x64x64 ![0, 1, 2, 3, 4] bcast_S1x1x4x64x64_S8x128x4x64x64_0_1_2_3_4 (e_v129 (F := F))

def e_v131 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x4x64x64, .f32⟩ : BufTy).Contents (Elt F) :=
  mulf (e_v128 (F := F) a_arg0 a_arg1 a_arg2) (e_v130 (F := F))

def e_v132 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x4x128x64, .f32⟩ : BufTy).Contents (Elt F) :=
  Host.dotGeneral dot_S8x128x64x4x128_S8x128x4x64x64_S8x128x4x128x64_2_4_4_3_013_012 none (e_v127 (F := F) a_arg0 a_arg1 a_arg2) (e_v131 (F := F) a_arg0 a_arg1 a_arg2)

def e_v133 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S8x128x64x4x128, .f32⟩ : BufTy).Contents (Elt F) :=
  transpose S8x128x64x4x128 [0, 1, 4, 2, 3] (e_v132 (F := F) a_arg0 a_arg1 a_arg2) transposes_S8x128x4x128x64_S8x128x64x4x128_0_1_4_2_3

def e_v134 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  transpose S128x8x64x4x128 [1, 0, 2, 3, 4] (e_v125 (F := F) a_arg0 a_arg1 a_arg2) transposes_S8x128x64x4x128_S128x8x64x4x128_1_0_2_3_4

def e_v135 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  transpose S128x8x64x4x128 [1, 0, 2, 3, 4] (e_v126 (F := F) a_arg0 a_arg1 a_arg2) transposes_S8x128x64x4x128_S128x8x64x4x128_1_0_2_3_4

def e_v136 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  transpose S128x8x64x4x128 [1, 0, 2, 3, 4] (e_v127 (F := F) a_arg0 a_arg1 a_arg2) transposes_S8x128x64x4x128_S128x8x64x4x128_1_0_2_3_4

def e_cst_16 : (⟨S_, .f32⟩ : BufTy).Contents (Elt F) :=
  (constant S_ .f32 0x00000000#32)

def e_v137 : (⟨S8x4x128x128, .f32⟩ : BufTy).Contents (Elt F) :=
  broadcastInDim S8x4x128x128 ![] bcast_S_S8x4x128x128 (e_cst_16 (F := F))

def e_cst_17 : (⟨S_, .f32⟩ : BufTy).Contents (Elt F) :=
  (constant S_ .f32 0x00000000#32)

def e_v138 : (⟨S128x8x64x4x128, .f32⟩ : BufTy).Contents (Elt F) :=
  broadcastInDim S128x8x64x4x128 ![] bcast_S_S128x8x64x4x128 (e_cst_17 (F := F))

def e_c : (⟨S_, .i32⟩ : BufTy).Contents (Elt F) :=
  (constantI S_ 32 0#32)

def e_v139_0 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  (e_v134 (F := F) a_arg0 a_arg1 a_arg2)

def e_v139_1 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  (e_v135 (F := F) a_arg0 a_arg1 a_arg2)

def e_v139_2 (a_arg0 : (⟨S8x8192x1024, .f32⟩ : BufTy).Contents (Elt F)) (a_arg1 : (⟨S1024, .f32⟩ : BufTy).Contents (Elt F)) (a_arg2 : (⟨S1024x2560, .f32⟩ : BufTy).Contents (Elt F)) : (⟨S128x8x64x4x128, .f32⟩ : BufTy).Contents (Elt F) :=
  (e_v136 (F := F) a_arg0 a_arg1 a_arg2)

def e_v139_3 : (⟨S64x4, .f32⟩ : BufTy).Contents (Elt F) :=
  (e_v113 (F := F))

def e_v139_4 : (⟨S4, .f32⟩ : BufTy).Contents (Elt F) :=
  (e_v124 (F := F))

def e_v139_5 : (⟨S64x4, .f32⟩ : BufTy).Contents (Elt F) :=
  (e_v121 (F := F))

def e_v139_6 : (⟨S_, .i32⟩ : BufTy).Contents (Elt F) :=
  (e_c (F := F))

def e_v139_7 : (⟨S8x4x128x128, .f32⟩ : BufTy).Contents (Elt F) :=
  (e_v137 (F := F))

def e_v139_8 : (⟨S128x8x64x4x128, .f32⟩ : BufTy).Contents (Elt F) :=
  (e_v138 (F := F))

end Cert.Proof.MixRef

end
-- ==== Proof.MixRefPreRead.lean ====
module

public import proofs.«01_k».proof.Proof.Gen.MixerRefIdeal.Run
public import Idealize.ShloMosaic.PureOps.Ideal.Laws
public import proofs.«01_k».proof.Proof.MixRefPre

@[expose] public section

set_option maxRecDepth 16384

noncomputable section

namespace Cert.Proof.MixRef

open Idealize.ShloMosaic Idealize.ShloMosaic.TcCoe Idealize.SL.Sem Idealize.ShloMosaic.StableHlo Cert.MixerRefIdeal Cert.MixerRefIdeal.Gen Cert.MixerRefIdeal.Value

variable {F : FTy → Type} [FloatOps F]

/-! What the stretches before the loop leave in each buffer that is read later. -/

/-- The contents after the first 1 of these stretches. -/
def P1 (V : Valuation τ sig (Elt F)) : Valuation τ sig (Elt F) := after hostOps0 V

set_option maxRecDepth 16384 in
theorem P1_arg0 (V : Valuation τ sig (Elt F)) : P1 V (no_index (Proc.devRef .tc main_arg0)) = V (Proc.devRef .tc main_arg0) := by
  unfold P1
  simp only [hostOps0]
  after_reads_simp

set_option maxRecDepth 16384 in
theorem P1_arg1 (V : Valuation τ sig (Elt F)) : P1 V (no_index (Proc.devRef .tc main_arg1)) = V (Proc.devRef .tc main_arg1) := by
  unfold P1
  simp only [hostOps0]
  after_reads_simp

set_option maxRecDepth 16384 in
theorem P1_arg2 (V : Valuation τ sig (Elt F)) : P1 V (no_index (Proc.devRef .tc main_arg2)) = V (Proc.devRef .tc main_arg2) := by
  unfold P1
  simp only [hostOps0]
  after_reads_simp

set_option maxRecDepth 16384 in
theorem P1_arg3 (V : Valuation τ sig (Elt F)) : P1 V (no_index (Proc.devRef .tc main_arg3)) = V (Proc.devRef .tc main_arg3) := by
  unfold P1
  simp only [hostOps0]
  after_reads_simp

set_option maxRecDepth 16384 in
theorem P1_arg4 (V : Valuation τ sig (Elt F)) : P1 V (no_index (Proc.devRef .tc main_arg4)) = V (Proc.devRef .tc main_arg4) := by
  unfold P1
  simp only [hostOps0]
  after_reads_simp

set_option maxRecDepth 16384 in
theorem P1_arg5 (V : Valuation τ sig (Elt F)) : P1 V (no_index (Proc.devRef .tc main_arg5)) = V (Proc.devRef .tc main_arg5) := by
  unfold P1
  simp only [hostOps0]
  after_reads_simp

set_option maxRecDepth 16384 in
theorem P1_arg6 (V : Valuation τ sig (Elt F)) : P1 V (no_index (Proc.devRef .tc main_arg6)) = V (Proc.devRef .tc main_arg6) := by
  unfold P1
  simp only [hostOps0]
  after_reads_simp

set_option maxRecDepth 16384 in
set_option maxHeartbeats 4000000 in
theorem P1_cst_2 (V : Valuation τ sig (Elt F)) : P1 V (no_index (Proc.devRef .tc main_cst_2)) = e_cst_2 (F := F) := by
  unfold P1
  simp only [hostOps0]
  after_reads_simp
  rfl

set_option maxRecDepth 16384 in
set_option maxHeartbeats 4000000 in
theorem P1_cst_3 (V : Valuation τ sig (Elt F)) : P1 V (no_index (Proc.devRef .tc main_cst_3)) = e_cst_3 (F := F) := by
  unfold P1
  simp only [hostOps0]
  after_reads_simp
  rfl

set_option maxRecDepth 16384 in
set_option maxHeartbeats 4000000 in
theorem P1_v15 (V : Valuation τ sig (Elt F)) : P1 V (no_index (Proc.devRef .tc main_v15)) = e_v15 (F := F) (V (Proc.devRef .tc main_arg0)) (V (Proc.devRef .tc main_arg1)) (V (Proc.devRef .tc main_arg2)) := by
  unfold P1
  simp only [hostOps0]
  after_reads_simp
  rfl

set_option maxRecDepth 16384 in
set_option maxHeartbeats 4000000 in
theorem P1_v16 (V : Valuation τ sig (Elt F)) : P1 V (no_index (Proc.devRef .tc main_v16)) = e_v16 (F := F) (V (Proc.devRef .tc main_arg0)) (V (Proc.devRef .tc main_arg1)) (V (Proc.devRef .tc main_arg2)) := by
  unfold P1
  simp only [hostOps0]
  after_reads_simp
  rfl

set_option maxRecDepth 16384 in
set_option maxHeartbeats 4000000 in
theorem P1_v17 (V : Valuation τ sig (Elt F)) : P1 V (no_index (Proc.devRef .tc main_v17)) = e_v17 (F := F) (V (Proc.devRef .tc main_arg0)) (V (Proc.devRef .tc main_arg1)) (V (Proc.devRef .tc main_arg2)) := by
  unfold P1
  simp only [hostOps0]
  after_reads_simp
  rfl

set_option maxRecDepth 16384 in
set_option maxHeartbeats 4000000 in
theorem P1_v18 (V : Valuation τ sig (Elt F)) : P1 V (no_index (Proc.devRef .tc main_v18)) = e_v18 (F := F) (V (Proc.devRef .tc main_arg0)) (V (Proc.devRef .tc main_arg1)) (V (Proc.devRef .tc main_arg2)) := by
  unfold P1
  simp only [hostOps0]
  after_reads_simp
  rfl

set_option maxRecDepth 16384 in
set_option maxHeartbeats 4000000 in
theorem P1_v19 (V : Valuation τ sig (Elt F)) : P1 V (no_index (Proc.devRef .tc main_v19)) = e_v19 (F := F) (V (Proc.devRef .tc main_arg0)) (V (Proc.devRef .tc main_arg1)) (V (Proc.devRef .tc main_arg2)) := by
  unfold P1
  simp only [hostOps0]
  after_reads_simp
  rfl

/-- The contents after the first 2 of these stretches. -/
def P2 (V : Valuation τ sig (Elt F)) : Valuation τ sig (Elt F) := after hostOps0_1 (P1 V)

set_option maxRecDepth 16384 in
theorem P2_arg0 (V : Valuation τ sig (Elt F)) : P2 V (no_index (Proc.devRef .tc main_arg0)) = V (Proc.devRef .tc main_arg0) := by
  unfold P2
  simp only [hostOps0_1]
  after_reads_simp
  exact P1_arg0 V

set_option maxRecDepth 16384 in
theorem P2_arg1 (V : Valuation τ sig (Elt F)) : P2 V (no_index (Proc.devRef .tc main_arg1)) = V (Proc.devRef .tc main_arg1) := by
  unfold P2
  simp only [hostOps0_1]
  after_reads_simp
  exact P1_arg1 V

set_option maxRecDepth 16384 in
theorem P2_arg2 (V : Valuation τ sig (Elt F)) : P2 V (no_index (Proc.devRef .tc main_arg2)) = V (Proc.devRef .tc main_arg2) := by
  unfold P2
  simp only [hostOps0_1]
  after_reads_simp
  exact P1_arg2 V

set_option maxRecDepth 16384 in
theorem P2_arg3 (V : Valuation τ sig (Elt F)) : P2 V (no_index (Proc.devRef .tc main_arg3)) = V (Proc.devRef .tc main_arg3) := by
  unfold P2
  simp only [hostOps0_1]
  after_reads_simp
  exact P1_arg3 V

set_option maxRecDepth 16384 in
theorem P2_arg4 (V : Valuation τ sig (Elt F)) : P2 V (no_index (Proc.devRef .tc main_arg4)) = V (Proc.devRef .tc main_arg4) := by
  unfold P2
  simp only [hostOps0_1]
  after_reads_simp
  exact P1_arg4 V

set_option maxRecDepth 16384 in
theorem P2_arg5 (V : Valuation τ sig (Elt F)) : P2 V (no_index (Proc.devRef .tc main_arg5)) = V (Proc.devRef .tc main_arg5) := by
  unfold P2
  simp only [hostOps0_1]
  after_reads_simp
  exact P1_arg5 V

set_option maxRecDepth 16384 in
theorem P2_arg6 (V : Valuation τ sig (Elt F)) : P2 V (no_index (Proc.devRef .tc main_arg6)) = V (Proc.devRef .tc main_arg6) := by
  unfold P2
  simp only [hostOps0_1]
  after_reads_simp
  exact P1_arg6 V

set_option maxRecDepth 16384 in
theorem P2_v15 (V : Valuation τ sig (Elt F)) : P2 V (no_index (Proc.devRef .tc main_v15)) = e_v15 (F := F) (V (Proc.devRef .tc main_arg0)) (V (Proc.devRef .tc main_arg1)) (V (Proc.devRef .tc main_arg2)) := by
  unfold P2
  simp only [hostOps0_1]
  after_reads_simp
  exact P1_v15 V

set_option maxRecDepth 16384 in
theorem P2_v16 (V : Valuation τ sig (Elt F)) : P2 V (no_index (Proc.devRef .tc main_v16)) = e_v16 (F := F) (V (Proc.devRef .tc main_arg0)) (V (Proc.devRef .tc main_arg1)) (V (Proc.devRef .tc main_arg2)) := by
  unfold P2
  simp only [hostOps0_1]
  after_reads_simp
  exact P1_v16 V

set_option maxRecDepth 16384 in
theorem P2_v17 (V : Valuation τ sig (Elt F)) : P2 V (no_index (Proc.devRef .tc main_v17)) = e_v17 (F := F) (V (Proc.devRef .tc main_arg0)) (V (Proc.devRef .tc main_arg1)) (V (Proc.devRef .tc main_arg2)) := by
  unfold P2
  simp only [hostOps0_1]
  after_reads_simp
  exact P1_v17 V

set_option maxRecDepth 16384 in
theorem P2_v18 (V : Valuation τ sig (Elt F)) : P2 V (no_index (Proc.devRef .tc main_v18)) = e_v18 (F := F) (V (Proc.devRef .tc main_arg0)) (V (Proc.devRef .tc main_arg1)) (V (Proc.devRef .tc main_arg2)) := by
  unfold P2
  simp only [hostOps0_1]
  after_reads_simp
  exact P1_v18 V

set_option maxRecDepth 16384 in
theorem P2_v19 (V : Valuation τ sig (Elt F)) : P2 V (no_index (Proc.devRef .tc main_v19)) = e_v19 (F := F) (V (Proc.devRef .tc main_arg0)) (V (Proc.devRef .tc main_arg1)) (V (Proc.devRef .tc main_arg2)) := by
  unfold P2
  simp only [hostOps0_1]
  after_reads_simp
  exact P1_v19 V

set_option maxRecDepth 16384 in
set_option maxHeartbeats 4000000 in
theorem P2_v20 (V : Valuation τ sig (Elt F)) : P2 V (no_index (Proc.devRef .tc main_v20)) = e_v20 (F := F) := by
  unfold P2
  simp only [hostOps0_1]
  after_reads_simp
  try simp only [P1_cst_2, P1_cst_3]
  rfl

/-- The contents after the first 3 of these stretches. -/
def P3 (V : Valuation τ sig (Elt F)) : Valuation τ sig (Elt F) := after hostOps0_2 (P2 V)

set_option maxRecDepth 16384 in
theorem P3_arg0 (V : Valuation τ sig (Elt F)) : P3 V (no_index (Proc.devRef .tc main_arg0)) = V (Proc.devRef .tc main_arg0) := by
  unfold P3
  simp only [hostOps0_2]
  after_reads_simp
  exact P2_arg0 V

set_option maxRecDepth 16384 in
theorem P3_arg1 (V : Valuation τ sig (Elt F)) : P3 V (no_index (Proc.devRef .tc main_arg1)) = V (Proc.devRef .tc main_arg1) := by
  unfold P3
  simp only [hostOps0_2]
  after_reads_simp
  exact P2_arg1 V

set_option maxRecDepth 16384 in
theorem P3_arg2 (V : Valuation τ sig (Elt F)) : P3 V (no_index (Proc.devRef .tc main_arg2)) = V (Proc.devRef .tc main_arg2) := by
  unfold P3
  simp only [hostOps0_2]
  after_reads_simp
  exact P2_arg2 V

set_option maxRecDepth 16384 in
theorem P3_arg3 (V : Valuation τ sig (Elt F)) : P3 V (no_index (Proc.devRef .tc main_arg3)) = V (Proc.devRef .tc main_arg3) := by
  unfold P3
  simp only [hostOps0_2]
  after_reads_simp
  exact P2_arg3 V

set_option maxRecDepth 16384 in
theorem P3_arg4 (V : Valuation τ sig (Elt F)) : P3 V (no_index (Proc.devRef .tc main_arg4)) = V (Proc.devRef .tc main_arg4) := by
  unfold P3
  simp only [hostOps0_2]
  after_reads_simp
  exact P2_arg4 V

set_option maxRecDepth 16384 in
theorem P3_arg5 (V : Valuation τ sig (Elt F)) : P3 V (no_index (Proc.devRef .tc main_arg5)) = V (Proc.devRef .tc main_arg5) := by
  unfold P3
  simp only [hostOps0_2]
  after_reads_simp
  exact P2_arg5 V

set_option maxRecDepth 16384 in
theorem P3_arg6 (V : Valuation τ sig (Elt F)) : P3 V (no_index (Proc.devRef .tc main_arg6)) = V (Proc.devRef .tc main_arg6) := by
  unfold P3
  simp only [hostOps0_2]
  after_reads_simp
  exact P2_arg6 V

set_option maxRecDepth 16384 in
set_option maxHeartbeats 4000000 in
theorem P3_cst_6 (V : Valuation τ sig (Elt F)) : P3 V (no_index (Proc.devRef .tc main_cst_6)) = e_cst_6 (F := F) := by
  unfold P3
  simp only [hostOps0_2]
  after_reads_simp
  rfl

set_option maxRecDepth 16384 in
set_option maxHeartbeats 4000000 in
theorem P3_cst_7 (V : Valuation τ sig (Elt F)) : P3 V (no_index (Proc.devRef .tc main_cst_7)) = e_cst_7 (F := F) := by
  unfold P3
  simp only [hostOps0_2]
  after_reads_simp
  rfl

set_option maxRecDepth 16384 in
theorem P3_v16 (V : Valuation τ sig (Elt F)) : P3 V (no_index (Proc.devRef .tc main_v16)) = e_v16 (F := F) (V (Proc.devRef .tc main_arg0)) (V (Proc.devRef .tc main_arg1)) (V (Proc.devRef .tc main_arg2)) := by
  unfold P3
  simp only [hostOps0_2]
  after_reads_simp
  exact P2_v16 V

set_option maxRecDepth 16384 in
theorem P3_v17 (V : Valuation τ sig (Elt F)) : P3 V (no_index (Proc.devRef .tc main_v17)) = e_v17 (F := F) (V (Proc.devRef .tc main_arg0)) (V (Proc.devRef .tc main_arg1)) (V (Proc.devRef .tc main_arg2)) := by
  unfold P3
  simp only [hostOps0_2]
  after_reads_simp
  exact P2_v17 V

set_option maxRecDepth 16384 in
theorem P3_v18 (V : Valuation τ sig (Elt F)) : P3 V (no_index (Proc.devRef .tc main_v18)) = e_v18 (F := F) (V (Proc.devRef .tc main_arg0)) (V (Proc.devRef .tc main_arg1)) (V (Proc.devRef .tc main_arg2)) := by
  unfold P3
  simp only [hostOps0_2]
  after_reads_simp
  exact P2_v18 V

set_option maxRecDepth 16384 in
set_option maxHeartbeats 4000000 in
theorem P3_v50 (V : Valuation τ sig (Elt F)) : P3 V (no_index (Proc.devRef .tc main_v50)) = e_v50 (F := F) (V (Proc.devRef .tc main_arg0)) (V (Proc.devRef .tc main_arg1)) (V (Proc.devRef .tc main_arg2)) := by
  unfold P3
  simp only [hostOps0_2]
  after_reads_simp
  try simp only [P2_v19, P2_v20]
  rfl

set_option maxRecDepth 16384 in
set_option maxHeartbeats 4000000 in
theorem P3_v51 (V : Valuation τ sig (Elt F)) : P3 V (no_index (Proc.devRef .tc main_v51)) = e_v51 (F := F) (V (Proc.devRef .tc main_arg0)) (V (Proc.devRef .tc main_arg1)) (V (Proc.devRef .tc main_arg2)) := by
  unfold P3
  simp only [hostOps0_2]
  after_reads_simp
  try simp only [P2_v15]
  rfl

/-- The contents after the first 4 of these stretches. -/
def P4 (V : Valuation τ sig (Elt F)) : Valuation τ sig (Elt F) := after hostOps0_3 (P3 V)

set_option maxRecDepth 16384 in
theorem P4_arg0 (V : Valuation τ sig (Elt F)) : P4 V (no_index (Proc.devRef .tc main_arg0)) = V (Proc.devRef .tc main_arg0) := by
  unfold P4
  simp only [hostOps0_3]
  after_reads_simp
  exact P3_arg0 V

set_option maxRecDepth 16384 in
theorem P4_arg1 (V : Valuation τ sig (Elt F)) : P4 V (no_index (Proc.devRef .tc main_arg1)) = V (Proc.devRef .tc main_arg1) := by
  unfold P4
  simp only [hostOps0_3]
  after_reads_simp
  exact P3_arg1 V

set_option maxRecDepth 16384 in
theorem P4_arg2 (V : Valuation τ sig (Elt F)) : P4 V (no_index (Proc.devRef .tc main_arg2)) = V (Proc.devRef .tc main_arg2) := by
  unfold P4
  simp only [hostOps0_3]
  after_reads_simp
  exact P3_arg2 V

set_option maxRecDepth 16384 in
theorem P4_arg3 (V : Valuation τ sig (Elt F)) : P4 V (no_index (Proc.devRef .tc main_arg3)) = V (Proc.devRef .tc main_arg3) := by
  unfold P4
  simp only [hostOps0_3]
  after_reads_simp
  exact P3_arg3 V

set_option maxRecDepth 16384 in
theorem P4_arg4 (V : Valuation τ sig (Elt F)) : P4 V (no_index (Proc.devRef .tc main_arg4)) = V (Proc.devRef .tc main_arg4) := by
  unfold P4
  simp only [hostOps0_3]
  after_reads_simp
  exact P3_arg4 V

set_option maxRecDepth 16384 in
theorem P4_arg5 (V : Valuation τ sig (Elt F)) : P4 V (no_index (Proc.devRef .tc main_arg5)) = V (Proc.devRef .tc main_arg5) := by
  unfold P4
  simp only [hostOps0_3]
  after_reads_simp
  exact P3_arg5 V

set_option maxRecDepth 16384 in
theorem P4_arg6 (V : Valuation τ sig (Elt F)) : P4 V (no_index (Proc.devRef .tc main_arg6)) = V (Proc.devRef .tc main_arg6) := by
  unfold P4
  simp only [hostOps0_3]
  after_reads_simp
  exact P3_arg6 V

set_option maxRecDepth 16384 in
theorem P4_v16 (V : Valuation τ sig (Elt F)) : P4 V (no_index (Proc.devRef .tc main_v16)) = e_v16 (F := F) (V (Proc.devRef .tc main_arg0)) (V (Proc.devRef .tc main_arg1)) (V (Proc.devRef .tc main_arg2)) := by
  unfold P4
  simp only [hostOps0_3]
  after_reads_simp
  exact P3_v16 V

set_option maxRecDepth 16384 in
theorem P4_v17 (V : Valuation τ sig (Elt F)) : P4 V (no_index (Proc.devRef .tc main_v17)) = e_v17 (F := F) (V (Proc.devRef .tc main_arg0)) (V (Proc.devRef .tc main_arg1)) (V (Proc.devRef .tc main_arg2)) := by
  unfold P4
  simp only [hostOps0_3]
  after_reads_simp
  exact P3_v17 V

set_option maxRecDepth 16384 in
theorem P4_v18 (V : Valuation τ sig (Elt F)) : P4 V (no_index (Proc.devRef .tc main_v18)) = e_v18 (F := F) (V (Proc.devRef .tc main_arg0)) (V (Proc.devRef .tc main_arg1)) (V (Proc.devRef .tc main_arg2)) := by
  unfold P4
  simp only [hostOps0_3]
  after_reads_simp
  exact P3_v18 V

set_option maxRecDepth 16384 in
theorem P4_v50 (V : Valuation τ sig (Elt F)) : P4 V (no_index (Proc.devRef .tc main_v50)) = e_v50 (F := F) (V (Proc.devRef .tc main_arg0)) (V (Proc.devRef .tc main_arg1)) (V (Proc.devRef .tc main_arg2)) := by
  unfold P4
  simp only [hostOps0_3]
  after_reads_simp
  exact P3_v50 V

set_option maxRecDepth 16384 in
theorem P4_v51 (V : Valuation τ sig (Elt F)) : P4 V (no_index (Proc.devRef .tc main_v51)) = e_v51 (F := F) (V (Proc.devRef .tc main_arg0)) (V (Proc.devRef .tc main_arg1)) (V (Proc.devRef .tc main_arg2)) := by
  unfold P4
  simp only [hostOps0_3]
  after_reads_simp
  exact P3_v51 V

set_option maxRecDepth 16384 in
set_option maxHeartbeats 4000000 in
theorem P4_v52 (V : Valuation τ sig (Elt F)) : P4 V (no_index (Proc.devRef .tc main_v52)) = e_v52 (F := F) := by
  unfold P4
  simp only [hostOps0_3]
  after_reads_simp
  try simp only [P3_cst_6, P3_cst_7]
  rfl

/-- The contents after the first 5 of these stretches. -/
def P5 (V : Valuation τ sig (Elt F)) : Valuation τ sig (Elt F) := after hostOps0_4 (P4 V)

set_option maxRecDepth 16384 in
theorem P5_arg0 (V : Valuation τ sig (Elt F)) : P5 V (no_index (Proc.devRef .tc main_arg0)) = V (Proc.devRef .tc main_arg0) := by
  unfold P5
  simp only [hostOps0_4]
  after_reads_simp
  exact P4_arg0 V

set_option maxRecDepth 16384 in
theorem P5_arg1 (V : Valuation τ sig (Elt F)) : P5 V (no_index (Proc.devRef .tc main_arg1)) = V (Proc.devRef .tc main_arg1) := by
  unfold P5
  simp only [hostOps0_4]
  after_reads_simp
  exact P4_arg1 V

set_option maxRecDepth 16384 in
theorem P5_arg2 (V : Valuation τ sig (Elt F)) : P5 V (no_index (Proc.devRef .tc main_arg2)) = V (Proc.devRef .tc main_arg2) := by
  unfold P5
  simp only [hostOps0_4]
  after_reads_simp
  exact P4_arg2 V

set_option maxRecDepth 16384 in
theorem P5_arg3 (V : Valuation τ sig (Elt F)) : P5 V (no_index (Proc.devRef .tc main_arg3)) = V (Proc.devRef .tc main_arg3) := by
  unfold P5
  simp only [hostOps0_4]
  after_reads_simp
  exact P4_arg3 V

set_option maxRecDepth 16384 in
theorem P5_arg4 (V : Valuation τ sig (Elt F)) : P5 V (no_index (Proc.devRef .tc main_arg4)) = V (Proc.devRef .tc main_arg4) := by
  unfold P5
  simp only [hostOps0_4]
  after_reads_simp
  exact P4_arg4 V

set_option maxRecDepth 16384 in
theorem P5_arg5 (V : Valuation τ sig (Elt F)) : P5 V (no_index (Proc.devRef .tc main_arg5)) = V (Proc.devRef .tc main_arg5) := by
  unfold P5
  simp only [hostOps0_4]
  after_reads_simp
  exact P4_arg5 V

set_option maxRecDepth 16384 in
theorem P5_arg6 (V : Valuation τ sig (Elt F)) : P5 V (no_index (Proc.devRef .tc main_arg6)) = V (Proc.devRef .tc main_arg6) := by
  unfold P5
  simp only [hostOps0_4]
  after_reads_simp
  exact P4_arg6 V

set_option maxRecDepth 16384 in
set_option maxHeartbeats 4000000 in
theorem P5_v133 (V : Valuation τ sig (Elt F)) : P5 V (no_index (Proc.devRef .tc main_v133)) = e_v133 (F := F) (V (Proc.devRef .tc main_arg0)) (V (Proc.devRef .tc main_arg1)) (V (Proc.devRef .tc main_arg2)) := by
  unfold P5
  simp only [hostOps0_4]
  after_reads_simp
  try simp only [P4_v16, P4_v50, P4_v51, P4_v52]
  rfl

set_option maxRecDepth 16384 in
set_option maxHeartbeats 4000000 in
theorem P5_v139_0 (V : Valuation τ sig (Elt F)) : P5 V (no_index (Proc.devRef .tc main_v139_0)) = e_v139_0 (F := F) (V (Proc.devRef .tc main_arg0)) (V (Proc.devRef .tc main_arg1)) (V (Proc.devRef .tc main_arg2)) := by
  unfold P5
  simp only [hostOps0_4]
  after_reads_simp
  try simp only [P4_v50]
  rfl

set_option maxRecDepth 16384 in
set_option maxHeartbeats 4000000 in
theorem P5_v139_1 (V : Valuation τ sig (Elt F)) : P5 V (no_index (Proc.devRef .tc main_v139_1)) = e_v139_1 (F := F) (V (Proc.devRef .tc main_arg0)) (V (Proc.devRef .tc main_arg1)) (V (Proc.devRef .tc main_arg2)) := by
  unfold P5
  simp only [hostOps0_4]
  after_reads_simp
  try simp only [P4_v51, P4_v52]
  rfl

set_option maxRecDepth 16384 in
set_option maxHeartbeats 4000000 in
theorem P5_v139_2 (V : Valuation τ sig (Elt F)) : P5 V (no_index (Proc.devRef .tc main_v139_2)) = e_v139_2 (F := F) (V (Proc.devRef .tc main_arg0)) (V (Proc.devRef .tc main_arg1)) (V (Proc.devRef .tc main_arg2)) := by
  unfold P5
  simp only [hostOps0_4]
  after_reads_simp
  try simp only [P4_v16]
  rfl

set_option maxRecDepth 16384 in
set_option maxHeartbeats 4000000 in
theorem P5_v139_3 (V : Valuation τ sig (Elt F)) : P5 V (no_index (Proc.devRef .tc main_v139_3)) = e_v139_3 (F := F) := by
  unfold P5
  simp only [hostOps0_4]
  after_reads_simp
  rfl

set_option maxRecDepth 16384 in
set_option maxHeartbeats 4000000 in
theorem P5_v139_4 (V : Valuation τ sig (Elt F)) : P5 V (no_index (Proc.devRef .tc main_v139_4)) = e_v139_4 (F := F) := by
  unfold P5
  simp only [hostOps0_4]
  after_reads_simp
  rfl

set_option maxRecDepth 16384 in
set_option maxHeartbeats 4000000 in
theorem P5_v139_5 (V : Valuation τ sig (Elt F)) : P5 V (no_index (Proc.devRef .tc main_v139_5)) = e_v139_5 (F := F) := by
  unfold P5
  simp only [hostOps0_4]
  after_reads_simp
  rfl

set_option maxRecDepth 16384 in
set_option maxHeartbeats 4000000 in
theorem P5_v139_6 (V : Valuation τ sig (Elt F)) : P5 V (no_index (Proc.devRef .tc main_v139_6)) = e_v139_6 (F := F) := by
  unfold P5
  simp only [hostOps0_4]
  after_reads_simp
  rfl

set_option maxRecDepth 16384 in
set_option maxHeartbeats 4000000 in
theorem P5_v139_7 (V : Valuation τ sig (Elt F)) : P5 V (no_index (Proc.devRef .tc main_v139_7)) = e_v139_7 (F := F) := by
  unfold P5
  simp only [hostOps0_4]
  after_reads_simp
  rfl

set_option maxRecDepth 16384 in
set_option maxHeartbeats 4000000 in
theorem P5_v139_8 (V : Valuation τ sig (Elt F)) : P5 V (no_index (Proc.devRef .tc main_v139_8)) = e_v139_8 (F := F) := by
  unfold P5
  simp only [hostOps0_4]
  after_reads_simp
  rfl

set_option maxRecDepth 16384 in
theorem P5_v17 (V : Valuation τ sig (Elt F)) : P5 V (no_index (Proc.devRef .tc main_v17)) = e_v17 (F := F) (V (Proc.devRef .tc main_arg0)) (V (Proc.devRef .tc main_arg1)) (V (Proc.devRef .tc main_arg2)) := by
  unfold P5
  simp only [hostOps0_4]
  after_reads_simp
  exact P4_v17 V

set_option maxRecDepth 16384 in
theorem P5_v18 (V : Valuation τ sig (Elt F)) : P5 V (no_index (Proc.devRef .tc main_v18)) = e_v18 (F := F) (V (Proc.devRef .tc main_arg0)) (V (Proc.devRef .tc main_arg1)) (V (Proc.devRef .tc main_arg2)) := by
  unfold P5
  simp only [hostOps0_4]
  after_reads_simp
  exact P4_v18 V

end Cert.Proof.MixRef

end
-- ==== Proof.MixRefPost.lean ====
module

public import proofs.«01_k».proof.Proof.Gen.MixerRefIdeal.Run
public import Idealize.ShloMosaic.PureOps.Ideal.Laws

@[expose] public section

set_option maxRecDepth 16384

noncomputable section

namespace Cert.Proof.MixRef

open Idealize.ShloMosaic Idealize.ShloMosaic.TcCoe Idealize.SL.Sem Idealize.ShloMosaic.StableHlo Cert.MixerRefIdeal Cert.MixerRefIdeal.Gen Cert.MixerRefIdeal.Value

variable {F : FTy → Type} [FloatOps F]

/-! The values of the reference after its loop, operation by operation, from the arguments and the loop's results. -/

def e_v140 (a_v139_8 : (⟨S128x8x64x4x128, .f32⟩ : BufTy).Contents (Elt F)) : (⟨S8x128x64x4x128, .f32⟩ : BufTy).Contents (Elt F) :=
  transpose S8x128x64x4x128 [1, 0, 2, 3, 4] a_v139_8 transposes_S128x8x64x4x128_S8x128x64x4x128_1_0_2_3_4

def e_v141 (a_v133 : (⟨S8x128x64x4x128, .f32⟩ : BufTy).Contents (Elt F)) (a_v139_8 : (⟨S128x8x64x4x128, .f32⟩ : BufTy).Contents (Elt F)) : (⟨S8x128x64x4x128, .f32⟩ : BufTy).Contents (Elt F) :=
  addf a_v133 (e_v140 (F := F) a_v139_8)

def e_v142 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  shapeCast _ (e_v141 (F := F) a_v133 a_v139_8) shapeCasts_S8x128x64x4x128_S8x8192x4x128

def e_cst_18 : (⟨S_, .f32⟩ : BufTy).Contents (Elt F) :=
  (constant S_ .f32 0x00000000#32)

def e_v143 (a_v133 : (⟨S8x128x64x4x128, .f32⟩ : BufTy).Contents (Elt F)) (a_v139_8 : (⟨S128x8x64x4x128, .f32⟩ : BufTy).Contents (Elt F)) : (⟨S8x8192x4, .f32⟩ : BufTy).Contents (Elt F) :=
  Host.reduceAdd (e_v142 (F := F) a_v133 a_v139_8) (e_cst_18 (F := F)) reducesTo_S8x8192x4x128_S8x8192x4_d3 h_S_

def e_v144 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  broadcastInDim S8x8192x4x1 ![0, 1, 2] bcast_S8x8192x4_S8x8192x4x1_0_1_2 (e_v143 (F := F) a_v133 a_v139_8)

def e_cst_19 : (⟨S_, .f32⟩ : BufTy).Contents (Elt F) :=
  (constant S_ .f32 0x43000000#32)

def e_v145 : (⟨S8x8192x4x1, .f32⟩ : BufTy).Contents (Elt F) :=
  broadcastInDim S8x8192x4x1 ![] bcast_S_S8x8192x4x1 (e_cst_19 (F := F))

def e_v146 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  Host.divf (e_v144 (F := F) a_v133 a_v139_8) (e_v145 (F := F))

def e_v147 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  broadcastInDim S8x8192x4x128 ![0, 1, 2, 3] bcast_S8x8192x4x1_S8x8192x4x128_0_1_2_3 (e_v146 (F := F) a_v133 a_v139_8)

def e_v148 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  subf (e_v142 (F := F) a_v133 a_v139_8) (e_v147 (F := F) a_v133 a_v139_8)

def e_v149 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  mulf (e_v148 (F := F) a_v133 a_v139_8) (e_v148 (F := F) a_v133 a_v139_8)

def e_cst_20 : (⟨S_, .f32⟩ : BufTy).Contents (Elt F) :=
  (constant S_ .f32 0x00000000#32)

def e_v150 (a_v133 : (⟨S8x128x64x4x128, .f32⟩ : BufTy).Contents (Elt F)) (a_v139_8 : (⟨S128x8x64x4x128, .f32⟩ : BufTy).Contents (Elt F)) : (⟨S8x8192x4, .f32⟩ : BufTy).Contents (Elt F) :=
  Host.reduceAdd (e_v149 (F := F) a_v133 a_v139_8) (e_cst_20 (F := F)) reducesTo_S8x8192x4x128_S8x8192x4_d3 h_S_

def e_v151 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  broadcastInDim S8x8192x4x1 ![0, 1, 2] bcast_S8x8192x4_S8x8192x4x1_0_1_2 (e_v150 (F := F) a_v133 a_v139_8)

def e_cst_21 : (⟨S_, .f32⟩ : BufTy).Contents (Elt F) :=
  (constant S_ .f32 0x43000000#32)

def e_v152 : (⟨S8x8192x4x1, .f32⟩ : BufTy).Contents (Elt F) :=
  broadcastInDim S8x8192x4x1 ![] bcast_S_S8x8192x4x1 (e_cst_21 (F := F))

def e_v153 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  Host.divf (e_v151 (F := F) a_v133 a_v139_8) (e_v152 (F := F))

def e_v154 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  broadcastInDim S8x8192x4x128 ![0, 1, 2, 3] bcast_S8x8192x4x1_S8x8192x4x128_0_1_2_3 (e_v146 (F := F) a_v133 a_v139_8)

def e_v155 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  subf (e_v142 (F := F) a_v133 a_v139_8) (e_v154 (F := F) a_v133 a_v139_8)

def e_cst_22 : (⟨S_, .f32⟩ : BufTy).Contents (Elt F) :=
  (constant S_ .f32 0x3727C5AC#32)

def e_v156 : (⟨S8x8192x4x1, .f32⟩ : BufTy).Contents (Elt F) :=
  broadcastInDim S8x8192x4x1 ![] bcast_S_S8x8192x4x1 (e_cst_22 (F := F))

def e_v157 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  addf (e_v153 (F := F) a_v133 a_v139_8) (e_v156 (F := F))

def e_v158 (a_v133 : (⟨S8x128x64x4x128, .f32⟩ : BufTy).Contents (Elt F)) (a_v139_8 : (⟨S128x8x64x4x128, .f32⟩ : BufTy).Contents (Elt F)) : (⟨S8x8192x4x1, .f32⟩ : BufTy).Contents (Elt F) :=
  Host.rsqrt (e_v157 (F := F) a_v133 a_v139_8)

def e_v159 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  broadcastInDim S8x8192x4x128 ![0, 1, 2, 3] bcast_S8x8192x4x1_S8x8192x4x128_0_1_2_3 (e_v158 (F := F) a_v133 a_v139_8)

def e_v160 (a_v133 : (⟨S8x128x64x4x128, .f32⟩ : BufTy).Contents (Elt F)) (a_v139_8 : (⟨S128x8x64x4x128, .f32⟩ : BufTy).Contents (Elt F)) : (⟨S8x8192x4x128, .f32⟩ : BufTy).Contents (Elt F) :=
  mulf (e_v155 (F := F) a_v133 a_v139_8) (e_v159 (F := F) a_v133 a_v139_8)

def e_v161 (a_v133 : (⟨S8x128x64x4x128, .f32⟩ : BufTy).Contents (Elt F)) (a_v139_8 : (⟨S128x8x64x4x128, .f32⟩ : BufTy).Contents (Elt F)) : (⟨S8x8192x512, .f32⟩ : BufTy).Contents (Elt F) :=
  shapeCast _ (e_v160 (F := F) a_v133 a_v139_8) shapeCasts_S8x8192x4x128_S8x8192x512

def e_v162 (a_arg3 : (⟨S512, .f32⟩ : BufTy).Contents (Elt F)) : (⟨S1x1x512, .f32⟩ : BufTy).Contents (Elt F) :=
  broadcastInDim S1x1x512 ![2] bcast_S512_S1x1x512_2 a_arg3

def e_v163 (a_arg3 : (⟨S512, .f32⟩ : BufTy).Contents (Elt F)) : (⟨S8x8192x512, .f32⟩ : BufTy).Contents (Elt F) :=
  broadcastInDim S8x8192x512 ![0, 1, 2] bcast_S1x1x512_S8x8192x512_0_1_2 (e_v162 (F := F) a_arg3)

def e_v164 (a_arg3 : (⟨S512, .f32⟩ : BufTy).Contents (Elt F)) (a_v133 : (⟨S8x128x64x4x128, .f32⟩ : BufTy).Contents (Elt F)) (a_v139_8 : (⟨S128x8x64x4x128, .f32⟩ : BufTy).Contents (Elt F)) : (⟨S8x8192x512, .f32⟩ : BufTy).Contents (Elt F) :=
  mulf (e_v161 (F := F) a_v133 a_v139_8) (e_v163 (F := F) a_arg3)

def e_call6_v0 (a_v17 : (⟨S8x8192x512, .f32⟩ : BufTy).Contents (Elt F)) : (⟨S8x8192x512, .f32⟩ : BufTy).Contents (Elt F) :=
  Host.negf a_v17

def e_call6_v1 (a_v17 : (⟨S8x8192x512, .f32⟩ : BufTy).Contents (Elt F)) : (⟨S8x8192x512, .f32⟩ : BufTy).Contents (Elt F) :=
  Host.exp (e_call6_v0 (F := F) a_v17)

def e_call6_cst : (⟨S_, .f32⟩ : BufTy).Contents (Elt F) :=
  (constant S_ .f32 0x3F800000#32)

def e_call6_v2 : (⟨S8x8192x512, .f32⟩ : BufTy).Contents (Elt F) :=
  (broadcastInDim S8x8192x512 ![] bcast_S_S8x8192x512) (e_call6_cst (F := F))

def e_call6_v3 (a_v17 : (⟨S8x8192x512, .f32⟩ : BufTy).Contents (Elt F)) : (⟨S8x8192x512, .f32⟩ : BufTy).Contents (Elt F) :=
  addf (e_call6_v2 (F := F)) (e_call6_v1 (F := F) a_v17)

def e_call6_cst_0 : (⟨S_, .f32⟩ : BufTy).Contents (Elt F) :=
  (constant S_ .f32 0x3F800000#32)

def e_call6_v4 : (⟨S8x8192x512, .f32⟩ : BufTy).Contents (Elt F) :=
  (broadcastInDim S8x8192x512 ![] bcast_S_S8x8192x512) (e_call6_cst_0 (F := F))

def e_call6_v5 (a_v17 : (⟨S8x8192x512, .f32⟩ : BufTy).Contents (Elt F)) : (⟨S8x8192x512, .f32⟩ : BufTy).Contents (Elt F) :=
  Host.divf (e_call6_v4 (F := F)) (e_call6_v3 (F := F) a_v17)

def e_v165 (a_v17 : (⟨S8x8192x512, .f32⟩ : BufTy).Contents (Elt F)) : (⟨S8x8192x512, .f32⟩ : BufTy).Contents (Elt F) :=
  mulf a_v17 (e_call6_v5 (F := F) a_v17)

def e_v166 (a_arg3 : (⟨S512, .f32⟩ : BufTy).Contents (Elt F)) (a_v133 : (⟨S8x128x64x4x128, .f32⟩ : BufTy).Contents (Elt F)) (a_v139_8 : (⟨S128x8x64x4x128, .f32⟩ : BufTy).Contents (Elt F)) (a_v17 : (⟨S8x8192x512, .f32⟩ : BufTy).Contents (Elt F)) : (⟨S8x8192x512, .f32⟩ : BufTy).Contents (Elt F) :=
  mulf (e_v165 (F := F) a_v17) (e_v164 (F := F) a_arg3 a_v133 a_v139_8)

def e_v167 (a_v18 : (⟨S8x8192x512, .f32⟩ : BufTy).Contents (Elt F)) : (⟨S8x8192x4x128, .f32⟩ : BufTy).Contents (Elt F) :=
  shapeCast _ a_v18 shapeCasts_S8x8192x512_S8x8192x4x128

def e_call7_cst : (⟨S_, .f32⟩ : BufTy).Contents (Elt F) :=
  (constant S_ .f32 0x00000000#32)

def e_call7_v0 : (⟨S_, .f32⟩ : BufTy).Contents (Elt F) :=
  (broadcastInDim S_ ![] bcast_S_S_) (e_call7_cst (F := F))

def e_v168 (a_v18 : (⟨S8x8192x512, .f32⟩ : BufTy).Contents (Elt F)) : (⟨S8x8192x4x128, .f32⟩ : BufTy).Contents (Elt F) :=
  Host.reduceWindowAdd ![1, 8192, 1, 1] ![1, 1, 1, 1] ![0, 8191, 0, 0] ![0, 0, 0, 0] (e_v167 (F := F) a_v18) (e_call7_v0 (F := F)) reduceWindows_S8x8192x4x128_S8x8192x4x128_w1s1p0_0_w8192s1p8191_0_w1s1p0_0_w1s1p0_0 h_S_

def e_v169 : (⟨S8192, .i32⟩ : BufTy).Contents (Elt F) :=
  (iotaInDim S8192 32 0)

def e_v170 (a_v18 : (⟨S8x8192x512, .f32⟩ : BufTy).Contents (Elt F)) : (⟨S8x8192x1x128, .f32⟩ : BufTy).Contents (Elt F) :=
  extractStridedSlice S8x8192x1x128 ![0, 0, 0, 0] (e_v168 (F := F) a_v18) slices_S8x8192x4x128_S8x8192x1x128_0_0_0_0

def e_v171 (a_v18 : (⟨S8x8192x512, .f32⟩ : BufTy).Contents (Elt F)) : (⟨S8x8192x128, .f32⟩ : BufTy).Contents (Elt F) :=
  shapeCast _ (e_v170 (F := F) a_v18) shapeCasts_S8x8192x1x128_S8x8192x128

def e_c_23 : (⟨S_, .i32⟩ : BufTy).Contents (Elt F) :=
  (constantI S_ 32 0#32)

def e_call8_v0 : (⟨S_, .f32⟩ : BufTy).Contents (Elt F) :=
  (sitofp .f32) (e_c_23 (F := F))

def e_v172 (a_v18 : (⟨S8x8192x512, .f32⟩ : BufTy).Contents (Elt F)) : (⟨S8x8194x128, .f32⟩ : BufTy).Contents (Elt F) :=
  pad S8x8194x128 ![0, 2, 0] ![0, 0, 0] ![0, 0, 0] (e_v171 (F := F) a_v18) (e_call8_v0 (F := F)) pads_S8x8192x128_S8x8194x128_000_200_000 h_S_

def e_v173 (a_v18 : (⟨S8x8192x512, .f32⟩ : BufTy).Contents (Elt F)) : (⟨S8x8192x128, .f32⟩ : BufTy).Contents (Elt F) :=
  extractStridedSlice S8x8192x128 ![0, 0, 0] (e_v172 (F := F) a_v18) slices_S8x8194x128_S8x8192x128_0_0_0

def e_c_24 : (⟨S_, .i32⟩ : BufTy).Contents (Elt F) :=
  (constantI S_ 32 1#32)

def e_v174 : (⟨S8192, .i32⟩ : BufTy).Contents (Elt F) :=
  broadcastInDim S8192 ![] bcast_S_S8192 (e_c_24 (F := F))

def e_v175 : (⟨S8192, .i32⟩ : BufTy).Contents (Elt F) :=
  addi (e_v169 (F := F)) (e_v174 (F := F))

def e_c_25 : (⟨S_, .i32⟩ : BufTy).Contents (Elt F) :=
  (constantI S_ 32 2#32)

def e_v176 : (⟨S8192, .i32⟩ : BufTy).Contents (Elt F) :=
  broadcastInDim S8192 ![] bcast_S_S8192 (e_c_25 (F := F))

def e_v177 : (⟨S8192, .i32⟩ : BufTy).Contents (Elt F) :=
  minsi (e_v175 (F := F)) (e_v176 (F := F))

def e_v178 : (⟨S8192, .f32⟩ : BufTy).Contents (Elt F) :=
  sitofp .f32 (e_v177 (F := F))

def e_v179 : (⟨S1x8192x1, .f32⟩ : BufTy).Contents (Elt F) :=
  broadcastInDim S1x8192x1 ![1] bcast_S8192_S1x8192x1_1 (e_v178 (F := F))

def e_v180 (a_v18 : (⟨S8x8192x512, .f32⟩ : BufTy).Contents (Elt F)) : (⟨S8x8192x128, .f32⟩ : BufTy).Contents (Elt F) :=
  subf (e_v171 (F := F) a_v18) (e_v173 (F := F) a_v18)

def e_v181 : (⟨S8x8192x128, .f32⟩ : BufTy).Contents (Elt F) :=
  broadcastInDim S8x8192x128 ![0, 1, 2] bcast_S1x8192x1_S8x8192x128_0_1_2 (e_v179 (F := F))

def e_v182 (a_v18 : (⟨S8x8192x512, .f32⟩ : BufTy).Contents (Elt F)) : (⟨S8x8192x128, .f32⟩ : BufTy).Contents (Elt F) :=
  Host.divf (e_v180 (F := F) a_v18) (e_v181 (F := F))

def e_v183 (a_v18 : (⟨S8x8192x512, .f32⟩ : BufTy).Contents (Elt F)) : (⟨S8x8192x1x128, .f32⟩ : BufTy).Contents (Elt F) :=
  extractStridedSlice S8x8192x1x128 ![0, 0, 0, 0] (e_v167 (F := F) a_v18) slices_S8x8192x4x128_S8x8192x1x128_0_0_0_0

def e_v184 (a_v18 : (⟨S8x8192x512, .f32⟩ : BufTy).Contents (Elt F)) : (⟨S8x8192x128, .f32⟩ : BufTy).Contents (Elt F) :=
  shapeCast _ (e_v183 (F := F) a_v18) shapeCasts_S8x8192x1x128_S8x8192x128

def e_v185 (a_v18 : (⟨S8x8192x512, .f32⟩ : BufTy).Contents (Elt F)) : (⟨S8x8192x128, .f32⟩ : BufTy).Contents (Elt F) :=
  subf (e_v182 (F := F) a_v18) (e_v184 (F := F) a_v18)

def e_v186 (a_v18 : (⟨S8x8192x512, .f32⟩ : BufTy).Contents (Elt F)) : (⟨S8x8192x1x128, .f32⟩ : BufTy).Contents (Elt F) :=
  extractStridedSlice S8x8192x1x128 ![0, 0, 1, 0] (e_v168 (F := F) a_v18) slices_S8x8192x4x128_S8x8192x1x128_0_0_1_0

def e_v187 (a_v18 : (⟨S8x8192x512, .f32⟩ : BufTy).Contents (Elt F)) : (⟨S8x8192x128, .f32⟩ : BufTy).Contents (Elt F) :=
  shapeCast _ (e_v186 (F := F) a_v18) shapeCasts_S8x8192x1x128_S8x8192x128

def e_c_26 : (⟨S_, .i32⟩ : BufTy).Contents (Elt F) :=
  (constantI S_ 32 0#32)

def e_call9_v0 : (⟨S_, .f32⟩ : BufTy).Contents (Elt F) :=
  (sitofp .f32) (e_c_26 (F := F))

def e_v188 (a_v18 : (⟨S8x8192x512, .f32⟩ : BufTy).Contents (Elt F)) : (⟨S8x8196x128, .f32⟩ : BufTy).Contents (Elt F) :=
  pad S8x8196x128 ![0, 4, 0] ![0, 0, 0] ![0, 0, 0] (e_v187 (F := F) a_v18) (e_call9_v0 (F := F)) pads_S8x8192x128_S8x8196x128_000_400_000 h_S_

def e_v189 (a_v18 : (⟨S8x8192x512, .f32⟩ : BufTy).Contents (Elt F)) : (⟨S8x8192x128, .f32⟩ : BufTy).Contents (Elt F) :=
  extractStridedSlice S8x8192x128 ![0, 0, 0] (e_v188 (F := F) a_v18) slices_S8x8196x128_S8x8192x128_0_0_0

def e_c_27 : (⟨S_, .i32⟩ : BufTy).Contents (Elt F) :=
  (constantI S_ 32 1#32)

def e_v190 : (⟨S8192, .i32⟩ : BufTy).Contents (Elt F) :=
  broadcastInDim S8192 ![] bcast_S_S8192 (e_c_27 (F := F))

def e_v191 : (⟨S8192, .i32⟩ : BufTy).Contents (Elt F) :=
  addi (e_v169 (F := F)) (e_v190 (F := F))

def e_c_28 : (⟨S_, .i32⟩ : BufTy).Contents (Elt F) :=
  (constantI S_ 32 4#32)

def e_v192 : (⟨S8192, .i32⟩ : BufTy).Contents (Elt F) :=
  broadcastInDim S8192 ![] bcast_S_S8192 (e_c_28 (F := F))

def e_v193 : (⟨S8192, .i32⟩ : BufTy).Contents (Elt F) :=
  minsi (e_v191 (F := F)) (e_v192 (F := F))

def e_v194 : (⟨S8192, .f32⟩ : BufTy).Contents (Elt F) :=
  sitofp .f32 (e_v193 (F := F))

def e_v195 : (⟨S1x8192x1, .f32⟩ : BufTy).Contents (Elt F) :=
  broadcastInDim S1x8192x1 ![1] bcast_S8192_S1x8192x1_1 (e_v194 (F := F))

def e_v196 (a_v18 : (⟨S8x8192x512, .f32⟩ : BufTy).Contents (Elt F)) : (⟨S8x8192x128, .f32⟩ : BufTy).Contents (Elt F) :=
  subf (e_v187 (F := F) a_v18) (e_v189 (F := F) a_v18)

def e_v197 : (⟨S8x8192x128, .f32⟩ : BufTy).Contents (Elt F) :=
  broadcastInDim S8x8192x128 ![0, 1, 2] bcast_S1x8192x1_S8x8192x128_0_1_2 (e_v195 (F := F))

def e_v198 (a_v18 : (⟨S8x8192x512, .f32⟩ : BufTy).Contents (Elt F)) : (⟨S8x8192x128, .f32⟩ : BufTy).Contents (Elt F) :=
  Host.divf (e_v196 (F := F) a_v18) (e_v197 (F := F))

def e_v199 (a_v18 : (⟨S8x8192x512, .f32⟩ : BufTy).Contents (Elt F)) : (⟨S8x8192x1x128, .f32⟩ : BufTy).Contents (Elt F) :=
  extractStridedSlice S8x8192x1x128 ![0, 0, 1, 0] (e_v167 (F := F) a_v18) slices_S8x8192x4x128_S8x8192x1x128_0_0_1_0

def e_v200 (a_v18 : (⟨S8x8192x512, .f32⟩ : BufTy).Contents (Elt F)) : (⟨S8x8192x128, .f32⟩ : BufTy).Contents (Elt F) :=
  shapeCast _ (e_v199 (F := F) a_v18) shapeCasts_S8x8192x1x128_S8x8192x128

def e_v201 (a_v18 : (⟨S8x8192x512, .f32⟩ : BufTy).Contents (Elt F)) : (⟨S8x8192x128, .f32⟩ : BufTy).Contents (Elt F) :=
  subf (e_v198 (F := F) a_v18) (e_v200 (F := F) a_v18)

def e_v202 (a_v18 : (⟨S8x8192x512, .f32⟩ : BufTy).Contents (Elt F)) : (⟨S8x8192x1x128, .f32⟩ : BufTy).Contents (Elt F) :=
  extractStridedSlice S8x8192x1x128 ![0, 0, 2, 0] (e_v168 (F := F) a_v18) slices_S8x8192x4x128_S8x8192x1x128_0_0_2_0

def e_v203 (a_v18 : (⟨S8x8192x512, .f32⟩ : BufTy).Contents (Elt F)) : (⟨S8x8192x128, .f32⟩ : BufTy).Contents (Elt F) :=
  shapeCast _ (e_v202 (F := F) a_v18) shapeCasts_S8x8192x1x128_S8x8192x128

def e_c_29 : (⟨S_, .i32⟩ : BufTy).Contents (Elt F) :=
  (constantI S_ 32 0#32)

def e_call10_v0 : (⟨S_, .f32⟩ : BufTy).Contents (Elt F) :=
  (sitofp .f32) (e_c_29 (F := F))

def e_v204 (a_v18 : (⟨S8x8192x512, .f32⟩ : BufTy).Contents (Elt F)) : (⟨S8x8200x128, .f32⟩ : BufTy).Contents (Elt F) :=
  pad S8x8200x128 ![0, 8, 0] ![0, 0, 0] ![0, 0, 0] (e_v203 (F := F) a_v18) (e_call10_v0 (F := F)) pads_S8x8192x128_S8x8200x128_000_800_000 h_S_

def e_v205 (a_v18 : (⟨S8x8192x512, .f32⟩ : BufTy).Contents (Elt F)) : (⟨S8x8192x128, .f32⟩ : BufTy).Contents (Elt F) :=
  extractStridedSlice S8x8192x128 ![0, 0, 0] (e_v204 (F := F) a_v18) slices_S8x8200x128_S8x8192x128_0_0_0

def e_c_30 : (⟨S_, .i32⟩ : BufTy).Contents (Elt F) :=
  (constantI S_ 32 1#32)

def e_v206 : (⟨S8192, .i32⟩ : BufTy).Contents (Elt F) :=
  broadcastInDim S8192 ![] bcast_S_S8192 (e_c_30 (F := F))

def e_v207 : (⟨S8192, .i32⟩ : BufTy).Contents (Elt F) :=
  addi (e_v169 (F := F)) (e_v206 (F := F))

def e_c_31 : (⟨S_, .i32⟩ : BufTy).Contents (Elt F) :=
  (constantI S_ 32 8#32)

def e_v208 : (⟨S8192, .i32⟩ : BufTy).Contents (Elt F) :=
  broadcastInDim S8192 ![] bcast_S_S8192 (e_c_31 (F := F))

def e_v209 : (⟨S8192, .i32⟩ : BufTy).Contents (Elt F) :=
  minsi (e_v207 (F := F)) (e_v208 (F := F))

def e_v210 : (⟨S8192, .f32⟩ : BufTy).Contents (Elt F) :=
  sitofp .f32 (e_v209 (F := F))

def e_v211 : (⟨S1x8192x1, .f32⟩ : BufTy).Contents (Elt F) :=
  broadcastInDim S1x8192x1 ![1] bcast_S8192_S1x8192x1_1 (e_v210 (F := F))

def e_v212 (a_v18 : (⟨S8x8192x512, .f32⟩ : BufTy).Contents (Elt F)) : (⟨S8x8192x128, .f32⟩ : BufTy).Contents (Elt F) :=
  subf (e_v203 (F := F) a_v18) (e_v205 (F := F) a_v18)

def e_v213 : (⟨S8x8192x128, .f32⟩ : BufTy).Contents (Elt F) :=
  broadcastInDim S8x8192x128 ![0, 1, 2] bcast_S1x8192x1_S8x8192x128_0_1_2 (e_v211 (F := F))

def e_v214 (a_v18 : (⟨S8x8192x512, .f32⟩ : BufTy).Contents (Elt F)) : (⟨S8x8192x128, .f32⟩ : BufTy).Contents (Elt F) :=
  Host.divf (e_v212 (F := F) a_v18) (e_v213 (F := F))

def e_v215 (a_v18 : (⟨S8x8192x512, .f32⟩ : BufTy).Contents (Elt F)) : (⟨S8x8192x1x128, .f32⟩ : BufTy).Contents (Elt F) :=
  extractStridedSlice S8x8192x1x128 ![0, 0, 2, 0] (e_v167 (F := F) a_v18) slices_S8x8192x4x128_S8x8192x1x128_0_0_2_0

def e_v216 (a_v18 : (⟨S8x8192x512, .f32⟩ : BufTy).Contents (Elt F)) : (⟨S8x8192x128, .f32⟩ : BufTy).Contents (Elt F) :=
  shapeCast _ (e_v215 (F := F) a_v18) shapeCasts_S8x8192x1x128_S8x8192x128

def e_v217 (a_v18 : (⟨S8x8192x512, .f32⟩ : BufTy).Contents (Elt F)) : (⟨S8x8192x128, .f32⟩ : BufTy).Contents (Elt F) :=
  subf (e_v214 (F := F) a_v18) (e_v216 (F := F) a_v18)

def e_v218 (a_v18 : (⟨S8x8192x512, .f32⟩ : BufTy).Contents (Elt F)) : (⟨S8x8192x1x128, .f32⟩ : BufTy).Contents (Elt F) :=
  extractStridedSlice S8x8192x1x128 ![0, 0, 3, 0] (e_v168 (F := F) a_v18) slices_S8x8192x4x128_S8x8192x1x128_0_0_3_0

def e_v219 (a_v18 : (⟨S8x8192x512, .f32⟩ : BufTy).Contents (Elt F)) : (⟨S8x8192x128, .f32⟩ : BufTy).Contents (Elt F) :=
  shapeCast _ (e_v218 (F := F) a_v18) shapeCasts_S8x8192x1x128_S8x8192x128

def e_c_32 : (⟨S_, .i32⟩ : BufTy).Contents (Elt F) :=
  (constantI S_ 32 0#32)

def e_call11_v0 : (⟨S_, .f32⟩ : BufTy).Contents (Elt F) :=
  (sitofp .f32) (e_c_32 (F := F))

def e_v220 (a_v18 : (⟨S8x8192x512, .f32⟩ : BufTy).Contents (Elt F)) : (⟨S8x8208x128, .f32⟩ : BufTy).Contents (Elt F) :=
  pad S8x8208x128 ![0, 16, 0] ![0, 0, 0] ![0, 0, 0] (e_v219 (F := F) a_v18) (e_call11_v0 (F := F)) pads_S8x8192x128_S8x8208x128_000_1600_000 h_S_

def e_v221 (a_v18 : (⟨S8x8192x512, .f32⟩ : BufTy).Contents (Elt F)) : (⟨S8x8192x128, .f32⟩ : BufTy).Contents (Elt F) :=
  extractStridedSlice S8x8192x128 ![0, 0, 0] (e_v220 (F := F) a_v18) slices_S8x8208x128_S8x8192x128_0_0_0

def e_c_33 : (⟨S_, .i32⟩ : BufTy).Contents (Elt F) :=
  (constantI S_ 32 1#32)

def e_v222 : (⟨S8192, .i32⟩ : BufTy).Contents (Elt F) :=
  broadcastInDim S8192 ![] bcast_S_S8192 (e_c_33 (F := F))

def e_v223 : (⟨S8192, .i32⟩ : BufTy).Contents (Elt F) :=
  addi (e_v169 (F := F)) (e_v222 (F := F))

def e_c_34 : (⟨S_, .i32⟩ : BufTy).Contents (Elt F) :=
  (constantI S_ 32 16#32)

def e_v224 : (⟨S8192, .i32⟩ : BufTy).Contents (Elt F) :=
  broadcastInDim S8192 ![] bcast_S_S8192 (e_c_34 (F := F))

def e_v225 : (⟨S8192, .i32⟩ : BufTy).Contents (Elt F) :=
  minsi (e_v223 (F := F)) (e_v224 (F := F))

def e_v226 : (⟨S8192, .f32⟩ : BufTy).Contents (Elt F) :=
  sitofp .f32 (e_v225 (F := F))

def e_v227 : (⟨S1x8192x1, .f32⟩ : BufTy).Contents (Elt F) :=
  broadcastInDim S1x8192x1 ![1] bcast_S8192_S1x8192x1_1 (e_v226 (F := F))

def e_v228 (a_v18 : (⟨S8x8192x512, .f32⟩ : BufTy).Contents (Elt F)) : (⟨S8x8192x128, .f32⟩ : BufTy).Contents (Elt F) :=
  subf (e_v219 (F := F) a_v18) (e_v221 (F := F) a_v18)

def e_v229 : (⟨S8x8192x128, .f32⟩ : BufTy).Contents (Elt F) :=
  broadcastInDim S8x8192x128 ![0, 1, 2] bcast_S1x8192x1_S8x8192x128_0_1_2 (e_v227 (F := F))

def e_v230 (a_v18 : (⟨S8x8192x512, .f32⟩ : BufTy).Contents (Elt F)) : (⟨S8x8192x128, .f32⟩ : BufTy).Contents (Elt F) :=
  Host.divf (e_v228 (F := F) a_v18) (e_v229 (F := F))

def e_v231 (a_v18 : (⟨S8x8192x512, .f32⟩ : BufTy).Contents (Elt F)) : (⟨S8x8192x1x128, .f32⟩ : BufTy).Contents (Elt F) :=
  extractStridedSlice S8x8192x1x128 ![0, 0, 3, 0] (e_v167 (F := F) a_v18) slices_S8x8192x4x128_S8x8192x1x128_0_0_3_0

def e_v232 (a_v18 : (⟨S8x8192x512, .f32⟩ : BufTy).Contents (Elt F)) : (⟨S8x8192x128, .f32⟩ : BufTy).Contents (Elt F) :=
  shapeCast _ (e_v231 (F := F) a_v18) shapeCasts_S8x8192x1x128_S8x8192x128

def e_v233 (a_v18 : (⟨S8x8192x512, .f32⟩ : BufTy).Contents (Elt F)) : (⟨S8x8192x128, .f32⟩ : BufTy).Contents (Elt F) :=
  subf (e_v230 (F := F) a_v18) (e_v232 (F := F) a_v18)

def e_v234 (a_v18 : (⟨S8x8192x512, .f32⟩ : BufTy).Contents (Elt F)) : (⟨S8x8192x1x128, .f32⟩ : BufTy).Contents (Elt F) :=
  broadcastInDim S8x8192x1x128 ![0, 1, 3] bcast_S8x8192x128_S8x8192x1x128_0_1_3 (e_v185 (F := F) a_v18)

def e_v235 (a_v18 : (⟨S8x8192x512, .f32⟩ : BufTy).Contents (Elt F)) : (⟨S8x8192x1x128, .f32⟩ : BufTy).Contents (Elt F) :=
  broadcastInDim S8x8192x1x128 ![0, 1, 3] bcast_S8x8192x128_S8x8192x1x128_0_1_3 (e_v201 (F := F) a_v18)

def e_v236 (a_v18 : (⟨S8x8192x512, .f32⟩ : BufTy).Contents (Elt F)) : (⟨S8x8192x1x128, .f32⟩ : BufTy).Contents (Elt F) :=
  broadcastInDim S8x8192x1x128 ![0, 1, 3] bcast_S8x8192x128_S8x8192x1x128_0_1_3 (e_v217 (F := F) a_v18)

def e_v237 (a_v18 : (⟨S8x8192x512, .f32⟩ : BufTy).Contents (Elt F)) : (⟨S8x8192x1x128, .f32⟩ : BufTy).Contents (Elt F) :=
  broadcastInDim S8x8192x1x128 ![0, 1, 3] bcast_S8x8192x128_S8x8192x1x128_0_1_3 (e_v233 (F := F) a_v18)

def e_v238 (a_v18 : (⟨S8x8192x512, .f32⟩ : BufTy).Contents (Elt F)) : (⟨S8x8192x4x128, .f32⟩ : BufTy).Contents (Elt F) :=
  (concatenate S8x8192x4x128 2 [⟨S8x8192x1x128, (e_v234 (F := F) a_v18)⟩, ⟨S8x8192x1x128, (e_v235 (F := F) a_v18)⟩, ⟨S8x8192x1x128, (e_v236 (F := F) a_v18)⟩, ⟨S8x8192x1x128, (e_v237 (F := F) a_v18)⟩] concatenates_S8x8192x1x128_S8x8192x1x128_S8x8192x1x128_S8x8192x1x128_S8x8192x4x128_d2 : (⟨S8x8192x4x128, .f32⟩ : BufTy).Contents (Elt F))

def e_v239 (a_arg4 : (⟨S4x128x128, .f32⟩ : BufTy).Contents (Elt F)) (a_v18 : (⟨S8x8192x512, .f32⟩ : BufTy).Contents (Elt F)) : (⟨S4x128x8x8192, .f32⟩ : BufTy).Contents (Elt F) :=
  Host.dotGeneral dot_S4x128x128_S8x8192x4x128_S4x128x8x8192_1_3_2_01_0_2 none a_arg4 (e_v238 (F := F) a_v18)

def e_v240 (a_arg4 : (⟨S4x128x128, .f32⟩ : BufTy).Contents (Elt F)) (a_v18 : (⟨S8x8192x512, .f32⟩ : BufTy).Contents (Elt F)) : (⟨S8x8192x4x128, .f32⟩ : BufTy).Contents (Elt F) :=
  transpose S8x8192x4x128 [2, 3, 0, 1] (e_v239 (F := F) a_arg4 a_v18) transposes_S4x128x8x8192_S8x8192x4x128_2_3_0_1

def e_v241 (a_arg4 : (⟨S4x128x128, .f32⟩ : BufTy).Contents (Elt F)) (a_v18 : (⟨S8x8192x512, .f32⟩ : BufTy).Contents (Elt F)) : (⟨S8x8192x512, .f32⟩ : BufTy).Contents (Elt F) :=
  shapeCast _ (e_v240 (F := F) a_arg4 a_v18) shapeCasts_S8x8192x4x128_S8x8192x512

def e_v242 (a_arg5 : (⟨S512, .f32⟩ : BufTy).Contents (Elt F)) : (⟨S1x1x512, .f32⟩ : BufTy).Contents (Elt F) :=
  broadcastInDim S1x1x512 ![2] bcast_S512_S1x1x512_2 a_arg5

def e_v243 (a_arg5 : (⟨S512, .f32⟩ : BufTy).Contents (Elt F)) : (⟨S8x8192x512, .f32⟩ : BufTy).Contents (Elt F) :=
  broadcastInDim S8x8192x512 ![0, 1, 2] bcast_S1x1x512_S8x8192x512_0_1_2 (e_v242 (F := F) a_arg5)

def e_v244 (a_arg4 : (⟨S4x128x128, .f32⟩ : BufTy).Contents (Elt F)) (a_arg5 : (⟨S512, .f32⟩ : BufTy).Contents (Elt F)) (a_v18 : (⟨S8x8192x512, .f32⟩ : BufTy).Contents (Elt F)) : (⟨S8x8192x512, .f32⟩ : BufTy).Contents (Elt F) :=
  mulf (e_v241 (F := F) a_arg4 a_v18) (e_v243 (F := F) a_arg5)

def e_v245 (a_arg3 : (⟨S512, .f32⟩ : BufTy).Contents (Elt F)) (a_arg4 : (⟨S4x128x128, .f32⟩ : BufTy).Contents (Elt F)) (a_arg5 : (⟨S512, .f32⟩ : BufTy).Contents (Elt F)) (a_v133 : (⟨S8x128x64x4x128, .f32⟩ : BufTy).Contents (Elt F)) (a_v139_8 : (⟨S128x8x64x4x128, .f32⟩ : BufTy).Contents (Elt F)) (a_v17 : (⟨S8x8192x512, .f32⟩ : BufTy).Contents (Elt F)) (a_v18 : (⟨S8x8192x512, .f32⟩ : BufTy).Contents (Elt F)) : (⟨S8x8192x1024, .f32⟩ : BufTy).Contents (Elt F) :=
  concatenate S8x8192x1024 2 [⟨S8x8192x512, (e_v166 (F := F) a_arg3 a_v133 a_v139_8 a_v17)⟩, ⟨S8x8192x512, (e_v244 (F := F) a_arg4 a_arg5 a_v18)⟩] concatenates_S8x8192x512_S8x8192x512_S8x8192x1024_d2

def e_v246 (a_arg3 : (⟨S512, .f32⟩ : BufTy).Contents (Elt F)) (a_arg4 : (⟨S4x128x128, .f32⟩ : BufTy).Contents (Elt F)) (a_arg5 : (⟨S512, .f32⟩ : BufTy).Contents (Elt F)) (a_arg6 : (⟨S1024x1024, .f32⟩ : BufTy).Contents (Elt F)) (a_v133 : (⟨S8x128x64x4x128, .f32⟩ : BufTy).Contents (Elt F)) (a_v139_8 : (⟨S128x8x64x4x128, .f32⟩ : BufTy).Contents (Elt F)) (a_v17 : (⟨S8x8192x512, .f32⟩ : BufTy).Contents (Elt F)) (a_v18 : (⟨S8x8192x512, .f32⟩ : BufTy).Contents (Elt F)) : (⟨S8x8192x1024, .f32⟩ : BufTy).Contents (Elt F) :=
  Host.dotGeneral dot_S8x8192x1024_S1024x1024_S8x8192x1024_2_0_01_1_n_n none (e_v245 (F := F) a_arg3 a_arg4 a_arg5 a_v133 a_v139_8 a_v17 a_v18) a_arg6

def e_v247 (a_arg0 : (⟨S8x8192x1024, .f32⟩ : BufTy).Contents (Elt F)) (a_arg3 : (⟨S512, .f32⟩ : BufTy).Contents (Elt F)) (a_arg4 : (⟨S4x128x128, .f32⟩ : BufTy).Contents (Elt F)) (a_arg5 : (⟨S512, .f32⟩ : BufTy).Contents (Elt F)) (a_arg6 : (⟨S1024x1024, .f32⟩ : BufTy).Contents (Elt F)) (a_v133 : (⟨S8x128x64x4x128, .f32⟩ : BufTy).Contents (Elt F)) (a_v139_8 : (⟨S128x8x64x4x128, .f32⟩ : BufTy).Contents (Elt F)) (a_v17 : (⟨S8x8192x512, .f32⟩ : BufTy).Contents (Elt F)) (a_v18 : (⟨S8x8192x512, .f32⟩ : BufTy).Contents (Elt F)) : (⟨S8x8192x1024, .f32⟩ : BufTy).Contents (Elt F) :=
  addf a_arg0 (e_v246 (F := F) a_arg3 a_arg4 a_arg5 a_arg6 a_v133 a_v139_8 a_v17 a_v18)

end Cert.Proof.MixRef

end
-- ==== Proof.MixRefPostRead.lean ====
module

public import proofs.«01_k».proof.Proof.Gen.MixerRefIdeal.Run
public import Idealize.ShloMosaic.PureOps.Ideal.Laws
public import proofs.«01_k».proof.Proof.MixRefPost

@[expose] public section

set_option maxRecDepth 16384

noncomputable section

namespace Cert.Proof.MixRef

open Idealize.ShloMosaic Idealize.ShloMosaic.TcCoe Idealize.SL.Sem Idealize.ShloMosaic.StableHlo Cert.MixerRefIdeal Cert.MixerRefIdeal.Gen Cert.MixerRefIdeal.Value

variable {F : FTy → Type} [FloatOps F]

/-! What the stretches after the loop leave in each buffer that is read later. -/

/-- The contents after the first 1 of these stretches. -/
def Q1 (V : Valuation τ sig (Elt F)) : Valuation τ sig (Elt F) := after hostOps0_5 V

set_option maxRecDepth 16384 in
theorem Q1_arg0 (V : Valuation τ sig (Elt F)) : Q1 V (no_index (Proc.devRef .tc main_arg0)) = V (Proc.devRef .tc main_arg0) := by
  unfold Q1
  simp only [hostOps0_5]
  after_reads_simp

set_option maxRecDepth 16384 in
theorem Q1_arg1 (V : Valuation τ sig (Elt F)) : Q1 V (no_index (Proc.devRef .tc main_arg1)) = V (Proc.devRef .tc main_arg1) := by
  unfold Q1
  simp only [hostOps0_5]
  after_reads_simp

set_option maxRecDepth 16384 in
theorem Q1_arg2 (V : Valuation τ sig (Elt F)) : Q1 V (no_index (Proc.devRef .tc main_arg2)) = V (Proc.devRef .tc main_arg2) := by
  unfold Q1
  simp only [hostOps0_5]
  after_reads_simp

set_option maxRecDepth 16384 in
theorem Q1_arg3 (V : Valuation τ sig (Elt F)) : Q1 V (no_index (Proc.devRef .tc main_arg3)) = V (Proc.devRef .tc main_arg3) := by
  unfold Q1
  simp only [hostOps0_5]
  after_reads_simp

set_option maxRecDepth 16384 in
theorem Q1_arg4 (V : Valuation τ sig (Elt F)) : Q1 V (no_index (Proc.devRef .tc main_arg4)) = V (Proc.devRef .tc main_arg4) := by
  unfold Q1
  simp only [hostOps0_5]
  after_reads_simp

set_option maxRecDepth 16384 in
theorem Q1_arg5 (V : Valuation τ sig (Elt F)) : Q1 V (no_index (Proc.devRef .tc main_arg5)) = V (Proc.devRef .tc main_arg5) := by
  unfold Q1
  simp only [hostOps0_5]
  after_reads_simp

set_option maxRecDepth 16384 in
theorem Q1_arg6 (V : Valuation τ sig (Elt F)) : Q1 V (no_index (Proc.devRef .tc main_arg6)) = V (Proc.devRef .tc main_arg6) := by
  unfold Q1
  simp only [hostOps0_5]
  after_reads_simp

set_option maxRecDepth 16384 in
set_option maxHeartbeats 4000000 in
theorem Q1_v164 (V : Valuation τ sig (Elt F)) : Q1 V (no_index (Proc.devRef .tc main_v164)) = e_v164 (F := F) (V (Proc.devRef .tc main_arg3)) (V (Proc.devRef .tc main_v133)) (V (Proc.devRef .tc main_v139_8)) := by
  unfold Q1
  simp only [hostOps0_5]
  after_reads_simp
  rfl

set_option maxRecDepth 16384 in
theorem Q1_v17 (V : Valuation τ sig (Elt F)) : Q1 V (no_index (Proc.devRef .tc main_v17)) = V (Proc.devRef .tc main_v17) := by
  unfold Q1
  simp only [hostOps0_5]
  after_reads_simp

set_option maxRecDepth 16384 in
theorem Q1_v18 (V : Valuation τ sig (Elt F)) : Q1 V (no_index (Proc.devRef .tc main_v18)) = V (Proc.devRef .tc main_v18) := by
  unfold Q1
  simp only [hostOps0_5]
  after_reads_simp

/-- The contents after the first 2 of these stretches. -/
def Q2 (V : Valuation τ sig (Elt F)) : Valuation τ sig (Elt F) := after hostOps0_6 (Q1 V)

set_option maxRecDepth 16384 in
theorem Q2_arg0 (V : Valuation τ sig (Elt F)) : Q2 V (no_index (Proc.devRef .tc main_arg0)) = V (Proc.devRef .tc main_arg0) := by
  unfold Q2
  simp only [hostOps0_6]
  after_reads_simp
  exact Q1_arg0 V

set_option maxRecDepth 16384 in
theorem Q2_arg1 (V : Valuation τ sig (Elt F)) : Q2 V (no_index (Proc.devRef .tc main_arg1)) = V (Proc.devRef .tc main_arg1) := by
  unfold Q2
  simp only [hostOps0_6]
  after_reads_simp
  exact Q1_arg1 V

set_option maxRecDepth 16384 in
theorem Q2_arg2 (V : Valuation τ sig (Elt F)) : Q2 V (no_index (Proc.devRef .tc main_arg2)) = V (Proc.devRef .tc main_arg2) := by
  unfold Q2
  simp only [hostOps0_6]
  after_reads_simp
  exact Q1_arg2 V

set_option maxRecDepth 16384 in
theorem Q2_arg3 (V : Valuation τ sig (Elt F)) : Q2 V (no_index (Proc.devRef .tc main_arg3)) = V (Proc.devRef .tc main_arg3) := by
  unfold Q2
  simp only [hostOps0_6]
  after_reads_simp
  exact Q1_arg3 V

set_option maxRecDepth 16384 in
theorem Q2_arg4 (V : Valuation τ sig (Elt F)) : Q2 V (no_index (Proc.devRef .tc main_arg4)) = V (Proc.devRef .tc main_arg4) := by
  unfold Q2
  simp only [hostOps0_6]
  after_reads_simp
  exact Q1_arg4 V

set_option maxRecDepth 16384 in
theorem Q2_arg5 (V : Valuation τ sig (Elt F)) : Q2 V (no_index (Proc.devRef .tc main_arg5)) = V (Proc.devRef .tc main_arg5) := by
  unfold Q2
  simp only [hostOps0_6]
  after_reads_simp
  exact Q1_arg5 V

set_option maxRecDepth 16384 in
theorem Q2_arg6 (V : Valuation τ sig (Elt F)) : Q2 V (no_index (Proc.devRef .tc main_arg6)) = V (Proc.devRef .tc main_arg6) := by
  unfold Q2
  simp only [hostOps0_6]
  after_reads_simp
  exact Q1_arg6 V

set_option maxRecDepth 16384 in
theorem Q2_v164 (V : Valuation τ sig (Elt F)) : Q2 V (no_index (Proc.devRef .tc main_v164)) = e_v164 (F := F) (V (Proc.devRef .tc main_arg3)) (V (Proc.devRef .tc main_v133)) (V (Proc.devRef .tc main_v139_8)) := by
  unfold Q2
  simp only [hostOps0_6]
  after_reads_simp
  exact Q1_v164 V

set_option maxRecDepth 16384 in
set_option maxHeartbeats 4000000 in
theorem Q2_v165 (V : Valuation τ sig (Elt F)) : Q2 V (no_index (Proc.devRef .tc main_v165)) = e_v165 (F := F) (V (Proc.devRef .tc main_v17)) := by
  unfold Q2
  simp only [hostOps0_6]
  after_reads_simp
  try simp only [Q1_v17]
  rfl

set_option maxRecDepth 16384 in
theorem Q2_v18 (V : Valuation τ sig (Elt F)) : Q2 V (no_index (Proc.devRef .tc main_v18)) = V (Proc.devRef .tc main_v18) := by
  unfold Q2
  simp only [hostOps0_6]
  after_reads_simp
  exact Q1_v18 V

/-- The contents after the first 3 of these stretches. -/
def Q3 (V : Valuation τ sig (Elt F)) : Valuation τ sig (Elt F) := after hostOps0_7 (Q2 V)

set_option maxRecDepth 16384 in
theorem Q3_arg0 (V : Valuation τ sig (Elt F)) : Q3 V (no_index (Proc.devRef .tc main_arg0)) = V (Proc.devRef .tc main_arg0) := by
  unfold Q3
  simp only [hostOps0_7]
  after_reads_simp
  exact Q2_arg0 V

set_option maxRecDepth 16384 in
theorem Q3_arg1 (V : Valuation τ sig (Elt F)) : Q3 V (no_index (Proc.devRef .tc main_arg1)) = V (Proc.devRef .tc main_arg1) := by
  unfold Q3
  simp only [hostOps0_7]
  after_reads_simp
  exact Q2_arg1 V

set_option maxRecDepth 16384 in
theorem Q3_arg2 (V : Valuation τ sig (Elt F)) : Q3 V (no_index (Proc.devRef .tc main_arg2)) = V (Proc.devRef .tc main_arg2) := by
  unfold Q3
  simp only [hostOps0_7]
  after_reads_simp
  exact Q2_arg2 V

set_option maxRecDepth 16384 in
theorem Q3_arg3 (V : Valuation τ sig (Elt F)) : Q3 V (no_index (Proc.devRef .tc main_arg3)) = V (Proc.devRef .tc main_arg3) := by
  unfold Q3
  simp only [hostOps0_7]
  after_reads_simp
  exact Q2_arg3 V

set_option maxRecDepth 16384 in
theorem Q3_arg4 (V : Valuation τ sig (Elt F)) : Q3 V (no_index (Proc.devRef .tc main_arg4)) = V (Proc.devRef .tc main_arg4) := by
  unfold Q3
  simp only [hostOps0_7]
  after_reads_simp
  exact Q2_arg4 V

set_option maxRecDepth 16384 in
theorem Q3_arg5 (V : Valuation τ sig (Elt F)) : Q3 V (no_index (Proc.devRef .tc main_arg5)) = V (Proc.devRef .tc main_arg5) := by
  unfold Q3
  simp only [hostOps0_7]
  after_reads_simp
  exact Q2_arg5 V

set_option maxRecDepth 16384 in
theorem Q3_arg6 (V : Valuation τ sig (Elt F)) : Q3 V (no_index (Proc.devRef .tc main_arg6)) = V (Proc.devRef .tc main_arg6) := by
  unfold Q3
  simp only [hostOps0_7]
  after_reads_simp
  exact Q2_arg6 V

set_option maxRecDepth 16384 in
set_option maxHeartbeats 4000000 in
theorem Q3_v166 (V : Valuation τ sig (Elt F)) : Q3 V (no_index (Proc.devRef .tc main_v166)) = e_v166 (F := F) (V (Proc.devRef .tc main_arg3)) (V (Proc.devRef .tc main_v133)) (V (Proc.devRef .tc main_v139_8)) (V (Proc.devRef .tc main_v17)) := by
  unfold Q3
  simp only [hostOps0_7]
  after_reads_simp
  try simp only [Q2_v164, Q2_v165]
  rfl

set_option maxRecDepth 16384 in
set_option maxHeartbeats 4000000 in
theorem Q3_v167 (V : Valuation τ sig (Elt F)) : Q3 V (no_index (Proc.devRef .tc main_v167)) = e_v167 (F := F) (V (Proc.devRef .tc main_v18)) := by
  unfold Q3
  simp only [hostOps0_7]
  after_reads_simp
  try simp only [Q2_v18]
  rfl

/-- The contents after the first 4 of these stretches. -/
def Q4 (V : Valuation τ sig (Elt F)) : Valuation τ sig (Elt F) := after hostOps0_8 (Q3 V)

set_option maxRecDepth 16384 in
theorem Q4_arg0 (V : Valuation τ sig (Elt F)) : Q4 V (no_index (Proc.devRef .tc main_arg0)) = V (Proc.devRef .tc main_arg0) := by
  unfold Q4
  simp only [hostOps0_8]
  after_reads_simp
  exact Q3_arg0 V

set_option maxRecDepth 16384 in
theorem Q4_arg1 (V : Valuation τ sig (Elt F)) : Q4 V (no_index (Proc.devRef .tc main_arg1)) = V (Proc.devRef .tc main_arg1) := by
  unfold Q4
  simp only [hostOps0_8]
  after_reads_simp
  exact Q3_arg1 V

set_option maxRecDepth 16384 in
theorem Q4_arg2 (V : Valuation τ sig (Elt F)) : Q4 V (no_index (Proc.devRef .tc main_arg2)) = V (Proc.devRef .tc main_arg2) := by
  unfold Q4
  simp only [hostOps0_8]
  after_reads_simp
  exact Q3_arg2 V

set_option maxRecDepth 16384 in
theorem Q4_arg3 (V : Valuation τ sig (Elt F)) : Q4 V (no_index (Proc.devRef .tc main_arg3)) = V (Proc.devRef .tc main_arg3) := by
  unfold Q4
  simp only [hostOps0_8]
  after_reads_simp
  exact Q3_arg3 V

set_option maxRecDepth 16384 in
theorem Q4_arg4 (V : Valuation τ sig (Elt F)) : Q4 V (no_index (Proc.devRef .tc main_arg4)) = V (Proc.devRef .tc main_arg4) := by
  unfold Q4
  simp only [hostOps0_8]
  after_reads_simp
  exact Q3_arg4 V

set_option maxRecDepth 16384 in
theorem Q4_arg5 (V : Valuation τ sig (Elt F)) : Q4 V (no_index (Proc.devRef .tc main_arg5)) = V (Proc.devRef .tc main_arg5) := by
  unfold Q4
  simp only [hostOps0_8]
  after_reads_simp
  exact Q3_arg5 V

set_option maxRecDepth 16384 in
theorem Q4_arg6 (V : Valuation τ sig (Elt F)) : Q4 V (no_index (Proc.devRef .tc main_arg6)) = V (Proc.devRef .tc main_arg6) := by
  unfold Q4
  simp only [hostOps0_8]
  after_reads_simp
  exact Q3_arg6 V

set_option maxRecDepth 16384 in
theorem Q4_v166 (V : Valuation τ sig (Elt F)) : Q4 V (no_index (Proc.devRef .tc main_v166)) = e_v166 (F := F) (V (Proc.devRef .tc main_arg3)) (V (Proc.devRef .tc main_v133)) (V (Proc.devRef .tc main_v139_8)) (V (Proc.devRef .tc main_v17)) := by
  unfold Q4
  simp only [hostOps0_8]
  after_reads_simp
  exact Q3_v166 V

set_option maxRecDepth 16384 in
theorem Q4_v167 (V : Valuation τ sig (Elt F)) : Q4 V (no_index (Proc.devRef .tc main_v167)) = e_v167 (F := F) (V (Proc.devRef .tc main_v18)) := by
  unfold Q4
  simp only [hostOps0_8]
  after_reads_simp
  exact Q3_v167 V

set_option maxRecDepth 16384 in
set_option maxHeartbeats 4000000 in
theorem Q4_v168 (V : Valuation τ sig (Elt F)) : Q4 V (no_index (Proc.devRef .tc main_v168)) = e_v168 (F := F) (V (Proc.devRef .tc main_v18)) := by
  unfold Q4
  simp only [hostOps0_8]
  after_reads_simp
  try simp only [Q3_v167]
  rfl

/-- The contents after the first 5 of these stretches. -/
def Q5 (V : Valuation τ sig (Elt F)) : Valuation τ sig (Elt F) := after hostOps0_9 (Q4 V)

set_option maxRecDepth 16384 in
theorem Q5_arg0 (V : Valuation τ sig (Elt F)) : Q5 V (no_index (Proc.devRef .tc main_arg0)) = V (Proc.devRef .tc main_arg0) := by
  unfold Q5
  simp only [hostOps0_9]
  after_reads_simp
  exact Q4_arg0 V

set_option maxRecDepth 16384 in
theorem Q5_arg1 (V : Valuation τ sig (Elt F)) : Q5 V (no_index (Proc.devRef .tc main_arg1)) = V (Proc.devRef .tc main_arg1) := by
  unfold Q5
  simp only [hostOps0_9]
  after_reads_simp
  exact Q4_arg1 V

set_option maxRecDepth 16384 in
theorem Q5_arg2 (V : Valuation τ sig (Elt F)) : Q5 V (no_index (Proc.devRef .tc main_arg2)) = V (Proc.devRef .tc main_arg2) := by
  unfold Q5
  simp only [hostOps0_9]
  after_reads_simp
  exact Q4_arg2 V

set_option maxRecDepth 16384 in
theorem Q5_arg3 (V : Valuation τ sig (Elt F)) : Q5 V (no_index (Proc.devRef .tc main_arg3)) = V (Proc.devRef .tc main_arg3) := by
  unfold Q5
  simp only [hostOps0_9]
  after_reads_simp
  exact Q4_arg3 V

set_option maxRecDepth 16384 in
theorem Q5_arg4 (V : Valuation τ sig (Elt F)) : Q5 V (no_index (Proc.devRef .tc main_arg4)) = V (Proc.devRef .tc main_arg4) := by
  unfold Q5
  simp only [hostOps0_9]
  after_reads_simp
  exact Q4_arg4 V

set_option maxRecDepth 16384 in
theorem Q5_arg5 (V : Valuation τ sig (Elt F)) : Q5 V (no_index (Proc.devRef .tc main_arg5)) = V (Proc.devRef .tc main_arg5) := by
  unfold Q5
  simp only [hostOps0_9]
  after_reads_simp
  exact Q4_arg5 V

set_option maxRecDepth 16384 in
theorem Q5_arg6 (V : Valuation τ sig (Elt F)) : Q5 V (no_index (Proc.devRef .tc main_arg6)) = V (Proc.devRef .tc main_arg6) := by
  unfold Q5
  simp only [hostOps0_9]
  after_reads_simp
  exact Q4_arg6 V

set_option maxRecDepth 16384 in
set_option maxHeartbeats 4000000 in
theorem Q5_c_23 (V : Valuation τ sig (Elt F)) : Q5 V (no_index (Proc.devRef .tc main_c_23)) = e_c_23 (F := F) := by
  unfold Q5
  simp only [hostOps0_9]
  after_reads_simp
  rfl

set_option maxRecDepth 16384 in
theorem Q5_v166 (V : Valuation τ sig (Elt F)) : Q5 V (no_index (Proc.devRef .tc main_v166)) = e_v166 (F := F) (V (Proc.devRef .tc main_arg3)) (V (Proc.devRef .tc main_v133)) (V (Proc.devRef .tc main_v139_8)) (V (Proc.devRef .tc main_v17)) := by
  unfold Q5
  simp only [hostOps0_9]
  after_reads_simp
  exact Q4_v166 V

set_option maxRecDepth 16384 in
theorem Q5_v167 (V : Valuation τ sig (Elt F)) : Q5 V (no_index (Proc.devRef .tc main_v167)) = e_v167 (F := F) (V (Proc.devRef .tc main_v18)) := by
  unfold Q5
  simp only [hostOps0_9]
  after_reads_simp
  exact Q4_v167 V

set_option maxRecDepth 16384 in
theorem Q5_v168 (V : Valuation τ sig (Elt F)) : Q5 V (no_index (Proc.devRef .tc main_v168)) = e_v168 (F := F) (V (Proc.devRef .tc main_v18)) := by
  unfold Q5
  simp only [hostOps0_9]
  after_reads_simp
  exact Q4_v168 V

set_option maxRecDepth 16384 in
set_option maxHeartbeats 4000000 in
theorem Q5_v169 (V : Valuation τ sig (Elt F)) : Q5 V (no_index (Proc.devRef .tc main_v169)) = e_v169 (F := F) := by
  unfold Q5
  simp only [hostOps0_9]
  after_reads_simp
  rfl

set_option maxRecDepth 16384 in
set_option maxHeartbeats 4000000 in
theorem Q5_v171 (V : Valuation τ sig (Elt F)) : Q5 V (no_index (Proc.devRef .tc main_v171)) = e_v171 (F := F) (V (Proc.devRef .tc main_v18)) := by
  unfold Q5
  simp only [hostOps0_9]
  after_reads_simp
  try simp only [Q4_v168]
  rfl

/-- The contents after the first 6 of these stretches. -/
def Q6 (V : Valuation τ sig (Elt F)) : Valuation τ sig (Elt F) := after hostOps0_10 (Q5 V)

set_option maxRecDepth 16384 in
theorem Q6_arg0 (V : Valuation τ sig (Elt F)) : Q6 V (no_index (Proc.devRef .tc main_arg0)) = V (Proc.devRef .tc main_arg0) := by
  unfold Q6
  simp only [hostOps0_10]
  after_reads_simp
  exact Q5_arg0 V

set_option maxRecDepth 16384 in
theorem Q6_arg1 (V : Valuation τ sig (Elt F)) : Q6 V (no_index (Proc.devRef .tc main_arg1)) = V (Proc.devRef .tc main_arg1) := by
  unfold Q6
  simp only [hostOps0_10]
  after_reads_simp
  exact Q5_arg1 V

set_option maxRecDepth 16384 in
theorem Q6_arg2 (V : Valuation τ sig (Elt F)) : Q6 V (no_index (Proc.devRef .tc main_arg2)) = V (Proc.devRef .tc main_arg2) := by
  unfold Q6
  simp only [hostOps0_10]
  after_reads_simp
  exact Q5_arg2 V

set_option maxRecDepth 16384 in
theorem Q6_arg3 (V : Valuation τ sig (Elt F)) : Q6 V (no_index (Proc.devRef .tc main_arg3)) = V (Proc.devRef .tc main_arg3) := by
  unfold Q6
  simp only [hostOps0_10]
  after_reads_simp
  exact Q5_arg3 V

set_option maxRecDepth 16384 in
theorem Q6_arg4 (V : Valuation τ sig (Elt F)) : Q6 V (no_index (Proc.devRef .tc main_arg4)) = V (Proc.devRef .tc main_arg4) := by
  unfold Q6
  simp only [hostOps0_10]
  after_reads_simp
  exact Q5_arg4 V

set_option maxRecDepth 16384 in
theorem Q6_arg5 (V : Valuation τ sig (Elt F)) : Q6 V (no_index (Proc.devRef .tc main_arg5)) = V (Proc.devRef .tc main_arg5) := by
  unfold Q6
  simp only [hostOps0_10]
  after_reads_simp
  exact Q5_arg5 V

set_option maxRecDepth 16384 in
theorem Q6_arg6 (V : Valuation τ sig (Elt F)) : Q6 V (no_index (Proc.devRef .tc main_arg6)) = V (Proc.devRef .tc main_arg6) := by
  unfold Q6
  simp only [hostOps0_10]
  after_reads_simp
  exact Q5_arg6 V

set_option maxRecDepth 16384 in
theorem Q6_v166 (V : Valuation τ sig (Elt F)) : Q6 V (no_index (Proc.devRef .tc main_v166)) = e_v166 (F := F) (V (Proc.devRef .tc main_arg3)) (V (Proc.devRef .tc main_v133)) (V (Proc.devRef .tc main_v139_8)) (V (Proc.devRef .tc main_v17)) := by
  unfold Q6
  simp only [hostOps0_10]
  after_reads_simp
  exact Q5_v166 V

set_option maxRecDepth 16384 in
theorem Q6_v167 (V : Valuation τ sig (Elt F)) : Q6 V (no_index (Proc.devRef .tc main_v167)) = e_v167 (F := F) (V (Proc.devRef .tc main_v18)) := by
  unfold Q6
  simp only [hostOps0_10]
  after_reads_simp
  exact Q5_v167 V

set_option maxRecDepth 16384 in
theorem Q6_v168 (V : Valuation τ sig (Elt F)) : Q6 V (no_index (Proc.devRef .tc main_v168)) = e_v168 (F := F) (V (Proc.devRef .tc main_v18)) := by
  unfold Q6
  simp only [hostOps0_10]
  after_reads_simp
  exact Q5_v168 V

set_option maxRecDepth 16384 in
theorem Q6_v169 (V : Valuation τ sig (Elt F)) : Q6 V (no_index (Proc.devRef .tc main_v169)) = e_v169 (F := F) := by
  unfold Q6
  simp only [hostOps0_10]
  after_reads_simp
  exact Q5_v169 V

set_option maxRecDepth 16384 in
theorem Q6_v171 (V : Valuation τ sig (Elt F)) : Q6 V (no_index (Proc.devRef .tc main_v171)) = e_v171 (F := F) (V (Proc.devRef .tc main_v18)) := by
  unfold Q6
  simp only [hostOps0_10]
  after_reads_simp
  exact Q5_v171 V

set_option maxRecDepth 16384 in
set_option maxHeartbeats 4000000 in
theorem Q6_v172 (V : Valuation τ sig (Elt F)) : Q6 V (no_index (Proc.devRef .tc main_v172)) = e_v172 (F := F) (V (Proc.devRef .tc main_v18)) := by
  unfold Q6
  simp only [hostOps0_10]
  after_reads_simp
  try simp only [Q5_c_23, Q5_v171]
  rfl

/-- The contents after the first 7 of these stretches. -/
def Q7 (V : Valuation τ sig (Elt F)) : Valuation τ sig (Elt F) := after hostOps0_11 (Q6 V)

set_option maxRecDepth 16384 in
theorem Q7_arg0 (V : Valuation τ sig (Elt F)) : Q7 V (no_index (Proc.devRef .tc main_arg0)) = V (Proc.devRef .tc main_arg0) := by
  unfold Q7
  simp only [hostOps0_11]
  after_reads_simp
  exact Q6_arg0 V

set_option maxRecDepth 16384 in
theorem Q7_arg1 (V : Valuation τ sig (Elt F)) : Q7 V (no_index (Proc.devRef .tc main_arg1)) = V (Proc.devRef .tc main_arg1) := by
  unfold Q7
  simp only [hostOps0_11]
  after_reads_simp
  exact Q6_arg1 V

set_option maxRecDepth 16384 in
theorem Q7_arg2 (V : Valuation τ sig (Elt F)) : Q7 V (no_index (Proc.devRef .tc main_arg2)) = V (Proc.devRef .tc main_arg2) := by
  unfold Q7
  simp only [hostOps0_11]
  after_reads_simp
  exact Q6_arg2 V

set_option maxRecDepth 16384 in
theorem Q7_arg3 (V : Valuation τ sig (Elt F)) : Q7 V (no_index (Proc.devRef .tc main_arg3)) = V (Proc.devRef .tc main_arg3) := by
  unfold Q7
  simp only [hostOps0_11]
  after_reads_simp
  exact Q6_arg3 V

set_option maxRecDepth 16384 in
theorem Q7_arg4 (V : Valuation τ sig (Elt F)) : Q7 V (no_index (Proc.devRef .tc main_arg4)) = V (Proc.devRef .tc main_arg4) := by
  unfold Q7
  simp only [hostOps0_11]
  after_reads_simp
  exact Q6_arg4 V

set_option maxRecDepth 16384 in
theorem Q7_arg5 (V : Valuation τ sig (Elt F)) : Q7 V (no_index (Proc.devRef .tc main_arg5)) = V (Proc.devRef .tc main_arg5) := by
  unfold Q7
  simp only [hostOps0_11]
  after_reads_simp
  exact Q6_arg5 V

set_option maxRecDepth 16384 in
theorem Q7_arg6 (V : Valuation τ sig (Elt F)) : Q7 V (no_index (Proc.devRef .tc main_arg6)) = V (Proc.devRef .tc main_arg6) := by
  unfold Q7
  simp only [hostOps0_11]
  after_reads_simp
  exact Q6_arg6 V

set_option maxRecDepth 16384 in
set_option maxHeartbeats 4000000 in
theorem Q7_c_26 (V : Valuation τ sig (Elt F)) : Q7 V (no_index (Proc.devRef .tc main_c_26)) = e_c_26 (F := F) := by
  unfold Q7
  simp only [hostOps0_11]
  after_reads_simp
  rfl

set_option maxRecDepth 16384 in
theorem Q7_v166 (V : Valuation τ sig (Elt F)) : Q7 V (no_index (Proc.devRef .tc main_v166)) = e_v166 (F := F) (V (Proc.devRef .tc main_arg3)) (V (Proc.devRef .tc main_v133)) (V (Proc.devRef .tc main_v139_8)) (V (Proc.devRef .tc main_v17)) := by
  unfold Q7
  simp only [hostOps0_11]
  after_reads_simp
  exact Q6_v166 V

set_option maxRecDepth 16384 in
theorem Q7_v167 (V : Valuation τ sig (Elt F)) : Q7 V (no_index (Proc.devRef .tc main_v167)) = e_v167 (F := F) (V (Proc.devRef .tc main_v18)) := by
  unfold Q7
  simp only [hostOps0_11]
  after_reads_simp
  exact Q6_v167 V

set_option maxRecDepth 16384 in
theorem Q7_v168 (V : Valuation τ sig (Elt F)) : Q7 V (no_index (Proc.devRef .tc main_v168)) = e_v168 (F := F) (V (Proc.devRef .tc main_v18)) := by
  unfold Q7
  simp only [hostOps0_11]
  after_reads_simp
  exact Q6_v168 V

set_option maxRecDepth 16384 in
theorem Q7_v169 (V : Valuation τ sig (Elt F)) : Q7 V (no_index (Proc.devRef .tc main_v169)) = e_v169 (F := F) := by
  unfold Q7
  simp only [hostOps0_11]
  after_reads_simp
  exact Q6_v169 V

set_option maxRecDepth 16384 in
set_option maxHeartbeats 4000000 in
theorem Q7_v185 (V : Valuation τ sig (Elt F)) : Q7 V (no_index (Proc.devRef .tc main_v185)) = e_v185 (F := F) (V (Proc.devRef .tc main_v18)) := by
  unfold Q7
  simp only [hostOps0_11]
  after_reads_simp
  try simp only [Q6_v167, Q6_v169, Q6_v171, Q6_v172]
  rfl

set_option maxRecDepth 16384 in
set_option maxHeartbeats 4000000 in
theorem Q7_v187 (V : Valuation τ sig (Elt F)) : Q7 V (no_index (Proc.devRef .tc main_v187)) = e_v187 (F := F) (V (Proc.devRef .tc main_v18)) := by
  unfold Q7
  simp only [hostOps0_11]
  after_reads_simp
  try simp only [Q6_v168]
  rfl

/-- The contents after the first 8 of these stretches. -/
def Q8 (V : Valuation τ sig (Elt F)) : Valuation τ sig (Elt F) := after hostOps0_12 (Q7 V)

set_option maxRecDepth 16384 in
theorem Q8_arg0 (V : Valuation τ sig (Elt F)) : Q8 V (no_index (Proc.devRef .tc main_arg0)) = V (Proc.devRef .tc main_arg0) := by
  unfold Q8
  simp only [hostOps0_12]
  after_reads_simp
  exact Q7_arg0 V

set_option maxRecDepth 16384 in
theorem Q8_arg1 (V : Valuation τ sig (Elt F)) : Q8 V (no_index (Proc.devRef .tc main_arg1)) = V (Proc.devRef .tc main_arg1) := by
  unfold Q8
  simp only [hostOps0_12]
  after_reads_simp
  exact Q7_arg1 V

set_option maxRecDepth 16384 in
theorem Q8_arg2 (V : Valuation τ sig (Elt F)) : Q8 V (no_index (Proc.devRef .tc main_arg2)) = V (Proc.devRef .tc main_arg2) := by
  unfold Q8
  simp only [hostOps0_12]
  after_reads_simp
  exact Q7_arg2 V

set_option maxRecDepth 16384 in
theorem Q8_arg3 (V : Valuation τ sig (Elt F)) : Q8 V (no_index (Proc.devRef .tc main_arg3)) = V (Proc.devRef .tc main_arg3) := by
  unfold Q8
  simp only [hostOps0_12]
  after_reads_simp
  exact Q7_arg3 V

set_option maxRecDepth 16384 in
theorem Q8_arg4 (V : Valuation τ sig (Elt F)) : Q8 V (no_index (Proc.devRef .tc main_arg4)) = V (Proc.devRef .tc main_arg4) := by
  unfold Q8
  simp only [hostOps0_12]
  after_reads_simp
  exact Q7_arg4 V

set_option maxRecDepth 16384 in
theorem Q8_arg5 (V : Valuation τ sig (Elt F)) : Q8 V (no_index (Proc.devRef .tc main_arg5)) = V (Proc.devRef .tc main_arg5) := by
  unfold Q8
  simp only [hostOps0_12]
  after_reads_simp
  exact Q7_arg5 V

set_option maxRecDepth 16384 in
theorem Q8_arg6 (V : Valuation τ sig (Elt F)) : Q8 V (no_index (Proc.devRef .tc main_arg6)) = V (Proc.devRef .tc main_arg6) := by
  unfold Q8
  simp only [hostOps0_12]
  after_reads_simp
  exact Q7_arg6 V

set_option maxRecDepth 16384 in
theorem Q8_v166 (V : Valuation τ sig (Elt F)) : Q8 V (no_index (Proc.devRef .tc main_v166)) = e_v166 (F := F) (V (Proc.devRef .tc main_arg3)) (V (Proc.devRef .tc main_v133)) (V (Proc.devRef .tc main_v139_8)) (V (Proc.devRef .tc main_v17)) := by
  unfold Q8
  simp only [hostOps0_12]
  after_reads_simp
  exact Q7_v166 V

set_option maxRecDepth 16384 in
theorem Q8_v167 (V : Valuation τ sig (Elt F)) : Q8 V (no_index (Proc.devRef .tc main_v167)) = e_v167 (F := F) (V (Proc.devRef .tc main_v18)) := by
  unfold Q8
  simp only [hostOps0_12]
  after_reads_simp
  exact Q7_v167 V

set_option maxRecDepth 16384 in
theorem Q8_v168 (V : Valuation τ sig (Elt F)) : Q8 V (no_index (Proc.devRef .tc main_v168)) = e_v168 (F := F) (V (Proc.devRef .tc main_v18)) := by
  unfold Q8
  simp only [hostOps0_12]
  after_reads_simp
  exact Q7_v168 V

set_option maxRecDepth 16384 in
theorem Q8_v169 (V : Valuation τ sig (Elt F)) : Q8 V (no_index (Proc.devRef .tc main_v169)) = e_v169 (F := F) := by
  unfold Q8
  simp only [hostOps0_12]
  after_reads_simp
  exact Q7_v169 V

set_option maxRecDepth 16384 in
theorem Q8_v185 (V : Valuation τ sig (Elt F)) : Q8 V (no_index (Proc.devRef .tc main_v185)) = e_v185 (F := F) (V (Proc.devRef .tc main_v18)) := by
  unfold Q8
  simp only [hostOps0_12]
  after_reads_simp
  exact Q7_v185 V

set_option maxRecDepth 16384 in
theorem Q8_v187 (V : Valuation τ sig (Elt F)) : Q8 V (no_index (Proc.devRef .tc main_v187)) = e_v187 (F := F) (V (Proc.devRef .tc main_v18)) := by
  unfold Q8
  simp only [hostOps0_12]
  after_reads_simp
  exact Q7_v187 V

set_option maxRecDepth 16384 in
set_option maxHeartbeats 4000000 in
theorem Q8_v188 (V : Valuation τ sig (Elt F)) : Q8 V (no_index (Proc.devRef .tc main_v188)) = e_v188 (F := F) (V (Proc.devRef .tc main_v18)) := by
  unfold Q8
  simp only [hostOps0_12]
  after_reads_simp
  try simp only [Q7_c_26, Q7_v187]
  rfl

/-- The contents after the first 9 of these stretches. -/
def Q9 (V : Valuation τ sig (Elt F)) : Valuation τ sig (Elt F) := after hostOps0_13 (Q8 V)

set_option maxRecDepth 16384 in
theorem Q9_arg0 (V : Valuation τ sig (Elt F)) : Q9 V (no_index (Proc.devRef .tc main_arg0)) = V (Proc.devRef .tc main_arg0) := by
  unfold Q9
  simp only [hostOps0_13]
  after_reads_simp
  exact Q8_arg0 V

set_option maxRecDepth 16384 in
theorem Q9_arg1 (V : Valuation τ sig (Elt F)) : Q9 V (no_index (Proc.devRef .tc main_arg1)) = V (Proc.devRef .tc main_arg1) := by
  unfold Q9
  simp only [hostOps0_13]
  after_reads_simp
  exact Q8_arg1 V

set_option maxRecDepth 16384 in
theorem Q9_arg2 (V : Valuation τ sig (Elt F)) : Q9 V (no_index (Proc.devRef .tc main_arg2)) = V (Proc.devRef .tc main_arg2) := by
  unfold Q9
  simp only [hostOps0_13]
  after_reads_simp
  exact Q8_arg2 V

set_option maxRecDepth 16384 in
theorem Q9_arg3 (V : Valuation τ sig (Elt F)) : Q9 V (no_index (Proc.devRef .tc main_arg3)) = V (Proc.devRef .tc main_arg3) := by
  unfold Q9
  simp only [hostOps0_13]
  after_reads_simp
  exact Q8_arg3 V

set_option maxRecDepth 16384 in
theorem Q9_arg4 (V : Valuation τ sig (Elt F)) : Q9 V (no_index (Proc.devRef .tc main_arg4)) = V (Proc.devRef .tc main_arg4) := by
  unfold Q9
  simp only [hostOps0_13]
  after_reads_simp
  exact Q8_arg4 V

set_option maxRecDepth 16384 in
theorem Q9_arg5 (V : Valuation τ sig (Elt F)) : Q9 V (no_index (Proc.devRef .tc main_arg5)) = V (Proc.devRef .tc main_arg5) := by
  unfold Q9
  simp only [hostOps0_13]
  after_reads_simp
  exact Q8_arg5 V

set_option maxRecDepth 16384 in
theorem Q9_arg6 (V : Valuation τ sig (Elt F)) : Q9 V (no_index (Proc.devRef .tc main_arg6)) = V (Proc.devRef .tc main_arg6) := by
  unfold Q9
  simp only [hostOps0_13]
  after_reads_simp
  exact Q8_arg6 V

set_option maxRecDepth 16384 in
set_option maxHeartbeats 4000000 in
theorem Q9_c_29 (V : Valuation τ sig (Elt F)) : Q9 V (no_index (Proc.devRef .tc main_c_29)) = e_c_29 (F := F) := by
  unfold Q9
  simp only [hostOps0_13]
  after_reads_simp
  rfl

set_option maxRecDepth 16384 in
theorem Q9_v166 (V : Valuation τ sig (Elt F)) : Q9 V (no_index (Proc.devRef .tc main_v166)) = e_v166 (F := F) (V (Proc.devRef .tc main_arg3)) (V (Proc.devRef .tc main_v133)) (V (Proc.devRef .tc main_v139_8)) (V (Proc.devRef .tc main_v17)) := by
  unfold Q9
  simp only [hostOps0_13]
  after_reads_simp
  exact Q8_v166 V

set_option maxRecDepth 16384 in
theorem Q9_v167 (V : Valuation τ sig (Elt F)) : Q9 V (no_index (Proc.devRef .tc main_v167)) = e_v167 (F := F) (V (Proc.devRef .tc main_v18)) := by
  unfold Q9
  simp only [hostOps0_13]
  after_reads_simp
  exact Q8_v167 V

set_option maxRecDepth 16384 in
theorem Q9_v168 (V : Valuation τ sig (Elt F)) : Q9 V (no_index (Proc.devRef .tc main_v168)) = e_v168 (F := F) (V (Proc.devRef .tc main_v18)) := by
  unfold Q9
  simp only [hostOps0_13]
  after_reads_simp
  exact Q8_v168 V

set_option maxRecDepth 16384 in
theorem Q9_v169 (V : Valuation τ sig (Elt F)) : Q9 V (no_index (Proc.devRef .tc main_v169)) = e_v169 (F := F) := by
  unfold Q9
  simp only [hostOps0_13]
  after_reads_simp
  exact Q8_v169 V

set_option maxRecDepth 16384 in
theorem Q9_v185 (V : Valuation τ sig (Elt F)) : Q9 V (no_index (Proc.devRef .tc main_v185)) = e_v185 (F := F) (V (Proc.devRef .tc main_v18)) := by
  unfold Q9
  simp only [hostOps0_13]
  after_reads_simp
  exact Q8_v185 V

set_option maxRecDepth 16384 in
set_option maxHeartbeats 4000000 in
theorem Q9_v201 (V : Valuation τ sig (Elt F)) : Q9 V (no_index (Proc.devRef .tc main_v201)) = e_v201 (F := F) (V (Proc.devRef .tc main_v18)) := by
  unfold Q9
  simp only [hostOps0_13]
  after_reads_simp
  try simp only [Q8_v167, Q8_v169, Q8_v187, Q8_v188]
  rfl

set_option maxRecDepth 16384 in
set_option maxHeartbeats 4000000 in
theorem Q9_v203 (V : Valuation τ sig (Elt F)) : Q9 V (no_index (Proc.devRef .tc main_v203)) = e_v203 (F := F) (V (Proc.devRef .tc main_v18)) := by
  unfold Q9
  simp only [hostOps0_13]
  after_reads_simp
  try simp only [Q8_v168]
  rfl

/-- The contents after the first 10 of these stretches. -/
def Q10 (V : Valuation τ sig (Elt F)) : Valuation τ sig (Elt F) := after hostOps0_14 (Q9 V)

set_option maxRecDepth 16384 in
theorem Q10_arg0 (V : Valuation τ sig (Elt F)) : Q10 V (no_index (Proc.devRef .tc main_arg0)) = V (Proc.devRef .tc main_arg0) := by
  unfold Q10
  simp only [hostOps0_14]
  after_reads_simp
  exact Q9_arg0 V

set_option maxRecDepth 16384 in
theorem Q10_arg1 (V : Valuation τ sig (Elt F)) : Q10 V (no_index (Proc.devRef .tc main_arg1)) = V (Proc.devRef .tc main_arg1) := by
  unfold Q10
  simp only [hostOps0_14]
  after_reads_simp
  exact Q9_arg1 V

set_option maxRecDepth 16384 in
theorem Q10_arg2 (V : Valuation τ sig (Elt F)) : Q10 V (no_index (Proc.devRef .tc main_arg2)) = V (Proc.devRef .tc main_arg2) := by
  unfold Q10
  simp only [hostOps0_14]
  after_reads_simp
  exact Q9_arg2 V

set_option maxRecDepth 16384 in
theorem Q10_arg3 (V : Valuation τ sig (Elt F)) : Q10 V (no_index (Proc.devRef .tc main_arg3)) = V (Proc.devRef .tc main_arg3) := by
  unfold Q10
  simp only [hostOps0_14]
  after_reads_simp
  exact Q9_arg3 V

set_option maxRecDepth 16384 in
theorem Q10_arg4 (V : Valuation τ sig (Elt F)) : Q10 V (no_index (Proc.devRef .tc main_arg4)) = V (Proc.devRef .tc main_arg4) := by
  unfold Q10
  simp only [hostOps0_14]
  after_reads_simp
  exact Q9_arg4 V

set_option maxRecDepth 16384 in
theorem Q10_arg5 (V : Valuation τ sig (Elt F)) : Q10 V (no_index (Proc.devRef .tc main_arg5)) = V (Proc.devRef .tc main_arg5) := by
  unfold Q10
  simp only [hostOps0_14]
  after_reads_simp
  exact Q9_arg5 V

set_option maxRecDepth 16384 in
theorem Q10_arg6 (V : Valuation τ sig (Elt F)) : Q10 V (no_index (Proc.devRef .tc main_arg6)) = V (Proc.devRef .tc main_arg6) := by
  unfold Q10
  simp only [hostOps0_14]
  after_reads_simp
  exact Q9_arg6 V

set_option maxRecDepth 16384 in
theorem Q10_v166 (V : Valuation τ sig (Elt F)) : Q10 V (no_index (Proc.devRef .tc main_v166)) = e_v166 (F := F) (V (Proc.devRef .tc main_arg3)) (V (Proc.devRef .tc main_v133)) (V (Proc.devRef .tc main_v139_8)) (V (Proc.devRef .tc main_v17)) := by
  unfold Q10
  simp only [hostOps0_14]
  after_reads_simp
  exact Q9_v166 V

set_option maxRecDepth 16384 in
theorem Q10_v167 (V : Valuation τ sig (Elt F)) : Q10 V (no_index (Proc.devRef .tc main_v167)) = e_v167 (F := F) (V (Proc.devRef .tc main_v18)) := by
  unfold Q10
  simp only [hostOps0_14]
  after_reads_simp
  exact Q9_v167 V

set_option maxRecDepth 16384 in
theorem Q10_v168 (V : Valuation τ sig (Elt F)) : Q10 V (no_index (Proc.devRef .tc main_v168)) = e_v168 (F := F) (V (Proc.devRef .tc main_v18)) := by
  unfold Q10
  simp only [hostOps0_14]
  after_reads_simp
  exact Q9_v168 V

set_option maxRecDepth 16384 in
theorem Q10_v169 (V : Valuation τ sig (Elt F)) : Q10 V (no_index (Proc.devRef .tc main_v169)) = e_v169 (F := F) := by
  unfold Q10
  simp only [hostOps0_14]
  after_reads_simp
  exact Q9_v169 V

set_option maxRecDepth 16384 in
theorem Q10_v185 (V : Valuation τ sig (Elt F)) : Q10 V (no_index (Proc.devRef .tc main_v185)) = e_v185 (F := F) (V (Proc.devRef .tc main_v18)) := by
  unfold Q10
  simp only [hostOps0_14]
  after_reads_simp
  exact Q9_v185 V

set_option maxRecDepth 16384 in
theorem Q10_v201 (V : Valuation τ sig (Elt F)) : Q10 V (no_index (Proc.devRef .tc main_v201)) = e_v201 (F := F) (V (Proc.devRef .tc main_v18)) := by
  unfold Q10
  simp only [hostOps0_14]
  after_reads_simp
  exact Q9_v201 V

set_option maxRecDepth 16384 in
theorem Q10_v203 (V : Valuation τ sig (Elt F)) : Q10 V (no_index (Proc.devRef .tc main_v203)) = e_v203 (F := F) (V (Proc.devRef .tc main_v18)) := by
  unfold Q10
  simp only [hostOps0_14]
  after_reads_simp
  exact Q9_v203 V

set_option maxRecDepth 16384 in
set_option maxHeartbeats 4000000 in
theorem Q10_v204 (V : Valuation τ sig (Elt F)) : Q10 V (no_index (Proc.devRef .tc main_v204)) = e_v204 (F := F) (V (Proc.devRef .tc main_v18)) := by
  unfold Q10
  simp only [hostOps0_14]
  after_reads_simp
  try simp only [Q9_c_29, Q9_v203]
  rfl

/-- The contents after the first 11 of these stretches. -/
def Q11 (V : Valuation τ sig (Elt F)) : Valuation τ sig (Elt F) := after hostOps0_15 (Q10 V)

set_option maxRecDepth 16384 in
theorem Q11_arg0 (V : Valuation τ sig (Elt F)) : Q11 V (no_index (Proc.devRef .tc main_arg0)) = V (Proc.devRef .tc main_arg0) := by
  unfold Q11
  simp only [hostOps0_15]
  after_reads_simp
  exact Q10_arg0 V

set_option maxRecDepth 16384 in
theorem Q11_arg1 (V : Valuation τ sig (Elt F)) : Q11 V (no_index (Proc.devRef .tc main_arg1)) = V (Proc.devRef .tc main_arg1) := by
  unfold Q11
  simp only [hostOps0_15]
  after_reads_simp
  exact Q10_arg1 V

set_option maxRecDepth 16384 in
theorem Q11_arg2 (V : Valuation τ sig (Elt F)) : Q11 V (no_index (Proc.devRef .tc main_arg2)) = V (Proc.devRef .tc main_arg2) := by
  unfold Q11
  simp only [hostOps0_15]
  after_reads_simp
  exact Q10_arg2 V

set_option maxRecDepth 16384 in
theorem Q11_arg3 (V : Valuation τ sig (Elt F)) : Q11 V (no_index (Proc.devRef .tc main_arg3)) = V (Proc.devRef .tc main_arg3) := by
  unfold Q11
  simp only [hostOps0_15]
  after_reads_simp
  exact Q10_arg3 V

set_option maxRecDepth 16384 in
theorem Q11_arg4 (V : Valuation τ sig (Elt F)) : Q11 V (no_index (Proc.devRef .tc main_arg4)) = V (Proc.devRef .tc main_arg4) := by
  unfold Q11
  simp only [hostOps0_15]
  after_reads_simp
  exact Q10_arg4 V

set_option maxRecDepth 16384 in
theorem Q11_arg5 (V : Valuation τ sig (Elt F)) : Q11 V (no_index (Proc.devRef .tc main_arg5)) = V (Proc.devRef .tc main_arg5) := by
  unfold Q11
  simp only [hostOps0_15]
  after_reads_simp
  exact Q10_arg5 V

set_option maxRecDepth 16384 in
theorem Q11_arg6 (V : Valuation τ sig (Elt F)) : Q11 V (no_index (Proc.devRef .tc main_arg6)) = V (Proc.devRef .tc main_arg6) := by
  unfold Q11
  simp only [hostOps0_15]
  after_reads_simp
  exact Q10_arg6 V

set_option maxRecDepth 16384 in
set_option maxHeartbeats 4000000 in
theorem Q11_c_32 (V : Valuation τ sig (Elt F)) : Q11 V (no_index (Proc.devRef .tc main_c_32)) = e_c_32 (F := F) := by
  unfold Q11
  simp only [hostOps0_15]
  after_reads_simp
  rfl

set_option maxRecDepth 16384 in
theorem Q11_v166 (V : Valuation τ sig (Elt F)) : Q11 V (no_index (Proc.devRef .tc main_v166)) = e_v166 (F := F) (V (Proc.devRef .tc main_arg3)) (V (Proc.devRef .tc main_v133)) (V (Proc.devRef .tc main_v139_8)) (V (Proc.devRef .tc main_v17)) := by
  unfold Q11
  simp only [hostOps0_15]
  after_reads_simp
  exact Q10_v166 V

set_option maxRecDepth 16384 in
theorem Q11_v167 (V : Valuation τ sig (Elt F)) : Q11 V (no_index (Proc.devRef .tc main_v167)) = e_v167 (F := F) (V (Proc.devRef .tc main_v18)) := by
  unfold Q11
  simp only [hostOps0_15]
  after_reads_simp
  exact Q10_v167 V

set_option maxRecDepth 16384 in
theorem Q11_v169 (V : Valuation τ sig (Elt F)) : Q11 V (no_index (Proc.devRef .tc main_v169)) = e_v169 (F := F) := by
  unfold Q11
  simp only [hostOps0_15]
  after_reads_simp
  exact Q10_v169 V

set_option maxRecDepth 16384 in
theorem Q11_v185 (V : Valuation τ sig (Elt F)) : Q11 V (no_index (Proc.devRef .tc main_v185)) = e_v185 (F := F) (V (Proc.devRef .tc main_v18)) := by
  unfold Q11
  simp only [hostOps0_15]
  after_reads_simp
  exact Q10_v185 V

set_option maxRecDepth 16384 in
theorem Q11_v201 (V : Valuation τ sig (Elt F)) : Q11 V (no_index (Proc.devRef .tc main_v201)) = e_v201 (F := F) (V (Proc.devRef .tc main_v18)) := by
  unfold Q11
  simp only [hostOps0_15]
  after_reads_simp
  exact Q10_v201 V

set_option maxRecDepth 16384 in
set_option maxHeartbeats 4000000 in
theorem Q11_v217 (V : Valuation τ sig (Elt F)) : Q11 V (no_index (Proc.devRef .tc main_v217)) = e_v217 (F := F) (V (Proc.devRef .tc main_v18)) := by
  unfold Q11
  simp only [hostOps0_15]
  after_reads_simp
  try simp only [Q10_v167, Q10_v169, Q10_v203, Q10_v204]
  rfl

set_option maxRecDepth 16384 in
set_option maxHeartbeats 4000000 in
theorem Q11_v219 (V : Valuation τ sig (Elt F)) : Q11 V (no_index (Proc.devRef .tc main_v219)) = e_v219 (F := F) (V (Proc.devRef .tc main_v18)) := by
  unfold Q11
  simp only [hostOps0_15]
  after_reads_simp
  try simp only [Q10_v168]
  rfl

/-- The contents after the first 12 of these stretches. -/
def Q12 (V : Valuation τ sig (Elt F)) : Valuation τ sig (Elt F) := after hostOps0_16 (Q11 V)

set_option maxRecDepth 16384 in
theorem Q12_arg0 (V : Valuation τ sig (Elt F)) : Q12 V (no_index (Proc.devRef .tc main_arg0)) = V (Proc.devRef .tc main_arg0) := by
  unfold Q12
  simp only [hostOps0_16]
  after_reads_simp
  exact Q11_arg0 V

set_option maxRecDepth 16384 in
theorem Q12_arg1 (V : Valuation τ sig (Elt F)) : Q12 V (no_index (Proc.devRef .tc main_arg1)) = V (Proc.devRef .tc main_arg1) := by
  unfold Q12
  simp only [hostOps0_16]
  after_reads_simp
  exact Q11_arg1 V

set_option maxRecDepth 16384 in
theorem Q12_arg2 (V : Valuation τ sig (Elt F)) : Q12 V (no_index (Proc.devRef .tc main_arg2)) = V (Proc.devRef .tc main_arg2) := by
  unfold Q12
  simp only [hostOps0_16]
  after_reads_simp
  exact Q11_arg2 V

set_option maxRecDepth 16384 in
theorem Q12_arg3 (V : Valuation τ sig (Elt F)) : Q12 V (no_index (Proc.devRef .tc main_arg3)) = V (Proc.devRef .tc main_arg3) := by
  unfold Q12
  simp only [hostOps0_16]
  after_reads_simp
  exact Q11_arg3 V

set_option maxRecDepth 16384 in
theorem Q12_arg4 (V : Valuation τ sig (Elt F)) : Q12 V (no_index (Proc.devRef .tc main_arg4)) = V (Proc.devRef .tc main_arg4) := by
  unfold Q12
  simp only [hostOps0_16]
  after_reads_simp
  exact Q11_arg4 V

set_option maxRecDepth 16384 in
theorem Q12_arg5 (V : Valuation τ sig (Elt F)) : Q12 V (no_index (Proc.devRef .tc main_arg5)) = V (Proc.devRef .tc main_arg5) := by
  unfold Q12
  simp only [hostOps0_16]
  after_reads_simp
  exact Q11_arg5 V

set_option maxRecDepth 16384 in
theorem Q12_arg6 (V : Valuation τ sig (Elt F)) : Q12 V (no_index (Proc.devRef .tc main_arg6)) = V (Proc.devRef .tc main_arg6) := by
  unfold Q12
  simp only [hostOps0_16]
  after_reads_simp
  exact Q11_arg6 V

set_option maxRecDepth 16384 in
theorem Q12_v166 (V : Valuation τ sig (Elt F)) : Q12 V (no_index (Proc.devRef .tc main_v166)) = e_v166 (F := F) (V (Proc.devRef .tc main_arg3)) (V (Proc.devRef .tc main_v133)) (V (Proc.devRef .tc main_v139_8)) (V (Proc.devRef .tc main_v17)) := by
  unfold Q12
  simp only [hostOps0_16]
  after_reads_simp
  exact Q11_v166 V

set_option maxRecDepth 16384 in
theorem Q12_v167 (V : Valuation τ sig (Elt F)) : Q12 V (no_index (Proc.devRef .tc main_v167)) = e_v167 (F := F) (V (Proc.devRef .tc main_v18)) := by
  unfold Q12
  simp only [hostOps0_16]
  after_reads_simp
  exact Q11_v167 V

set_option maxRecDepth 16384 in
theorem Q12_v169 (V : Valuation τ sig (Elt F)) : Q12 V (no_index (Proc.devRef .tc main_v169)) = e_v169 (F := F) := by
  unfold Q12
  simp only [hostOps0_16]
  after_reads_simp
  exact Q11_v169 V

set_option maxRecDepth 16384 in
theorem Q12_v185 (V : Valuation τ sig (Elt F)) : Q12 V (no_index (Proc.devRef .tc main_v185)) = e_v185 (F := F) (V (Proc.devRef .tc main_v18)) := by
  unfold Q12
  simp only [hostOps0_16]
  after_reads_simp
  exact Q11_v185 V

set_option maxRecDepth 16384 in
theorem Q12_v201 (V : Valuation τ sig (Elt F)) : Q12 V (no_index (Proc.devRef .tc main_v201)) = e_v201 (F := F) (V (Proc.devRef .tc main_v18)) := by
  unfold Q12
  simp only [hostOps0_16]
  after_reads_simp
  exact Q11_v201 V

set_option maxRecDepth 16384 in
theorem Q12_v217 (V : Valuation τ sig (Elt F)) : Q12 V (no_index (Proc.devRef .tc main_v217)) = e_v217 (F := F) (V (Proc.devRef .tc main_v18)) := by
  unfold Q12
  simp only [hostOps0_16]
  after_reads_simp
  exact Q11_v217 V

set_option maxRecDepth 16384 in
theorem Q12_v219 (V : Valuation τ sig (Elt F)) : Q12 V (no_index (Proc.devRef .tc main_v219)) = e_v219 (F := F) (V (Proc.devRef .tc main_v18)) := by
  unfold Q12
  simp only [hostOps0_16]
  after_reads_simp
  exact Q11_v219 V

set_option maxRecDepth 16384 in
set_option maxHeartbeats 4000000 in
theorem Q12_v220 (V : Valuation τ sig (Elt F)) : Q12 V (no_index (Proc.devRef .tc main_v220)) = e_v220 (F := F) (V (Proc.devRef .tc main_v18)) := by
  unfold Q12
  simp only [hostOps0_16]
  after_reads_simp
  try simp only [Q11_c_32, Q11_v219]
  rfl

/-- The contents after the first 13 of these stretches. -/
def Q13 (V : Valuation τ sig (Elt F)) : Valuation τ sig (Elt F) := after hostOps0_17 (Q12 V)

set_option maxRecDepth 16384 in
theorem Q13_arg0 (V : Valuation τ sig (Elt F)) : Q13 V (no_index (Proc.devRef .tc main_arg0)) = V (Proc.devRef .tc main_arg0) := by
  unfold Q13
  simp only [hostOps0_17]
  after_reads_simp
  exact Q12_arg0 V

set_option maxRecDepth 16384 in
theorem Q13_arg1 (V : Valuation τ sig (Elt F)) : Q13 V (no_index (Proc.devRef .tc main_arg1)) = V (Proc.devRef .tc main_arg1) := by
  unfold Q13
  simp only [hostOps0_17]
  after_reads_simp
  exact Q12_arg1 V

set_option maxRecDepth 16384 in
theorem Q13_arg2 (V : Valuation τ sig (Elt F)) : Q13 V (no_index (Proc.devRef .tc main_arg2)) = V (Proc.devRef .tc main_arg2) := by
  unfold Q13
  simp only [hostOps0_17]
  after_reads_simp
  exact Q12_arg2 V

set_option maxRecDepth 16384 in
theorem Q13_arg3 (V : Valuation τ sig (Elt F)) : Q13 V (no_index (Proc.devRef .tc main_arg3)) = V (Proc.devRef .tc main_arg3) := by
  unfold Q13
  simp only [hostOps0_17]
  after_reads_simp
  exact Q12_arg3 V

set_option maxRecDepth 16384 in
theorem Q13_arg4 (V : Valuation τ sig (Elt F)) : Q13 V (no_index (Proc.devRef .tc main_arg4)) = V (Proc.devRef .tc main_arg4) := by
  unfold Q13
  simp only [hostOps0_17]
  after_reads_simp
  exact Q12_arg4 V

set_option maxRecDepth 16384 in
theorem Q13_arg5 (V : Valuation τ sig (Elt F)) : Q13 V (no_index (Proc.devRef .tc main_arg5)) = V (Proc.devRef .tc main_arg5) := by
  unfold Q13
  simp only [hostOps0_17]
  after_reads_simp
  exact Q12_arg5 V

set_option maxRecDepth 16384 in
theorem Q13_arg6 (V : Valuation τ sig (Elt F)) : Q13 V (no_index (Proc.devRef .tc main_arg6)) = V (Proc.devRef .tc main_arg6) := by
  unfold Q13
  simp only [hostOps0_17]
  after_reads_simp
  exact Q12_arg6 V

set_option maxRecDepth 16384 in
set_option maxHeartbeats 4000000 in
theorem Q13_v247 (V : Valuation τ sig (Elt F)) : Q13 V (no_index (Proc.devRef .tc main_v247)) = e_v247 (F := F) (V (Proc.devRef .tc main_arg0)) (V (Proc.devRef .tc main_arg3)) (V (Proc.devRef .tc main_arg4)) (V (Proc.devRef .tc main_arg5)) (V (Proc.devRef .tc main_arg6)) (V (Proc.devRef .tc main_v133)) (V (Proc.devRef .tc main_v139_8)) (V (Proc.devRef .tc main_v17)) (V (Proc.devRef .tc main_v18)) := by
  unfold Q13
  simp only [hostOps0_17]
  after_reads_simp
  try simp only [Q12_arg0, Q12_arg4, Q12_arg5, Q12_arg6, Q12_v166, Q12_v167, Q12_v169, Q12_v185, Q12_v201, Q12_v217, Q12_v219, Q12_v220]
  rfl

end Cert.Proof.MixRef

end
-- ==== Proof.MixRefLoop.lean ====
/- What the reference's loop leaves, and what its whole run leaves, of the values computed before the loop. -/
module

public import proofs.«01_k».proof.Proof.MixRefPreRead
public import proofs.«01_k».proof.Proof.MixRefPostRead

@[expose] public section

set_option maxRecDepth 16384

noncomputable section

namespace Cert.Proof.MixRef

open Idealize.ShloMosaic Idealize.ShloMosaic.TcCoe Idealize.SL.Sem Idealize.ShloMosaic.StableHlo Cert.MixerRefIdeal Cert.MixerRefIdeal.Value Cert.MixerRefIdeal.Gen

variable {F : FTy → Type} [FloatOps F]
variable (m : (ℓ : Loc nD τ sig) → Buf (Elt F) ℓ)

/-- A buffer that neither the loop's condition nor its body writes is, before every trip, what it was at the entry. -/
theorem atK_of_not_written (c : Dev nD) (r : Ref sig .tc) (h0 : r ∉ condOps_W) (h1 : r ∉ while0Ops0_W) (h2 : r ∉ while0Ops0_1_W) (h3 : r ∉ while0Ops0_2_W) (h4 : r ∉ while0Ops0_3_W) (h5 : r ∉ while0Ops0_4_W) (h6 : r ∉ while0Ops0_5_W) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_5 _ while0Ops0_5_writes h6, after_of_writes_sub while0Ops0_4 _ while0Ops0_4_writes h5, after_of_writes_sub while0Ops0_3 _ while0Ops0_3_writes h4, after_of_writes_sub while0Ops0_2 _ while0Ops0_2_writes h3, after_of_writes_sub while0Ops0_1 _ while0Ops0_1_writes h2, after_of_writes_sub while0Ops0 _ while0Ops0_writes h1, after_of_writes_sub condOps _ condOps_writes h0]
    exact atK_of_not_written c r h0 h1 h2 h3 h4 h5 h6 k

/-- The buffers after the loop's last condition. -/
def L (c : Dev nD) : Valuation τ sig (Elt F) := after condOps (atK m 128 c)

theorem entry_eq (c : Dev nD) : entryContents preI m c = P5 (launchContents m c) := rfl

theorem final_eq (c : Dev nD) : finalContents condOps preI bodyI postI 128 m c = Q13 (L m c) := rfl

theorem L_arg0 (c : Dev nD) : L m c (Proc.devRef .tc main_arg0) = m ((c.tc : Thread nD τ).loc main_arg0) := by
  unfold L
  rw [after_of_writes_sub condOps _ condOps_writes (by decide +kernel),
    atK_of_not_written m c main_arg0 (by decide +kernel) (by decide +kernel) (by decide +kernel) (by decide +kernel) (by decide +kernel) (by decide +kernel) (by decide +kernel) 128, entry_eq]
  exact P5_arg0 _

theorem L_arg1 (c : Dev nD) : L m c (Proc.devRef .tc main_arg1) = m ((c.tc : Thread nD τ).loc main_arg1) := by
  unfold L
  rw [after_of_writes_sub condOps _ condOps_writes (by decide +kernel),
    atK_of_not_written m c main_arg1 (by decide +kernel) (by decide +kernel) (by decide +kernel) (by decide +kernel) (by decide +kernel) (by decide +kernel) (by decide +kernel) 128, entry_eq]
  exact P5_arg1 _

theorem L_arg2 (c : Dev nD) : L m c (Proc.devRef .tc main_arg2) = m ((c.tc : Thread nD τ).loc main_arg2) := by
  unfold L
  rw [after_of_writes_sub condOps _ condOps_writes (by decide +kernel),
    atK_of_not_written m c main_arg2 (by decide +kernel) (by decide +kernel) (by decide +kernel) (by decide +kernel) (by decide +kernel) (by decide +kernel) (by decide +kernel) 128, entry_eq]
  exact P5_arg2 _

theorem L_arg3 (c : Dev nD) : L m c (Proc.devRef .tc main_arg3) = m ((c.tc : Thread nD τ).loc main_arg3) := by
  unfold L
  rw [after_of_writes_sub condOps _ condOps_writes (by decide +kernel),
    atK_of_not_written m c main_arg3 (by decide +kernel) (by decide +kernel) (by decide +kernel) (by decide +kernel) (by decide +kernel) (by decide +kernel) (by decide +kernel) 128, entry_eq]
  exact P5_arg3 _

theorem L_arg4 (c : Dev nD) : L m c (Proc.devRef .tc main_arg4) = m ((c.tc : Thread nD τ).loc main_arg4) := by
  unfold L
  rw [after_of_writes_sub condOps _ condOps_writes (by decide +kernel),
    atK_of_not_written m c main_arg4 (by decide +kernel) (by decide +kernel) (by decide +kernel) (by decide +kernel) (by decide +kernel) (by decide +kernel) (by decide +kernel) 128, entry_eq]
  exact P5_arg4 _

theorem L_arg5 (c : Dev nD) : L m c (Proc.devRef .tc main_arg5) = m ((c.tc : Thread nD τ).loc main_arg5) := by
  unfold L
  rw [after_of_writes_sub condOps _ condOps_writes (by decide +kernel),
    atK_of_not_written m c main_arg5 (by decide +kernel) (by decide +kernel) (by decide +kernel) (by decide +kernel) (by decide +kernel) (by decide +kernel) (by decide +kernel) 128, entry_eq]
  exact P5_arg5 _

theorem L_arg6 (c : Dev nD) : L m c (Proc.devRef .tc main_arg6) = m ((c.tc : Thread nD τ).loc main_arg6) := by
  unfold L
  rw [after_of_writes_sub condOps _ condOps_writes (by decide +kernel),
    atK_of_not_written m c main_arg6 (by decide +kernel) (by decide +kernel) (by decide +kernel) (by decide +kernel) (by decide +kernel) (by decide +kernel) (by decide +kernel) 128, entry_eq]
  exact P5_arg6 _

theorem L_v133 (c : Dev nD) : L m c (Proc.devRef .tc main_v133) = P5 (launchContents m c) (Proc.devRef .tc main_v133) := by
  unfold L
  rw [after_of_writes_sub condOps _ condOps_writes (by decide +kernel),
    atK_of_not_written m c main_v133 (by decide +kernel) (by decide +kernel) (by decide +kernel) (by decide +kernel) (by decide +kernel) (by decide +kernel) (by decide +kernel) 128, entry_eq]
  skip

theorem L_v17 (c : Dev nD) : L m c (Proc.devRef .tc main_v17) = P5 (launchContents m c) (Proc.devRef .tc main_v17) := by
  unfold L
  rw [after_of_writes_sub condOps _ condOps_writes (by decide +kernel),
    atK_of_not_written m c main_v17 (by decide +kernel) (by decide +kernel) (by decide +kernel) (by decide +kernel) (by decide +kernel) (by decide +kernel) (by decide +kernel) 128, entry_eq]
  skip

theorem L_v18 (c : Dev nD) : L m c (Proc.devRef .tc main_v18) = P5 (launchContents m c) (Proc.devRef .tc main_v18) := by
  unfold L
  rw [after_of_writes_sub condOps _ condOps_writes (by decide +kernel),
    atK_of_not_written m c main_v18 (by decide +kernel) (by decide +kernel) (by decide +kernel) (by decide +kernel) (by decide +kernel) (by decide +kernel) (by decide +kernel) 128, entry_eq]
  skip

theorem L_v139_8 (c : Dev nD) : L m c (Proc.devRef .tc main_v139_8) = (STEP^[128] (P5 (launchContents m c))) (Proc.devRef .tc main_v139_8) := by
  unfold L
  rw [cond_keeps _ main_v139_8 (by decide), atK_agree m c 128 main_v139_8 (by decide), entry_eq]

theorem final_arg0 (c : Dev nD) : finalContents condOps preI bodyI postI 128 m c (Proc.devRef .tc main_arg0) = m ((c.tc : Thread nD τ).loc main_arg0) := by
  rw [final_eq]; exact (Q13_arg0 _).trans (L_arg0 m c)

theorem final_arg1 (c : Dev nD) : finalContents condOps preI bodyI postI 128 m c (Proc.devRef .tc main_arg1) = m ((c.tc : Thread nD τ).loc main_arg1) := by
  rw [final_eq]; exact (Q13_arg1 _).trans (L_arg1 m c)

theorem final_arg2 (c : Dev nD) : finalContents condOps preI bodyI postI 128 m c (Proc.devRef .tc main_arg2) = m ((c.tc : Thread nD τ).loc main_arg2) := by
  rw [final_eq]; exact (Q13_arg2 _).trans (L_arg2 m c)

theorem final_arg3 (c : Dev nD) : finalContents condOps preI bodyI postI 128 m c (Proc.devRef .tc main_arg3) = m ((c.tc : Thread nD τ).loc main_arg3) := by
  rw [final_eq]; exact (Q13_arg3 _).trans (L_arg3 m c)

theorem final_arg4 (c : Dev nD) : finalContents condOps preI bodyI postI 128 m c (Proc.devRef .tc main_arg4) = m ((c.tc : Thread nD τ).loc main_arg4) := by
  rw [final_eq]; exact (Q13_arg4 _).trans (L_arg4 m c)

theorem final_arg5 (c : Dev nD) : finalContents condOps preI bodyI postI 128 m c (Proc.devRef .tc main_arg5) = m ((c.tc : Thread nD τ).loc main_arg5) := by
  rw [final_eq]; exact (Q13_arg5 _).trans (L_arg5 m c)

theorem final_arg6 (c : Dev nD) : finalContents condOps preI bodyI postI 128 m c (Proc.devRef .tc main_arg6) = m ((c.tc : Thread nD τ).loc main_arg6) := by
  rw [final_eq]; exact (Q13_arg6 _).trans (L_arg6 m c)

/-- The reference runs and leaves its arguments as they were, its result at the fold. -/
theorem run (ρ : Dev nD → PrngReg) : θ_run (defs (F := F)) (onTc (τ := τ) (main (F := F))) ⟨m, fun _ => 0, ρ⟩ (fun r => ∀ c : Dev nD,
    r.2.mem ((c.tc : Thread nD τ).loc main_v247) = Q13 (L m c) (Proc.devRef .tc main_v247)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run _ _ _).mono (fun r h c => ⟨h c main_v247 (by decide +kernel), (h c main_arg0 (by decide +kernel)).trans (final_arg0 m c), (h c main_arg1 (by decide +kernel)).trans (final_arg1 m c), (h c main_arg2 (by decide +kernel)).trans (final_arg2 m c), (h c main_arg3 (by decide +kernel)).trans (final_arg3 m c), (h c main_arg4 (by decide +kernel)).trans (final_arg4 m c), (h c main_arg5 (by decide +kernel)).trans (final_arg5 m c), (h c main_arg6 (by decide +kernel)).trans (final_arg6 m c)⟩) (run_fold m ρ)

end Cert.Proof.MixRef

end
-- ==== Proof.MixSpec.lean ====
/- The retention and pooling mixer over the extended reals, one head and one row at a time, written without reference to any
   program; and the real-number facts that relate a retention computed in long tiles to one computed in short chunks. -/
module

public import proofs.«01_k».proof.Proof.FfnSpec

@[expose] public section

noncomputable section

namespace Cert.Proof.MixSpec

open Idealize.ShloMosaic

/-- The lane a lane is paired with. -/
def swp (e : Fin 128) : Fin 128 := if e.val % 2 = 0 then ⟨(e.val + 1) % 128, Nat.mod_lt _ (by norm_num)⟩ else ⟨(e.val + 127) % 128, Nat.mod_lt _ (by norm_num)⟩

/-- A row turned by the angles whose cosines and signed sines are given. -/
def rot (q c s : Fin 128 → EReal) (e : Fin 128) : EReal := q e * c e + q (swp e) * s e

/-- The factor of the keys. -/
def kscale : EReal := Ideal.ofBits .f32 0x3DB504F3#32

/-- The mean of a row of 128. -/
def mean (o : Fin 128 → EReal) : EReal := Ideal.div (∑ e, o e) (Ideal.ofBits .f32 0x43000000#32)

/-- A row with its mean taken off, divided by its deviation, times the gain. -/
def gno (o gn : Fin 128 → EReal) (e : Fin 128) : EReal :=
  (o e - mean o) * Ideal.rsqrt (mean (fun e => (o e - mean o) * (o e - mean o)) + Ideal.ofBits .f32 0x3727C5AC#32) * gn e

/-- A gated row. -/
def gated (gate : EReal) (y : EReal) : EReal := gate * Ideal.logistic gate * y

/-- The retention of one row of a block of 256: the scores within the block, and the product with the state. -/
def blkO (qr kr v : Fin 256 → Fin 128 → EReal) (dm : Fin 256 → Fin 256 → EReal) (qd : Fin 256 → Fin 128 → EReal) (st : Fin 128 → Fin 128 → EReal)
    (n : Fin 256) (e : Fin 128) : EReal :=
  (∑ m, (∑ d, qr n d * kr m d) * dm n m * v m e) + ∑ d, qr n d * qd n d * st d e

/-- The state after a block of 256. -/
def blkS (kr v : Fin 256 → Fin 128 → EReal) (kd : Fin 256 → Fin 128 → EReal) (dec : EReal) (st : Fin 128 → Fin 128 → EReal)
    (d e : Fin 128) : EReal :=
  st d e * dec + ∑ m, kr m d * kd m d * v m e

end Cert.Proof.MixSpec

end
-- ==== Proof.MixBlock.lean ====
/- One block (256 tokens, one head) of the mixer's retention, as the function of its loaded operands the kernel computes. -/
module

public import proofs.«01_k».proof.Proof.Gen.MixerIdeal.Skeleton
public import proofs.«01_k».proof.Proof.MixSpec

@[expose] public section

set_option maxRecDepth 16384

noncomputable section

namespace Cert.Proof.MixBlock

open Idealize.ShloMosaic Idealize.ShloMosaic.TcCoe Idealize.SL.Sem Cert.MixerIdeal Cert.MixerIdeal.Gen Cert.Proof.MixSpec

variable (cos sin q k v gate : Vec Ideal S256x128 .f32) (dm : Vec Ideal S1x256x256 .f32) (st : Vec Ideal S1x128x128 .f32)
  (qd kd : Vec Ideal S1x256x128 .f32) (gn : Vec Ideal S1x128 .f32)

theorem even_mask : ∀ e : Fin 128, IntOp.cmpi CmpIPredicate.eq (IntOp.andi (BitVec.ofNat 32 e.val) 1#32) 0#32
    = if e.val % 2 = 0 then 1#1 else 0#1 := by decide

theorem select_mask (x : Fin 128 → EReal) (e : Fin 128) (h1 : (e.val + 128 - 127) % 128 < 128) (h2 : (e.val + 128 - 1) % 128 < 128) :
    Scalar.select (IntOp.cmpi CmpIPredicate.eq (IntOp.andi (BitVec.ofNat 32 e.val) 1#32) 0#32)
      (x ⟨(e.val + 128 - 127) % 128, h1⟩) (x ⟨(e.val + 128 - 1) % 128, h2⟩) = x (swp e) := by
  rw [even_mask, swp]
  by_cases h : e.val % 2 = 0
  · simp only [h, if_true]; exact congrArg x (Fin.ext (by simp))
  · simp only [h, if_false]; exact congrArg x (Fin.ext (by simp))

theorem q_apply (n : Fin 256) (e : Fin 128) : k0_pay10 (k0_pay8 cos) (k0_pay9 sin) q (ix2 n e)
    = rot (fun e => q (ix2 n e)) (fun e => cos (ix2 n e)) (fun e => sin (ix2 n e)) e := by
  pointwise [k0_pay10, k0_pay8, k0_pay9, rot]
  rw [select_mask (fun e => q (ix2 n e))]

theorem k_apply (n : Fin 256) (e : Fin 128) : k0_pay11 (k0_pay8 cos) (k0_pay9 sin) k (ix2 n e)
    = rot (fun e => k (ix2 n e)) (fun e => cos (ix2 n e)) (fun e => sin (ix2 n e)) e * kscale := by
  pointwise [k0_pay11, k0_pay8, k0_pay9, rot, kscale]
  rw [select_mask (fun e => k (ix2 n e))]

theorem s_apply (a b : Vec Ideal S256x128 .f32) (n : Fin 256) (e : Fin 128) :
    k0_pay14 a b q k v dm (ix2 n e)
      = ∑ m : Fin 256, (∑ d : Fin 128, k0_pay10 a b q (ix2 n d) * k0_pay11 a b k (ix2 m d)) * dm (ix3 0 n m) * v (ix2 m e) := by
  unfold k0_pay14
  generalize k0_pay10 a b q = qr
  generalize k0_pay11 a b k = kr
  pointwise [k0_pay12]

theorem st_apply (d e : Fin 128) : k0_pay13 st (ix2 d e) = st (ix3 0 d e) := by
  pointwise [k0_pay13]

/-- The retention of the block before its normalisation. -/
def oV (q' s : Vec Ideal S256x128 .f32) (st' : Vec Ideal S128x128 .f32) : Vec Ideal S256x128 .f32 := fun i =>
  s i + ∑ d : Fin 128, q' (ix2 (i 0) d) * qd (ix3 0 (i 0) d) * st' (ix2 d (i 1))

theorem y_apply (q' s : Vec Ideal S256x128 .f32) (st' : Vec Ideal S128x128 .f32) (n : Fin 256) (e : Fin 128) :
    k0_pay16 gate q' st' s qd gn (ix2 n e)
      = gated (gate (ix2 n e)) (gno (fun e => s (ix2 n e) + ∑ d : Fin 128, q' (ix2 n d) * qd (ix3 0 n d) * st' (ix2 d e)) (fun e => gn (ix2 0 e)) e) := by
  pointwise [k0_pay16, gated, gno, mean]

/-- What the kernel stores of the block. -/
def cat : FVec Ideal S256x128 .bf16 :=
  k0_pay17 (k0_pay16 gate (k0_pay10 (k0_pay8 cos) (k0_pay9 sin) q) (k0_pay13 st) (k0_pay14 (k0_pay8 cos) (k0_pay9 sin) q k v dm) qd gn)

theorem cat_apply (n : Fin 256) (e : Fin 128) :
    cat cos sin q k v gate dm st qd gn (ix2 n e) = gated (gate (ix2 n e)) (gno (blkO
      (fun n => rot (fun e => q (ix2 n e)) (fun e => cos (ix2 n e)) (fun e => sin (ix2 n e)))
      (fun n e => rot (fun e => k (ix2 n e)) (fun e => cos (ix2 n e)) (fun e => sin (ix2 n e)) e * kscale)
      (fun n e => v (ix2 n e)) (fun n m => dm (ix3 0 n m)) (fun n d => qd (ix3 0 n d)) (fun d e => st (ix3 0 d e)) n) (fun e => gn (ix2 0 e)) e) := by
  have h : cat cos sin q k v gate dm st qd gn (ix2 n e)
      = k0_pay16 gate (k0_pay10 (k0_pay8 cos) (k0_pay9 sin) q) (k0_pay13 st) (k0_pay14 (k0_pay8 cos) (k0_pay9 sin) q k v dm) qd gn (ix2 n e) := by
    unfold cat
    generalize k0_pay16 gate (k0_pay10 (k0_pay8 cos) (k0_pay9 sin) q) (k0_pay13 st) (k0_pay14 (k0_pay8 cos) (k0_pay9 sin) q k v dm) qd gn = y
    pointwise [k0_pay17]
  rw [h, y_apply]
  simp only [s_apply, q_apply, k_apply, st_apply]
  rfl

variable (dec : Ideal .f32)

/-- The state the kernel stores after the block. -/
def stV : FVec Ideal S1x128x128 .f32 :=
  shapeCast S1x128x128 (addf (mulf (k0_pay13 st) (broadcast S128x128 dec))
    (matmul dot_S256x128_S256x128_S128x128_0_0_1_1_n_n none
      (truncf .bf16 (mulf (k0_pay11 (k0_pay8 cos) (k0_pay9 sin) k) (shapeCast S256x128 kd shapeCasts_S1x256x128_S256x128)) bitsLt_bf16_f32)
      (k0_pay12 v) (constant S128x128 .f32 0x00000000#32))) shapeCasts_S128x128_S1x128x128

theorem stV_apply (d e : Fin 128) :
    stV cos sin k v st kd dec (ix3 0 d e) = blkS
      (fun n e => rot (fun e => k (ix2 n e)) (fun e => cos (ix2 n e)) (fun e => sin (ix2 n e)) e * kscale)
      (fun n e => v (ix2 n e)) (fun n d => kd (ix3 0 n d)) dec (fun d e => st (ix3 0 d e)) d e := by
  have hk := fun n e => k_apply cos sin k n e
  unfold stV blkS
  generalize k0_pay11 (k0_pay8 cos) (k0_pay9 sin) k = kr at hk ⊢
  pointwise [k0_pay12, k0_pay13]
  simp only [hk]

end Cert.Proof.MixBlock

end
-- ==== Proof.MixPool.lean ====
/- One window of the mixer's pooling over a tile of 1024 tokens, as the function of its loaded operands the kernel computes. -/
module

public import proofs.«01_k».proof.Proof.Gen.MixerIdeal.Skeleton
public import proofs.«01_k».proof.Proof.MixSpec

@[expose] public section

set_option maxRecDepth 16384

noncomputable section

namespace Cert.Proof.MixPool

open Idealize.ShloMosaic Idealize.ShloMosaic.TcCoe Idealize.SL.Sem Cert.MixerIdeal Cert.MixerIdeal.Gen Cert.Proof.MixSpec

variable (x : Vec Ideal S1040x128 .f32)

/-- The rows added to the rows two, four, eight, sixteen long windows back. -/
def tot2 : FVec Ideal S1040x128 .f32 := addf x (dynamicRotate 0 1#32 none x rotates_S1040x128_d0)
def tot4 : FVec Ideal S1040x128 .f32 := addf (tot2 x) (dynamicRotate 0 2#32 none (tot2 x) rotates_S1040x128_d0)
def tot8 : FVec Ideal S1040x128 .f32 := addf (tot4 x) (dynamicRotate 0 4#32 none (tot4 x) rotates_S1040x128_d0)
def tot16 : FVec Ideal S1040x128 .f32 := addf (tot8 x) (dynamicRotate 0 8#32 none (tot8 x) rotates_S1040x128_d0)

/-- A row of the extended tile, by its number. -/
def row (e : Fin 128) (i : ℕ) : EReal := if h : i < 1040 then x (ix2 ⟨i, h⟩ e) else 0

theorem row_eq (e : Fin 128) (i : Fin 1040) : row x e i.val = x (ix2 i e) := by
  unfold row; rw [dif_pos i.isLt]

theorem add_roll (s : ℕ) (hs : s < 1040) (sb : BitVec 32) (hsb : sb.toNat % 1040 = s) (e : Fin 128) (i : Fin 1040) (hi : s ≤ i.val) :
    (addf x (dynamicRotate 0 sb none x rotates_S1040x128_d0) : FVec Ideal S1040x128 .f32) (ix2 i e) = row x e i.val + row x e (i.val - s) := by
  pointwise []
  subst hsb
  rw [row_eq, show i.val - sb.toNat % 1040 = (⟨i.val - sb.toNat % 1040, by omega⟩ : Fin 1040).val from rfl, row_eq]
  congr 3
  apply Fin.ext
  simp only
  omega

theorem tot2_apply (e : Fin 128) (i : Fin 1040) (hi : 1 ≤ i.val) : tot2 x (ix2 i e) = ∑ j ∈ Finset.range 2, row x e (i.val - j) := by
  unfold tot2
  rw [add_roll x 1 (by norm_num) 1#32 (by decide) e i hi]
  simp [Finset.sum_range_succ]

theorem tot4_apply (e : Fin 128) (i : Fin 1040) (hi : 3 ≤ i.val) : tot4 x (ix2 i e) = ∑ j ∈ Finset.range 4, row x e (i.val - j) := by
  unfold tot4
  rw [add_roll (tot2 x) 2 (by norm_num) 2#32 (by decide) e i (by omega), row_eq,
    show i.val - 2 = (⟨i.val - 2, by omega⟩ : Fin 1040).val from rfl, row_eq, tot2_apply x e i (by omega), tot2_apply x e _ (by show 1 ≤ i.val - 2; omega)]
  rw [Finset.sum_range_add (fun j => row x e (i.val - j)) 2 2]
  simp only [Nat.sub_sub]

theorem tot8_apply (e : Fin 128) (i : Fin 1040) (hi : 7 ≤ i.val) : tot8 x (ix2 i e) = ∑ j ∈ Finset.range 8, row x e (i.val - j) := by
  unfold tot8
  rw [add_roll (tot4 x) 4 (by norm_num) 4#32 (by decide) e i (by omega), row_eq,
    show i.val - 4 = (⟨i.val - 4, by omega⟩ : Fin 1040).val from rfl, row_eq, tot4_apply x e i (by omega), tot4_apply x e _ (by show 3 ≤ i.val - 4; omega)]
  rw [Finset.sum_range_add (fun j => row x e (i.val - j)) 4 4]
  simp only [Nat.sub_sub]

theorem tot16_apply (e : Fin 128) (i : Fin 1040) (hi : 15 ≤ i.val) : tot16 x (ix2 i e) = ∑ j ∈ Finset.range 16, row x e (i.val - j) := by
  unfold tot16
  rw [add_roll (tot8 x) 8 (by norm_num) 8#32 (by decide) e i (by omega), row_eq,
    show i.val - 8 = (⟨i.val - 8, by omega⟩ : Fin 1040).val from rfl, row_eq, tot8_apply x e i (by omega), tot8_apply x e _ (by show 7 ≤ i.val - 8; omega)]
  rw [Finset.sum_range_add (fun j => row x e (i.val - j)) 8 8]
  simp only [Nat.sub_sub]

variable (tot : Vec Ideal S1040x128 .f32) (pos : IVec S16x128 32) (w : BitVec 32) (inv : Ideal .f32)
  (wp : Vec Ideal S1x128x128 .bf16) (ps : Vec Ideal S1x128 .f32)

/-- What the kernel stores of one window: the mean over the window less the token, through the window's matrix and scale. -/
def pool : FVec Ideal S1024x128 .bf16 :=
  shapeCast S1024x128 (truncf .bf16 (mulf
    (matmul dot_S1024x128_S128x128_S1024x128_1_0_0_1_n_n none
      (truncf .bf16 (subf
        (mulf (extractStridedSlice S1024x128 ![16, 0] tot slices_S1040x128_o16_0_S1024x128)
          (concatenate S1024x128 0 [⟨S16x128, divf (broadcast S16x128 (Scalar.ofBits .f32 0x3F800000#32))
            (sitofp .f32 (minsi (addi pos (broadcast S16x128 1#32)) (broadcast S16x128 w)))⟩, ⟨S1008x128, broadcast S1008x128 inv⟩]
            concatenates_S16x128_S1008x128_S1024x128_d0))
        (extractStridedSlice S1024x128 ![16, 0] x slices_S1040x128_o16_0_S1024x128)) bitsLt_bf16_f32)
      (shapeCast S128x128 wp shapeCasts_S1x128x128_S128x128 : FVec Ideal S128x128 .bf16) (constant S1024x128 .f32 0x00000000#32))
    (broadcastTo S1024x128 (shapeCast S1x128 ps shapeCasts_S1x128_S1x128) broadcasts_S1x128_S1024x128)) bitsLt_bf16_f32) shapeCasts_S1024x128_S1024x128

theorem pool_apply (r : Fin 1024) (e : Fin 128) :
    pool x tot pos w inv wp ps (ix2 r e) = (∑ k, (tot (ix2 ⟨16 + r.val, by omega⟩ k) *
        (if h : r.val < 16 then Ideal.div 1 (FloatOps.sitofp FTy.f32 (IntOp.minsi (IntOp.addi (pos (ix2 ⟨r.val, h⟩ k)) 1#32) w) : Ideal .f32) else inv)
        - x (ix2 ⟨16 + r.val, by omega⟩ k)) * wp (ix3 0 k e)) * ps (ix2 0 e) := by
  pointwise [pool]

/-- The reciprocal of the count of tokens a window of `w` holds at a position. -/
def invCount (w pos : ℕ) : EReal := ((1 / ((min (pos + 1) w : ℕ) : ℝ) : ℝ) : EReal)

theorem pos_apply (t : Fin 8) (r : Fin 16) (k : Fin 128) :
    k0_pay179 (BitVec.ofNat 32 t.val) (ix2 r k) = BitVec.ofNat 32 (r.val + 1024 * t.val) := by
  have e : k0_pay179 (BitVec.ofNat 32 t.val) (ix2 r k) = IntOp.addi (BitVec.ofNat 32 r.val) (IntOp.muli (BitVec.ofNat 32 t.val) 1024#32) := by
    pointwise [k0_pay179]
    rfl
  rw [e]
  clear e
  revert t r
  decide

theorem min_word (w : ℕ) (hw : w = 2 ∨ w = 4 ∨ w = 8 ∨ w = 16) (t : Fin 8) (r : Fin 16) :
    (IntOp.minsi (IntOp.addi (BitVec.ofNat 32 (r.val + 1024 * t.val)) 1#32) (BitVec.ofNat 32 w)).toInt = ((min (1024 * t.val + r.val + 1) w : ℕ) : ℤ) := by
  rcases hw with rfl | rfl | rfl | rfl <;> (revert t r; decide)

theorem invCount_head (w : ℕ) (hw : w = 2 ∨ w = 4 ∨ w = 8 ∨ w = 16) (t : Fin 8) (r : Fin 16) :
    Ideal.div 1 (FloatOps.sitofp FTy.f32 (IntOp.minsi (IntOp.addi (BitVec.ofNat 32 (r.val + 1024 * t.val)) 1#32) (BitVec.ofNat 32 w)) : Ideal .f32)
      = invCount w (1024 * t.val + r.val) := by
  have e : (FloatOps.sitofp FTy.f32 (IntOp.minsi (IntOp.addi (BitVec.ofNat 32 (r.val + 1024 * t.val)) 1#32) (BitVec.ofNat 32 w)) : Ideal .f32)
      = (((min (1024 * t.val + r.val + 1) w : ℕ) : ℝ) : EReal) := by
    show (((IntOp.minsi (IntOp.addi (BitVec.ofNat 32 (r.val + 1024 * t.val)) 1#32) (BitVec.ofNat 32 w)).toInt : ℝ) : EReal) = _
    rw [min_word w hw t r]
    simp
  have h0 : ((min (1024 * t.val + r.val + 1) w : ℕ) : ℝ) ≠ 0 := by
    have : min (1024 * t.val + r.val + 1) w ≠ 0 := by omega
    exact_mod_cast this
  rw [e]
  show Ideal.div 1 ((((min (1024 * t.val + r.val + 1) w : ℕ) : ℝ)) : EReal) = _
  rw [Ideal.div_coe h0, one_mul]
  rfl

theorem invCount_tail (w : ℕ) (t r : ℕ) (h : w ≤ r) : invCount w (1024 * t + r) = ((1 / (w : ℝ) : ℝ) : EReal) := by
  unfold invCount
  rw [Nat.min_eq_right (by omega)]

/-- A window's block read over the tile's own positions. -/
theorem pool_tile (wn : ℕ) (hw : wn = 2 ∨ wn = 4 ∨ wn = 8 ∨ wn = 16) (t : Fin 8) (hinv : inv = ((1 / (wn : ℝ) : ℝ) : EReal))
    (htot : ∀ k (i : Fin 1040), 16 ≤ i.val → tot (ix2 i k) = ∑ j ∈ Finset.range wn, row x k (i.val - j)) (r : Fin 1024) (e : Fin 128) :
    pool x tot (k0_pay179 (BitVec.ofNat 32 t.val)) (BitVec.ofNat 32 wn) inv wp ps (ix2 r e)
      = (∑ k, ((∑ j ∈ Finset.range wn, row x k (16 + r.val - j)) * invCount wn (1024 * t.val + r.val)
        - row x k (16 + r.val)) * wp (ix3 0 k e)) * ps (ix2 0 e) := by
  rw [pool_apply]
  congr 1
  refine Finset.sum_congr rfl fun k _ => ?_
  rw [htot k _ (by show 16 ≤ 16 + r.val; omega), ← row_eq x k ⟨16 + r.val, by omega⟩]
  have hi : (if h : r.val < 16 then Ideal.div 1 (FloatOps.sitofp FTy.f32 (IntOp.minsi (IntOp.addi (k0_pay179 (BitVec.ofNat 32 t.val) (ix2 ⟨r.val, h⟩ k)) 1#32) (BitVec.ofNat 32 wn)) : Ideal .f32) else inv)
      = invCount wn (1024 * t.val + r.val) := by
    by_cases h : r.val < 16
    · rw [dif_pos h, pos_apply t ⟨r.val, h⟩ k]
      exact invCount_head wn hw t ⟨r.val, h⟩
    · rw [dif_neg h, hinv, invCount_tail wn t.val r.val (by omega)]
  rw [hi]

theorem bits_half : Ideal.ofBits .f32 0x3F000000#32 = ((1 / ((2 : ℕ) : ℝ) : ℝ) : EReal) := by
  simp [Ideal.ofBits, Ideal.ieee, -EReal.coe_mul]
  norm_num

theorem bits_quarter : Ideal.ofBits .f32 0x3E800000#32 = ((1 / ((4 : ℕ) : ℝ) : ℝ) : EReal) := by
  simp [Ideal.ofBits, Ideal.ieee, -EReal.coe_mul]
  norm_num

theorem bits_eighth : Ideal.ofBits .f32 0x3E000000#32 = ((1 / ((8 : ℕ) : ℝ) : ℝ) : EReal) := by
  simp [Ideal.ofBits, Ideal.ieee, -EReal.coe_mul]
  norm_num

theorem bits_sixteenth : Ideal.ofBits .f32 0x3D800000#32 = ((1 / ((16 : ℕ) : ℝ) : ℝ) : EReal) := by
  simp [Ideal.ofBits, Ideal.ieee, -EReal.coe_mul]
  norm_num

theorem pool2_apply (t : Fin 8) (r : Fin 1024) (e : Fin 128) :
    k0_pay181 (k0_pay180 (BitVec.ofNat 32 t.val) x wp ps) (ix2 r e)
      = (∑ k, ((∑ j ∈ Finset.range 2, row x k (16 + r.val - j)) * invCount 2 (1024 * t.val + r.val)
        - row x k (16 + r.val)) * wp (ix3 0 k e)) * ps (ix2 0 e) := by
  refine Eq.trans (congrFun (?_ : _ = pool x (tot2 x) (k0_pay179 (BitVec.ofNat 32 t.val)) (BitVec.ofNat 32 2) (Scalar.ofBits .f32 0x3F000000#32) wp ps) _)
    (pool_tile x _ _ wp ps 2 (by omega) t ?_ (fun k i hi => tot2_apply x k i (by omega)) r e)
  · rfl
  · exact bits_half

theorem pool4_apply (t : Fin 8) (r : Fin 1024) (e : Fin 128) :
    k0_pay182 (k0_pay179 (BitVec.ofNat 32 t.val)) x wp ps (ix2 r e)
      = (∑ k, ((∑ j ∈ Finset.range 4, row x k (16 + r.val - j)) * invCount 4 (1024 * t.val + r.val)
        - row x k (16 + r.val)) * wp (ix3 0 k e)) * ps (ix2 0 e) := by
  refine Eq.trans (congrFun (?_ : _ = pool x (tot4 x) (k0_pay179 (BitVec.ofNat 32 t.val)) (BitVec.ofNat 32 4) (Scalar.ofBits .f32 0x3E800000#32) wp ps) _)
    (pool_tile x _ _ wp ps 4 (by omega) t ?_ (fun k i hi => tot4_apply x k i (by omega)) r e)
  · rfl
  · exact bits_quarter

theorem pool8_apply (t : Fin 8) (r : Fin 1024) (e : Fin 128) :
    k0_pay184 (k0_pay179 (BitVec.ofNat 32 t.val)) x (k0_pay183 x) 4#32 wp ps (ix2 r e)
      = (∑ k, ((∑ j ∈ Finset.range 8, row x k (16 + r.val - j)) * invCount 8 (1024 * t.val + r.val)
        - row x k (16 + r.val)) * wp (ix3 0 k e)) * ps (ix2 0 e) := by
  refine Eq.trans (congrFun (?_ : _ = pool x (tot8 x) (k0_pay179 (BitVec.ofNat 32 t.val)) (BitVec.ofNat 32 8) (Scalar.ofBits .f32 0x3E000000#32) wp ps) _)
    (pool_tile x _ _ wp ps 8 (by omega) t ?_ (fun k i hi => tot8_apply x k i (by omega)) r e)
  · rfl
  · exact bits_eighth

theorem pool16_apply (t : Fin 8) (r : Fin 1024) (e : Fin 128) :
    k0_pay1 (k0_pay188 (k0_pay185 x) (k0_pay186 x) (k0_pay187 (k0_pay179 (BitVec.ofNat 32 t.val)))) (k0_pay189 wp)
        (constant S1024x128 .f32 0x00000000#32) ps (ix2 r e)
      = (∑ k, ((∑ j ∈ Finset.range 16, row x k (16 + r.val - j)) * invCount 16 (1024 * t.val + r.val)
        - row x k (16 + r.val)) * wp (ix3 0 k e)) * ps (ix2 0 e) := by
  refine Eq.trans (congrFun (?_ : _ = pool x (tot16 x) (k0_pay179 (BitVec.ofNat 32 t.val)) (BitVec.ofNat 32 16) (Scalar.ofBits .f32 0x3D800000#32) wp ps) _)
    (pool_tile x _ _ wp ps 16 (by omega) t ?_ (fun k i hi => tot16_apply x k i (by omega)) r e)
  · rfl
  · exact bits_sixteenth

end Cert.Proof.MixPool

end
-- ==== Proof.MixTile.lean ====
/- What the mixer's body stores at one grid point, as functions of the tile it loads: four heads of four blocks of 256
   tokens, each with the state the blocks before it left, and four windows of the pooling. -/
module

public import proofs.«01_k».proof.Proof.MixBlock
public import proofs.«01_k».proof.Proof.MixPool
public import Idealize.ShloMosaic.Lib.Pipeline.ValueKit.Tiles
public import Idealize.ShloMosaic.Lib.WritesUnit

@[expose] public section

set_option maxRecDepth 2048

noncomputable section

namespace Cert.Proof.MixTile

open Idealize.ShloMosaic Idealize.ShloMosaic.TcCoe Idealize.SL.Sem Cert.MixerIdeal Cert.MixerIdeal.Gen Cert.Proof.MixSpec

/-! ## The parts of the tile a block reads -/

/-- Row `n` of block `k`; lane `e` of the `o`-th run of the projected tile; lane `e` of the `h`-th run of 512. -/
def rowIx (k : Fin 4) (n : Fin 256) : Fin 1024 := ⟨256 * k.val + n.val, by omega⟩
def laneIx (o : Fin 20) (e : Fin 128) : Fin 2560 := ⟨128 * o.val + e.val, by omega⟩
def lane4 (h : Fin 4) (e : Fin 128) : Fin 512 := ⟨128 * h.val + e.val, by omega⟩

/-- The 256 rows of block `k` of a table of the tile's rows. -/
def rows (X : Vec Ideal S1024x128 .f32) (k : Fin 4) : Vec Ideal S256x128 .f32 := fun i => X (ix2 (rowIx k (i 0)) (i 1))

/-- The 256 rows of block `k` in the `o`-th run of 128 lanes of the projected tile. -/
def part (Z : Vec Ideal S1024x2560 .f32) (k : Fin 4) (o : Fin 20) : Vec Ideal S256x128 .f32 := fun i => Z (ix2 (rowIx k (i 0)) (laneIx o (i 1)))

/-- Head `h` of a stack of squares, of a stack of tables, of the states, of the matrices; run `h` of a row of lanes. -/
def headM (X : Vec Ideal S4x256x256 .f32) (h : Fin 4) : Vec Ideal S1x256x256 .f32 := fun i => X (ix3 h (i 1) (i 2))
def headT (X : Vec Ideal S4x256x128 .f32) (h : Fin 4) : Vec Ideal S1x256x128 .f32 := fun i => X (ix3 h (i 1) (i 2))
def headS (X : Vec Ideal S4x128x128 .f32) (h : Fin 4) : Vec Ideal S1x128x128 .f32 := fun i => X (ix3 h (i 1) (i 2))
def headP (X : Vec Ideal S4x128x128 .bf16) (h : Fin 4) : Vec Ideal S1x128x128 .bf16 := fun i => X (ix3 h (i 1) (i 2))
def run (X : Vec Ideal S1x512 .f32) (h : Fin 4) : Vec Ideal S1x128 .f32 := fun i => X (ix2 0 (lane4 h (i 1)))
def runE (X : Vec Ideal S1040x512 .f32) (h : Fin 4) : Vec Ideal S1040x128 .f32 := fun i => X (ix2 (i 0) (lane4 h (i 1)))

theorem inb_rows (k : Fin 4) : ∀ a, (![256 * k.val, 0] : Fin 2 → ℕ) a + S256x128.size a ≤ S1024x128.size a :=
  Fin.forall_fin_two.mpr ⟨by show 256 * k.val + 256 ≤ 1024; omega, by show 0 + 128 ≤ 128; omega⟩
theorem inb_part (k : Fin 4) (o : Fin 20) : ∀ a, (![256 * k.val, 128 * o.val] : Fin 2 → ℕ) a + S256x128.size a ≤ S1024x2560.size a :=
  Fin.forall_fin_two.mpr ⟨by show 256 * k.val + 256 ≤ 1024; omega, by show 128 * o.val + 128 ≤ 2560; omega⟩
theorem inb_headM (h : Fin 4) : ∀ a, (![h.val, 0, 0] : Fin 3 → ℕ) a + S1x256x256.size a ≤ S4x256x256.size a := by revert h; decide
theorem inb_headT (h : Fin 4) : ∀ a, (![h.val, 0, 0] : Fin 3 → ℕ) a + S1x256x128.size a ≤ S4x256x128.size a := by revert h; decide
theorem inb_headS (h : Fin 4) : ∀ a, (![h.val, 0, 0] : Fin 3 → ℕ) a + S1x128x128.size a ≤ S4x128x128.size a := by revert h; decide
theorem inb_run (h : Fin 4) : ∀ a, (![0, 128 * h.val] : Fin 2 → ℕ) a + S1x128.size a ≤ S1x512.size a := by revert h; decide
theorem inb_runE (h : Fin 4) : ∀ a, (![0, 128 * h.val] : Fin 2 → ℕ) a + S1040x128.size a ≤ S1040x512.size a := by revert h; decide

theorem ld_rows (X : Vec Ideal S1024x128 .f32) (k : Fin 4) : View.ld X (Rect.unit (s := S1024x128) ![256 * k.val, 0] S256x128.size (inb_rows k)) = rows X k :=
  funext fun x => View.ld_unit_apply_of X _ _ _ x _ (Fin.forall_fin_two.mpr ⟨rfl, (Nat.zero_add _).symm⟩)
theorem ld_part (Z : Vec Ideal S1024x2560 .f32) (k : Fin 4) (o : Fin 20) : View.ld Z (Rect.unit (s := S1024x2560) ![256 * k.val, 128 * o.val] S256x128.size (inb_part k o)) = part Z k o :=
  funext fun x => View.ld_unit_apply_of Z _ _ _ x _ (Fin.forall_fin_two.mpr ⟨rfl, rfl⟩)
theorem three {P : Fin 3 → Prop} (h0 : P 0) (h1 : P 1) (h2 : P 2) : ∀ a, P a := fun a => by fin_cases a <;> assumption
theorem fst1 (x : Fin 1) (h : ℕ) : h = h + x.val := by omega
theorem ld_headM (X : Vec Ideal S4x256x256 .f32) (h : Fin 4) : View.ld X (Rect.unit (s := S4x256x256) ![h.val, 0, 0] S1x256x256.size (inb_headM h)) = headM X h :=
  funext fun x => View.ld_unit_apply_of X _ _ _ x _ (three (fst1 (x (0 : Fin 3)) h.val) (Nat.zero_add _).symm (Nat.zero_add _).symm)
theorem ld_headT (X : Vec Ideal S4x256x128 .f32) (h : Fin 4) : View.ld X (Rect.unit (s := S4x256x128) ![h.val, 0, 0] S1x256x128.size (inb_headT h)) = headT X h :=
  funext fun x => View.ld_unit_apply_of X _ _ _ x _ (three (fst1 (x (0 : Fin 3)) h.val) (Nat.zero_add _).symm (Nat.zero_add _).symm)
theorem ld_headS (X : Vec Ideal S4x128x128 .f32) (h : Fin 4) : View.ld X (Rect.unit (s := S4x128x128) ![h.val, 0, 0] S1x128x128.size (inb_headS h)) = headS X h :=
  funext fun x => View.ld_unit_apply_of X _ _ _ x _ (three (fst1 (x (0 : Fin 3)) h.val) (Nat.zero_add _).symm (Nat.zero_add _).symm)
theorem ld_headP (X : Vec Ideal S4x128x128 .bf16) (h : Fin 4) : View.ld X (Rect.unit (s := S4x128x128) ![h.val, 0, 0] S1x128x128.size (inb_headS h)) = headP X h :=
  funext fun x => View.ld_unit_apply_of X _ _ _ x _ (three (fst1 (x (0 : Fin 3)) h.val) (Nat.zero_add _).symm (Nat.zero_add _).symm)
theorem ld_run (X : Vec Ideal S1x512 .f32) (h : Fin 4) : View.ld X (Rect.unit (s := S1x512) ![0, 128 * h.val] S1x128.size (inb_run h)) = run X h :=
  funext fun x => View.ld_unit_apply_of X _ _ _ x _ (Fin.forall_fin_two.mpr ⟨fst1 (x (0 : Fin 2)) 0, rfl⟩)
theorem ld_runE (X : Vec Ideal S1040x512 .f32) (h : Fin 4) : View.ld X (Rect.unit (s := S1040x512) ![0, 128 * h.val] S1040x128.size (inb_runE h)) = runE X h :=
  funext fun x => View.ld_unit_apply_of X _ _ _ x _ (Fin.forall_fin_two.mpr ⟨(Nat.zero_add _).symm, rfl⟩)

/-! ## The blocks and windows of a tile -/

section Values
variable (Z : Vec Ideal S1024x2560 .f32) (x3 x4 : Vec Ideal S1024x128 .f32) (x5 : Vec Ideal S4x256x256 .f32) (x6 x7 : Vec Ideal S4x256x128 .f32)
  (x8 : Vec Ideal S1x512 .f32) (x9 : Vec Ideal S4x128x128 .bf16) (x10 : Vec Ideal S1x512 .f32)

/-- A head's decay over a block: the kernel's named constants. -/
def dec (h : Fin 4) : Ideal .f32 :=
  match h with
  | 0 => Named.named κ "state_decay0" 0x399ACCA1#32
  | 1 => Named.named κ "state_decay1" 0x3C9160A5#32
  | 2 => Named.named κ "state_decay2" 0x3E097FCE#32
  | 3 => Named.named κ "state_decay3" 0x3EBBFC5D#32

/-- What is stored of block `k` of head `h`, over the state `st`; and the state after it. -/
def tCat (h k : Fin 4) (st : Vec Ideal S1x128x128 .f32) : FVec Ideal S256x128 .bf16 :=
  MixBlock.cat (rows x3 k) (rows x4 k) (part Z k ⟨h.val, by omega⟩) (part Z k ⟨4 + h.val, by omega⟩) (part Z k ⟨8 + h.val, by omega⟩)
    (part Z k ⟨12 + h.val, by omega⟩) (headM x5 h) st (headT x6 h) (run x8 h)

def tSt (h k : Fin 4) (st : Vec Ideal S1x128x128 .f32) : FVec Ideal S1x128x128 .f32 :=
  MixBlock.stV (rows x3 k) (rows x4 k) (part Z k ⟨4 + h.val, by omega⟩) (part Z k ⟨8 + h.val, by omega⟩) st (headT x7 h) (dec h)

/-- The state of head `h` after `k` blocks. -/
def tState (S0 : Vec Ideal S4x128x128 .f32) (h : Fin 4) : ℕ → Vec Ideal S1x128x128 .f32
  | 0 => headS S0 h
  | k + 1 => if hk : k < 4 then tSt Z x3 x4 x7 h ⟨k, hk⟩ (tState S0 h k) else tState S0 h k

/-- The window lengths. -/
def win (g : Fin 4) : ℕ := 2 ^ (g.val + 1)

/-- What is stored of window `g`. -/
def tPool (t : Fin 8) (E : Vec Ideal S1040x512 .f32) (g : Fin 4) (r : Fin 1024) (e : Fin 128) : EReal :=
  (∑ k, ((∑ j ∈ Finset.range (win g), MixPool.row (runE E g) k (16 + r.val - j)) * MixPool.invCount (win g) (1024 * t.val + r.val)
        - MixPool.row (runE E g) k (16 + r.val)) * headP x9 g (ix3 0 k e)) * run x10 g (ix2 0 e)

/-- The 1024 lanes the output projection reads. -/
def catAt (t : Fin 8) (S0 : Vec Ideal S4x128x128 .f32) (E : Vec Ideal S1040x512 .f32) (r j : Fin 1024) : EReal :=
  if h : j.val < 512 then
    tCat Z x3 x4 x5 x6 x8 ⟨j.val / 128, by omega⟩ ⟨r.val / 256, by omega⟩ (tState Z x3 x4 x7 S0 ⟨j.val / 128, by omega⟩ (r.val / 256))
      (ix2 ⟨r.val % 256, Nat.mod_lt _ (by norm_num)⟩ ⟨j.val % 128, Nat.mod_lt _ (by norm_num)⟩)
  else tPool x9 x10 t E ⟨(j.val - 512) / 128, by omega⟩ r ⟨j.val % 128, Nat.mod_lt _ (by norm_num)⟩

def catG (t : Fin 8) (S0 : Vec Ideal S4x128x128 .f32) (E : Vec Ideal S1040x512 .f32) : Vec Ideal S1024x1024 .bf16 := fun y =>
  catAt Z x3 x4 x5 x6 x7 x8 x9 x10 t S0 E (y 0) (y 1)

theorem tState_succ (S0 : Vec Ideal S4x128x128 .f32) (h k : Fin 4) :
    tState Z x3 x4 x7 S0 h (k.val + 1) = tSt Z x3 x4 x7 h k (tState Z x3 x4 x7 S0 h k.val) := dif_pos k.isLt

variable (t : Fin 8) (S0 : Vec Ideal S4x128x128 .f32) (E : Vec Ideal S1040x512 .f32)

theorem catAt_block (h k : Fin 4) (n : Fin 256) (e : Fin 128) (r j : Fin 1024) (h0 : r.val = 256 * k.val + n.val) (h1 : j.val = 128 * h.val + e.val) :
    catAt Z x3 x4 x5 x6 x7 x8 x9 x10 t S0 E r j = tCat Z x3 x4 x5 x6 x8 h k (tState Z x3 x4 x7 S0 h k.val) (ix2 n e) := by
  unfold catAt
  have e0 : r.val / 256 = k.val := by omega
  have e1 : j.val / 128 = h.val := by omega
  have e2 : r.val % 256 = n.val := by omega
  have e3 : j.val % 128 = e.val := by omega
  rw [dif_pos (by omega)]
  simp only [e0, e1, e2, e3]

theorem catAt_pool (g : Fin 4) (e : Fin 128) (r j : Fin 1024) (h1 : j.val = 512 + 128 * g.val + e.val) :
    catAt Z x3 x4 x5 x6 x7 x8 x9 x10 t S0 E r j = tPool x9 x10 t E g r e := by
  unfold catAt
  have e1 : (j.val - 512) / 128 = g.val := by omega
  have e3 : j.val % 128 = e.val := by omega
  rw [dif_neg (by omega)]
  simp only [e1, e3]

theorem catG_block (h k : Fin 4) (y : S1024x1024.Idx) (x : S256x128.Idx) (hx : ∀ a, (y a).val = (![256 * k.val, 128 * h.val] : Fin 2 → ℕ) a + (x a).val) :
    tCat Z x3 x4 x5 x6 x8 h k (tState Z x3 x4 x7 S0 h k.val) x = catG Z x3 x4 x5 x6 x7 x8 x9 x10 t S0 E y := by
  have ex : x = ix2 (x 0) (x 1) := funext fun a => by fin_cases a <;> rfl
  exact (congrArg _ ex).trans (catAt_block Z x3 x4 x5 x6 x7 x8 x9 x10 t S0 E h k (x 0) (x 1) (y 0) (y 1) (hx 0) (hx 1)).symm

theorem catG_pool (g : Fin 4) (w : Vec Ideal S1024x128 .bf16) (hw : ∀ r e, w (ix2 r e) = tPool x9 x10 t E g r e) (y : S1024x1024.Idx)
    (x : S1024x128.Idx) (hx : ∀ a, (y a).val = (![0, 512 + 128 * g.val] : Fin 2 → ℕ) a + (x a).val) :
    w x = catG Z x3 x4 x5 x6 x7 x8 x9 x10 t S0 E y := by
  have ex : x = ix2 (x 0) (x 1) := funext fun a => by fin_cases a <;> rfl
  have e0 : (y 0 : Fin 1024) = (x 0 : Fin 1024) := Fin.ext ((hx 0).trans (Nat.zero_add _))
  refine (congrArg w ex).trans ((hw (x 0) (x 1)).trans ?_)
  unfold catG
  rw [e0]
  exact (catAt_pool Z x3 x4 x5 x6 x7 x8 x9 x10 t S0 E g (x 1) (x 0) (y 1) (hx 1)).symm

end Values

/-! ## The scratch the pooling reads, and the pieces read back -/

/-- Row `r` of the 16 kept from the tile before and then the tile's own pooling lanes. -/
def extAt (H : Vec Ideal S1040x512 .f32) (Z : Vec Ideal S1024x2560 .f32) (r : Fin 1040) (j : Fin 512) : EReal :=
  if h : r.val < 16 then H (ix2 r j) else Z (ix2 ⟨r.val - 16, by omega⟩ ⟨2048 + j.val, by omega⟩)

def extOf (H : Vec Ideal S1040x512 .f32) (Z : Vec Ideal S1024x2560 .f32) : Vec Ideal S1040x512 .f32 := fun i => extAt H Z (i 0) (i 1)

section Reads
variable {sg : RefSig} {kd : Kind} {sp : Space}

/-- A read of the rectangle written last reads what was written. -/
theorem head (v : View sg kd sp S4x128x128 .f32) (f : v.ty.Contents (Elt Ideal)) (h : Fin 4) (w : Vec Ideal S1x128x128 .f32) (L : List (View.Piece (Elt Ideal) S4x128x128 .f32)) :
    v.readAt (Elt Ideal) (Rect.unit (s := S4x128x128) ![h.val, 0, 0] S1x128x128.size (inb_headS h)).toLoadRect
      (v.writes (Elt Ideal) f (⟨Rect.unit (s := S4x128x128) ![h.val, 0, 0] S1x128x128.size (inb_headS h), w⟩ :: L)) = w := by
  funext x
  rw [View.readAt_eq_ld]
  exact View.read_writes_cons_unit_of_mem _ _ _ _ _ _ x rfl fun a => Rect.idx_unit_val _ _ _ x a

/-- A read of another head's rectangle passes the write by. -/
theorem skip (v : View sg kd sp S4x128x128 .f32) (f : v.ty.Contents (Elt Ideal)) (h h' : Fin 4) (hne : h ≠ h') (w : Vec Ideal S1x128x128 .f32) (L : List (View.Piece (Elt Ideal) S4x128x128 .f32)) :
    v.readAt (Elt Ideal) (Rect.unit (s := S4x128x128) ![h.val, 0, 0] S1x128x128.size (inb_headS h)).toLoadRect
      (v.writes (Elt Ideal) f (⟨Rect.unit (s := S4x128x128) ![h'.val, 0, 0] S1x128x128.size (inb_headS h'), w⟩ :: L))
    = v.readAt (Elt Ideal) (Rect.unit (s := S4x128x128) ![h.val, 0, 0] S1x128x128.size (inb_headS h)).toLoadRect (v.writes (Elt Ideal) f L) := by
  funext x
  rw [View.readAt_eq_ld, View.readAt_eq_ld]
  refine View.read_writes_cons_unit_of_not_mem _ _ _ _ _ _ rfl (0 : Fin 3) ?_
  rw [Rect.idx_unit_val]
  have : (x (0 : Fin 3)).val = 0 := Nat.lt_one_iff.mp (x (0 : Fin 3)).isLt
  have hne' : h.val ≠ h'.val := fun e => hne (Fin.ext e)
  show h.val + (x (0 : Fin 3)).val < h'.val ∨ h'.val + 1 ≤ h.val + (x (0 : Fin 3)).val
  omega

/-- A head of the states read back from the list of the stores. -/
theorem readS_same (v : View sg kd sp S4x128x128 .f32) (f : v.ty.Contents (Elt Ideal)) (h : Fin 4) (d e : Fin 128) (w : Vec Ideal S1x128x128 .f32) (L : List (View.Piece (Elt Ideal) S4x128x128 .f32)) :
    v.read (Elt Ideal) (v.writes (Elt Ideal) f (⟨Rect.unit (s := S4x128x128) ![h.val, 0, 0] S1x128x128.size (inb_headS h), w⟩ :: L)) (ix3 h d e) = w (ix3 0 d e) :=
  View.read_writes_cons_unit_of_mem v f (inb_headS h) w L (ix3 h d e) (ix3 0 d e) rfl (three rfl (Nat.zero_add _).symm (Nat.zero_add _).symm)

theorem readS_other (v : View sg kd sp S4x128x128 .f32) (f : v.ty.Contents (Elt Ideal)) (h h' : Fin 4) (hne : h ≠ h') (d e : Fin 128) (w : Vec Ideal S1x128x128 .f32) (L : List (View.Piece (Elt Ideal) S4x128x128 .f32)) :
    v.read (Elt Ideal) (v.writes (Elt Ideal) f (⟨Rect.unit (s := S4x128x128) ![h'.val, 0, 0] S1x128x128.size (inb_headS h'), w⟩ :: L)) (ix3 h d e)
      = v.read (Elt Ideal) (v.writes (Elt Ideal) f L) (ix3 h d e) := by
  refine View.read_writes_cons_unit_of_not_mem _ _ _ _ _ _ rfl (0 : Fin 3) ?_
  have hne' : h.val ≠ h'.val := fun e => hne (Fin.ext e)
  show h.val < h'.val ∨ h'.val + 1 ≤ h.val
  omega

theorem inb_ext : ∀ a, (![16, 0] : Fin 2 → ℕ) a + S1024x512.size a ≤ S1040x512.size a := by decide
theorem inb_keep : ∀ a, (![0, 0] : Fin 2 → ℕ) a + S16x512.size a ≤ S1040x512.size a := by decide

/-- The pooling scratch read back after the tile's own rows are stored below the 16 kept ones. -/
theorem ext_low (v : View sg kd sp S1040x512 .f32) (f : v.ty.Contents (Elt Ideal)) (w : Vec Ideal S1024x512 .f32) (L : List (View.Piece (Elt Ideal) S1040x512 .f32))
    (r : Fin 1040) (j : Fin 512) (h : r.val < 16) :
    v.read (Elt Ideal) (v.writes (Elt Ideal) f (⟨Rect.unit (s := S1040x512) ![16, 0] S1024x512.size inb_ext, w⟩ :: L)) (ix2 r j) = v.read (Elt Ideal) (v.writes (Elt Ideal) f L) (ix2 r j) :=
  View.read_writes_cons_unit_of_not_mem v f inb_ext w L (ix2 r j) rfl (0 : Fin 2) (Or.inl h)

theorem ext_high (v : View sg kd sp S1040x512 .f32) (f : v.ty.Contents (Elt Ideal)) (w : Vec Ideal S1024x512 .f32) (L : List (View.Piece (Elt Ideal) S1040x512 .f32))
    (r : Fin 1040) (j : Fin 512) (n : Fin 1024) (h : r.val = 16 + n.val) :
    v.read (Elt Ideal) (v.writes (Elt Ideal) f (⟨Rect.unit (s := S1040x512) ![16, 0] S1024x512.size inb_ext, w⟩ :: L)) (ix2 r j) = w (ix2 n j) :=
  View.read_writes_cons_unit_of_mem v f inb_ext w L (ix2 r j) (ix2 n j) rfl (Fin.forall_fin_two.mpr ⟨h, (Nat.zero_add _).symm⟩)

/-- The 16 kept rows read back after they are stored. -/
theorem keep_low (v : View sg kd sp S1040x512 .f32) (f : v.ty.Contents (Elt Ideal)) (w : Vec Ideal S16x512 .f32) (L : List (View.Piece (Elt Ideal) S1040x512 .f32))
    (r : Fin 1040) (j : Fin 512) (n : Fin 16) (h : r.val = n.val) :
    v.read (Elt Ideal) (v.writes (Elt Ideal) f (⟨Rect.unit (s := S1040x512) ![0, 0] S16x512.size inb_keep, w⟩ :: L)) (ix2 r j) = w (ix2 n j) :=
  View.read_writes_cons_unit_of_mem v f inb_keep w L (ix2 r j) (ix2 n j) rfl (Fin.forall_fin_two.mpr ⟨h.trans (Nat.zero_add _).symm, (Nat.zero_add _).symm⟩)

/-- Blocks of 256 rows by 128 lanes and four runs of 128 lanes, as they lie in the 1024 by 1024 lanes. -/
theorem inb_cat (k h : Fin 4) : ∀ a, (![256 * k.val, 128 * h.val] : Fin 2 → ℕ) a + S256x128.size a ≤ S1024x1024.size a :=
  Fin.forall_fin_two.mpr ⟨by show 256 * k.val + 256 ≤ 1024; omega, by show 128 * h.val + 128 ≤ 1024; omega⟩
theorem inb_pool (g : Fin 4) : ∀ a, (![0, 512 + 128 * g.val] : Fin 2 → ℕ) a + S1024x128.size a ≤ S1024x1024.size a :=
  Fin.forall_fin_two.mpr ⟨by show 0 + 1024 ≤ 1024; omega, by show 512 + 128 * g.val + 128 ≤ 1024; omega⟩

/-- The parts of the projected tile loaded from the scratch it was stored to. -/
theorem inb_z : ∀ a, (![0, 0] : Fin 2 → ℕ) a + S1024x2560.size a ≤ S1024x2560.size a := by decide
theorem z_read (v : View sg kd sp S1024x2560 .f32) (w : Vec Ideal S1024x2560 .f32) (R : Rect S1024x2560) :
    v.readCov [⟨Rect.unit (s := S1024x2560) ![0, 0] S1024x2560.size inb_z, w⟩] R.toLoadRect = View.ld w R := by
  rw [View.readCov_eq_canon']
  funext x
  rw [View.canon_cons_unit_zero (by funext a; fin_cases a <;> rfl)]

theorem z_part (v : View sg kd sp S1024x2560 .f32) (w : Vec Ideal S1024x2560 .f32) (k : Fin 4) (o : Fin 20) :
    v.readCov [⟨Rect.unit (s := S1024x2560) ![0, 0] S1024x2560.size inb_z, w⟩] (Rect.unit (s := S1024x2560) ![256 * k.val, 128 * o.val] S256x128.size (inb_part k o)).toLoadRect = part w k o := by
  rw [z_read, ld_part]

theorem inb_p : ∀ a, (![0, 2048] : Fin 2 → ℕ) a + S1024x512.size a ≤ S1024x2560.size a := by decide
theorem z_pool (v : View sg kd sp S1024x2560 .f32) (w : Vec Ideal S1024x2560 .f32) (n : Fin 1024) (j : Fin 512) :
    k0_pay178 (v.readCov [⟨Rect.unit (s := S1024x2560) ![0, 0] S1024x2560.size inb_z, w⟩] (Rect.unit (s := S1024x2560) ![0, 2048] S1024x512.size inb_p).toLoadRect) (ix2 n j)
      = w (ix2 n ⟨2048 + j.val, by omega⟩) := by
  rw [z_read]
  have e : ∀ y : Vec Ideal S1024x512 .f32, k0_pay178 y (ix2 n j) = y (ix2 n j) := fun y => by pointwise [k0_pay178]
  rw [e]
  exact View.ld_unit_apply_of w _ _ _ (ix2 n j) (ix2 n ⟨2048 + j.val, by omega⟩) (Fin.forall_fin_two.mpr ⟨(Nat.zero_add _).symm, rfl⟩)

/-- The lanes of a window loaded from the pooling scratch. -/
theorem ext_load (v : View sg kd sp S1040x512 .f32) (f : v.ty.Contents (Elt Ideal)) (w : Vec Ideal S1024x512 .f32) (L : List (View.Piece (Elt Ideal) S1040x512 .f32))
    (H : Vec Ideal S1040x512 .f32) (Z : Vec Ideal S1024x2560 .f32)
    (hH : ∀ (r : Fin 1040) (j : Fin 512), r.val < 16 → v.read (Elt Ideal) (v.writes (Elt Ideal) f L) (ix2 r j) = H (ix2 r j))
    (hw : ∀ (n : Fin 1024) (j : Fin 512), w (ix2 n j) = Z (ix2 n ⟨2048 + j.val, by omega⟩)) (g : Fin 4) :
    v.readAt (Elt Ideal) (Rect.unit (s := S1040x512) ![0, 128 * g.val] S1040x128.size (inb_runE g)).toLoadRect
      (v.writes (Elt Ideal) f (⟨Rect.unit (s := S1040x512) ![16, 0] S1024x512.size inb_ext, w⟩ :: L)) = runE (extOf H Z) g := by
  rw [View.readAt_eq_ld, ld_runE]
  have e : ∀ (r : Fin 1040) (j : Fin 512), v.read (Elt Ideal) (v.writes (Elt Ideal) f (⟨Rect.unit (s := S1040x512) ![16, 0] S1024x512.size inb_ext, w⟩ :: L)) (ix2 r j) = extAt H Z r j := by
    intro r j
    unfold extAt
    by_cases h : r.val < 16
    · rw [dif_pos h, ext_low v f w L r j h, hH r j h]
    · rw [dif_neg h, ext_high v f w L r j ⟨r.val - 16, by omega⟩ (by show r.val = 16 + (r.val - 16); omega), hw]
  exact funext fun x => e (x 0) (lane4 g (x 1))

end Reads

/-! ## The stored tile -/

/-- What is stored of the tile: the input plus the 1024 lanes through the output matrix. -/
def outT (x0 : Vec Ideal S1x1024x1024 .f32) (C : Vec Ideal S1024x1024 .bf16) (x11 : Vec Ideal S1024x1024 .bf16) : Vec Ideal S1x1024x1024 .f32 :=
  k0_pay3 (k0_pay6 x0) C x11

theorem outT_apply (x0 : Vec Ideal S1x1024x1024 .f32) (C x11 : Vec Ideal S1024x1024 .bf16) (r c : Fin 1024) :
    outT x0 C x11 (ix3 0 r c) = x0 (ix3 0 r c) + ∑ j, C (ix2 r j) * x11 (ix2 j c) := by
  pointwise [outT, k0_pay3, k0_pay6]

end Cert.Proof.MixTile

end
-- ==== Proof.MixPiecesA.lean ====
/- The pieces the mixer's body stores at a grid point of the first tile of a batch, as the functions of the tile it loads. -/
module

public import proofs.«01_k».proof.Proof.Gen.MixerIdeal.Frame.RunA
public import proofs.«01_k».proof.Proof.Gen.MixerIdeal.Frame
public import proofs.«01_k».proof.Proof.MixTile

@[expose] public section

set_option maxRecDepth 16384

noncomputable section

namespace Cert.Proof.MixPiecesA

open Idealize.ShloMosaic Idealize.ShloMosaic.TcCoe Idealize.SL.Sem Cert.MixerIdeal Cert.MixerIdeal.Gen Cert.Proof.MixTile

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x256x256 .f32) (harg7 : arg7.IsWhole) (arg8 : Memref sig .tc .vmem S4x256x128 .f32) (harg8 : arg8.IsWhole) (arg9 : Memref sig .tc .vmem S4x256x128 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x2560 .f32) (harg15 : arg15.IsWhole) (arg16 : Memref sig .tc .vmem S1024x1024 .bf16) (harg16 : arg16.IsWhole) (arg17 : Memref sig .tc .vmem S4x128x128 .f32) (harg17 : arg17.IsWhole) (arg18 : Memref sig .tc .vmem S1040x512 .f32) (harg18 : arg18.IsWhole)  (x0 : Vec Ideal S1x1024x1024 .f32) (x1 : Vec Ideal S1x1024 .f32) (x2 : Vec Ideal S1024x2560 .bf16) (x3 : Vec Ideal S1024x128 .f32) (x4 : Vec Ideal S1024x128 .f32) (x5 : Vec Ideal S4x256x256 .f32) (x6 : Vec Ideal S4x256x128 .f32) (x7 : Vec Ideal S4x256x128 .f32) (x8 : Vec Ideal S1x512 .f32) (x9 : Vec Ideal S4x128x128 .bf16) (x10 : Vec Ideal S1x512 .f32) (x11 : Vec Ideal S1024x1024 .bf16)

/-- The projected tile as stored to its scratch. -/
theorem zval : kernelRun0_A.sl.v25 (F := Ideal) c arg2 harg2 arg3 harg3 arg4 harg4 x0 x1 x2 = k0_pay7 x0 x1 x2 := by
  have e : kernelRun0_A.sl.v25 (F := Ideal) c arg2 harg2 arg3 harg3 arg4 harg4 x0 x1 x2
      = k0_pay7 (View.readAt (Elt Ideal) arg2.view (Rect.unit (s := S1x1024x1024) ![0, 0, 0] S1x1024x1024.size (by decide)).toLoadRect (harg2.unread x0))
          (View.readAt (Elt Ideal) arg3.view (Rect.unit (s := S1x1024) ![0, 0] S1x1024.size (by decide)).toLoadRect (harg3.unread x1))
          (View.readAt (Elt Ideal) arg4.view (Rect.unit (s := S1024x2560) ![0, 0] S1024x2560.size (by decide)).toLoadRect (harg4.unread x2)) := rfl
  rw [e, View.readAt_eq_ld, View.readAt_eq_ld, View.readAt_eq_ld, harg2.read_unread, harg3.read_unread, harg4.read_unread,
    View.ld_unit_zero (by funext a; fin_cases a <;> rfl), View.ld_unit_zero (by funext a; fin_cases a <;> rfl), View.ld_unit_zero (by funext a; fin_cases a <;> rfl)]

theorem zlist : kernelRun0_A.sl.HS0_1 (F := Ideal) c arg2 harg2 arg3 harg3 arg4 harg4 x0 x1 x2 = [⟨Rect.unit (s := S1024x2560) ![0, 0] S1024x2560.size inb_z, k0_pay7 x0 x1 x2⟩] := by
  have e : kernelRun0_A.sl.HS0_1 (F := Ideal) c arg2 harg2 arg3 harg3 arg4 harg4 x0 x1 x2
      = ([⟨Rect.unit (s := S1024x2560) ![0, 0] S1024x2560.size inb_z, kernelRun0_A.sl.v25 (F := Ideal) c arg2 harg2 arg3 harg3 arg4 harg4 x0 x1 x2⟩] : List (View.Piece (Elt Ideal) S1024x2560 .f32)) := rfl
  rw [e, zval]

/-- The loads of block `k`, head `h`, as the body makes them. -/
def lC (k : Fin 4) := View.readAt (Elt Ideal) arg5.view (Rect.unit (s := S1024x128) ![256 * k.val, 0] S256x128.size (inb_rows k)).toLoadRect (harg5.unread x3)
def lS (k : Fin 4) := View.readAt (Elt Ideal) arg6.view (Rect.unit (s := S1024x128) ![256 * k.val, 0] S256x128.size (inb_rows k)).toLoadRect (harg6.unread x4)
def lZ (k : Fin 4) (o : Fin 20) := arg15.view.readCov (kernelRun0_A.sl.HS0_1 (F := Ideal) c arg2 harg2 arg3 harg3 arg4 harg4 x0 x1 x2) (Rect.unit (s := S1024x2560) ![256 * k.val, 128 * o.val] S256x128.size (inb_part k o)).toLoadRect
def lM (h : Fin 4) := View.readAt (Elt Ideal) arg7.view (Rect.unit (s := S4x256x256) ![h.val, 0, 0] S1x256x256.size (inb_headM h)).toLoadRect (harg7.unread x5)
def lQ (h : Fin 4) := View.readAt (Elt Ideal) arg8.view (Rect.unit (s := S4x256x128) ![h.val, 0, 0] S1x256x128.size (inb_headT h)).toLoadRect (harg8.unread x6)
def lK (h : Fin 4) := View.readAt (Elt Ideal) arg9.view (Rect.unit (s := S4x256x128) ![h.val, 0, 0] S1x256x128.size (inb_headT h)).toLoadRect (harg9.unread x7)
def lN (h : Fin 4) := View.readAt (Elt Ideal) arg10.view (Rect.unit (s := S1x512) ![0, 128 * h.val] S1x128.size (inb_run h)).toLoadRect (harg10.unread x8)
def lP (g : Fin 4) := View.readAt (Elt Ideal) arg11.view (Rect.unit (s := S4x128x128) ![g.val, 0, 0] S1x128x128.size (inb_headS g)).toLoadRect (harg11.unread x9)
def lW (g : Fin 4) := View.readAt (Elt Ideal) arg12.view (Rect.unit (s := S1x512) ![0, 128 * g.val] S1x128.size (inb_run g)).toLoadRect (harg12.unread x10)

theorem lC_eq (k : Fin 4) : lC arg5 harg5 x3 k = rows x3 k := by unfold lC; rw [View.readAt_eq_ld, harg5.read_unread, ld_rows]
theorem lS_eq (k : Fin 4) : lS arg6 harg6 x4 k = rows x4 k := by unfold lS; rw [View.readAt_eq_ld, harg6.read_unread, ld_rows]
theorem lZ_eq (k : Fin 4) (o : Fin 20) : lZ c arg2 harg2 arg3 harg3 arg4 harg4 arg15 x0 x1 x2 k o = part (k0_pay7 x0 x1 x2) k o := by unfold lZ; rw [zlist, z_part]
theorem lM_eq (h : Fin 4) : lM arg7 harg7 x5 h = headM x5 h := by unfold lM; rw [View.readAt_eq_ld, harg7.read_unread, ld_headM]
theorem lQ_eq (h : Fin 4) : lQ arg8 harg8 x6 h = headT x6 h := by unfold lQ; rw [View.readAt_eq_ld, harg8.read_unread, ld_headT]
theorem lK_eq (h : Fin 4) : lK arg9 harg9 x7 h = headT x7 h := by unfold lK; rw [View.readAt_eq_ld, harg9.read_unread, ld_headT]
theorem lN_eq (h : Fin 4) : lN arg10 harg10 x8 h = run x8 h := by unfold lN; rw [View.readAt_eq_ld, harg10.read_unread, ld_run]
theorem lP_eq (g : Fin 4) : lP arg11 harg11 x9 g = headP x9 g := by unfold lP; rw [View.readAt_eq_ld, harg11.read_unread, ld_headP]
theorem lW_eq (g : Fin 4) : lW arg12 harg12 x10 g = run x10 g := by unfold lW; rw [View.readAt_eq_ld, harg12.read_unread, ld_run]

/-- The stored block and state of head `h`, block `k`, over the loads. -/
def rS (h k : Fin 4) (s : Vec Ideal S1x128x128 .f32) : FVec Ideal S1x128x128 .f32 :=
  MixBlock.stV (lC arg5 harg5 x3 k) (lS arg6 harg6 x4 k) (lZ c arg2 harg2 arg3 harg3 arg4 harg4 arg15 x0 x1 x2 k ⟨4 + h.val, by omega⟩) (lZ c arg2 harg2 arg3 harg3 arg4 harg4 arg15 x0 x1 x2 k ⟨8 + h.val, by omega⟩) s (lK arg9 harg9 x7 h) (dec h)
def rC (h k : Fin 4) (s : Vec Ideal S1x128x128 .f32) : FVec Ideal S256x128 .bf16 :=
  MixBlock.cat (lC arg5 harg5 x3 k) (lS arg6 harg6 x4 k) (lZ c arg2 harg2 arg3 harg3 arg4 harg4 arg15 x0 x1 x2 k ⟨h.val, by omega⟩) (lZ c arg2 harg2 arg3 harg3 arg4 harg4 arg15 x0 x1 x2 k ⟨4 + h.val, by omega⟩) (lZ c arg2 harg2 arg3 harg3 arg4 harg4 arg15 x0 x1 x2 k ⟨8 + h.val, by omega⟩) (lZ c arg2 harg2 arg3 harg3 arg4 harg4 arg15 x0 x1 x2 k ⟨12 + h.val, by omega⟩) (lM arg7 harg7 x5 h) s (lQ arg8 harg8 x6 h) (lN arg10 harg10 x8 h)

theorem rS_eq (h k : Fin 4) (s : Vec Ideal S1x128x128 .f32) : rS c arg2 harg2 arg3 harg3 arg4 harg4 arg5 harg5 arg6 harg6 arg9 harg9 arg15 x0 x1 x2 x3 x4 x7 h k s = tSt (k0_pay7 x0 x1 x2) x3 x4 x7 h k s := by
  unfold rS tSt; rw [lC_eq, lS_eq, lZ_eq, lZ_eq, lK_eq]
theorem rC_eq (h k : Fin 4) (s : Vec Ideal S1x128x128 .f32) : rC c arg2 harg2 arg3 harg3 arg4 harg4 arg5 harg5 arg6 harg6 arg7 harg7 arg8 harg8 arg10 harg10 arg15 x0 x1 x2 x3 x4 x5 x6 x8 h k s = tCat (k0_pay7 x0 x1 x2) x3 x4 x5 x6 x8 h k s := by
  unfold rC tCat; rw [lC_eq, lS_eq, lZ_eq, lZ_eq, lZ_eq, lZ_eq, lM_eq, lQ_eq, lN_eq]

theorem inb_all : ∀ a, (![0, 0, 0] : Fin 3 → ℕ) a + S4x128x128.size a ≤ S4x128x128.size a := by decide
theorem base (h : Fin 4) : arg17.view.readAt (Elt Ideal) (Rect.unit (s := S4x128x128) ![h.val, 0, 0] S1x128x128.size (inb_headS h)).toLoadRect
    (arg17.view.writes (Elt Ideal) arg17.view.junk [⟨Rect.unit (s := S4x128x128) ![0, 0, 0] S4x128x128.size inb_all, k0_pay4 (F := Ideal)⟩]) = headS (fun _ => 0) h := by
  have e : arg17.view.read (Elt Ideal) (arg17.view.writes (Elt Ideal) arg17.view.junk [⟨Rect.unit (s := S4x128x128) ![0, 0, 0] S4x128x128.size inb_all, k0_pay4 (F := Ideal)⟩]) = fun _ => 0 := by
    rw [View.read_writes_junk_eq_canon, View.canon_cons_unit_zero (by funext a; fin_cases a <;> rfl)]
    funext i
    rw [(ix3_eta (n0 := 4) (n1 := 128) (n2 := 128) i).symm]
    pointwise [k0_pay4]
  rw [View.readAt_eq_ld, e, ld_headS]

theorem st_0_0 : (kernelRun0_A.sl.v65 (F := Ideal) c arg17) = tState (k0_pay7 x0 x1 x2) x3 x4 x7 (fun _ => 0) 0 0 :=
  (base arg17 0)
theorem st_0_1 : (kernelRun0_A.sl.v153 (F := Ideal) c arg2 harg2 arg3 harg3 arg4 harg4 arg5 harg5 arg6 harg6 arg9 harg9 arg15 arg17 x0 x1 x2 x3 x4 x7) = tState (k0_pay7 x0 x1 x2) x3 x4 x7 (fun _ => 0) 0 1 :=
  ((head arg17.view _ 0 (rS c arg2 harg2 arg3 harg3 arg4 harg4 arg5 harg5 arg6 harg6 arg9 harg9 arg15 x0 x1 x2 x3 x4 x7 0 0 (kernelRun0_A.sl.v65 (F := Ideal) c arg17)) _).trans (rS_eq c arg2 harg2 arg3 harg3 arg4 harg4 arg5 harg5 arg6 harg6 arg9 harg9 arg15 x0 x1 x2 x3 x4 x7 0 0 _)).trans
    ((congrArg (tSt (k0_pay7 x0 x1 x2) x3 x4 x7 0 0) (st_0_0 c arg17 x0 x1 x2 x3 x4 x7)).trans (tState_succ (k0_pay7 x0 x1 x2) x3 x4 x7 (fun _ => 0) 0 0).symm)
theorem st_0_2 : (kernelRun0_A.sl.v241 (F := Ideal) c arg2 harg2 arg3 harg3 arg4 harg4 arg5 harg5 arg6 harg6 arg9 harg9 arg15 arg17 x0 x1 x2 x3 x4 x7) = tState (k0_pay7 x0 x1 x2) x3 x4 x7 (fun _ => 0) 0 2 :=
  ((head arg17.view _ 0 (rS c arg2 harg2 arg3 harg3 arg4 harg4 arg5 harg5 arg6 harg6 arg9 harg9 arg15 x0 x1 x2 x3 x4 x7 0 1 (kernelRun0_A.sl.v153 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 0 1 _)).trans
    ((congrArg (tSt (k0_pay7 x0 x1 x2) x3 x4 x7 0 1) (st_0_1 c arg2 harg2 arg3 harg3 arg4 harg4 arg5 harg5 arg6 harg6 arg9 harg9 arg15 arg17 x0 x1 x2 x3 x4 x7)).trans (tState_succ (k0_pay7 x0 x1 x2) x3 x4 x7 (fun _ => 0) 0 1).symm)
theorem st_0_3 : (kernelRun0_A.sl.v329 (F := Ideal) c arg2 harg2 arg3 harg3 arg4 harg4 arg5 harg5 arg6 harg6 arg9 harg9 arg15 arg17 x0 x1 x2 x3 x4 x7) = tState (k0_pay7 x0 x1 x2) x3 x4 x7 (fun _ => 0) 0 3 :=
  ((head arg17.view _ 0 (rS c arg2 harg2 arg3 harg3 arg4 harg4 arg5 harg5 arg6 harg6 arg9 harg9 arg15 x0 x1 x2 x3 x4 x7 0 2 (kernelRun0_A.sl.v241 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 0 2 _)).trans
    ((congrArg (tSt (k0_pay7 x0 x1 x2) x3 x4 x7 0 2) (st_0_2 c arg2 harg2 arg3 harg3 arg4 harg4 arg5 harg5 arg6 harg6 arg9 harg9 arg15 arg17 x0 x1 x2 x3 x4 x7)).trans (tState_succ (k0_pay7 x0 x1 x2) x3 x4 x7 (fun _ => 0) 0 2).symm)
theorem st_1_0 : (kernelRun0_A.sl.v417 (F := Ideal) c arg2 harg2 arg3 harg3 arg4 harg4 arg5 harg5 arg6 harg6 arg9 harg9 arg15 arg17 x0 x1 x2 x3 x4 x7) = tState (k0_pay7 x0 x1 x2) x3 x4 x7 (fun _ => 0) 1 0 :=
  ((skip arg17.view _ 1 0 (by decide) _ _).trans ((skip arg17.view _ 1 0 (by decide) _ _).trans ((skip arg17.view _ 1 0 (by decide) _ _).trans ((skip arg17.view _ 1 0 (by decide) _ _).trans (base arg17 1)))))
theorem st_1_1 : (kernelRun0_A.sl.v505 (F := Ideal) c arg2 harg2 arg3 harg3 arg4 harg4 arg5 harg5 arg6 harg6 arg9 harg9 arg15 arg17 x0 x1 x2 x3 x4 x7) = tState (k0_pay7 x0 x1 x2) x3 x4 x7 (fun _ => 0) 1 1 :=
  ((head arg17.view _ 1 (rS c arg2 harg2 arg3 harg3 arg4 harg4 arg5 harg5 arg6 harg6 arg9 harg9 arg15 x0 x1 x2 x3 x4 x7 1 0 (kernelRun0_A.sl.v417 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 1 0 _)).trans
    ((congrArg (tSt (k0_pay7 x0 x1 x2) x3 x4 x7 1 0) (st_1_0 c arg2 harg2 arg3 harg3 arg4 harg4 arg5 harg5 arg6 harg6 arg9 harg9 arg15 arg17 x0 x1 x2 x3 x4 x7)).trans (tState_succ (k0_pay7 x0 x1 x2) x3 x4 x7 (fun _ => 0) 1 0).symm)
theorem st_1_2 : (kernelRun0_A.sl.v593 (F := Ideal) c arg2 harg2 arg3 harg3 arg4 harg4 arg5 harg5 arg6 harg6 arg9 harg9 arg15 arg17 x0 x1 x2 x3 x4 x7) = tState (k0_pay7 x0 x1 x2) x3 x4 x7 (fun _ => 0) 1 2 :=
  ((head arg17.view _ 1 (rS c arg2 harg2 arg3 harg3 arg4 harg4 arg5 harg5 arg6 harg6 arg9 harg9 arg15 x0 x1 x2 x3 x4 x7 1 1 (kernelRun0_A.sl.v505 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 1 1 _)).trans
    ((congrArg (tSt (k0_pay7 x0 x1 x2) x3 x4 x7 1 1) (st_1_1 c arg2 harg2 arg3 harg3 arg4 harg4 arg5 harg5 arg6 harg6 arg9 harg9 arg15 arg17 x0 x1 x2 x3 x4 x7)).trans (tState_succ (k0_pay7 x0 x1 x2) x3 x4 x7 (fun _ => 0) 1 1).symm)
theorem st_1_3 : (kernelRun0_A.sl.v681 (F := Ideal) c arg2 harg2 arg3 harg3 arg4 harg4 arg5 harg5 arg6 harg6 arg9 harg9 arg15 arg17 x0 x1 x2 x3 x4 x7) = tState (k0_pay7 x0 x1 x2) x3 x4 x7 (fun _ => 0) 1 3 :=
  ((head arg17.view _ 1 (rS c arg2 harg2 arg3 harg3 arg4 harg4 arg5 harg5 arg6 harg6 arg9 harg9 arg15 x0 x1 x2 x3 x4 x7 1 2 (kernelRun0_A.sl.v593 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 1 2 _)).trans
    ((congrArg (tSt (k0_pay7 x0 x1 x2) x3 x4 x7 1 2) (st_1_2 c arg2 harg2 arg3 harg3 arg4 harg4 arg5 harg5 arg6 harg6 arg9 harg9 arg15 arg17 x0 x1 x2 x3 x4 x7)).trans (tState_succ (k0_pay7 x0 x1 x2) x3 x4 x7 (fun _ => 0) 1 2).symm)
theorem st_2_0 : (kernelRun0_A.sl.v769 (F := Ideal) c arg2 harg2 arg3 harg3 arg4 harg4 arg5 harg5 arg6 harg6 arg9 harg9 arg15 arg17 x0 x1 x2 x3 x4 x7) = tState (k0_pay7 x0 x1 x2) x3 x4 x7 (fun _ => 0) 2 0 :=
  ((skip arg17.view _ 2 1 (by decide) _ _).trans ((skip arg17.view _ 2 1 (by decide) _ _).trans ((skip arg17.view _ 2 1 (by decide) _ _).trans ((skip arg17.view _ 2 1 (by decide) _ _).trans ((skip arg17.view _ 2 0 (by decide) _ _).trans ((skip arg17.view _ 2 0 (by decide) _ _).trans ((skip arg17.view _ 2 0 (by decide) _ _).trans ((skip arg17.view _ 2 0 (by decide) _ _).trans (base arg17 2)))))))))
theorem st_2_1 : (kernelRun0_A.sl.v857 (F := Ideal) c arg2 harg2 arg3 harg3 arg4 harg4 arg5 harg5 arg6 harg6 arg9 harg9 arg15 arg17 x0 x1 x2 x3 x4 x7) = tState (k0_pay7 x0 x1 x2) x3 x4 x7 (fun _ => 0) 2 1 :=
  ((head arg17.view _ 2 (rS c arg2 harg2 arg3 harg3 arg4 harg4 arg5 harg5 arg6 harg6 arg9 harg9 arg15 x0 x1 x2 x3 x4 x7 2 0 (kernelRun0_A.sl.v769 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 2 0 _)).trans
    ((congrArg (tSt (k0_pay7 x0 x1 x2) x3 x4 x7 2 0) (st_2_0 c arg2 harg2 arg3 harg3 arg4 harg4 arg5 harg5 arg6 harg6 arg9 harg9 arg15 arg17 x0 x1 x2 x3 x4 x7)).trans (tState_succ (k0_pay7 x0 x1 x2) x3 x4 x7 (fun _ => 0) 2 0).symm)
theorem st_2_2 : (kernelRun0_A.sl.v945 (F := Ideal) c arg2 harg2 arg3 harg3 arg4 harg4 arg5 harg5 arg6 harg6 arg9 harg9 arg15 arg17 x0 x1 x2 x3 x4 x7) = tState (k0_pay7 x0 x1 x2) x3 x4 x7 (fun _ => 0) 2 2 :=
  ((head arg17.view _ 2 (rS c arg2 harg2 arg3 harg3 arg4 harg4 arg5 harg5 arg6 harg6 arg9 harg9 arg15 x0 x1 x2 x3 x4 x7 2 1 (kernelRun0_A.sl.v857 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 2 1 _)).trans
    ((congrArg (tSt (k0_pay7 x0 x1 x2) x3 x4 x7 2 1) (st_2_1 c arg2 harg2 arg3 harg3 arg4 harg4 arg5 harg5 arg6 harg6 arg9 harg9 arg15 arg17 x0 x1 x2 x3 x4 x7)).trans (tState_succ (k0_pay7 x0 x1 x2) x3 x4 x7 (fun _ => 0) 2 1).symm)
theorem st_2_3 : (kernelRun0_A.sl.v1033 (F := Ideal) c arg2 harg2 arg3 harg3 arg4 harg4 arg5 harg5 arg6 harg6 arg9 harg9 arg15 arg17 x0 x1 x2 x3 x4 x7) = tState (k0_pay7 x0 x1 x2) x3 x4 x7 (fun _ => 0) 2 3 :=
  ((head arg17.view _ 2 (rS c arg2 harg2 arg3 harg3 arg4 harg4 arg5 harg5 arg6 harg6 arg9 harg9 arg15 x0 x1 x2 x3 x4 x7 2 2 (kernelRun0_A.sl.v945 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 2 2 _)).trans
    ((congrArg (tSt (k0_pay7 x0 x1 x2) x3 x4 x7 2 2) (st_2_2 c arg2 harg2 arg3 harg3 arg4 harg4 arg5 harg5 arg6 harg6 arg9 harg9 arg15 arg17 x0 x1 x2 x3 x4 x7)).trans (tState_succ (k0_pay7 x0 x1 x2) x3 x4 x7 (fun _ => 0) 2 2).symm)
theorem st_3_0 : (kernelRun0_A.sl.v1121 (F := Ideal) c arg2 harg2 arg3 harg3 arg4 harg4 arg5 harg5 arg6 harg6 arg9 harg9 arg15 arg17 x0 x1 x2 x3 x4 x7) = tState (k0_pay7 x0 x1 x2) x3 x4 x7 (fun _ => 0) 3 0 :=
  ((skip arg17.view _ 3 2 (by decide) _ _).trans ((skip arg17.view _ 3 2 (by decide) _ _).trans ((skip arg17.view _ 3 2 (by decide) _ _).trans ((skip arg17.view _ 3 2 (by decide) _ _).trans ((skip arg17.view _ 3 1 (by decide) _ _).trans ((skip arg17.view _ 3 1 (by decide) _ _).trans ((skip arg17.view _ 3 1 (by decide) _ _).trans ((skip arg17.view _ 3 1 (by decide) _ _).trans ((skip arg17.view _ 3 0 (by decide) _ _).trans ((skip arg17.view _ 3 0 (by decide) _ _).trans ((skip arg17.view _ 3 0 (by decide) _ _).trans ((skip arg17.view _ 3 0 (by decide) _ _).trans (base arg17 3)))))))))))))
theorem st_3_1 : (kernelRun0_A.sl.v1209 (F := Ideal) c arg2 harg2 arg3 harg3 arg4 harg4 arg5 harg5 arg6 harg6 arg9 harg9 arg15 arg17 x0 x1 x2 x3 x4 x7) = tState (k0_pay7 x0 x1 x2) x3 x4 x7 (fun _ => 0) 3 1 :=
  ((head arg17.view _ 3 (rS c arg2 harg2 arg3 harg3 arg4 harg4 arg5 harg5 arg6 harg6 arg9 harg9 arg15 x0 x1 x2 x3 x4 x7 3 0 (kernelRun0_A.sl.v1121 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 3 0 _)).trans
    ((congrArg (tSt (k0_pay7 x0 x1 x2) x3 x4 x7 3 0) (st_3_0 c arg2 harg2 arg3 harg3 arg4 harg4 arg5 harg5 arg6 harg6 arg9 harg9 arg15 arg17 x0 x1 x2 x3 x4 x7)).trans (tState_succ (k0_pay7 x0 x1 x2) x3 x4 x7 (fun _ => 0) 3 0).symm)
theorem st_3_2 : (kernelRun0_A.sl.v1297 (F := Ideal) c arg2 harg2 arg3 harg3 arg4 harg4 arg5 harg5 arg6 harg6 arg9 harg9 arg15 arg17 x0 x1 x2 x3 x4 x7) = tState (k0_pay7 x0 x1 x2) x3 x4 x7 (fun _ => 0) 3 2 :=
  ((head arg17.view _ 3 (rS c arg2 harg2 arg3 harg3 arg4 harg4 arg5 harg5 arg6 harg6 arg9 harg9 arg15 x0 x1 x2 x3 x4 x7 3 1 (kernelRun0_A.sl.v1209 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 3 1 _)).trans
    ((congrArg (tSt (k0_pay7 x0 x1 x2) x3 x4 x7 3 1) (st_3_1 c arg2 harg2 arg3 harg3 arg4 harg4 arg5 harg5 arg6 harg6 arg9 harg9 arg15 arg17 x0 x1 x2 x3 x4 x7)).trans (tState_succ (k0_pay7 x0 x1 x2) x3 x4 x7 (fun _ => 0) 3 1).symm)
theorem st_3_3 : (kernelRun0_A.sl.v1385 (F := Ideal) c arg2 harg2 arg3 harg3 arg4 harg4 arg5 harg5 arg6 harg6 arg9 harg9 arg15 arg17 x0 x1 x2 x3 x4 x7) = tState (k0_pay7 x0 x1 x2) x3 x4 x7 (fun _ => 0) 3 3 :=
  ((head arg17.view _ 3 (rS c arg2 harg2 arg3 harg3 arg4 harg4 arg5 harg5 arg6 harg6 arg9 harg9 arg15 x0 x1 x2 x3 x4 x7 3 2 (kernelRun0_A.sl.v1297 (F := Ideal) c arg2 harg2 arg3 harg3 arg4 harg4 arg5 harg5 arg6 harg6 arg9 harg9 arg15 arg17 x0 x1 x2 x3 x4 x7)) _).trans (rS_eq c arg2 harg2 arg3 harg3 arg4 harg4 arg5 harg5 arg6 harg6 arg9 harg9 arg15 x0 x1 x2 x3 x4 x7 3 2 _)).trans
    ((congrArg (tSt (k0_pay7 x0 x1 x2) x3 x4 x7 3 2) (st_3_2 c arg2 harg2 arg3 harg3 arg4 harg4 arg5 harg5 arg6 harg6 arg9 harg9 arg15 arg17 x0 x1 x2 x3 x4 x7)).trans (tState_succ (k0_pay7 x0 x1 x2) x3 x4 x7 (fun _ => 0) 3 2).symm)
theorem pc_0_0 : (kernelRun0_A.sl.v113 (F := Ideal) c arg2 harg2 arg3 harg3 arg4 harg4 arg5 harg5 arg6 harg6 arg7 harg7 arg8 harg8 arg10 harg10 arg15 arg17 x0 x1 x2 x3 x4 x5 x6 x8) = tCat (k0_pay7 x0 x1 x2) x3 x4 x5 x6 x8 0 0 (tState (k0_pay7 x0 x1 x2) x3 x4 x7 (fun _ => 0) 0 0) :=
  ((rfl : _ = rC c arg2 harg2 arg3 harg3 arg4 harg4 arg5 harg5 arg6 harg6 arg7 harg7 arg8 harg8 arg10 harg10 arg15 x0 x1 x2 x3 x4 x5 x6 x8 0 0 (kernelRun0_A.sl.v65 (F := Ideal) c arg17)).trans (rC_eq c arg2 harg2 arg3 harg3 arg4 harg4 arg5 harg5 arg6 harg6 arg7 harg7 arg8 harg8 arg10 harg10 arg15 x0 x1 x2 x3 x4 x5 x6 x8 0 0 _)).trans
    (congrArg (tCat (k0_pay7 x0 x1 x2) x3 x4 x5 x6 x8 0 0) (st_0_0 c arg17 x0 x1 x2 x3 x4 x7))
theorem pc_0_1 : (kernelRun0_A.sl.v201 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 0 1 (tState (k0_pay7 x0 x1 x2) x3 x4 x7 (fun _ => 0) 0 1) :=
  ((rfl : _ = rC c arg2 harg2 arg3 harg3 arg4 harg4 arg5 harg5 arg6 harg6 arg7 harg7 arg8 harg8 arg10 harg10 arg15 x0 x1 x2 x3 x4 x5 x6 x8 0 1 (kernelRun0_A.sl.v153 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 0 1 _)).trans
    (congrArg (tCat (k0_pay7 x0 x1 x2) x3 x4 x5 x6 x8 0 1) (st_0_1 c arg2 harg2 arg3 harg3 arg4 harg4 arg5 harg5 arg6 harg6 arg9 harg9 arg15 arg17 x0 x1 x2 x3 x4 x7))
theorem pc_0_2 : (kernelRun0_A.sl.v289 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 0 2 (tState (k0_pay7 x0 x1 x2) x3 x4 x7 (fun _ => 0) 0 2) :=
  ((rfl : _ = rC c arg2 harg2 arg3 harg3 arg4 harg4 arg5 harg5 arg6 harg6 arg7 harg7 arg8 harg8 arg10 harg10 arg15 x0 x1 x2 x3 x4 x5 x6 x8 0 2 (kernelRun0_A.sl.v241 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 0 2 _)).trans
    (congrArg (tCat (k0_pay7 x0 x1 x2) x3 x4 x5 x6 x8 0 2) (st_0_2 c arg2 harg2 arg3 harg3 arg4 harg4 arg5 harg5 arg6 harg6 arg9 harg9 arg15 arg17 x0 x1 x2 x3 x4 x7))
theorem pc_0_3 : (kernelRun0_A.sl.v377 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 0 3 (tState (k0_pay7 x0 x1 x2) x3 x4 x7 (fun _ => 0) 0 3) :=
  ((rfl : _ = rC c arg2 harg2 arg3 harg3 arg4 harg4 arg5 harg5 arg6 harg6 arg7 harg7 arg8 harg8 arg10 harg10 arg15 x0 x1 x2 x3 x4 x5 x6 x8 0 3 (kernelRun0_A.sl.v329 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 0 3 _)).trans
    (congrArg (tCat (k0_pay7 x0 x1 x2) x3 x4 x5 x6 x8 0 3) (st_0_3 c arg2 harg2 arg3 harg3 arg4 harg4 arg5 harg5 arg6 harg6 arg9 harg9 arg15 arg17 x0 x1 x2 x3 x4 x7))
theorem pc_1_0 : (kernelRun0_A.sl.v465 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 1 0 (tState (k0_pay7 x0 x1 x2) x3 x4 x7 (fun _ => 0) 1 0) :=
  ((rfl : _ = rC c arg2 harg2 arg3 harg3 arg4 harg4 arg5 harg5 arg6 harg6 arg7 harg7 arg8 harg8 arg10 harg10 arg15 x0 x1 x2 x3 x4 x5 x6 x8 1 0 (kernelRun0_A.sl.v417 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 1 0 _)).trans
    (congrArg (tCat (k0_pay7 x0 x1 x2) x3 x4 x5 x6 x8 1 0) (st_1_0 c arg2 harg2 arg3 harg3 arg4 harg4 arg5 harg5 arg6 harg6 arg9 harg9 arg15 arg17 x0 x1 x2 x3 x4 x7))
theorem pc_1_1 : (kernelRun0_A.sl.v553 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 1 1 (tState (k0_pay7 x0 x1 x2) x3 x4 x7 (fun _ => 0) 1 1) :=
  ((rfl : _ = rC c arg2 harg2 arg3 harg3 arg4 harg4 arg5 harg5 arg6 harg6 arg7 harg7 arg8 harg8 arg10 harg10 arg15 x0 x1 x2 x3 x4 x5 x6 x8 1 1 (kernelRun0_A.sl.v505 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 1 1 _)).trans
    (congrArg (tCat (k0_pay7 x0 x1 x2) x3 x4 x5 x6 x8 1 1) (st_1_1 c arg2 harg2 arg3 harg3 arg4 harg4 arg5 harg5 arg6 harg6 arg9 harg9 arg15 arg17 x0 x1 x2 x3 x4 x7))
theorem pc_1_2 : (kernelRun0_A.sl.v641 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 1 2 (tState (k0_pay7 x0 x1 x2) x3 x4 x7 (fun _ => 0) 1 2) :=
  ((rfl : _ = rC c arg2 harg2 arg3 harg3 arg4 harg4 arg5 harg5 arg6 harg6 arg7 harg7 arg8 harg8 arg10 harg10 arg15 x0 x1 x2 x3 x4 x5 x6 x8 1 2 (kernelRun0_A.sl.v593 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 1 2 _)).trans
    (congrArg (tCat (k0_pay7 x0 x1 x2) x3 x4 x5 x6 x8 1 2) (st_1_2 c arg2 harg2 arg3 harg3 arg4 harg4 arg5 harg5 arg6 harg6 arg9 harg9 arg15 arg17 x0 x1 x2 x3 x4 x7))
theorem pc_1_3 : (kernelRun0_A.sl.v729 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 1 3 (tState (k0_pay7 x0 x1 x2) x3 x4 x7 (fun _ => 0) 1 3) :=
  ((rfl : _ = rC c arg2 harg2 arg3 harg3 arg4 harg4 arg5 harg5 arg6 harg6 arg7 harg7 arg8 harg8 arg10 harg10 arg15 x0 x1 x2 x3 x4 x5 x6 x8 1 3 (kernelRun0_A.sl.v681 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 1 3 _)).trans
    (congrArg (tCat (k0_pay7 x0 x1 x2) x3 x4 x5 x6 x8 1 3) (st_1_3 c arg2 harg2 arg3 harg3 arg4 harg4 arg5 harg5 arg6 harg6 arg9 harg9 arg15 arg17 x0 x1 x2 x3 x4 x7))
theorem pc_2_0 : (kernelRun0_A.sl.v817 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 2 0 (tState (k0_pay7 x0 x1 x2) x3 x4 x7 (fun _ => 0) 2 0) :=
  ((rfl : _ = rC c arg2 harg2 arg3 harg3 arg4 harg4 arg5 harg5 arg6 harg6 arg7 harg7 arg8 harg8 arg10 harg10 arg15 x0 x1 x2 x3 x4 x5 x6 x8 2 0 (kernelRun0_A.sl.v769 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 2 0 _)).trans
    (congrArg (tCat (k0_pay7 x0 x1 x2) x3 x4 x5 x6 x8 2 0) (st_2_0 c arg2 harg2 arg3 harg3 arg4 harg4 arg5 harg5 arg6 harg6 arg9 harg9 arg15 arg17 x0 x1 x2 x3 x4 x7))
theorem pc_2_1 : (kernelRun0_A.sl.v905 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 2 1 (tState (k0_pay7 x0 x1 x2) x3 x4 x7 (fun _ => 0) 2 1) :=
  ((rfl : _ = rC c arg2 harg2 arg3 harg3 arg4 harg4 arg5 harg5 arg6 harg6 arg7 harg7 arg8 harg8 arg10 harg10 arg15 x0 x1 x2 x3 x4 x5 x6 x8 2 1 (kernelRun0_A.sl.v857 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 2 1 _)).trans
    (congrArg (tCat (k0_pay7 x0 x1 x2) x3 x4 x5 x6 x8 2 1) (st_2_1 c arg2 harg2 arg3 harg3 arg4 harg4 arg5 harg5 arg6 harg6 arg9 harg9 arg15 arg17 x0 x1 x2 x3 x4 x7))
theorem pc_2_2 : (kernelRun0_A.sl.v993 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 2 2 (tState (k0_pay7 x0 x1 x2) x3 x4 x7 (fun _ => 0) 2 2) :=
  ((rfl : _ = rC c arg2 harg2 arg3 harg3 arg4 harg4 arg5 harg5 arg6 harg6 arg7 harg7 arg8 harg8 arg10 harg10 arg15 x0 x1 x2 x3 x4 x5 x6 x8 2 2 (kernelRun0_A.sl.v945 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 2 2 _)).trans
    (congrArg (tCat (k0_pay7 x0 x1 x2) x3 x4 x5 x6 x8 2 2) (st_2_2 c arg2 harg2 arg3 harg3 arg4 harg4 arg5 harg5 arg6 harg6 arg9 harg9 arg15 arg17 x0 x1 x2 x3 x4 x7))
theorem pc_2_3 : (kernelRun0_A.sl.v1081 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 2 3 (tState (k0_pay7 x0 x1 x2) x3 x4 x7 (fun _ => 0) 2 3) :=
  ((rfl : _ = rC c arg2 harg2 arg3 harg3 arg4 harg4 arg5 harg5 arg6 harg6 arg7 harg7 arg8 harg8 arg10 harg10 arg15 x0 x1 x2 x3 x4 x5 x6 x8 2 3 (kernelRun0_A.sl.v1033 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 2 3 _)).trans
    (congrArg (tCat (k0_pay7 x0 x1 x2) x3 x4 x5 x6 x8 2 3) (st_2_3 c arg2 harg2 arg3 harg3 arg4 harg4 arg5 harg5 arg6 harg6 arg9 harg9 arg15 arg17 x0 x1 x2 x3 x4 x7))
theorem pc_3_0 : (kernelRun0_A.sl.v1169 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 3 0 (tState (k0_pay7 x0 x1 x2) x3 x4 x7 (fun _ => 0) 3 0) :=
  ((rfl : _ = rC c arg2 harg2 arg3 harg3 arg4 harg4 arg5 harg5 arg6 harg6 arg7 harg7 arg8 harg8 arg10 harg10 arg15 x0 x1 x2 x3 x4 x5 x6 x8 3 0 (kernelRun0_A.sl.v1121 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 3 0 _)).trans
    (congrArg (tCat (k0_pay7 x0 x1 x2) x3 x4 x5 x6 x8 3 0) (st_3_0 c arg2 harg2 arg3 harg3 arg4 harg4 arg5 harg5 arg6 harg6 arg9 harg9 arg15 arg17 x0 x1 x2 x3 x4 x7))
theorem pc_3_1 : (kernelRun0_A.sl.v1257 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 3 1 (tState (k0_pay7 x0 x1 x2) x3 x4 x7 (fun _ => 0) 3 1) :=
  ((rfl : _ = rC c arg2 harg2 arg3 harg3 arg4 harg4 arg5 harg5 arg6 harg6 arg7 harg7 arg8 harg8 arg10 harg10 arg15 x0 x1 x2 x3 x4 x5 x6 x8 3 1 (kernelRun0_A.sl.v1209 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 3 1 _)).trans
    (congrArg (tCat (k0_pay7 x0 x1 x2) x3 x4 x5 x6 x8 3 1) (st_3_1 c arg2 harg2 arg3 harg3 arg4 harg4 arg5 harg5 arg6 harg6 arg9 harg9 arg15 arg17 x0 x1 x2 x3 x4 x7))
theorem pc_3_2 : (kernelRun0_A.sl.v1345 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 3 2 (tState (k0_pay7 x0 x1 x2) x3 x4 x7 (fun _ => 0) 3 2) :=
  ((rfl : _ = rC c arg2 harg2 arg3 harg3 arg4 harg4 arg5 harg5 arg6 harg6 arg7 harg7 arg8 harg8 arg10 harg10 arg15 x0 x1 x2 x3 x4 x5 x6 x8 3 2 (kernelRun0_A.sl.v1297 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 3 2 _)).trans
    (congrArg (tCat (k0_pay7 x0 x1 x2) x3 x4 x5 x6 x8 3 2) (st_3_2 c arg2 harg2 arg3 harg3 arg4 harg4 arg5 harg5 arg6 harg6 arg9 harg9 arg15 arg17 x0 x1 x2 x3 x4 x7))
theorem pc_3_3 : (kernelRun0_A.sl.v1433 (F := Ideal) c arg2 harg2 arg3 harg3 arg4 harg4 arg5 harg5 arg6 harg6 arg7 harg7 arg8 harg8 arg9 harg9 arg10 harg10 arg15 arg17 x0 x1 x2 x3 x4 x5 x6 x7 x8) = tCat (k0_pay7 x0 x1 x2) x3 x4 x5 x6 x8 3 3 (tState (k0_pay7 x0 x1 x2) x3 x4 x7 (fun _ => 0) 3 3) :=
  ((rfl : _ = rC c arg2 harg2 arg3 harg3 arg4 harg4 arg5 harg5 arg6 harg6 arg7 harg7 arg8 harg8 arg10 harg10 arg15 x0 x1 x2 x3 x4 x5 x6 x8 3 3 (kernelRun0_A.sl.v1385 (F := Ideal) c arg2 harg2 arg3 harg3 arg4 harg4 arg5 harg5 arg6 harg6 arg9 harg9 arg15 arg17 x0 x1 x2 x3 x4 x7)).trans (rC_eq c arg2 harg2 arg3 harg3 arg4 harg4 arg5 harg5 arg6 harg6 arg7 harg7 arg8 harg8 arg10 harg10 arg15 x0 x1 x2 x3 x4 x5 x6 x8 3 3 _)).trans
    (congrArg (tCat (k0_pay7 x0 x1 x2) x3 x4 x5 x6 x8 3 3) (st_3_3 c arg2 harg2 arg3 harg3 arg4 harg4 arg5 harg5 arg6 harg6 arg9 harg9 arg15 arg17 x0 x1 x2 x3 x4 x7))

end Cert.Proof.MixPiecesA

end
-- ==== Proof.MixEndA.lean ====
/- What the mixer's body leaves at a grid point of the first tile of a batch. -/
module

public import proofs.«01_k».proof.Proof.Gen.MixerIdeal.Frame.RunA
public import proofs.«01_k».proof.Proof.Gen.MixerIdeal.Frame
public import proofs.«01_k».proof.Proof.MixPiecesA

@[expose] public section

set_option maxRecDepth 16384

noncomputable section

namespace Cert.Proof.MixPiecesA

open Idealize.ShloMosaic Idealize.ShloMosaic.TcCoe Idealize.SL.Sem Cert.MixerIdeal Cert.MixerIdeal.Gen Cert.Proof.MixTile

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x256x256 .f32) (harg7 : arg7.IsWhole) (arg8 : Memref sig .tc .vmem S4x256x128 .f32) (harg8 : arg8.IsWhole) (arg9 : Memref sig .tc .vmem S4x256x128 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x2560 .f32) (harg15 : arg15.IsWhole) (arg16 : Memref sig .tc .vmem S1024x1024 .bf16) (harg16 : arg16.IsWhole) (arg17 : Memref sig .tc .vmem S4x128x128 .f32) (harg17 : arg17.IsWhole) (arg18 : Memref sig .tc .vmem S1040x512 .f32) (harg18 : arg18.IsWhole)  (x0 : Vec Ideal S1x1024x1024 .f32) (x1 : Vec Ideal S1x1024 .f32) (x2 : Vec Ideal S1024x2560 .bf16) (x3 : Vec Ideal S1024x128 .f32) (x4 : Vec Ideal S1024x128 .f32) (x5 : Vec Ideal S4x256x256 .f32) (x6 : Vec Ideal S4x256x128 .f32) (x7 : Vec Ideal S4x256x128 .f32) (x8 : Vec Ideal S1x512 .f32) (x9 : Vec Ideal S4x128x128 .bf16) (x10 : Vec Ideal S1x512 .f32) (x11 : Vec Ideal S1024x1024 .bf16)

/-- The tile's pooling lanes as stored below the kept rows. -/
theorem pval (n : Fin 1024) (j : Fin 512) : (kernelRun0_A.sl.v1437 (F := Ideal) c arg2 harg2 arg3 harg3 arg4 harg4 arg15 x0 x1 x2) (ix2 n j) = (k0_pay7 x0 x1 x2) (ix2 n ⟨2048 + j.val, by omega⟩) := by
  have e : (kernelRun0_A.sl.v1437 (F := Ideal) c arg2 harg2 arg3 harg3 arg4 harg4 arg15 x0 x1 x2) = k0_pay178 (arg15.view.readCov (kernelRun0_A.sl.HS0_1 (F := Ideal) c arg2 harg2 arg3 harg3 arg4 harg4 x0 x1 x2) (Rect.unit (s := S1024x2560) ![0, 2048] S1024x512.size inb_p).toLoadRect) := rfl
  rw [e, zlist, z_pool]

theorem low (r : Fin 1040) (j : Fin 512) (h : r.val < 16) : arg18.view.read (Elt Ideal) (arg18.view.writes (Elt Ideal) arg18.view.junk [⟨Rect.unit (s := S1040x512) ![0, 0] S16x512.size inb_keep, k0_pay5 (F := Ideal)⟩]) (ix2 r j) = (fun _ => 0) (ix2 r j) := by
  rw [keep_low arg18.view _ _ _ r j ⟨r.val, h⟩ rfl]
  pointwise [k0_pay5]

/-- A window's lanes, loaded. -/
def lE (g : Fin 4) := arg18.view.readAt (Elt Ideal) (Rect.unit (s := S1040x512) ![0, 128 * g.val] S1040x128.size (inb_runE g)).toLoadRect
  (arg18.view.writes (Elt Ideal) arg18.view.junk (⟨Rect.unit (s := S1040x512) ![16, 0] S1024x512.size inb_ext, (kernelRun0_A.sl.v1437 (F := Ideal) c arg2 harg2 arg3 harg3 arg4 harg4 arg15 x0 x1 x2)⟩ :: [⟨Rect.unit (s := S1040x512) ![0, 0] S16x512.size inb_keep, k0_pay5 (F := Ideal)⟩]))

theorem lE_eq (g : Fin 4) : lE c arg2 harg2 arg3 harg3 arg4 harg4 arg15 arg18 x0 x1 x2 g = runE (extOf (fun _ => 0) (k0_pay7 x0 x1 x2)) g :=
  ext_load arg18.view _ _ _ _ _ (low arg18) (pval c arg2 harg2 arg3 harg3 arg4 harg4 arg15 x0 x1 x2) g

theorem pl_0 (r : Fin 1024) (e : Fin 128) : (kernelRun0_A.sl.v1469 (F := Ideal) c i arg2 harg2 arg3 harg3 arg4 harg4 arg11 harg11 arg12 harg12 arg15 arg18 x0 x1 x2 x9 x10) (ix2 r e) = tPool x9 x10 (i 1) (extOf (fun _ => 0) (k0_pay7 x0 x1 x2)) 0 r e := by
  have h : (kernelRun0_A.sl.v1469 (F := Ideal) c i arg2 harg2 arg3 harg3 arg4 harg4 arg11 harg11 arg12 harg12 arg15 arg18 x0 x1 x2 x9 x10) = k0_pay181 (k0_pay180 (BitVec.ofNat 32 (i 1).val) (lE c arg2 harg2 arg3 harg3 arg4 harg4 arg15 arg18 x0 x1 x2 0) (lP arg11 harg11 x9 0) (lW arg12 harg12 x10 0)) := rfl
  rw [h, lE_eq, lP_eq, lW_eq]
  exact MixPool.pool2_apply (runE (extOf (fun _ => 0) (k0_pay7 x0 x1 x2)) 0) (headP x9 0) (run x10 0) (i 1) r e

theorem pl_1 (r : Fin 1024) (e : Fin 128) : (kernelRun0_A.sl.v1499 (F := Ideal) c i arg2 harg2 arg3 harg3 arg4 harg4 arg11 harg11 arg12 harg12 arg15 arg18 x0 x1 x2 x9 x10) (ix2 r e) = tPool x9 x10 (i 1) (extOf (fun _ => 0) (k0_pay7 x0 x1 x2)) 1 r e := by
  have h : (kernelRun0_A.sl.v1499 (F := Ideal) c i arg2 harg2 arg3 harg3 arg4 harg4 arg11 harg11 arg12 harg12 arg15 arg18 x0 x1 x2 x9 x10) = k0_pay182 (k0_pay179 (BitVec.ofNat 32 (i 1).val)) (lE c arg2 harg2 arg3 harg3 arg4 harg4 arg15 arg18 x0 x1 x2 1) (lP arg11 harg11 x9 1) (lW arg12 harg12 x10 1) := rfl
  rw [h, lE_eq, lP_eq, lW_eq]
  exact MixPool.pool4_apply (runE (extOf (fun _ => 0) (k0_pay7 x0 x1 x2)) 1) (headP x9 1) (run x10 1) (i 1) r e

theorem pl_2 (r : Fin 1024) (e : Fin 128) : (kernelRun0_A.sl.v1531 (F := Ideal) c i arg2 harg2 arg3 harg3 arg4 harg4 arg11 harg11 arg12 harg12 arg15 arg18 x0 x1 x2 x9 x10) (ix2 r e) = tPool x9 x10 (i 1) (extOf (fun _ => 0) (k0_pay7 x0 x1 x2)) 2 r e := by
  have h : (kernelRun0_A.sl.v1531 (F := Ideal) c i arg2 harg2 arg3 harg3 arg4 harg4 arg11 harg11 arg12 harg12 arg15 arg18 x0 x1 x2 x9 x10) = k0_pay184 (k0_pay179 (BitVec.ofNat 32 (i 1).val)) (lE c arg2 harg2 arg3 harg3 arg4 harg4 arg15 arg18 x0 x1 x2 2) (k0_pay183 (lE c arg2 harg2 arg3 harg3 arg4 harg4 arg15 arg18 x0 x1 x2 2)) 4#32 (lP arg11 harg11 x9 2) (lW arg12 harg12 x10 2) := rfl
  rw [h, lE_eq, lP_eq, lW_eq]
  exact MixPool.pool8_apply (runE (extOf (fun _ => 0) (k0_pay7 x0 x1 x2)) 2) (headP x9 2) (run x10 2) (i 1) r e

theorem pl_3 (r : Fin 1024) (e : Fin 128) : (k0_pay1 (kernelRun0_A.sl.r_31 (F := Ideal) c i arg2 harg2 arg3 harg3 arg4 harg4 arg15 arg18 x0 x1 x2) (kernelRun0_A.sl.r_32 (F := Ideal) c arg11 harg11 x9) kernelRun0_A.sl.cst_803 (F := Ideal) (View.readAt (Elt Ideal) arg12.view (Rect.unit (s := S1x512) ![0, 384] ![1, 128] inb_S1x512_S1x128_0_384).toLoadRect (harg12.unread x10))) (ix2 r e) = tPool x9 x10 (i 1) (extOf (fun _ => 0) (k0_pay7 x0 x1 x2)) 3 r e := by
  have h : (k0_pay1 (kernelRun0_A.sl.r_31 (F := Ideal) c i arg2 harg2 arg3 harg3 arg4 harg4 arg15 arg18 x0 x1 x2) (kernelRun0_A.sl.r_32 (F := Ideal) c arg11 harg11 x9) kernelRun0_A.sl.cst_803 (F := Ideal) (View.readAt (Elt Ideal) arg12.view (Rect.unit (s := S1x512) ![0, 384] ![1, 128] inb_S1x512_S1x128_0_384).toLoadRect (harg12.unread x10))) = k0_pay1 (k0_pay188 (k0_pay185 (lE c arg2 harg2 arg3 harg3 arg4 harg4 arg15 arg18 x0 x1 x2 3)) (k0_pay186 (lE c arg2 harg2 arg3 harg3 arg4 harg4 arg15 arg18 x0 x1 x2 3)) (k0_pay187 (k0_pay179 (BitVec.ofNat 32 (i 1).val)))) (k0_pay189 (lP arg11 harg11 x9 3)) (constant S1024x128 .f32 0x00000000#32) (lW arg12 harg12 x10 3) := rfl
  rw [h, lE_eq, lP_eq, lW_eq]
  exact MixPool.pool16_apply (runE (extOf (fun _ => 0) (k0_pay7 x0 x1 x2)) 3) (headP x9 3) (run x10 3) (i 1) r e

/-- The 1024 lanes as stored. -/
theorem catval : kernelRun0_A.sl.v1570 (F := Ideal) c i arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10 = catG (k0_pay7 x0 x1 x2) x3 x4 x5 x6 x7 x8 x9 x10 (i 1) (fun _ => 0) (extOf (fun _ => 0) (k0_pay7 x0 x1 x2)) := by
  have e : kernelRun0_A.sl.v1570 (F := Ideal) c i arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10
      = arg16.view.readCov (kernelRun0_A.sl.HS1_20 (F := Ideal) c i arg2 harg2 arg3 harg3 arg4 harg4 arg5 harg5 arg6 harg6 arg7 harg7 arg8 harg8 arg9 harg9 arg10 harg10 arg11 harg11 arg12 harg12 arg15 arg17 arg18 x0 x1 x2 x3 x4 x5 x6 x7 x8 x9 x10) (Rect.unit (s := S1024x1024) ![0, 0] S1024x1024.size (by decide)).toLoadRect := rfl
  rw [e, View.readCov_eq_canon_ld _ _ _ (View.cover_of_tiledBy _ ![256, 128] (by sl_kernel_rfl)), View.ld_unit_zero (by funext a; fin_cases a <;> rfl)]
  funext y
  exact View.canon_eq_of_allAt _ y _ (View.cover_of_tiledBy _ ![256, 128] (by sl_kernel_rfl) y) (View.allAt_cons_unit _ _ _ _ _ (fun x hx => catG_pool (k0_pay7 x0 x1 x2) x3 x4 x5 x6 x7 x8 x9 x10 (i 1) (fun _ => 0) (extOf (fun _ => 0) (k0_pay7 x0 x1 x2)) 3 _ (pl_3 c i arg2 harg2 arg3 harg3 arg4 harg4 arg11 harg11 arg12 harg12 arg15 arg18 x0 x1 x2 x9 x10) y x hx)
    (View.allAt_cons_unit _ _ _ _ _ (fun x hx => catG_pool (k0_pay7 x0 x1 x2) x3 x4 x5 x6 x7 x8 x9 x10 (i 1) (fun _ => 0) (extOf (fun _ => 0) (k0_pay7 x0 x1 x2)) 2 _ (pl_2 c i arg2 harg2 arg3 harg3 arg4 harg4 arg11 harg11 arg12 harg12 arg15 arg18 x0 x1 x2 x9 x10) y x hx)
    (View.allAt_cons_unit _ _ _ _ _ (fun x hx => catG_pool (k0_pay7 x0 x1 x2) x3 x4 x5 x6 x7 x8 x9 x10 (i 1) (fun _ => 0) (extOf (fun _ => 0) (k0_pay7 x0 x1 x2)) 1 _ (pl_1 c i arg2 harg2 arg3 harg3 arg4 harg4 arg11 harg11 arg12 harg12 arg15 arg18 x0 x1 x2 x9 x10) y x hx)
    (View.allAt_cons_unit _ _ _ _ _ (fun x hx => catG_pool (k0_pay7 x0 x1 x2) x3 x4 x5 x6 x7 x8 x9 x10 (i 1) (fun _ => 0) (extOf (fun _ => 0) (k0_pay7 x0 x1 x2)) 0 _ (pl_0 c i arg2 harg2 arg3 harg3 arg4 harg4 arg11 harg11 arg12 harg12 arg15 arg18 x0 x1 x2 x9 x10) y x hx)
    (View.allAt_cons_unit _ _ _ _ _ (fun x hx => (congrFun (pc_3_3 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 3 3 y x hx))
    (View.allAt_cons_unit _ _ _ _ _ (fun x hx => (congrFun (pc_3_2 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 3 2 y x hx))
    (View.allAt_cons_unit _ _ _ _ _ (fun x hx => (congrFun (pc_3_1 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 3 1 y x hx))
    (View.allAt_cons_unit _ _ _ _ _ (fun x hx => (congrFun (pc_3_0 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 3 0 y x hx))
    (View.allAt_cons_unit _ _ _ _ _ (fun x hx => (congrFun (pc_2_3 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 2 3 y x hx))
    (View.allAt_cons_unit _ _ _ _ _ (fun x hx => (congrFun (pc_2_2 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 2 2 y x hx))
    (View.allAt_cons_unit _ _ _ _ _ (fun x hx => (congrFun (pc_2_1 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 2 1 y x hx))
    (View.allAt_cons_unit _ _ _ _ _ (fun x hx => (congrFun (pc_2_0 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 2 0 y x hx))
    (View.allAt_cons_unit _ _ _ _ _ (fun x hx => (congrFun (pc_1_3 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 1 3 y x hx))
    (View.allAt_cons_unit _ _ _ _ _ (fun x hx => (congrFun (pc_1_2 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 1 2 y x hx))
    (View.allAt_cons_unit _ _ _ _ _ (fun x hx => (congrFun (pc_1_1 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 1 1 y x hx))
    (View.allAt_cons_unit _ _ _ _ _ (fun x hx => (congrFun (pc_1_0 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 1 0 y x hx))
    (View.allAt_cons_unit _ _ _ _ _ (fun x hx => (congrFun (pc_0_3 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 0 3 y x hx))
    (View.allAt_cons_unit _ _ _ _ _ (fun x hx => (congrFun (pc_0_2 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 0 2 y x hx))
    (View.allAt_cons_unit _ _ _ _ _ (fun x hx => (congrFun (pc_0_1 c arg2 harg2 arg3 harg3 arg4 harg4 arg5 harg5 arg6 harg6 arg7 harg7 arg8 harg8 arg9 harg9 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 0 1 y x hx))
    (View.allAt_cons_unit _ _ _ _ _ (fun x hx => (congrFun (pc_0_0 c arg2 harg2 arg3 harg3 arg4 harg4 arg5 harg5 arg6 harg6 arg7 harg7 arg8 harg8 arg10 harg10 arg15 arg17 x0 x1 x2 x3 x4 x5 x6 x7 x8) x).trans (catG_block (k0_pay7 x0 x1 x2) x3 x4 x5 x6 x7 x8 x9 x10 (i 1) (fun _ => 0) (extOf (fun _ => 0) (k0_pay7 x0 x1 x2)) 0 0 y x hx))
    (View.allAt_nil _ _)))))))))))))))))))))

variable (hc0 : cond0_0 i)

/-- The tile stored at this point. -/
theorem out_eq : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = outT x0 (catG (k0_pay7 x0 x1 x2) x3 x4 x5 x6 x7 x8 x9 x10 (i 1) (fun _ => 0) (extOf (fun _ => 0) (k0_pay7 x0 x1 x2))) x11 := by
  have e : out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = VO0_12.read (Elt Ideal) (VO0_12.writes (Elt Ideal) VO0_12.junk
      [⟨Rect.unit (s := S1x1024x1024) ![0, 0, 0] S1x1024x1024.size (by decide),
        k0_pay3 (k0_pay6 (View.readAt (Elt Ideal) arg2.view (Rect.unit (s := S1x1024x1024) ![0, 0, 0] S1x1024x1024.size (by decide)).toLoadRect (harg2.unread x0)))
          (kernelRun0_A.sl.v1570 (F := Ideal) c i arg2 harg2 arg3 harg3 arg4 harg4 arg5 harg5 arg6 harg6 arg7 harg7 arg8 harg8 arg9 harg9 arg10 harg10 arg11 harg11 arg12 harg12 arg15 arg16 arg17 arg18 x0 x1 x2 x3 x4 x5 x6 x7 x8 x9 x10)
          (View.readAt (Elt Ideal) arg13.view (Rect.unit (s := S1024x1024) ![0, 0] S1024x1024.size (by decide)).toLoadRect (harg13.unread x11))⟩]) := rfl
  rw [e, View.read_writes_junk_eq_canon, View.canon_cons_unit_zero (by funext a; fin_cases a <;> rfl), View.readAt_eq_ld, View.readAt_eq_ld, harg2.read_unread, harg13.read_unread,
    View.ld_unit_zero (by funext a; fin_cases a <;> rfl), View.ld_unit_zero (by funext a; fin_cases a <;> rfl), catval]
  rfl

theorem state_0 (d e : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 0 d e) = tState (k0_pay7 x0 x1 x2) x3 x4 x7 (fun _ => 0) 0 4 (ix3 0 d e) :=
  ((readS_other _ _ 0 3 (by decide) d e _ _).trans ((readS_other _ _ 0 3 (by decide) d e _ _).trans ((readS_other _ _ 0 3 (by decide) d e _ _).trans ((readS_other _ _ 0 3 (by decide) d e _ _).trans ((readS_other _ _ 0 2 (by decide) d e _ _).trans ((readS_other _ _ 0 2 (by decide) d e _ _).trans ((readS_other _ _ 0 2 (by decide) d e _ _).trans ((readS_other _ _ 0 2 (by decide) d e _ _).trans ((readS_other _ _ 0 1 (by decide) d e _ _).trans ((readS_other _ _ 0 1 (by decide) d e _ _).trans ((readS_other _ _ 0 1 (by decide) d e _ _).trans ((readS_other _ _ 0 1 (by decide) d e _ _).trans ((readS_same _ _ 0 d e (rS c arg2 harg2 arg3 harg3 arg4 harg4 arg5 harg5 arg6 harg6 arg9 harg9 arg15 x0 x1 x2 x3 x4 x7 0 3 (kernelRun0_A.sl.v329 (F := Ideal) c arg2 harg2 arg3 harg3 arg4 harg4 arg5 harg5 arg6 harg6 arg9 harg9 arg15 arg17 x0 x1 x2 x3 x4 x7)) _).trans (congrFun (((rS_eq c arg2 harg2 arg3 harg3 arg4 harg4 arg5 harg5 arg6 harg6 arg9 harg9 arg15 x0 x1 x2 x3 x4 x7 0 3 _).trans (congrArg (tSt (k0_pay7 x0 x1 x2) x3 x4 x7 0 3) (st_0_3 c arg2 harg2 arg3 harg3 arg4 harg4 arg5 harg5 arg6 harg6 arg9 harg9 arg15 arg17 x0 x1 x2 x3 x4 x7))).trans (tState_succ (k0_pay7 x0 x1 x2) x3 x4 x7 (fun _ => 0) 0 3).symm) (ix3 0 d e)))))))))))))))

theorem state_1 (d e : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 1 d e) = tState (k0_pay7 x0 x1 x2) x3 x4 x7 (fun _ => 0) 1 4 (ix3 0 d e) :=
  ((readS_other _ _ 1 3 (by decide) d e _ _).trans ((readS_other _ _ 1 3 (by decide) d e _ _).trans ((readS_other _ _ 1 3 (by decide) d e _ _).trans ((readS_other _ _ 1 3 (by decide) d e _ _).trans ((readS_other _ _ 1 2 (by decide) d e _ _).trans ((readS_other _ _ 1 2 (by decide) d e _ _).trans ((readS_other _ _ 1 2 (by decide) d e _ _).trans ((readS_other _ _ 1 2 (by decide) d e _ _).trans ((readS_same _ _ 1 d e (rS c arg2 harg2 arg3 harg3 arg4 harg4 arg5 harg5 arg6 harg6 arg9 harg9 arg15 x0 x1 x2 x3 x4 x7 1 3 (kernelRun0_A.sl.v681 (F := Ideal) c arg2 harg2 arg3 harg3 arg4 harg4 arg5 harg5 arg6 harg6 arg9 harg9 arg15 arg17 x0 x1 x2 x3 x4 x7)) _).trans (congrFun (((rS_eq c arg2 harg2 arg3 harg3 arg4 harg4 arg5 harg5 arg6 harg6 arg9 harg9 arg15 x0 x1 x2 x3 x4 x7 1 3 _).trans (congrArg (tSt (k0_pay7 x0 x1 x2) x3 x4 x7 1 3) (st_1_3 c arg2 harg2 arg3 harg3 arg4 harg4 arg5 harg5 arg6 harg6 arg9 harg9 arg15 arg17 x0 x1 x2 x3 x4 x7))).trans (tState_succ (k0_pay7 x0 x1 x2) x3 x4 x7 (fun _ => 0) 1 3).symm) (ix3 0 d e)))))))))))

theorem state_2 (d e : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 2 d e) = tState (k0_pay7 x0 x1 x2) x3 x4 x7 (fun _ => 0) 2 4 (ix3 0 d e) :=
  ((readS_other _ _ 2 3 (by decide) d e _ _).trans ((readS_other _ _ 2 3 (by decide) d e _ _).trans ((readS_other _ _ 2 3 (by decide) d e _ _).trans ((readS_other _ _ 2 3 (by decide) d e _ _).trans ((readS_same _ _ 2 d e (rS c arg2 harg2 arg3 harg3 arg4 harg4 arg5 harg5 arg6 harg6 arg9 harg9 arg15 x0 x1 x2 x3 x4 x7 2 3 (kernelRun0_A.sl.v1033 (F := Ideal) c arg2 harg2 arg3 harg3 arg4 harg4 arg5 harg5 arg6 harg6 arg9 harg9 arg15 arg17 x0 x1 x2 x3 x4 x7)) _).trans (congrFun (((rS_eq c arg2 harg2 arg3 harg3 arg4 harg4 arg5 harg5 arg6 harg6 arg9 harg9 arg15 x0 x1 x2 x3 x4 x7 2 3 _).trans (congrArg (tSt (k0_pay7 x0 x1 x2) x3 x4 x7 2 3) (st_2_3 c arg2 harg2 arg3 harg3 arg4 harg4 arg5 harg5 arg6 harg6 arg9 harg9 arg15 arg17 x0 x1 x2 x3 x4 x7))).trans (tState_succ (k0_pay7 x0 x1 x2) x3 x4 x7 (fun _ => 0) 2 3).symm) (ix3 0 d e)))))))

theorem state_3 (d e : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 3 d e) = tState (k0_pay7 x0 x1 x2) x3 x4 x7 (fun _ => 0) 3 4 (ix3 0 d e) :=
  ((readS_same _ _ 3 d e (rS c arg2 harg2 arg3 harg3 arg4 harg4 arg5 harg5 arg6 harg6 arg9 harg9 arg15 x0 x1 x2 x3 x4 x7 3 3 (kernelRun0_A.sl.v1385 (F := Ideal) c arg2 harg2 arg3 harg3 arg4 harg4 arg5 harg5 arg6 harg6 arg9 harg9 arg15 arg17 x0 x1 x2 x3 x4 x7)) _).trans (congrFun (((rS_eq c arg2 harg2 arg3 harg3 arg4 harg4 arg5 harg5 arg6 harg6 arg9 harg9 arg15 x0 x1 x2 x3 x4 x7 3 3 _).trans (congrArg (tSt (k0_pay7 x0 x1 x2) x3 x4 x7 3 3) (st_3_3 c arg2 harg2 arg3 harg3 arg4 harg4 arg5 harg5 arg6 harg6 arg9 harg9 arg15 arg17 x0 x1 x2 x3 x4 x7))).trans (tState_succ (k0_pay7 x0 x1 x2) x3 x4 x7 (fun _ => 0) 3 3).symm) (ix3 0 d e)))

/-- The states left at this point. -/
theorem state_eq (h : Fin 4) (d e : Fin 128) : sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix3 h d e) = tState (k0_pay7 x0 x1 x2) x3 x4 x7 (fun _ => 0) h 4 (ix3 0 d e) := by
  fin_cases h
  · exact state_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 hc0 d e
  · exact state_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 hc0 d e
  · exact state_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 hc0 d e
  · exact state_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 hc0 d e

/-- The 16 rows kept at this point. -/
theorem keep_eq (r : Fin 1040) (j : Fin 512) (h : r.val < 16) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 (ix2 r j) = (k0_pay7 x0 x1 x2) (ix2 ⟨1008 + r.val, by omega⟩ ⟨2048 + j.val, by omega⟩) := by
  have e : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = VS0_3.read (Elt Ideal) (VS0_3.writes (Elt Ideal) VS0_3.junk
      (⟨Rect.unit (s := S1040x512) ![0, 0] S16x512.size inb_keep, k0_pay2 (F := Ideal) (kernelRun0_A.sl.v1566 (F := Ideal) c arg2 harg2 arg3 harg3 arg4 harg4 arg15 arg18 x0 x1 x2)⟩ :: kernelRun0_A.sl.HS3_2 (F := Ideal) c arg2 harg2 arg3 harg3 arg4 harg4 arg15 x0 x1 x2)) := rfl
  rw [e, keep_low _ _ _ _ r j ⟨r.val, h⟩ rfl]
  have e2 : ∀ y : Vec Ideal S16x512 .f32, k0_pay2 (F := Ideal) y (ix2 ⟨r.val, h⟩ j) = y (ix2 ⟨r.val, h⟩ j) := fun y => by pointwise [k0_pay2]
  rw [e2]
  have e3 : (kernelRun0_A.sl.v1566 (F := Ideal) c arg2 harg2 arg3 harg3 arg4 harg4 arg15 arg18 x0 x1 x2) (ix2 ⟨r.val, h⟩ j)
      = View.ld (arg18.view.read (Elt Ideal) (arg18.view.writes (Elt Ideal) arg18.view.junk (⟨Rect.unit (s := S1040x512) ![16, 0] S1024x512.size inb_ext, (kernelRun0_A.sl.v1437 (F := Ideal) c arg2 harg2 arg3 harg3 arg4 harg4 arg15 x0 x1 x2)⟩ :: [⟨Rect.unit (s := S1040x512) ![0, 0] S16x512.size inb_keep, k0_pay5 (F := Ideal)⟩])))
        (Rect.unit (s := S1040x512) ![1024, 0] S16x512.size (by decide)) (ix2 ⟨r.val, h⟩ j) := rfl
  rw [e3, View.ld_unit_apply_of (S := S1040x512) _ ![1024, 0] S16x512.size _ (ix2 ⟨r.val, h⟩ j) (ix2 ⟨1024 + r.val, by omega⟩ j) (Fin.forall_fin_two.mpr ⟨rfl, (Nat.zero_add _).symm⟩),
    ext_high _ _ _ _ _ j ⟨1008 + r.val, by omega⟩ (by show 1024 + r.val = 16 + (1008 + r.val); omega), pval]

end Cert.Proof.MixPiecesA

end
-- ==== Proof.MixPiecesB.lean ====
/- The pieces the mixer's body stores at a grid point of a later tile of a batch, as the functions of the tile it loads. -/
module

public import proofs.«01_k».proof.Proof.Gen.MixerIdeal.Frame.RunB
public import proofs.«01_k».proof.Proof.Gen.MixerIdeal.Frame
public import proofs.«01_k».proof.Proof.MixTile

@[expose] public section

set_option maxRecDepth 16384

noncomputable section

namespace Cert.Proof.MixPiecesB

open Idealize.ShloMosaic Idealize.ShloMosaic.TcCoe Idealize.SL.Sem Cert.MixerIdeal Cert.MixerIdeal.Gen Cert.Proof.MixTile

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x256x256 .f32) (harg7 : arg7.IsWhole) (arg8 : Memref sig .tc .vmem S4x256x128 .f32) (harg8 : arg8.IsWhole) (arg9 : Memref sig .tc .vmem S4x256x128 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x2560 .f32) (harg15 : arg15.IsWhole) (arg16 : Memref sig .tc .vmem S1024x1024 .bf16) (harg16 : arg16.IsWhole) (arg17 : Memref sig .tc .vmem S4x128x128 .f32) (harg17 : arg17.IsWhole) (arg18 : Memref sig .tc .vmem S1040x512 .f32) (harg18 : arg18.IsWhole)  (x0 : Vec Ideal S1x1024x1024 .f32) (x1 : Vec Ideal S1x1024 .f32) (x2 : Vec Ideal S1024x2560 .bf16) (x3 : Vec Ideal S1024x128 .f32) (x4 : Vec Ideal S1024x128 .f32) (x5 : Vec Ideal S4x256x256 .f32) (x6 : Vec Ideal S4x256x128 .f32) (x7 : Vec Ideal S4x256x128 .f32) (x8 : Vec Ideal S1x512 .f32) (x9 : Vec Ideal S4x128x128 .bf16) (x10 : Vec Ideal S1x512 .f32) (x11 : Vec Ideal S1024x1024 .bf16) (xs2 : Vec Ideal S4x128x128 .f32) (xs3 : Vec Ideal S1040x512 .f32)

/-- The projected tile as stored to its scratch. -/
theorem zval : kernelRun0_B.sl.v25 (F := Ideal) c arg2 harg2 arg3 harg3 arg4 harg4 x0 x1 x2 = k0_pay7 x0 x1 x2 := by
  have e : kernelRun0_B.sl.v25 (F := Ideal) c arg2 harg2 arg3 harg3 arg4 harg4 x0 x1 x2
      = k0_pay7 (View.readAt (Elt Ideal) arg2.view (Rect.unit (s := S1x1024x1024) ![0, 0, 0] S1x1024x1024.size (by decide)).toLoadRect (harg2.unread x0))
          (View.readAt (Elt Ideal) arg3.view (Rect.unit (s := S1x1024) ![0, 0] S1x1024.size (by decide)).toLoadRect (harg3.unread x1))
          (View.readAt (Elt Ideal) arg4.view (Rect.unit (s := S1024x2560) ![0, 0] S1024x2560.size (by decide)).toLoadRect (harg4.unread x2)) := rfl
  rw [e, View.readAt_eq_ld, View.readAt_eq_ld, View.readAt_eq_ld, harg2.read_unread, harg3.read_unread, harg4.read_unread,
    View.ld_unit_zero (by funext a; fin_cases a <;> rfl), View.ld_unit_zero (by funext a; fin_cases a <;> rfl), View.ld_unit_zero (by funext a; fin_cases a <;> rfl)]

theorem zlist : kernelRun0_B.sl.HS0_1 (F := Ideal) c arg2 harg2 arg3 harg3 arg4 harg4 x0 x1 x2 = [⟨Rect.unit (s := S1024x2560) ![0, 0] S1024x2560.size inb_z, k0_pay7 x0 x1 x2⟩] := by
  have e : kernelRun0_B.sl.HS0_1 (F := Ideal) c arg2 harg2 arg3 harg3 arg4 harg4 x0 x1 x2
      = ([⟨Rect.unit (s := S1024x2560) ![0, 0] S1024x2560.size inb_z, kernelRun0_B.sl.v25 (F := Ideal) c arg2 harg2 arg3 harg3 arg4 harg4 x0 x1 x2⟩] : List (View.Piece (Elt Ideal) S1024x2560 .f32)) := rfl
  rw [e, zval]

/-- The loads of block `k`, head `h`, as the body makes them. -/
def lC (k : Fin 4) := View.readAt (Elt Ideal) arg5.view (Rect.unit (s := S1024x128) ![256 * k.val, 0] S256x128.size (inb_rows k)).toLoadRect (harg5.unread x3)
def lS (k : Fin 4) := View.readAt (Elt Ideal) arg6.view (Rect.unit (s := S1024x128) ![256 * k.val, 0] S256x128.size (inb_rows k)).toLoadRect (harg6.unread x4)
def lZ (k : Fin 4) (o : Fin 20) := arg15.view.readCov (kernelRun0_B.sl.HS0_1 (F := Ideal) c arg2 harg2 arg3 harg3 arg4 harg4 x0 x1 x2) (Rect.unit (s := S1024x2560) ![256 * k.val, 128 * o.val] S256x128.size (inb_part k o)).toLoadRect
def lM (h : Fin 4) := View.readAt (Elt Ideal) arg7.view (Rect.unit (s := S4x256x256) ![h.val, 0, 0] S1x256x256.size (inb_headM h)).toLoadRect (harg7.unread x5)
def lQ (h : Fin 4) := View.readAt (Elt Ideal) arg8.view (Rect.unit (s := S4x256x128) ![h.val, 0, 0] S1x256x128.size (inb_headT h)).toLoadRect (harg8.unread x6)
def lK (h : Fin 4) := View.readAt (Elt Ideal) arg9.view (Rect.unit (s := S4x256x128) ![h.val, 0, 0] S1x256x128.size (inb_headT h)).toLoadRect (harg9.unread x7)
def lN (h : Fin 4) := View.readAt (Elt Ideal) arg10.view (Rect.unit (s := S1x512) ![0, 128 * h.val] S1x128.size (inb_run h)).toLoadRect (harg10.unread x8)
def lP (g : Fin 4) := View.readAt (Elt Ideal) arg11.view (Rect.unit (s := S4x128x128) ![g.val, 0, 0] S1x128x128.size (inb_headS g)).toLoadRect (harg11.unread x9)
def lW (g : Fin 4) := View.readAt (Elt Ideal) arg12.view (Rect.unit (s := S1x512) ![0, 128 * g.val] S1x128.size (inb_run g)).toLoadRect (harg12.unread x10)

theorem lC_eq (k : Fin 4) : lC arg5 harg5 x3 k = rows x3 k := by unfold lC; rw [View.readAt_eq_ld, harg5.read_unread, ld_rows]
theorem lS_eq (k : Fin 4) : lS arg6 harg6 x4 k = rows x4 k := by unfold lS; rw [View.readAt_eq_ld, harg6.read_unread, ld_rows]
theorem lZ_eq (k : Fin 4) (o : Fin 20) : lZ c arg2 harg2 arg3 harg3 arg4 harg4 arg15 x0 x1 x2 k o = part (k0_pay7 x0 x1 x2) k o := by unfold lZ; rw [zlist, z_part]
theorem lM_eq (h : Fin 4) : lM arg7 harg7 x5 h = headM x5 h := by unfold lM; rw [View.readAt_eq_ld, harg7.read_unread, ld_headM]
theorem lQ_eq (h : Fin 4) : lQ arg8 harg8 x6 h = headT x6 h := by unfold lQ; rw [View.readAt_eq_ld, harg8.read_unread, ld_headT]
theorem lK_eq (h : Fin 4) : lK arg9 harg9 x7 h = headT x7 h := by unfold lK; rw [View.readAt_eq_ld, harg9.read_unread, ld_headT]
theorem lN_eq (h : Fin 4) : lN arg10 harg10 x8 h = run x8 h := by unfold lN; rw [View.readAt_eq_ld, harg10.read_unread, ld_run]
theorem lP_eq (g : Fin 4) : lP arg11 harg11 x9 g = headP x9 g := by unfold lP; rw [View.readAt_eq_ld, harg11.read_unread, ld_headP]
theorem lW_eq (g : Fin 4) : lW arg12 harg12 x10 g = run x10 g := by unfold lW; rw [View.readAt_eq_ld, harg12.read_unread, ld_run]

/-- The stored block and state of head `h`, block `k`, over the loads. -/
def rS (h k : Fin 4) (s : Vec Ideal S1x128x128 .f32) : FVec Ideal S1x128x128 .f32 :=
  MixBlock.stV (lC arg5 harg5 x3 k) (lS arg6 harg6 x4 k) (lZ c arg2 harg2 arg3 harg3 arg4 harg4 arg15 x0 x1 x2 k ⟨4 + h.val, by omega⟩) (lZ c arg2 harg2 arg3 harg3 arg4 harg4 arg15 x0 x1 x2 k ⟨8 + h.val, by omega⟩) s (lK arg9 harg9 x7 h) (dec h)
def rC (h k : Fin 4) (s : Vec Ideal S1x128x128 .f32) : FVec Ideal S256x128 .bf16 :=
  MixBlock.cat (lC arg5 harg5 x3 k) (lS arg6 harg6 x4 k) (lZ c arg2 harg2 arg3 harg3 arg4 harg4 arg15 x0 x1 x2 k ⟨h.val, by omega⟩) (lZ c arg2 harg2 arg3 harg3 arg4 harg4 arg15 x0 x1 x2 k ⟨4 + h.val, by omega⟩) (lZ c arg2 harg2 arg3 harg3 arg4 harg4 arg15 x0 x1 x2 k ⟨8 + h.val, by omega⟩) (lZ c arg2 harg2 arg3 harg3 arg4 harg4 arg15 x0 x1 x2 k ⟨12 + h.val, by omega⟩) (lM arg7 harg7 x5 h) s (lQ arg8 harg8 x6 h) (lN arg10 harg10 x8 h)

theorem rS_eq (h k : Fin 4) (s : Vec Ideal S1x128x128 .f32) : rS c arg2 harg2 arg3 harg3 arg4 harg4 arg5 harg5 arg6 harg6 arg9 harg9 arg15 x0 x1 x2 x3 x4 x7 h k s = tSt (k0_pay7 x0 x1 x2) x3 x4 x7 h k s := by
  unfold rS tSt; rw [lC_eq, lS_eq, lZ_eq, lZ_eq, lK_eq]
theorem rC_eq (h k : Fin 4) (s : Vec Ideal S1x128x128 .f32) : rC c arg2 harg2 arg3 harg3 arg4 harg4 arg5 harg5 arg6 harg6 arg7 harg7 arg8 harg8 arg10 harg10 arg15 x0 x1 x2 x3 x4 x5 x6 x8 h k s = tCat (k0_pay7 x0 x1 x2) x3 x4 x5 x6 x8 h k s := by
  unfold rC tCat; rw [lC_eq, lS_eq, lZ_eq, lZ_eq, lZ_eq, lZ_eq, lM_eq, lQ_eq, lN_eq]

theorem st_0_0 : (View.readAt (Elt Ideal) arg17.view (Rect.unit (s := S4x128x128) ![0, 0, 0] S1x128x128.size (inb_headS 0)).toLoadRect (harg17.unread xs2)) = tState (k0_pay7 x0 x1 x2) x3 x4 x7 xs2 0 0 :=
  (congrArg (fun y => View.ld y (Rect.unit (s := S4x128x128) ![0, 0, 0] S1x128x128.size (inb_headS 0))) (harg17.read_unread xs2)).trans (ld_headS xs2 0)
theorem st_0_1 : (kernelRun0_B.sl.v153 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 0 1 :=
  ((head arg17.view _ 0 (rS c arg2 harg2 arg3 harg3 arg4 harg4 arg5 harg5 arg6 harg6 arg9 harg9 arg15 x0 x1 x2 x3 x4 x7 0 0 (View.readAt (Elt Ideal) arg17.view (Rect.unit (s := S4x128x128) ![0, 0, 0] S1x128x128.size (inb_headS 0)).toLoadRect (harg17.unread xs2))) _).trans (rS_eq c arg2 harg2 arg3 harg3 arg4 harg4 arg5 harg5 arg6 harg6 arg9 harg9 arg15 x0 x1 x2 x3 x4 x7 0 0 _)).trans
    ((congrArg (tSt (k0_pay7 x0 x1 x2) x3 x4 x7 0 0) (st_0_0 arg17 harg17 x0 x1 x2 x3 x4 x7 xs2)).trans (tState_succ (k0_pay7 x0 x1 x2) x3 x4 x7 xs2 0 0).symm)
theorem st_0_2 : (kernelRun0_B.sl.v241 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 0 2 :=
  ((head arg17.view _ 0 (rS c arg2 harg2 arg3 harg3 arg4 harg4 arg5 harg5 arg6 harg6 arg9 harg9 arg15 x0 x1 x2 x3 x4 x7 0 1 (kernelRun0_B.sl.v153 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 0 1 _)).trans
    ((congrArg (tSt (k0_pay7 x0 x1 x2) x3 x4 x7 0 1) (st_0_1 c arg2 harg2 arg3 harg3 arg4 harg4 arg5 harg5 arg6 harg6 arg9 harg9 arg15 arg17 harg17 x0 x1 x2 x3 x4 x7 xs2)).trans (tState_succ (k0_pay7 x0 x1 x2) x3 x4 x7 xs2 0 1).symm)
theorem st_0_3 : (kernelRun0_B.sl.v329 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 0 3 :=
  ((head arg17.view _ 0 (rS c arg2 harg2 arg3 harg3 arg4 harg4 arg5 harg5 arg6 harg6 arg9 harg9 arg15 x0 x1 x2 x3 x4 x7 0 2 (kernelRun0_B.sl.v241 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 0 2 _)).trans
    ((congrArg (tSt (k0_pay7 x0 x1 x2) x3 x4 x7 0 2) (st_0_2 c arg2 harg2 arg3 harg3 arg4 harg4 arg5 harg5 arg6 harg6 arg9 harg9 arg15 arg17 harg17 x0 x1 x2 x3 x4 x7 xs2)).trans (tState_succ (k0_pay7 x0 x1 x2) x3 x4 x7 xs2 0 2).symm)
theorem st_1_0 : (View.readAt (Elt Ideal) arg17.view (Rect.unit (s := S4x128x128) ![1, 0, 0] S1x128x128.size (inb_headS 1)).toLoadRect (harg17.unread xs2)) = tState (k0_pay7 x0 x1 x2) x3 x4 x7 xs2 1 0 :=
  (congrArg (fun y => View.ld y (Rect.unit (s := S4x128x128) ![1, 0, 0] S1x128x128.size (inb_headS 1))) (harg17.read_unread xs2)).trans (ld_headS xs2 1)
theorem st_1_1 : (kernelRun0_B.sl.v505 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 1 1 :=
  ((head arg17.view _ 1 (rS c arg2 harg2 arg3 harg3 arg4 harg4 arg5 harg5 arg6 harg6 arg9 harg9 arg15 x0 x1 x2 x3 x4 x7 1 0 (View.readAt (Elt Ideal) arg17.view (Rect.unit (s := S4x128x128) ![1, 0, 0] S1x128x128.size (inb_headS 1)).toLoadRect (harg17.unread xs2))) _).trans (rS_eq c arg2 harg2 arg3 harg3 arg4 harg4 arg5 harg5 arg6 harg6 arg9 harg9 arg15 x0 x1 x2 x3 x4 x7 1 0 _)).trans
    ((congrArg (tSt (k0_pay7 x0 x1 x2) x3 x4 x7 1 0) (st_1_0 arg17 harg17 x0 x1 x2 x3 x4 x7 xs2)).trans (tState_succ (k0_pay7 x0 x1 x2) x3 x4 x7 xs2 1 0).symm)
theorem st_1_2 : (kernelRun0_B.sl.v593 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 1 2 :=
  ((head arg17.view _ 1 (rS c arg2 harg2 arg3 harg3 arg4 harg4 arg5 harg5 arg6 harg6 arg9 harg9 arg15 x0 x1 x2 x3 x4 x7 1 1 (kernelRun0_B.sl.v505 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 1 1 _)).trans
    ((congrArg (tSt (k0_pay7 x0 x1 x2) x3 x4 x7 1 1) (st_1_1 c arg2 harg2 arg3 harg3 arg4 harg4 arg5 harg5 arg6 harg6 arg9 harg9 arg15 arg17 harg17 x0 x1 x2 x3 x4 x7 xs2)).trans (tState_succ (k0_pay7 x0 x1 x2) x3 x4 x7 xs2 1 1).symm)
theorem st_1_3 : (kernelRun0_B.sl.v681 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 1 3 :=
  ((head arg17.view _ 1 (rS c arg2 harg2 arg3 harg3 arg4 harg4 arg5 harg5 arg6 harg6 arg9 harg9 arg15 x0 x1 x2 x3 x4 x7 1 2 (kernelRun0_B.sl.v593 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 1 2 _)).trans
    ((congrArg (tSt (k0_pay7 x0 x1 x2) x3 x4 x7 1 2) (st_1_2 c arg2 harg2 arg3 harg3 arg4 harg4 arg5 harg5 arg6 harg6 arg9 harg9 arg15 arg17 harg17 x0 x1 x2 x3 x4 x7 xs2)).trans (tState_succ (k0_pay7 x0 x1 x2) x3 x4 x7 xs2 1 2).symm)
theorem st_2_0 : (View.readAt (Elt Ideal) arg17.view (Rect.unit (s := S4x128x128) ![2, 0, 0] S1x128x128.size (inb_headS 2)).toLoadRect (harg17.unread xs2)) = tState (k0_pay7 x0 x1 x2) x3 x4 x7 xs2 2 0 :=
  (congrArg (fun y => View.ld y (Rect.unit (s := S4x128x128) ![2, 0, 0] S1x128x128.size (inb_headS 2))) (harg17.read_unread xs2)).trans (ld_headS xs2 2)
theorem st_2_1 : (kernelRun0_B.sl.v857 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 2 1 :=
  ((head arg17.view _ 2 (rS c arg2 harg2 arg3 harg3 arg4 harg4 arg5 harg5 arg6 harg6 arg9 harg9 arg15 x0 x1 x2 x3 x4 x7 2 0 (View.readAt (Elt Ideal) arg17.view (Rect.unit (s := S4x128x128) ![2, 0, 0] S1x128x128.size (inb_headS 2)).toLoadRect (harg17.unread xs2))) _).trans (rS_eq c arg2 harg2 arg3 harg3 arg4 harg4 arg5 harg5 arg6 harg6 arg9 harg9 arg15 x0 x1 x2 x3 x4 x7 2 0 _)).trans
    ((congrArg (tSt (k0_pay7 x0 x1 x2) x3 x4 x7 2 0) (st_2_0 arg17 harg17 x0 x1 x2 x3 x4 x7 xs2)).trans (tState_succ (k0_pay7 x0 x1 x2) x3 x4 x7 xs2 2 0).symm)
theorem st_2_2 : (kernelRun0_B.sl.v945 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 2 2 :=
  ((head arg17.view _ 2 (rS c arg2 harg2 arg3 harg3 arg4 harg4 arg5 harg5 arg6 harg6 arg9 harg9 arg15 x0 x1 x2 x3 x4 x7 2 1 (kernelRun0_B.sl.v857 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 2 1 _)).trans
    ((congrArg (tSt (k0_pay7 x0 x1 x2) x3 x4 x7 2 1) (st_2_1 c arg2 harg2 arg3 harg3 arg4 harg4 arg5 harg5 arg6 harg6 arg9 harg9 arg15 arg17 harg17 x0 x1 x2 x3 x4 x7 xs2)).trans (tState_succ (k0_pay7 x0 x1 x2) x3 x4 x7 xs2 2 1).symm)
theorem st_2_3 : (kernelRun0_B.sl.v1033 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 2 3 :=
  ((head arg17.view _ 2 (rS c arg2 harg2 arg3 harg3 arg4 harg4 arg5 harg5 arg6 harg6 arg9 harg9 arg15 x0 x1 x2 x3 x4 x7 2 2 (kernelRun0_B.sl.v945 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 2 2 _)).trans
    ((congrArg (tSt (k0_pay7 x0 x1 x2) x3 x4 x7 2 2) (st_2_2 c arg2 harg2 arg3 harg3 arg4 harg4 arg5 harg5 arg6 harg6 arg9 harg9 arg15 arg17 harg17 x0 x1 x2 x3 x4 x7 xs2)).trans (tState_succ (k0_pay7 x0 x1 x2) x3 x4 x7 xs2 2 2).symm)
theorem st_3_0 : (View.readAt (Elt Ideal) arg17.view (Rect.unit (s := S4x128x128) ![3, 0, 0] S1x128x128.size (inb_headS 3)).toLoadRect (harg17.unread xs2)) = tState (k0_pay7 x0 x1 x2) x3 x4 x7 xs2 3 0 :=
  (congrArg (fun y => View.ld y (Rect.unit (s := S4x128x128) ![3, 0, 0] S1x128x128.size (inb_headS 3))) (harg17.read_unread xs2)).trans (ld_headS xs2 3)
theorem st_3_1 : (kernelRun0_B.sl.v1209 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 3 1 :=
  ((head arg17.view _ 3 (rS c arg2 harg2 arg3 harg3 arg4 harg4 arg5 harg5 arg6 harg6 arg9 harg9 arg15 x0 x1 x2 x3 x4 x7 3 0 (View.readAt (Elt Ideal) arg17.view (Rect.unit (s := S4x128x128) ![3, 0, 0] S1x128x128.size (inb_headS 3)).toLoadRect (harg17.unread xs2))) _).trans (rS_eq c arg2 harg2 arg3 harg3 arg4 harg4 arg5 harg5 arg6 harg6 arg9 harg9 arg15 x0 x1 x2 x3 x4 x7 3 0 _)).trans
    ((congrArg (tSt (k0_pay7 x0 x1 x2) x3 x4 x7 3 0) (st_3_0 arg17 harg17 x0 x1 x2 x3 x4 x7 xs2)).trans (tState_succ (k0_pay7 x0 x1 x2) x3 x4 x7 xs2 3 0).symm)
theorem st_3_2 : (kernelRun0_B.sl.v1297 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 3 2 :=
  ((head arg17.view _ 3 (rS c arg2 harg2 arg3 harg3 arg4 harg4 arg5 harg5 arg6 harg6 arg9 harg9 arg15 x0 x1 x2 x3 x4 x7 3 1 (kernelRun0_B.sl.v1209 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 3 1 _)).trans
    ((congrArg (tSt (k0_pay7 x0 x1 x2) x3 x4 x7 3 1) (st_3_1 c arg2 harg2 arg3 harg3 arg4 harg4 arg5 harg5 arg6 harg6 arg9 harg9 arg15 arg17 harg17 x0 x1 x2 x3 x4 x7 xs2)).trans (tState_succ (k0_pay7 x0 x1 x2) x3 x4 x7 xs2 3 1).symm)
theorem st_3_3 : (kernelRun0_B.sl.v1385 (F := Ideal) c arg2 harg2 arg3 harg3 arg4 harg4 arg5 harg5 arg6 harg6 arg9 harg9 arg15 arg17 harg17 x0 x1 x2 x3 x4 x7 xs2) = tState (k0_pay7 x0 x1 x2) x3 x4 x7 xs2 3 3 :=
  ((head arg17.view _ 3 (rS c arg2 harg2 arg3 harg3 arg4 harg4 arg5 harg5 arg6 harg6 arg9 harg9 arg15 x0 x1 x2 x3 x4 x7 3 2 (kernelRun0_B.sl.v1297 (F := Ideal) c arg2 harg2 arg3 harg3 arg4 harg4 arg5 harg5 arg6 harg6 arg9 harg9 arg15 arg17 harg17 x0 x1 x2 x3 x4 x7 xs2)) _).trans (rS_eq c arg2 harg2 arg3 harg3 arg4 harg4 arg5 harg5 arg6 harg6 arg9 harg9 arg15 x0 x1 x2 x3 x4 x7 3 2 _)).trans
    ((congrArg (tSt (k0_pay7 x0 x1 x2) x3 x4 x7 3 2) (st_3_2 c arg2 harg2 arg3 harg3 arg4 harg4 arg5 harg5 arg6 harg6 arg9 harg9 arg15 arg17 harg17 x0 x1 x2 x3 x4 x7 xs2)).trans (tState_succ (k0_pay7 x0 x1 x2) x3 x4 x7 xs2 3 2).symm)
theorem pc_0_0 : (kernelRun0_B.sl.v113 (F := Ideal) c arg2 harg2 arg3 harg3 arg4 harg4 arg5 harg5 arg6 harg6 arg7 harg7 arg8 harg8 arg10 harg10 arg15 arg17 harg17 x0 x1 x2 x3 x4 x5 x6 x8 xs2) = tCat (k0_pay7 x0 x1 x2) x3 x4 x5 x6 x8 0 0 (tState (k0_pay7 x0 x1 x2) x3 x4 x7 xs2 0 0) :=
  ((rfl : _ = rC c arg2 harg2 arg3 harg3 arg4 harg4 arg5 harg5 arg6 harg6 arg7 harg7 arg8 harg8 arg10 harg10 arg15 x0 x1 x2 x3 x4 x5 x6 x8 0 0 (View.readAt (Elt Ideal) arg17.view (Rect.unit (s := S4x128x128) ![0, 0, 0] S1x128x128.size (inb_headS 0)).toLoadRect (harg17.unread xs2))).trans (rC_eq c arg2 harg2 arg3 harg3 arg4 harg4 arg5 harg5 arg6 harg6 arg7 harg7 arg8 harg8 arg10 harg10 arg15 x0 x1 x2 x3 x4 x5 x6 x8 0 0 _)).trans
    (congrArg (tCat (k0_pay7 x0 x1 x2) x3 x4 x5 x6 x8 0 0) (st_0_0 arg17 harg17 x0 x1 x2 x3 x4 x7 xs2))
theorem pc_0_1 : (kernelRun0_B.sl.v201 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 0 1 (tState (k0_pay7 x0 x1 x2) x3 x4 x7 xs2 0 1) :=
  ((rfl : _ = rC c arg2 harg2 arg3 harg3 arg4 harg4 arg5 harg5 arg6 harg6 arg7 harg7 arg8 harg8 arg10 harg10 arg15 x0 x1 x2 x3 x4 x5 x6 x8 0 1 (kernelRun0_B.sl.v153 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 0 1 _)).trans
    (congrArg (tCat (k0_pay7 x0 x1 x2) x3 x4 x5 x6 x8 0 1) (st_0_1 c arg2 harg2 arg3 harg3 arg4 harg4 arg5 harg5 arg6 harg6 arg9 harg9 arg15 arg17 harg17 x0 x1 x2 x3 x4 x7 xs2))
theorem pc_0_2 : (kernelRun0_B.sl.v289 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 0 2 (tState (k0_pay7 x0 x1 x2) x3 x4 x7 xs2 0 2) :=
  ((rfl : _ = rC c arg2 harg2 arg3 harg3 arg4 harg4 arg5 harg5 arg6 harg6 arg7 harg7 arg8 harg8 arg10 harg10 arg15 x0 x1 x2 x3 x4 x5 x6 x8 0 2 (kernelRun0_B.sl.v241 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 0 2 _)).trans
    (congrArg (tCat (k0_pay7 x0 x1 x2) x3 x4 x5 x6 x8 0 2) (st_0_2 c arg2 harg2 arg3 harg3 arg4 harg4 arg5 harg5 arg6 harg6 arg9 harg9 arg15 arg17 harg17 x0 x1 x2 x3 x4 x7 xs2))
theorem pc_0_3 : (kernelRun0_B.sl.v377 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 0 3 (tState (k0_pay7 x0 x1 x2) x3 x4 x7 xs2 0 3) :=
  ((rfl : _ = rC c arg2 harg2 arg3 harg3 arg4 harg4 arg5 harg5 arg6 harg6 arg7 harg7 arg8 harg8 arg10 harg10 arg15 x0 x1 x2 x3 x4 x5 x6 x8 0 3 (kernelRun0_B.sl.v329 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 0 3 _)).trans
    (congrArg (tCat (k0_pay7 x0 x1 x2) x3 x4 x5 x6 x8 0 3) (st_0_3 c arg2 harg2 arg3 harg3 arg4 harg4 arg5 harg5 arg6 harg6 arg9 harg9 arg15 arg17 harg17 x0 x1 x2 x3 x4 x7 xs2))
theorem pc_1_0 : (kernelRun0_B.sl.v465 (F := Ideal) c arg2 harg2 arg3 harg3 arg4 harg4 arg5 harg5 arg6 harg6 arg7 harg7 arg8 harg8 arg10 harg10 arg15 arg17 harg17 x0 x1 x2 x3 x4 x5 x6 x8 xs2) = tCat (k0_pay7 x0 x1 x2) x3 x4 x5 x6 x8 1 0 (tState (k0_pay7 x0 x1 x2) x3 x4 x7 xs2 1 0) :=
  ((rfl : _ = rC c arg2 harg2 arg3 harg3 arg4 harg4 arg5 harg5 arg6 harg6 arg7 harg7 arg8 harg8 arg10 harg10 arg15 x0 x1 x2 x3 x4 x5 x6 x8 1 0 (View.readAt (Elt Ideal) arg17.view (Rect.unit (s := S4x128x128) ![1, 0, 0] S1x128x128.size (inb_headS 1)).toLoadRect (harg17.unread xs2))).trans (rC_eq c arg2 harg2 arg3 harg3 arg4 harg4 arg5 harg5 arg6 harg6 arg7 harg7 arg8 harg8 arg10 harg10 arg15 x0 x1 x2 x3 x4 x5 x6 x8 1 0 _)).trans
    (congrArg (tCat (k0_pay7 x0 x1 x2) x3 x4 x5 x6 x8 1 0) (st_1_0 arg17 harg17 x0 x1 x2 x3 x4 x7 xs2))
theorem pc_1_1 : (kernelRun0_B.sl.v553 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 1 1 (tState (k0_pay7 x0 x1 x2) x3 x4 x7 xs2 1 1) :=
  ((rfl : _ = rC c arg2 harg2 arg3 harg3 arg4 harg4 arg5 harg5 arg6 harg6 arg7 harg7 arg8 harg8 arg10 harg10 arg15 x0 x1 x2 x3 x4 x5 x6 x8 1 1 (kernelRun0_B.sl.v505 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 1 1 _)).trans
    (congrArg (tCat (k0_pay7 x0 x1 x2) x3 x4 x5 x6 x8 1 1) (st_1_1 c arg2 harg2 arg3 harg3 arg4 harg4 arg5 harg5 arg6 harg6 arg9 harg9 arg15 arg17 harg17 x0 x1 x2 x3 x4 x7 xs2))
theorem pc_1_2 : (kernelRun0_B.sl.v641 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 1 2 (tState (k0_pay7 x0 x1 x2) x3 x4 x7 xs2 1 2) :=
  ((rfl : _ = rC c arg2 harg2 arg3 harg3 arg4 harg4 arg5 harg5 arg6 harg6 arg7 harg7 arg8 harg8 arg10 harg10 arg15 x0 x1 x2 x3 x4 x5 x6 x8 1 2 (kernelRun0_B.sl.v593 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 1 2 _)).trans
    (congrArg (tCat (k0_pay7 x0 x1 x2) x3 x4 x5 x6 x8 1 2) (st_1_2 c arg2 harg2 arg3 harg3 arg4 harg4 arg5 harg5 arg6 harg6 arg9 harg9 arg15 arg17 harg17 x0 x1 x2 x3 x4 x7 xs2))
theorem pc_1_3 : (kernelRun0_B.sl.v729 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 1 3 (tState (k0_pay7 x0 x1 x2) x3 x4 x7 xs2 1 3) :=
  ((rfl : _ = rC c arg2 harg2 arg3 harg3 arg4 harg4 arg5 harg5 arg6 harg6 arg7 harg7 arg8 harg8 arg10 harg10 arg15 x0 x1 x2 x3 x4 x5 x6 x8 1 3 (kernelRun0_B.sl.v681 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 1 3 _)).trans
    (congrArg (tCat (k0_pay7 x0 x1 x2) x3 x4 x5 x6 x8 1 3) (st_1_3 c arg2 harg2 arg3 harg3 arg4 harg4 arg5 harg5 arg6 harg6 arg9 harg9 arg15 arg17 harg17 x0 x1 x2 x3 x4 x7 xs2))
theorem pc_2_0 : (kernelRun0_B.sl.v817 (F := Ideal) c arg2 harg2 arg3 harg3 arg4 harg4 arg5 harg5 arg6 harg6 arg7 harg7 arg8 harg8 arg10 harg10 arg15 arg17 harg17 x0 x1 x2 x3 x4 x5 x6 x8 xs2) = tCat (k0_pay7 x0 x1 x2) x3 x4 x5 x6 x8 2 0 (tState (k0_pay7 x0 x1 x2) x3 x4 x7 xs2 2 0) :=
  ((rfl : _ = rC c arg2 harg2 arg3 harg3 arg4 harg4 arg5 harg5 arg6 harg6 arg7 harg7 arg8 harg8 arg10 harg10 arg15 x0 x1 x2 x3 x4 x5 x6 x8 2 0 (View.readAt (Elt Ideal) arg17.view (Rect.unit (s := S4x128x128) ![2, 0, 0] S1x128x128.size (inb_headS 2)).toLoadRect (harg17.unread xs2))).trans (rC_eq c arg2 harg2 arg3 harg3 arg4 harg4 arg5 harg5 arg6 harg6 arg7 harg7 arg8 harg8 arg10 harg10 arg15 x0 x1 x2 x3 x4 x5 x6 x8 2 0 _)).trans
    (congrArg (tCat (k0_pay7 x0 x1 x2) x3 x4 x5 x6 x8 2 0) (st_2_0 arg17 harg17 x0 x1 x2 x3 x4 x7 xs2))
theorem pc_2_1 : (kernelRun0_B.sl.v905 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 2 1 (tState (k0_pay7 x0 x1 x2) x3 x4 x7 xs2 2 1) :=
  ((rfl : _ = rC c arg2 harg2 arg3 harg3 arg4 harg4 arg5 harg5 arg6 harg6 arg7 harg7 arg8 harg8 arg10 harg10 arg15 x0 x1 x2 x3 x4 x5 x6 x8 2 1 (kernelRun0_B.sl.v857 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 2 1 _)).trans
    (congrArg (tCat (k0_pay7 x0 x1 x2) x3 x4 x5 x6 x8 2 1) (st_2_1 c arg2 harg2 arg3 harg3 arg4 harg4 arg5 harg5 arg6 harg6 arg9 harg9 arg15 arg17 harg17 x0 x1 x2 x3 x4 x7 xs2))
theorem pc_2_2 : (kernelRun0_B.sl.v993 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 2 2 (tState (k0_pay7 x0 x1 x2) x3 x4 x7 xs2 2 2) :=
  ((rfl : _ = rC c arg2 harg2 arg3 harg3 arg4 harg4 arg5 harg5 arg6 harg6 arg7 harg7 arg8 harg8 arg10 harg10 arg15 x0 x1 x2 x3 x4 x5 x6 x8 2 2 (kernelRun0_B.sl.v945 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 2 2 _)).trans
    (congrArg (tCat (k0_pay7 x0 x1 x2) x3 x4 x5 x6 x8 2 2) (st_2_2 c arg2 harg2 arg3 harg3 arg4 harg4 arg5 harg5 arg6 harg6 arg9 harg9 arg15 arg17 harg17 x0 x1 x2 x3 x4 x7 xs2))
theorem pc_2_3 : (kernelRun0_B.sl.v1081 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 2 3 (tState (k0_pay7 x0 x1 x2) x3 x4 x7 xs2 2 3) :=
  ((rfl : _ = rC c arg2 harg2 arg3 harg3 arg4 harg4 arg5 harg5 arg6 harg6 arg7 harg7 arg8 harg8 arg10 harg10 arg15 x0 x1 x2 x3 x4 x5 x6 x8 2 3 (kernelRun0_B.sl.v1033 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 2 3 _)).trans
    (congrArg (tCat (k0_pay7 x0 x1 x2) x3 x4 x5 x6 x8 2 3) (st_2_3 c arg2 harg2 arg3 harg3 arg4 harg4 arg5 harg5 arg6 harg6 arg9 harg9 arg15 arg17 harg17 x0 x1 x2 x3 x4 x7 xs2))
theorem pc_3_0 : (kernelRun0_B.sl.v1169 (F := Ideal) c arg2 harg2 arg3 harg3 arg4 harg4 arg5 harg5 arg6 harg6 arg7 harg7 arg8 harg8 arg10 harg10 arg15 arg17 harg17 x0 x1 x2 x3 x4 x5 x6 x8 xs2) = tCat (k0_pay7 x0 x1 x2) x3 x4 x5 x6 x8 3 0 (tState (k0_pay7 x0 x1 x2) x3 x4 x7 xs2 3 0) :=
  ((rfl : _ = rC c arg2 harg2 arg3 harg3 arg4 harg4 arg5 harg5 arg6 harg6 arg7 harg7 arg8 harg8 arg10 harg10 arg15 x0 x1 x2 x3 x4 x5 x6 x8 3 0 (View.readAt (Elt Ideal) arg17.view (Rect.unit (s := S4x128x128) ![3, 0, 0] S1x128x128.size (inb_headS 3)).toLoadRect (harg17.unread xs2))).trans (rC_eq c arg2 harg2 arg3 harg3 arg4 harg4 arg5 harg5 arg6 harg6 arg7 harg7 arg8 harg8 arg10 harg10 arg15 x0 x1 x2 x3 x4 x5 x6 x8 3 0 _)).trans
    (congrArg (tCat (k0_pay7 x0 x1 x2) x3 x4 x5 x6 x8 3 0) (st_3_0 arg17 harg17 x0 x1 x2 x3 x4 x7 xs2))
theorem pc_3_1 : (kernelRun0_B.sl.v1257 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 3 1 (tState (k0_pay7 x0 x1 x2) x3 x4 x7 xs2 3 1) :=
  ((rfl : _ = rC c arg2 harg2 arg3 harg3 arg4 harg4 arg5 harg5 arg6 harg6 arg7 harg7 arg8 harg8 arg10 harg10 arg15 x0 x1 x2 x3 x4 x5 x6 x8 3 1 (kernelRun0_B.sl.v1209 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 3 1 _)).trans
    (congrArg (tCat (k0_pay7 x0 x1 x2) x3 x4 x5 x6 x8 3 1) (st_3_1 c arg2 harg2 arg3 harg3 arg4 harg4 arg5 harg5 arg6 harg6 arg9 harg9 arg15 arg17 harg17 x0 x1 x2 x3 x4 x7 xs2))
theorem pc_3_2 : (kernelRun0_B.sl.v1345 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 3 2 (tState (k0_pay7 x0 x1 x2) x3 x4 x7 xs2 3 2) :=
  ((rfl : _ = rC c arg2 harg2 arg3 harg3 arg4 harg4 arg5 harg5 arg6 harg6 arg7 harg7 arg8 harg8 arg10 harg10 arg15 x0 x1 x2 x3 x4 x5 x6 x8 3 2 (kernelRun0_B.sl.v1297 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 3 2 _)).trans
    (congrArg (tCat (k0_pay7 x0 x1 x2) x3 x4 x5 x6 x8 3 2) (st_3_2 c arg2 harg2 arg3 harg3 arg4 harg4 arg5 harg5 arg6 harg6 arg9 harg9 arg15 arg17 harg17 x0 x1 x2 x3 x4 x7 xs2))
theorem pc_3_3 : (kernelRun0_B.sl.v1433 (F := Ideal) c arg2 harg2 arg3 harg3 arg4 harg4 arg5 harg5 arg6 harg6 arg7 harg7 arg8 harg8 arg9 harg9 arg10 harg10 arg15 arg17 harg17 x0 x1 x2 x3 x4 x5 x6 x7 x8 xs2) = tCat (k0_pay7 x0 x1 x2) x3 x4 x5 x6 x8 3 3 (tState (k0_pay7 x0 x1 x2) x3 x4 x7 xs2 3 3) :=
  ((rfl : _ = rC c arg2 harg2 arg3 harg3 arg4 harg4 arg5 harg5 arg6 harg6 arg7 harg7 arg8 harg8 arg10 harg10 arg15 x0 x1 x2 x3 x4 x5 x6 x8 3 3 (kernelRun0_B.sl.v1385 (F := Ideal) c arg2 harg2 arg3 harg3 arg4 harg4 arg5 harg5 arg6 harg6 arg9 harg9 arg15 arg17 harg17 x0 x1 x2 x3 x4 x7 xs2)).trans (rC_eq c arg2 harg2 arg3 harg3 arg4 harg4 arg5 harg5 arg6 harg6 arg7 harg7 arg8 harg8 arg10 harg10 arg15 x0 x1 x2 x3 x4 x5 x6 x8 3 3 _)).trans
    (congrArg (tCat (k0_pay7 x0 x1 x2) x3 x4 x5 x6 x8 3 3) (st_3_3 c arg2 harg2 arg3 harg3 arg4 harg4 arg5 harg5 arg6 harg6 arg9 harg9 arg15 arg17 harg17 x0 x1 x2 x3 x4 x7 xs2))

end Cert.Proof.MixPiecesB

end
-- ==== Proof.MixEndB.lean ====
/- What the mixer's body leaves at a grid point of a later tile of a batch. -/
module

public import proofs.«01_k».proof.Proof.Gen.MixerIdeal.Frame.RunB
public import proofs.«01_k».proof.Proof.Gen.MixerIdeal.Frame
public import proofs.«01_k».proof.Proof.MixPiecesB

@[expose] public section

set_option maxRecDepth 16384

noncomputable section

namespace Cert.Proof.MixPiecesB

open Idealize.ShloMosaic Idealize.ShloMosaic.TcCoe Idealize.SL.Sem Cert.MixerIdeal Cert.MixerIdeal.Gen Cert.Proof.MixTile

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x256x256 .f32) (harg7 : arg7.IsWhole) (arg8 : Memref sig .tc .vmem S4x256x128 .f32) (harg8 : arg8.IsWhole) (arg9 : Memref sig .tc .vmem S4x256x128 .f32) (harg9 : arg9.IsWhole) (arg10 : Memref sig .tc .vmem S1x512 .f32) (harg10 : arg10.IsWhole) (arg11 : Memref sig .tc .vmem S4x128x128 .bf16) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024x1024 .f32) (harg14 : arg14.IsWhole) (arg15 : Memref sig .tc .vmem S1024x2560 .f32) (harg15 : arg15.IsWhole) (arg16 : Memref sig .tc .vmem S1024x1024 .bf16) (harg16 : arg16.IsWhole) (arg17 : Memref sig .tc .vmem S4x128x128 .f32) (harg17 : arg17.IsWhole) (arg18 : Memref sig .tc .vmem S1040x512 .f32) (harg18 : arg18.IsWhole)  (x0 : Vec Ideal S1x1024x1024 .f32) (x1 : Vec Ideal S1x1024 .f32) (x2 : Vec Ideal S1024x2560 .bf16) (x3 : Vec Ideal S1024x128 .f32) (x4 : Vec Ideal S1024x128 .f32) (x5 : Vec Ideal S4x256x256 .f32) (x6 : Vec Ideal S4x256x128 .f32) (x7 : Vec Ideal S4x256x128 .f32) (x8 : Vec Ideal S1x512 .f32) (x9 : Vec Ideal S4x128x128 .bf16) (x10 : Vec Ideal S1x512 .f32) (x11 : Vec Ideal S1024x1024 .bf16) (xs2 : Vec Ideal S4x128x128 .f32) (xs3 : Vec Ideal S1040x512 .f32)

/-- The tile's pooling lanes as stored below the kept rows. -/
theorem pval (n : Fin 1024) (j : Fin 512) : (kernelRun0_B.sl.v1437 (F := Ideal) c arg2 harg2 arg3 harg3 arg4 harg4 arg15 x0 x1 x2) (ix2 n j) = (k0_pay7 x0 x1 x2) (ix2 n ⟨2048 + j.val, by omega⟩) := by
  have e : (kernelRun0_B.sl.v1437 (F := Ideal) c arg2 harg2 arg3 harg3 arg4 harg4 arg15 x0 x1 x2) = k0_pay178 (arg15.view.readCov (kernelRun0_B.sl.HS0_1 (F := Ideal) c arg2 harg2 arg3 harg3 arg4 harg4 x0 x1 x2) (Rect.unit (s := S1024x2560) ![0, 2048] S1024x512.size inb_p).toLoadRect) := rfl
  rw [e, zlist, z_pool]

theorem low (r : Fin 1040) (j : Fin 512) (h : r.val < 16) : arg18.view.read (Elt Ideal) (arg18.view.writes (Elt Ideal) (harg18.unread xs3) []) (ix2 r j) = xs3 (ix2 r j) := by
  exact congrFun (harg18.read_unread xs3) (ix2 r j)

/-- A window's lanes, loaded. -/
def lE (g : Fin 4) := arg18.view.readAt (Elt Ideal) (Rect.unit (s := S1040x512) ![0, 128 * g.val] S1040x128.size (inb_runE g)).toLoadRect
  (arg18.view.writes (Elt Ideal) (harg18.unread xs3) (⟨Rect.unit (s := S1040x512) ![16, 0] S1024x512.size inb_ext, (kernelRun0_B.sl.v1437 (F := Ideal) c arg2 harg2 arg3 harg3 arg4 harg4 arg15 x0 x1 x2)⟩ :: []))

theorem lE_eq (g : Fin 4) : lE c arg2 harg2 arg3 harg3 arg4 harg4 arg15 arg18 harg18 x0 x1 x2 xs3 g = runE (extOf xs3 (k0_pay7 x0 x1 x2)) g :=
  ext_load arg18.view _ _ _ _ _ (low arg18 harg18 xs3) (pval c arg2 harg2 arg3 harg3 arg4 harg4 arg15 x0 x1 x2) g

theorem pl_0 (r : Fin 1024) (e : Fin 128) : (kernelRun0_B.sl.v1469 (F := Ideal) c i arg2 harg2 arg3 harg3 arg4 harg4 arg11 harg11 arg12 harg12 arg15 arg18 harg18 x0 x1 x2 x9 x10 xs3) (ix2 r e) = tPool x9 x10 (i 1) (extOf xs3 (k0_pay7 x0 x1 x2)) 0 r e := by
  have h : (kernelRun0_B.sl.v1469 (F := Ideal) c i arg2 harg2 arg3 harg3 arg4 harg4 arg11 harg11 arg12 harg12 arg15 arg18 harg18 x0 x1 x2 x9 x10 xs3) = k0_pay181 (k0_pay180 (BitVec.ofNat 32 (i 1).val) (lE c arg2 harg2 arg3 harg3 arg4 harg4 arg15 arg18 harg18 x0 x1 x2 xs3 0) (lP arg11 harg11 x9 0) (lW arg12 harg12 x10 0)) := rfl
  rw [h, lE_eq, lP_eq, lW_eq]
  exact MixPool.pool2_apply (runE (extOf xs3 (k0_pay7 x0 x1 x2)) 0) (headP x9 0) (run x10 0) (i 1) r e

theorem pl_1 (r : Fin 1024) (e : Fin 128) : (kernelRun0_B.sl.v1499 (F := Ideal) c i arg2 harg2 arg3 harg3 arg4 harg4 arg11 harg11 arg12 harg12 arg15 arg18 harg18 x0 x1 x2 x9 x10 xs3) (ix2 r e) = tPool x9 x10 (i 1) (extOf xs3 (k0_pay7 x0 x1 x2)) 1 r e := by
  have h : (kernelRun0_B.sl.v1499 (F := Ideal) c i arg2 harg2 arg3 harg3 arg4 harg4 arg11 harg11 arg12 harg12 arg15 arg18 harg18 x0 x1 x2 x9 x10 xs3) = k0_pay182 (k0_pay179 (BitVec.ofNat 32 (i 1).val)) (lE c arg2 harg2 arg3 harg3 arg4 harg4 arg15 arg18 harg18 x0 x1 x2 xs3 1) (lP arg11 harg11 x9 1) (lW arg12 harg12 x10 1) := rfl
  rw [h, lE_eq, lP_eq, lW_eq]
  exact MixPool.pool4_apply (runE (extOf xs3 (k0_pay7 x0 x1 x2)) 1) (headP x9 1) (run x10 1) (i 1) r e

theorem pl_2 (r : Fin 1024) (e : Fin 128) : (kernelRun0_B.sl.v1531 (F := Ideal) c i arg2 harg2 arg3 harg3 arg4 harg4 arg11 harg11 arg12 harg12 arg15 arg18 harg18 x0 x1 x2 x9 x10 xs3) (ix2 r e) = tPool x9 x10 (i 1) (extOf xs3 (k0_pay7 x0 x1 x2)) 2 r e := by
  have h : (kernelRun0_B.sl.v1531 (F := Ideal) c i arg2 harg2 arg3 harg3 arg4 harg4 arg11 harg11 arg12 harg12 arg15 arg18 harg18 x0 x1 x2 x9 x10 xs3) = k0_pay184 (k0_pay179 (BitVec.ofNat 32 (i 1).val)) (lE c arg2 harg2 arg3 harg3 arg4 harg4 arg15 arg18 harg18 x0 x1 x2 xs3 2) (k0_pay183 (lE c arg2 harg2 arg3 harg3 arg4 harg4 arg15 arg18 harg18 x0 x1 x2 xs3 2)) 4#32 (lP arg11 harg11 x9 2) (lW arg12 harg12 x10 2) := rfl
  rw [h, lE_eq, lP_eq, lW_eq]
  exact MixPool.pool8_apply (runE (extOf xs3 (k0_pay7 x0 x1 x2)) 2) (headP x9 2) (run x10 2) (i 1) r e

theorem pl_3 (r : Fin 1024) (e : Fin 128) : (k0_pay1 (kernelRun0_B.sl.r_31 (F := Ideal) c i arg2 harg2 arg3 harg3 arg4 harg4 arg15 arg18 harg18 x0 x1 x2 xs3) (kernelRun0_B.sl.r_32 (F := Ideal) c arg11 harg11 x9) kernelRun0_B.sl.cst_803 (F := Ideal) (View.readAt (Elt Ideal) arg12.view (Rect.unit (s := S1x512) ![0, 384] ![1, 128] inb_S1x512_S1x128_0_384).toLoadRect (harg12.unread x10))) (ix2 r e) = tPool x9 x10 (i 1) (extOf xs3 (k0_pay7 x0 x1 x2)) 3 r e := by
  have h : (k0_pay1 (kernelRun0_B.sl.r_31 (F := Ideal) c i arg2 harg2 arg3 harg3 arg4 harg4 arg15 arg18 harg18 x0 x1 x2 xs3) (kernelRun0_B.sl.r_32 (F := Ideal) c arg11 harg11 x9) kernelRun0_B.sl.cst_803 (F := Ideal) (View.readAt (Elt Ideal) arg12.view (Rect.unit (s := S1x512) ![0, 384] ![1, 128] inb_S1x512_S1x128_0_384).toLoadRect (harg12.unread x10))) = k0_pay1 (k0_pay188 (k0_pay185 (lE c arg2 harg2 arg3 harg3 arg4 harg4 arg15 arg18 harg18 x0 x1 x2 xs3 3)) (k0_pay186 (lE c arg2 harg2 arg3 harg3 arg4 harg4 arg15 arg18 harg18 x0 x1 x2 xs3 3)) (k0_pay187 (k0_pay179 (BitVec.ofNat 32 (i 1).val)))) (k0_pay189 (lP arg11 harg11 x9 3)) (constant S1024x128 .f32 0x00000000#32) (lW arg12 harg12 x10 3) := rfl
  rw [h, lE_eq, lP_eq, lW_eq]
  exact MixPool.pool16_apply (runE (extOf xs3 (k0_pay7 x0 x1 x2)) 3) (headP x9 3) (run x10 3) (i 1) r e

/-- The 1024 lanes as stored. -/
theorem catval : kernelRun0_B.sl.v1570 (F := Ideal) c i arg2 harg2 arg3 harg3 arg4 harg4 arg5 harg5 arg6 harg6 arg7 harg7 arg8 harg8 arg9 harg9 arg10 harg10 arg11 harg11 arg12 harg12 arg15 arg16 arg17 harg17 arg18 harg18 x0 x1 x2 x3 x4 x5 x6 x7 x8 x9 x10 xs2 xs3 = catG (k0_pay7 x0 x1 x2) x3 x4 x5 x6 x7 x8 x9 x10 (i 1) xs2 (extOf xs3 (k0_pay7 x0 x1 x2)) := by
  have e : kernelRun0_B.sl.v1570 (F := Ideal) c i arg2 harg2 arg3 harg3 arg4 harg4 arg5 harg5 arg6 harg6 arg7 harg7 arg8 harg8 arg9 harg9 arg10 harg10 arg11 harg11 arg12 harg12 arg15 arg16 arg17 harg17 arg18 harg18 x0 x1 x2 x3 x4 x5 x6 x7 x8 x9 x10 xs2 xs3
      = arg16.view.readCov (kernelRun0_B.sl.HS1_20 (F := Ideal) c i arg2 harg2 arg3 harg3 arg4 harg4 arg5 harg5 arg6 harg6 arg7 harg7 arg8 harg8 arg9 harg9 arg10 harg10 arg11 harg11 arg12 harg12 arg15 arg17 harg17 arg18 harg18 x0 x1 x2 x3 x4 x5 x6 x7 x8 x9 x10 xs2 xs3) (Rect.unit (s := S1024x1024) ![0, 0] S1024x1024.size (by decide)).toLoadRect := rfl
  rw [e, View.readCov_eq_canon_ld _ _ _ (View.cover_of_tiledBy _ ![256, 128] (by sl_kernel_rfl)), View.ld_unit_zero (by funext a; fin_cases a <;> rfl)]
  funext y
  exact View.canon_eq_of_allAt _ y _ (View.cover_of_tiledBy _ ![256, 128] (by sl_kernel_rfl) y) (View.allAt_cons_unit _ _ _ _ _ (fun x hx => catG_pool (k0_pay7 x0 x1 x2) x3 x4 x5 x6 x7 x8 x9 x10 (i 1) xs2 (extOf xs3 (k0_pay7 x0 x1 x2)) 3 _ (pl_3 c i arg2 harg2 arg3 harg3 arg4 harg4 arg11 harg11 arg12 harg12 arg15 arg18 harg18 x0 x1 x2 x9 x10 xs3) y x hx)
    (View.allAt_cons_unit _ _ _ _ _ (fun x hx => catG_pool (k0_pay7 x0 x1 x2) x3 x4 x5 x6 x7 x8 x9 x10 (i 1) xs2 (extOf xs3 (k0_pay7 x0 x1 x2)) 2 _ (pl_2 c i arg2 harg2 arg3 harg3 arg4 harg4 arg11 harg11 arg12 harg12 arg15 arg18 harg18 x0 x1 x2 x9 x10 xs3) y x hx)
    (View.allAt_cons_unit _ _ _ _ _ (fun x hx => catG_pool (k0_pay7 x0 x1 x2) x3 x4 x5 x6 x7 x8 x9 x10 (i 1) xs2 (extOf xs3 (k0_pay7 x0 x1 x2)) 1 _ (pl_1 c i arg2 harg2 arg3 harg3 arg4 harg4 arg11 harg11 arg12 harg12 arg15 arg18 harg18 x0 x1 x2 x9 x10 xs3) y x hx)
    (View.allAt_cons_unit _ _ _ _ _ (fun x hx => catG_pool (k0_pay7 x0 x1 x2) x3 x4 x5 x6 x7 x8 x9 x10 (i 1) xs2 (extOf xs3 (k0_pay7 x0 x1 x2)) 0 _ (pl_0 c i arg2 harg2 arg3 harg3 arg4 harg4 arg11 harg11 arg12 harg12 arg15 arg18 harg18 x0 x1 x2 x9 x10 xs3) y x hx)
    (View.allAt_cons_unit _ _ _ _ _ (fun x hx => (congrFun (pc_3_3 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 3 3 y x hx))
    (View.allAt_cons_unit _ _ _ _ _ (fun x hx => (congrFun (pc_3_2 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 3 2 y x hx))
    (View.allAt_cons_unit _ _ _ _ _ (fun x hx => (congrFun (pc_3_1 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 3 1 y x hx))
    (View.allAt_cons_unit _ _ _ _ _ (fun x hx => (congrFun (pc_3_0 c arg2 harg2 arg3 harg3 arg4 harg4 arg5 harg5 arg6 harg6 arg7 harg7 arg8 harg8 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 3 0 y x hx))
    (View.allAt_cons_unit _ _ _ _ _ (fun x hx => (congrFun (pc_2_3 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 2 3 y x hx))
    (View.allAt_cons_unit _ _ _ _ _ (fun x hx => (congrFun (pc_2_2 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 2 2 y x hx))
    (View.allAt_cons_unit _ _ _ _ _ (fun x hx => (congrFun (pc_2_1 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 2 1 y x hx))
    (View.allAt_cons_unit _ _ _ _ _ (fun x hx => (congrFun (pc_2_0 c arg2 harg2 arg3 harg3 arg4 harg4 arg5 harg5 arg6 harg6 arg7 harg7 arg8 harg8 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 2 0 y x hx))
    (View.allAt_cons_unit _ _ _ _ _ (fun x hx => (congrFun (pc_1_3 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 1 3 y x hx))
    (View.allAt_cons_unit _ _ _ _ _ (fun x hx => (congrFun (pc_1_2 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 1 2 y x hx))
    (View.allAt_cons_unit _ _ _ _ _ (fun x hx => (congrFun (pc_1_1 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 1 1 y x hx))
    (View.allAt_cons_unit _ _ _ _ _ (fun x hx => (congrFun (pc_1_0 c arg2 harg2 arg3 harg3 arg4 harg4 arg5 harg5 arg6 harg6 arg7 harg7 arg8 harg8 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 1 0 y x hx))
    (View.allAt_cons_unit _ _ _ _ _ (fun x hx => (congrFun (pc_0_3 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 0 3 y x hx))
    (View.allAt_cons_unit _ _ _ _ _ (fun x hx => (congrFun (pc_0_2 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 0 2 y x hx))
    (View.allAt_cons_unit _ _ _ _ _ (fun x hx => (congrFun (pc_0_1 c arg2 harg2 arg3 harg3 arg4 harg4 arg5 harg5 arg6 harg6 arg7 harg7 arg8 harg8 arg9 harg9 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 0 1 y x hx))
    (View.allAt_cons_unit _ _ _ _ _ (fun x hx => (congrFun (pc_0_0 c arg2 harg2 arg3 harg3 arg4 harg4 arg5 harg5 arg6 harg6 arg7 harg7 arg8 harg8 arg10 harg10 arg15 arg17 harg17 x0 x1 x2 x3 x4 x5 x6 x7 x8 xs2) x).trans (catG_block (k0_pay7 x0 x1 x2) x3 x4 x5 x6 x7 x8 x9 x10 (i 1) xs2 (extOf xs3 (k0_pay7 x0 x1 x2)) 0 0 y x hx))
    (View.allAt_nil _ _)))))))))))))))))))))

variable (hc0 : ¬cond0_0 i)

/-- The tile stored at this point. -/
theorem out_eq : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 = outT x0 (catG (k0_pay7 x0 x1 x2) x3 x4 x5 x6 x7 x8 x9 x10 (i 1) xs2 (extOf xs3 (k0_pay7 x0 x1 x2))) x11 := by
  have e : out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 = VO0_12.read (Elt Ideal) (VO0_12.writes (Elt Ideal) VO0_12.junk
      [⟨Rect.unit (s := S1x1024x1024) ![0, 0, 0] S1x1024x1024.size (by decide),
        k0_pay3 (k0_pay6 (View.readAt (Elt Ideal) arg2.view (Rect.unit (s := S1x1024x1024) ![0, 0, 0] S1x1024x1024.size (by decide)).toLoadRect (harg2.unread x0)))
          (kernelRun0_B.sl.v1570 (F := Ideal) c i arg2 harg2 arg3 harg3 arg4 harg4 arg5 harg5 arg6 harg6 arg7 harg7 arg8 harg8 arg9 harg9 arg10 harg10 arg11 harg11 arg12 harg12 arg15 arg16 arg17 harg17 arg18 harg18 x0 x1 x2 x3 x4 x5 x6 x7 x8 x9 x10 xs2 xs3)
          (View.readAt (Elt Ideal) arg13.view (Rect.unit (s := S1024x1024) ![0, 0] S1024x1024.size (by decide)).toLoadRect (harg13.unread x11))⟩]) := rfl
  rw [e, View.read_writes_junk_eq_canon, View.canon_cons_unit_zero (by funext a; fin_cases a <;> rfl), View.readAt_eq_ld, View.readAt_eq_ld, harg2.read_unread, harg13.read_unread,
    View.ld_unit_zero (by funext a; fin_cases a <;> rfl), View.ld_unit_zero (by funext a; fin_cases a <;> rfl), catval]
  rfl

theorem state_0 (d e : Fin 128) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix3 0 d e) = tState (k0_pay7 x0 x1 x2) x3 x4 x7 xs2 0 4 (ix3 0 d e) :=
  ((readS_other _ _ 0 3 (by decide) d e _ _).trans ((readS_other _ _ 0 3 (by decide) d e _ _).trans ((readS_other _ _ 0 3 (by decide) d e _ _).trans ((readS_other _ _ 0 3 (by decide) d e _ _).trans ((readS_other _ _ 0 2 (by decide) d e _ _).trans ((readS_other _ _ 0 2 (by decide) d e _ _).trans ((readS_other _ _ 0 2 (by decide) d e _ _).trans ((readS_other _ _ 0 2 (by decide) d e _ _).trans ((readS_other _ _ 0 1 (by decide) d e _ _).trans ((readS_other _ _ 0 1 (by decide) d e _ _).trans ((readS_other _ _ 0 1 (by decide) d e _ _).trans ((readS_other _ _ 0 1 (by decide) d e _ _).trans ((readS_same _ _ 0 d e (rS c arg2 harg2 arg3 harg3 arg4 harg4 arg5 harg5 arg6 harg6 arg9 harg9 arg15 x0 x1 x2 x3 x4 x7 0 3 (kernelRun0_B.sl.v329 (F := Ideal) c arg2 harg2 arg3 harg3 arg4 harg4 arg5 harg5 arg6 harg6 arg9 harg9 arg15 arg17 harg17 x0 x1 x2 x3 x4 x7 xs2)) _).trans (congrFun (((rS_eq c arg2 harg2 arg3 harg3 arg4 harg4 arg5 harg5 arg6 harg6 arg9 harg9 arg15 x0 x1 x2 x3 x4 x7 0 3 _).trans (congrArg (tSt (k0_pay7 x0 x1 x2) x3 x4 x7 0 3) (st_0_3 c arg2 harg2 arg3 harg3 arg4 harg4 arg5 harg5 arg6 harg6 arg9 harg9 arg15 arg17 harg17 x0 x1 x2 x3 x4 x7 xs2))).trans (tState_succ (k0_pay7 x0 x1 x2) x3 x4 x7 xs2 0 3).symm) (ix3 0 d e)))))))))))))))

theorem state_1 (d e : Fin 128) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix3 1 d e) = tState (k0_pay7 x0 x1 x2) x3 x4 x7 xs2 1 4 (ix3 0 d e) :=
  ((readS_other _ _ 1 3 (by decide) d e _ _).trans ((readS_other _ _ 1 3 (by decide) d e _ _).trans ((readS_other _ _ 1 3 (by decide) d e _ _).trans ((readS_other _ _ 1 3 (by decide) d e _ _).trans ((readS_other _ _ 1 2 (by decide) d e _ _).trans ((readS_other _ _ 1 2 (by decide) d e _ _).trans ((readS_other _ _ 1 2 (by decide) d e _ _).trans ((readS_other _ _ 1 2 (by decide) d e _ _).trans ((readS_same _ _ 1 d e (rS c arg2 harg2 arg3 harg3 arg4 harg4 arg5 harg5 arg6 harg6 arg9 harg9 arg15 x0 x1 x2 x3 x4 x7 1 3 (kernelRun0_B.sl.v681 (F := Ideal) c arg2 harg2 arg3 harg3 arg4 harg4 arg5 harg5 arg6 harg6 arg9 harg9 arg15 arg17 harg17 x0 x1 x2 x3 x4 x7 xs2)) _).trans (congrFun (((rS_eq c arg2 harg2 arg3 harg3 arg4 harg4 arg5 harg5 arg6 harg6 arg9 harg9 arg15 x0 x1 x2 x3 x4 x7 1 3 _).trans (congrArg (tSt (k0_pay7 x0 x1 x2) x3 x4 x7 1 3) (st_1_3 c arg2 harg2 arg3 harg3 arg4 harg4 arg5 harg5 arg6 harg6 arg9 harg9 arg15 arg17 harg17 x0 x1 x2 x3 x4 x7 xs2))).trans (tState_succ (k0_pay7 x0 x1 x2) x3 x4 x7 xs2 1 3).symm) (ix3 0 d e)))))))))))

theorem state_2 (d e : Fin 128) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix3 2 d e) = tState (k0_pay7 x0 x1 x2) x3 x4 x7 xs2 2 4 (ix3 0 d e) :=
  ((readS_other _ _ 2 3 (by decide) d e _ _).trans ((readS_other _ _ 2 3 (by decide) d e _ _).trans ((readS_other _ _ 2 3 (by decide) d e _ _).trans ((readS_other _ _ 2 3 (by decide) d e _ _).trans ((readS_same _ _ 2 d e (rS c arg2 harg2 arg3 harg3 arg4 harg4 arg5 harg5 arg6 harg6 arg9 harg9 arg15 x0 x1 x2 x3 x4 x7 2 3 (kernelRun0_B.sl.v1033 (F := Ideal) c arg2 harg2 arg3 harg3 arg4 harg4 arg5 harg5 arg6 harg6 arg9 harg9 arg15 arg17 harg17 x0 x1 x2 x3 x4 x7 xs2)) _).trans (congrFun (((rS_eq c arg2 harg2 arg3 harg3 arg4 harg4 arg5 harg5 arg6 harg6 arg9 harg9 arg15 x0 x1 x2 x3 x4 x7 2 3 _).trans (congrArg (tSt (k0_pay7 x0 x1 x2) x3 x4 x7 2 3) (st_2_3 c arg2 harg2 arg3 harg3 arg4 harg4 arg5 harg5 arg6 harg6 arg9 harg9 arg15 arg17 harg17 x0 x1 x2 x3 x4 x7 xs2))).trans (tState_succ (k0_pay7 x0 x1 x2) x3 x4 x7 xs2 2 3).symm) (ix3 0 d e)))))))

theorem state_3 (d e : Fin 128) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix3 3 d e) = tState (k0_pay7 x0 x1 x2) x3 x4 x7 xs2 3 4 (ix3 0 d e) :=
  ((readS_same _ _ 3 d e (rS c arg2 harg2 arg3 harg3 arg4 harg4 arg5 harg5 arg6 harg6 arg9 harg9 arg15 x0 x1 x2 x3 x4 x7 3 3 (kernelRun0_B.sl.v1385 (F := Ideal) c arg2 harg2 arg3 harg3 arg4 harg4 arg5 harg5 arg6 harg6 arg9 harg9 arg15 arg17 harg17 x0 x1 x2 x3 x4 x7 xs2)) _).trans (congrFun (((rS_eq c arg2 harg2 arg3 harg3 arg4 harg4 arg5 harg5 arg6 harg6 arg9 harg9 arg15 x0 x1 x2 x3 x4 x7 3 3 _).trans (congrArg (tSt (k0_pay7 x0 x1 x2) x3 x4 x7 3 3) (st_3_3 c arg2 harg2 arg3 harg3 arg4 harg4 arg5 harg5 arg6 harg6 arg9 harg9 arg15 arg17 harg17 x0 x1 x2 x3 x4 x7 xs2))).trans (tState_succ (k0_pay7 x0 x1 x2) x3 x4 x7 xs2 3 3).symm) (ix3 0 d e)))

/-- The states left at this point. -/
theorem state_eq (h : Fin 4) (d e : Fin 128) : sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix3 h d e) = tState (k0_pay7 x0 x1 x2) x3 x4 x7 xs2 h 4 (ix3 0 d e) := by
  fin_cases h
  · exact state_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 xs2 xs3 hc0 d e
  · exact state_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 xs2 xs3 hc0 d e
  · exact state_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 xs2 xs3 hc0 d e
  · exact state_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 xs2 xs3 hc0 d e

/-- The 16 rows kept at this point. -/
theorem keep_eq (r : Fin 1040) (j : Fin 512) (h : r.val < 16) : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 (ix2 r j) = (k0_pay7 x0 x1 x2) (ix2 ⟨1008 + r.val, by omega⟩ ⟨2048 + j.val, by omega⟩) := by
  have e : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs2 xs3 = VS0_3.read (Elt Ideal) (VS0_3.writes (Elt Ideal) VS0_3.junk
      (⟨Rect.unit (s := S1040x512) ![0, 0] S16x512.size inb_keep, k0_pay2 (F := Ideal) (kernelRun0_B.sl.v1566 (F := Ideal) c arg2 harg2 arg3 harg3 arg4 harg4 arg15 arg18 x0 x1 x2)⟩ :: kernelRun0_B.sl.HS3_1 (F := Ideal) c arg2 harg2 arg3 harg3 arg4 harg4 arg15 x0 x1 x2)) := rfl
  rw [e, keep_low _ _ _ _ r j ⟨r.val, h⟩ rfl]
  have e2 : ∀ y : Vec Ideal S16x512 .f32, k0_pay2 (F := Ideal) y (ix2 ⟨r.val, h⟩ j) = y (ix2 ⟨r.val, h⟩ j) := fun y => by pointwise [k0_pay2]
  rw [e2]
  have e3 : (kernelRun0_B.sl.v1566 (F := Ideal) c arg2 harg2 arg3 harg3 arg4 harg4 arg15 arg18 x0 x1 x2) (ix2 ⟨r.val, h⟩ j)
      = View.ld (arg18.view.read (Elt Ideal) (arg18.view.writes (Elt Ideal) arg18.view.junk (⟨Rect.unit (s := S1040x512) ![16, 0] S1024x512.size inb_ext, (kernelRun0_B.sl.v1437 (F := Ideal) c arg2 harg2 arg3 harg3 arg4 harg4 arg15 x0 x1 x2)⟩ :: [])))
        (Rect.unit (s := S1040x512) ![1024, 0] S16x512.size (by decide)) (ix2 ⟨r.val, h⟩ j) := rfl
  rw [e3, View.ld_unit_apply_of (S := S1040x512) _ ![1024, 0] S16x512.size _ (ix2 ⟨r.val, h⟩ j) (ix2 ⟨1024 + r.val, by omega⟩ j) (Fin.forall_fin_two.mpr ⟨rfl, (Nat.zero_add _).symm⟩),
    ext_high _ _ _ _ _ j ⟨1008 + r.val, by omega⟩ (by show 1024 + r.val = 16 + (1008 + r.val); omega), pval]

end Cert.Proof.MixPiecesB

end
-- ==== Proof.MixReal.lean ====
/- The mixer over the reals: retention as one sum over the tokens seen, the running state, the pooling windows. -/
module

public import proofs.«01_k».proof.Proof.MixSpec
public import Idealize.ShloMosaic.PureOps.Ideal.Laws

@[expose] public section

noncomputable section

namespace Cert.Proof.MixReal

open Idealize.ShloMosaic Cert.Proof.MixSpec

theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

theorem rsqrt_pos {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-! ## Retention -/

variable (q k v : ℕ → Fin 128 → ℝ) (g : ℝ)

/-- The distance of two tokens. -/
def dist (a b : ℕ) : ℕ := (a - b) + (b - a)

/-- The state before token `T`. -/
def st (T : ℕ) (d e : Fin 128) : ℝ := ∑ m ∈ Finset.range T, g ^ (T - 1 - m) * k m d * v m e

/-- The retention of token `T`: every token up to the end of its chunk of 64, weighted by the decay of its distance. -/
def ret (T : ℕ) (e : Fin 128) : ℝ := ∑ m ∈ Finset.range (64 * (T / 64) + 64), g ^ dist T m * (∑ d, q T d * k m d) * v m e

theorem st_add (T L : ℕ) (d e : Fin 128) :
    st k v g (T + L) d e = st k v g T d e * g ^ L + ∑ m ∈ Finset.range L, k (T + m) d * g ^ (L - 1 - m) * v (T + m) e := by
  unfold st
  rw [Finset.sum_range_add, Finset.sum_mul]
  congr 1
  · refine Finset.sum_congr rfl fun m hm => ?_
    have hm := Finset.mem_range.mp hm
    rw [show T + L - 1 - m = (T - 1 - m) + L by omega, pow_add]; ring
  · refine Finset.sum_congr rfl fun m hm => ?_
    rw [show T + L - 1 - (T + m) = L - 1 - m by omega]; ring

theorem ret_block (T n u : ℕ) (hT : T % 64 = 0) (hu : u = 64 * (n / 64) + 64) (e : Fin 128) :
    ∑ m ∈ Finset.range u, (∑ d, q (T + n) d * k (T + m) d) * g ^ dist n m * v (T + m) e
      + ∑ d, q (T + n) d * g ^ (n + 1) * st k v g T d e = ret q k v g (T + n) e := by
  unfold ret st
  rw [show 64 * ((T + n) / 64) + 64 = T + u by omega, Finset.sum_range_add, add_comm]
  congr 1
  · simp only [Finset.mul_sum, Finset.sum_mul]
    rw [Finset.sum_comm]
    refine Finset.sum_congr rfl fun m hm => Finset.sum_congr rfl fun d _ => ?_
    have hm := Finset.mem_range.mp hm
    rw [show dist (T + n) m = (n + 1) + (T - 1 - m) by unfold dist; omega, pow_add]; ring
  · refine Finset.sum_congr rfl fun m hm => ?_
    rw [show dist (T + n) (T + m) = dist n m by unfold dist; omega]; ring

/-- The sum over a block of 256 with the tokens after the chunk masked out. -/
theorem masked (f : ℕ → ℝ) (n : ℕ) (hn : n < 256) :
    ∑ m : Fin 256, (if m.val / 64 ≤ n / 64 then f m.val else 0) = ∑ m ∈ Finset.range (64 * (n / 64) + 64), f m := by
  rw [Fin.sum_univ_eq_sum_range (fun m => if m / 64 ≤ n / 64 then f m else 0) 256, ← Finset.sum_filter]
  refine Finset.sum_congr ?_ fun _ _ => rfl
  ext m
  simp only [Finset.mem_filter, Finset.mem_range]
  omega

/-- A block's retention, with the tables and the state real. -/
theorem blkO_real (T : ℕ) (hT : T % 64 = 0) (n : Fin 256) (e : Fin 128) :
    blkO (fun n d => (q (T + n.val) d : EReal)) (fun n d => (k (T + n.val) d : EReal)) (fun n d => (v (T + n.val) d : EReal))
      (fun n m => ((if m.val / 64 ≤ n.val / 64 then g ^ dist n.val m.val else 0 : ℝ) : EReal)) (fun n _ => ((g ^ (n.val + 1) : ℝ) : EReal))
      (fun d e => (st k v g T d e : EReal)) n e = (ret q k v g (T + n.val) e : EReal) := by
  unfold blkO
  simp only [← EReal.coe_mul, coe_sum, ← EReal.coe_add]
  rw [← ret_block q k v g T n.val _ hT rfl e, ← masked _ n.val n.isLt]
  congr 2
  refine Finset.sum_congr rfl fun m _ => ?_
  split <;> ring

/-- The state after a block. -/
theorem blkS_real (T : ℕ) (d e : Fin 128) :
    blkS (fun n d => (k (T + n.val) d : EReal)) (fun n d => (v (T + n.val) d : EReal)) (fun n _ => ((g ^ (255 - n.val) : ℝ) : EReal)) ((g ^ 256 : ℝ) : EReal)
      (fun d e => (st k v g T d e : EReal)) d e = (st k v g (T + 256) d e : EReal) := by
  unfold blkS
  simp only [← EReal.coe_mul, coe_sum, ← EReal.coe_add]
  rw [st_add, ← Fin.sum_univ_eq_sum_range (fun m => k (T + m) d * g ^ (256 - 1 - m) * v (T + m) e) 256]

/-! ## Pooling -/

/-- The sum of the last `w` tokens up to `T`. -/
def tail (p : ℕ → ℝ) (T w : ℕ) : ℝ := ∑ j ∈ Finset.range w, if j ≤ T then p (T - j) else 0

theorem tail_eq (p : ℕ → ℝ) (T w : ℕ) :
    tail p T w = ∑ s ∈ Finset.range (T + 1), p s - ∑ s ∈ Finset.range (T + 1 - w), p s := by
  unfold tail
  induction w with
  | zero => simp
  | succ w ih =>
    rw [Finset.sum_range_succ, ih]
    by_cases h : w ≤ T
    · rw [if_pos h, show T + 1 - w = (T - w) + 1 by omega, Finset.sum_range_succ _ (T - w), show T + 1 - (w + 1) = T - w by omega]; ring
    · rw [if_neg h, show T + 1 - w = 0 by omega, show T + 1 - (w + 1) = 0 by omega]; ring

/-- A window's mean less the token. -/
def pooled (p : ℕ → ℝ) (T w : ℕ) : ℝ := tail p T w * (1 / ((min (T + 1) w : ℕ) : ℝ)) - p T

/-! ## The mixer's row -/

/-- Lane `d` of the `o`-th run of 128 of a projected row. -/
def zl (z : ℕ → Fin 2560 → ℝ) (T : ℕ) (o : Fin 20) (d : Fin 128) : ℝ := z T ⟨128 * o.val + d.val, by omega⟩

/-- The angle of lane pair `i` at token `T`. -/
def ang (T i : ℕ) : ℝ := T * (1 / (10000 : ℝ) ^ ((i : ℝ) / 63))
def cosR (T : ℕ) (d : Fin 128) : ℝ := Real.cos (ang T (d.val / 2))
def sinR (T : ℕ) (d : Fin 128) : ℝ := if d.val % 2 = 0 then -Real.sin (ang T (d.val / 2)) else Real.sin (ang T (d.val / 2))
def rotR (q : Fin 128 → ℝ) (T : ℕ) (d : Fin 128) : ℝ := q d * cosR T d + q (swp d) * sinR T d

/-- The decay of head `h`. -/
def gam (h : Fin 4) : ℝ := 1 - 1 / 2 ^ (5 + h.val)

/-- The keys' factor. -/
def ks : ℝ := 11863283 / 134217728

theorem kscale_eq : kscale = (ks : EReal) := by
  simp [kscale, ks, Ideal.ofBits, Ideal.ieee, -EReal.coe_mul]
  norm_num

variable (z : ℕ → Fin 2560 → ℝ)

def qR (h : Fin 4) (T : ℕ) (d : Fin 128) : ℝ := rotR (zl z T ⟨h.val, by omega⟩) T d
def kR (h : Fin 4) (T : ℕ) (d : Fin 128) : ℝ := rotR (zl z T ⟨4 + h.val, by omega⟩) T d * ks
def vR (h : Fin 4) (T : ℕ) (d : Fin 128) : ℝ := zl z T ⟨8 + h.val, by omega⟩ d

def retR (h : Fin 4) (T : ℕ) (e : Fin 128) : ℝ := ret (qR z h) (kR z h) (vR z h) (gam h) T e
def stR (h : Fin 4) (T : ℕ) (d e : Fin 128) : ℝ := st (kR z h) (vR z h) (gam h) T d e

/-- Lane `e` of head `h`'s gated retention. -/
def retS (gn : Fin 4 → Fin 128 → EReal) (T : ℕ) (h : Fin 4) (e : Fin 128) : EReal :=
  gated (zl z T ⟨12 + h.val, by omega⟩ e : EReal) (gno (fun e => (retR z h T e : EReal)) (gn h) e)

/-- Lane `e` of pooling window `g`. -/
def poolS (wp : Fin 4 → Fin 128 → Fin 128 → EReal) (ps : Fin 4 → Fin 128 → EReal) (T : ℕ) (g : Fin 4) (e : Fin 128) : EReal :=
  (∑ k, (pooled (fun T => zl z T ⟨16 + g.val, by omega⟩ k) T (2 ^ (g.val + 1)) : EReal) * wp g k e) * ps g e

/-- The 1024 lanes before the output projection. -/
def catS (gn : Fin 4 → Fin 128 → EReal) (wp : Fin 4 → Fin 128 → Fin 128 → EReal) (ps : Fin 4 → Fin 128 → EReal) (T : ℕ) (j : Fin 1024) : EReal :=
  if h : j.val < 512 then retS z gn T ⟨j.val / 128, by omega⟩ ⟨j.val % 128, Nat.mod_lt _ (by norm_num)⟩
  else poolS z wp ps T ⟨(j.val - 512) / 128, by omega⟩ ⟨j.val % 128, Nat.mod_lt _ (by norm_num)⟩

/-- A turned row of real numbers. -/
theorem rot_real (q : Fin 128 → ℝ) (T : ℕ) (d : Fin 128) :
    rot (fun d => (q d : EReal)) (fun d => (cosR T d : EReal)) (fun d => (sinR T d : EReal)) d = (rotR q T d : EReal) := by
  unfold rot rotR; push_cast; rfl

end Cert.Proof.MixReal

end
-- ==== Proof.MixTileR.lean ====
/- One tile of the mixer with its tables, state and projected rows real: what it leaves and what it stores. -/
module

public import proofs.«01_k».proof.Proof.MixTile
public import proofs.«01_k».proof.Proof.MixReal

@[expose] public section

set_option maxRecDepth 4096
set_option exponentiation.threshold 5000

noncomputable section

namespace Cert.Proof.MixTileR

open Idealize.ShloMosaic Cert.MixerIdeal Cert.MixerIdeal.Gen Cert.Proof.MixTile Cert.Proof.MixReal Cert.Proof.MixSpec

theorem dec_0 : dec 0 = ((gam 0 ^ 256 : ℝ) : EReal) := by
  have e0 : dec 0 = Named.named (F := Ideal) κ "state_decay0" 0x399ACCA1#32 := rfl
  rw [e0, IdealRules.named_const.ideal_named_scalar (φ := .f32) Cert.MixerIdeal.κ "state_decay0" 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal) rfl]
  congr 1
  norm_num [gam]
theorem dec_1 : dec 1 = ((gam 1 ^ 256 : ℝ) : EReal) := by
  have e0 : dec 1 = Named.named (F := Ideal) κ "state_decay1" 0x3C9160A5#32 := rfl
  rw [e0, IdealRules.named_const.ideal_named_scalar (φ := .f32) Cert.MixerIdeal.κ "state_decay1" 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal) rfl]
  congr 1
  norm_num [gam]
theorem dec_2 : dec 2 = ((gam 2 ^ 256 : ℝ) : EReal) := by
  have e0 : dec 2 = Named.named (F := Ideal) κ "state_decay2" 0x3E097FCE#32 := rfl
  rw [e0, IdealRules.named_const.ideal_named_scalar (φ := .f32) Cert.MixerIdeal.κ "state_decay2" 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal) rfl]
  congr 1
  norm_num [gam]
theorem dec_3 : dec 3 = ((gam 3 ^ 256 : ℝ) : EReal) := by
  have e0 : dec 3 = Named.named (F := Ideal) κ "state_decay3" 0x3EBBFC5D#32 := rfl
  rw [e0, IdealRules.named_const.ideal_named_scalar (φ := .f32) Cert.MixerIdeal.κ "state_decay3" 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal) rfl]
  congr 1
  norm_num [gam]

theorem dec_eq (h : Fin 4) : dec h = ((gam h ^ 256 : ℝ) : EReal) := by
  fin_cases h
  · exact dec_0
  · exact dec_1
  · exact dec_2
  · exact dec_3

/-- The `j`-th pooling lane of a projected row. -/
def poolLane (j : Fin 512) : Fin 2560 := ⟨2048 + j.val, by omega⟩

variable (Z : Vec Ideal S1024x2560 .f32) (x3 x4 : Vec Ideal S1024x128 .f32) (x5 : Vec Ideal S4x256x256 .f32) (x6 x7 : Vec Ideal S4x256x128 .f32)
  (x8 : Vec Ideal S1x512 .f32) (x9 : Vec Ideal S4x128x128 .bf16) (x10 : Vec Ideal S1x512 .f32) (S0 : Vec Ideal S4x128x128 .f32) (H : Vec Ideal S1040x512 .f32)
  (z : ℕ → Fin 2560 → ℝ) (t : Fin 8)
  (hZ : ∀ (n : Fin 1024) (c : Fin 2560), Z (ix2 n c) = (z (1024 * t.val + n.val) c : EReal))
  (hc : ∀ (n : Fin 1024) (d : Fin 128), x3 (ix2 n d) = (cosR (1024 * t.val + n.val) d : EReal))
  (hs : ∀ (n : Fin 1024) (d : Fin 128), x4 (ix2 n d) = (sinR (1024 * t.val + n.val) d : EReal))
  (hm : ∀ (h : Fin 4) (n m : Fin 256), x5 (ix3 h n m) = ((if m.val / 64 ≤ n.val / 64 then gam h ^ MixReal.dist n.val m.val else 0 : ℝ) : EReal))
  (hq : ∀ (h : Fin 4) (n : Fin 256) (d : Fin 128), x6 (ix3 h n d) = ((gam h ^ (n.val + 1) : ℝ) : EReal))
  (hk : ∀ (h : Fin 4) (n : Fin 256) (d : Fin 128), x7 (ix3 h n d) = ((gam h ^ (255 - n.val) : ℝ) : EReal))
  (hS : ∀ (h : Fin 4) (d e : Fin 128), S0 (ix3 h d e) = (stR z h (1024 * t.val) d e : EReal))
  (hH : ∀ (r : Fin 1040) (j : Fin 512), r.val < 16 → H (ix2 r j) = if 16 ≤ 1024 * t.val + r.val then (z (1024 * t.val + r.val - 16) (poolLane j) : EReal) else 0)

include hZ in
theorem part_real (k : Fin 4) (o : Fin 20) (n : Fin 256) (d : Fin 128) :
    part Z k o (ix2 n d) = (zl z (1024 * t.val + 256 * k.val + n.val) o d : EReal) := by
  show Z (ix2 (rowIx k n) (laneIx o d)) = _
  rw [hZ]; unfold zl rowIx laneIx
  rw [show 1024 * t.val + (256 * k.val + n.val) = 1024 * t.val + 256 * k.val + n.val by omega]
include hc in
theorem cos_real (k : Fin 4) (n : Fin 256) (d : Fin 128) : rows x3 k (ix2 n d) = (cosR (1024 * t.val + 256 * k.val + n.val) d : EReal) := by
  show x3 (ix2 (rowIx k n) d) = _
  rw [hc]; unfold rowIx
  rw [show 1024 * t.val + (256 * k.val + n.val) = 1024 * t.val + 256 * k.val + n.val by omega]
include hs in
theorem sin_real (k : Fin 4) (n : Fin 256) (d : Fin 128) : rows x4 k (ix2 n d) = (sinR (1024 * t.val + 256 * k.val + n.val) d : EReal) := by
  show x4 (ix2 (rowIx k n) d) = _
  rw [hs]; unfold rowIx
  rw [show 1024 * t.val + (256 * k.val + n.val) = 1024 * t.val + 256 * k.val + n.val by omega]

include hZ hc hs hk in
/-- A block's state from the state before it. -/
theorem tSt_real (h k : Fin 4) (s : Vec Ideal S1x128x128 .f32) (hs0 : ∀ d e : Fin 128, s (ix3 0 d e) = (stR z h (1024 * t.val + 256 * k.val) d e : EReal))
    (d e : Fin 128) : tSt Z x3 x4 x7 h k s (ix3 0 d e) = (stR z h (1024 * t.val + 256 * k.val + 256) d e : EReal) := by
  unfold tSt
  rw [MixBlock.stV_apply]
  have e7 : ∀ (n : Fin 256) (d : Fin 128), headT x7 h (ix3 0 n d) = ((gam h ^ (255 - n.val) : ℝ) : EReal) := fun n d => hk h n d
  simp only [part_real Z z t hZ, cos_real x3 t hc, sin_real x4 t hs, rot_real, kscale_eq, ← EReal.coe_mul, e7, hs0, dec_eq]
  exact blkS_real (kR z h) (vR z h) (gam h) (1024 * t.val + 256 * k.val) d e

include hZ hc hs hk hS in
theorem tState_real (h : Fin 4) : ∀ (k : ℕ), k ≤ 4 → ∀ d e : Fin 128, tState Z x3 x4 x7 S0 h k (ix3 0 d e) = (stR z h (1024 * t.val + 256 * k) d e : EReal)
  | 0, _ => fun d e => hS h d e
  | k + 1, hk' => fun d e => by
    have e1 := tState_succ Z x3 x4 x7 S0 h ⟨k, hk'⟩
    rw [show tState Z x3 x4 x7 S0 h (k + 1) = _ from e1]
    refine (tSt_real Z x3 x4 x7 z t hZ hc hs hk h ⟨k, hk'⟩ _ (fun d e => tState_real h k (by omega) d e) d e).trans ?_
    rw [show 1024 * t.val + 256 * (k + 1) = 1024 * t.val + 256 * k + 256 by omega]

include hZ hc hs hm hq hk hS in
theorem tCat_real (h k : Fin 4) (n : Fin 256) (e : Fin 128) :
    tCat Z x3 x4 x5 x6 x8 h k (tState Z x3 x4 x7 S0 h k.val) (ix2 n e)
      = retS z (fun h e => x8 (ix2 0 (lane4 h e))) (1024 * t.val + 256 * k.val + n.val) h e := by
  unfold tCat
  rw [MixBlock.cat_apply]
  have e5 : ∀ (n m : Fin 256), headM x5 h (ix3 0 n m) = ((if m.val / 64 ≤ n.val / 64 then gam h ^ MixReal.dist n.val m.val else 0 : ℝ) : EReal) := fun n m => hm h n m
  have e6 : ∀ (n : Fin 256) (d : Fin 128), headT x6 h (ix3 0 n d) = ((gam h ^ (n.val + 1) : ℝ) : EReal) := fun n d => hq h n d
  have est := tState_real Z x3 x4 x7 S0 z t hZ hc hs hk hS h k.val (by omega)
  simp only [part_real Z z t hZ, cos_real x3 t hc, sin_real x4 t hs, rot_real, kscale_eq, ← EReal.coe_mul, e5, e6, est]
  have eb := fun e => blkO_real (qR z h) (kR z h) (vR z h) (gam h) (1024 * t.val + 256 * k.val) (by omega) n e
  exact congrArg (gated _) (congrArg (fun o => gno o (fun e => x8 (ix2 0 (lane4 h e))) e) (funext eb))

include hZ hH in
/-- The rows before and in the tile, by token. -/
theorem row_real (g : Fin 4) (k : Fin 128) (r : Fin 1024) (j : ℕ) (hj : j ≤ 16) :
    MixPool.row (runE (extOf H Z) g) k (16 + r.val - j)
      = ((if j ≤ 1024 * t.val + r.val then zl z (1024 * t.val + r.val - j) ⟨16 + g.val, by omega⟩ k else 0 : ℝ) : EReal) := by
  have e0 := MixPool.row_eq (runE (extOf H Z) g) k ⟨16 + r.val - j, by omega⟩
  refine e0.trans ?_
  show extAt H Z ⟨16 + r.val - j, by omega⟩ (lane4 g k) = _
  unfold extAt
  by_cases h : 16 + r.val - j < 16
  · rw [dif_pos h, hH _ _ h]
    show (if 16 ≤ 1024 * t.val + (16 + r.val - j) then _ else _) = _
    by_cases h2 : j ≤ 1024 * t.val + r.val
    · rw [if_pos (by omega), if_pos h2]
      unfold zl lane4
      congr 1
      show z (1024 * t.val + (16 + r.val - j) - 16) _ = _
      rw [show 1024 * t.val + (16 + r.val - j) - 16 = 1024 * t.val + r.val - j by omega]
      congr 1
      apply Fin.ext; show 2048 + (128 * g.val + k.val) = 128 * (16 + g.val) + k.val; omega
    · rw [if_neg (by omega), if_neg h2]; rfl
  · rw [dif_neg h, hZ, if_pos (by omega)]
    unfold zl lane4
    congr 1
    show z (1024 * t.val + (16 + r.val - j - 16)) _ = _
    rw [show 1024 * t.val + (16 + r.val - j - 16) = 1024 * t.val + r.val - j by omega]
    congr 1
    apply Fin.ext; show 2048 + (128 * g.val + k.val) = 128 * (16 + g.val) + k.val; omega

include hZ hH in
theorem tPool_real (g : Fin 4) (r : Fin 1024) (e : Fin 128) :
    tPool x9 x10 t (extOf H Z) g r e
      = poolS z (fun g k e => x9 (ix3 g k e)) (fun g e => x10 (ix2 0 (lane4 g e))) (1024 * t.val + r.val) g e := by
  unfold tPool poolS
  have hw : win g ≤ 16 := by
    unfold win
    calc 2 ^ (g.val + 1) ≤ 2 ^ 4 := Nat.pow_le_pow_right (by norm_num) (by omega)
      _ = 16 := by norm_num
  refine congrArg (· * _) (Finset.sum_congr rfl fun k _ => congrArg (· * _) ?_)
  have e1 : ∑ j ∈ Finset.range (win g), MixPool.row (runE (extOf H Z) g) k (16 + r.val - j)
      = ((tail (fun T => zl z T ⟨16 + g.val, by omega⟩ k) (1024 * t.val + r.val) (win g) : ℝ) : EReal) := by
    unfold tail
    rw [← coe_sum]
    refine Finset.sum_congr rfl fun j hj => ?_
    have hj := Finset.mem_range.mp hj
    exact row_real Z H z t hZ hH g k r j (by omega)
  have e2 := row_real Z H z t hZ hH g k r 0 (by omega)
  rw [if_pos (Nat.zero_le _)] at e2
  rw [e1, show 16 + r.val = 16 + r.val - 0 from rfl, e2]
  unfold MixPool.invCount pooled
  rw [← EReal.coe_mul, ← EReal.coe_sub]
  rfl

include hZ hc hs hm hq hk hS hH in
/-- The 1024 lanes of a row of the tile. -/
theorem catG_real (r j : Fin 1024) : catG Z x3 x4 x5 x6 x7 x8 x9 x10 t S0 (extOf H Z) (ix2 r j)
    = catS z (fun h e => x8 (ix2 0 (lane4 h e))) (fun g k e => x9 (ix3 g k e)) (fun g e => x10 (ix2 0 (lane4 g e))) (1024 * t.val + r.val) j := by
  show catAt Z x3 x4 x5 x6 x7 x8 x9 x10 t S0 (extOf H Z) r j = _
  unfold catS
  by_cases h : j.val < 512
  · rw [dif_pos h, catAt_block Z x3 x4 x5 x6 x7 x8 x9 x10 t S0 (extOf H Z) ⟨j.val / 128, by omega⟩ ⟨r.val / 256, by omega⟩ ⟨r.val % 256, Nat.mod_lt _ (by norm_num)⟩ ⟨j.val % 128, Nat.mod_lt _ (by norm_num)⟩ r j
      (Nat.div_add_mod _ _).symm (Nat.div_add_mod _ _).symm]
    refine (tCat_real Z x3 x4 x5 x6 x7 x8 S0 z t hZ hc hs hm hq hk hS _ _ _ _).trans ?_
    show retS z _ (1024 * t.val + 256 * (r.val / 256) + r.val % 256) _ _ = _
    rw [show 1024 * t.val + 256 * (r.val / 256) + r.val % 256 = 1024 * t.val + r.val by omega]
  · rw [dif_neg h, catAt_pool Z x3 x4 x5 x6 x7 x8 x9 x10 t S0 (extOf H Z) ⟨(j.val - 512) / 128, by omega⟩ ⟨j.val % 128, Nat.mod_lt _ (by norm_num)⟩ r j
      (by show j.val = 512 + 128 * ((j.val - 512) / 128) + j.val % 128; omega)]
    exact tPool_real Z x9 x10 H z t hZ hH _ r _

end Cert.Proof.MixTileR

end
-- ==== Proof.MixTab.lean ====
module

public import proofs.«01_k».proof.Proof.Gen.MixerIdeal.Value
public import Idealize.ShloMosaic.Lib.StableHlo.RunRead
public import Idealize.ShloMosaic.PureOps.Ideal.Laws

@[expose] public section

set_option maxRecDepth 16384

noncomputable section

namespace Cert.Proof.MixTab

open Idealize.ShloMosaic Idealize.ShloMosaic.TcCoe Idealize.SL.Sem Idealize.ShloMosaic.StableHlo Cert.MixerIdeal Cert.MixerIdeal.Gen Cert.MixerIdeal.Value

variable {F : FTy → Type} [FloatOps F]

/-! The values of the host operations before the kernel, operation by operation, from the arguments. -/

def e_v0 : (⟨S8192x128, .i32⟩ : BufTy).Contents (Elt F) :=
  (iotaInDim S8192x128 32 0)

def e_v1 : (⟨S8192x128, .f32⟩ : BufTy).Contents (Elt F) :=
  sitofp .f32 (e_v0 (F := F))

def e_v2 : (⟨S8192x128, .i32⟩ : BufTy).Contents (Elt F) :=
  (iotaInDim S8192x128 32 1)

def e_c : (⟨S_, .i32⟩ : BufTy).Contents (Elt F) :=
  (constantI S_ 32 1#32)

def e_v3 : (⟨S8192x128, .i32⟩ : BufTy).Contents (Elt F) :=
  broadcastInDim S8192x128 ![] bcast_S_S8192x128 (e_c (F := F))

def e_v4 : (⟨S8192x128, .i32⟩ : BufTy).Contents (Elt F) :=
  Host.shrsi (e_v2 (F := F)) (e_v3 (F := F))

def e_v5 : (⟨S8192x128, .f32⟩ : BufTy).Contents (Elt F) :=
  sitofp .f32 (e_v4 (F := F))

def e_cst : (⟨S_, .f32⟩ : BufTy).Contents (Elt F) :=
  (constant S_ .f32 0x427C0000#32)

def e_v6 : (⟨S8192x128, .f32⟩ : BufTy).Contents (Elt F) :=
  broadcastInDim S8192x128 ![] bcast_S_S8192x128 (e_cst (F := F))

def e_v7 : (⟨S8192x128, .f32⟩ : BufTy).Contents (Elt F) :=
  Host.divf (e_v5 (F := F)) (e_v6 (F := F))

def e_cst_0 : (⟨S_, .f32⟩ : BufTy).Contents (Elt F) :=
  (constant S_ .f32 0x461C4000#32)

def e_v8 : (⟨S_, .f32⟩ : BufTy).Contents (Elt F) :=
  Host.log (e_cst_0 (F := F))

def e_v9 : (⟨S8192x128, .f32⟩ : BufTy).Contents (Elt F) :=
  broadcastInDim S8192x128 ![] bcast_S_S8192x128 (e_v8 (F := F))

def e_v10 : (⟨S8192x128, .f32⟩ : BufTy).Contents (Elt F) :=
  mulf (e_v7 (F := F)) (e_v9 (F := F))

def e_v11 : (⟨S8192x128, .f32⟩ : BufTy).Contents (Elt F) :=
  Host.exp (e_v10 (F := F))

def e_cst_1 : (⟨S_, .f32⟩ : BufTy).Contents (Elt F) :=
  (constant S_ .f32 0x3F800000#32)

def e_v12 : (⟨S8192x128, .f32⟩ : BufTy).Contents (Elt F) :=
  broadcastInDim S8192x128 ![] bcast_S_S8192x128 (e_cst_1 (F := F))

def e_v13 : (⟨S8192x128, .f32⟩ : BufTy).Contents (Elt F) :=
  Host.divf (e_v12 (F := F)) (e_v11 (F := F))

def e_v14 : (⟨S8192x128, .f32⟩ : BufTy).Contents (Elt F) :=
  mulf (e_v1 (F := F)) (e_v13 (F := F))

def e_v15 : (⟨S8192x128, .f32⟩ : BufTy).Contents (Elt F) :=
  Host.cos (e_v14 (F := F))

def e_c_2 : (⟨S_, .i32⟩ : BufTy).Contents (Elt F) :=
  (constantI S_ 32 1#32)

def e_v16 : (⟨S8192x128, .i32⟩ : BufTy).Contents (Elt F) :=
  broadcastInDim S8192x128 ![] bcast_S_S8192x128 (e_c_2 (F := F))

def e_v17 : (⟨S8192x128, .i32⟩ : BufTy).Contents (Elt F) :=
  andi (e_v2 (F := F)) (e_v16 (F := F))

def e_c_3 : (⟨S_, .i32⟩ : BufTy).Contents (Elt F) :=
  (constantI S_ 32 0#32)

def e_v18 : (⟨S8192x128, .i32⟩ : BufTy).Contents (Elt F) :=
  broadcastInDim S8192x128 ![] bcast_S_S8192x128 (e_c_3 (F := F))

def e_v19 : (⟨S8192x128, .i1⟩ : BufTy).Contents (Elt F) :=
  cmpi .eq (e_v17 (F := F)) (e_v18 (F := F))

def e_cst_4 : (⟨S_, .f32⟩ : BufTy).Contents (Elt F) :=
  (constant S_ .f32 0xBF800000#32)

def e_cst_5 : (⟨S_, .f32⟩ : BufTy).Contents (Elt F) :=
  (constant S_ .f32 0x3F800000#32)

def e_call0_v0 : (⟨S8192x128, .f32⟩ : BufTy).Contents (Elt F) :=
  (broadcastInDim S8192x128 ![] bcast_S_S8192x128) (e_cst_4 (F := F))

def e_call0_v1 : (⟨S8192x128, .f32⟩ : BufTy).Contents (Elt F) :=
  (broadcastInDim S8192x128 ![] bcast_S_S8192x128) (e_cst_5 (F := F))

def e_v20 : (⟨S8192x128, .f32⟩ : BufTy).Contents (Elt F) :=
  select (e_v19 (F := F)) (e_call0_v0 (F := F)) (e_call0_v1 (F := F))

def e_v21 : (⟨S8192x128, .f32⟩ : BufTy).Contents (Elt F) :=
  Host.sin (e_v14 (F := F))

def e_v22 : (⟨S8192x128, .f32⟩ : BufTy).Contents (Elt F) :=
  (e_v20 (F := F))

def e_v23 : (⟨S8192x128, .f32⟩ : BufTy).Contents (Elt F) :=
  mulf (e_v22 (F := F)) (e_v21 (F := F))

def e_v24 : (⟨S4, .f32⟩ : BufTy).Contents (Elt F) :=
  (sitofp .f32 (iotaInDim S4 32 0))

def e_cst_6 : (⟨S_, .f32⟩ : BufTy).Contents (Elt F) :=
  (constant S_ .f32 0xC0A00000#32)

def e_v25 : (⟨S4, .f32⟩ : BufTy).Contents (Elt F) :=
  broadcastInDim S4 ![] bcast_S_S4 (e_cst_6 (F := F))

def e_v26 : (⟨S4, .f32⟩ : BufTy).Contents (Elt F) :=
  subf (e_v25 (F := F)) (e_v24 (F := F))

def e_cst_7 : (⟨S_, .f32⟩ : BufTy).Contents (Elt F) :=
  (constant S_ .f32 0x40000000#32)

def e_v27 : (⟨S4, .f32⟩ : BufTy).Contents (Elt F) :=
  broadcastInDim S4 ![] bcast_S_S4 (e_cst_7 (F := F))

def e_v28 : (⟨S4, .f32⟩ : BufTy).Contents (Elt F) :=
  Host.powf (e_v27 (F := F)) (e_v26 (F := F))

def e_v29 : (⟨S4, .f32⟩ : BufTy).Contents (Elt F) :=
  Host.negf (e_v28 (F := F))

def e_v30 : (⟨S4, .f32⟩ : BufTy).Contents (Elt F) :=
  Host.log1p (e_v29 (F := F))

def e_v31 : (⟨S4x1x1, .f32⟩ : BufTy).Contents (Elt F) :=
  broadcastInDim S4x1x1 ![0] bcast_S4_S4x1x1_0 (e_v30 (F := F))

def e_v32 : (⟨S256x256, .i32⟩ : BufTy).Contents (Elt F) :=
  (iotaInDim S256x256 32 0)

def e_v33 : (⟨S256x256, .i32⟩ : BufTy).Contents (Elt F) :=
  (iotaInDim S256x256 32 1)

def e_v34 : (⟨S256x256, .i32⟩ : BufTy).Contents (Elt F) :=
  subi (e_v32 (F := F)) (e_v33 (F := F))

def e_v35 : (⟨S256x256, .i32⟩ : BufTy).Contents (Elt F) :=
  absi (e_v34 (F := F))

def e_v36 : (⟨S256x256, .f32⟩ : BufTy).Contents (Elt F) :=
  sitofp .f32 (e_v35 (F := F))

def e_c_8 : (⟨S_, .i32⟩ : BufTy).Contents (Elt F) :=
  (constantI S_ 32 6#32)

def e_v37 : (⟨S256x256, .i32⟩ : BufTy).Contents (Elt F) :=
  broadcastInDim S256x256 ![] bcast_S_S256x256 (e_c_8 (F := F))

def e_v38 : (⟨S256x256, .i32⟩ : BufTy).Contents (Elt F) :=
  Host.shrsi (e_v33 (F := F)) (e_v37 (F := F))

def e_c_9 : (⟨S_, .i32⟩ : BufTy).Contents (Elt F) :=
  (constantI S_ 32 6#32)

def e_v39 : (⟨S256x256, .i32⟩ : BufTy).Contents (Elt F) :=
  broadcastInDim S256x256 ![] bcast_S_S256x256 (e_c_9 (F := F))

def e_v40 : (⟨S256x256, .i32⟩ : BufTy).Contents (Elt F) :=
  Host.shrsi (e_v32 (F := F)) (e_v39 (F := F))

def e_v41 : (⟨S256x256, .i1⟩ : BufTy).Contents (Elt F) :=
  cmpi .sle (e_v38 (F := F)) (e_v40 (F := F))

def e_v42 : (⟨S256x128, .i32⟩ : BufTy).Contents (Elt F) :=
  (iotaInDim S256x128 32 0)

def e_v43 : (⟨S256x128, .f32⟩ : BufTy).Contents (Elt F) :=
  sitofp .f32 (e_v42 (F := F))

def e_v44 : (⟨S1x256x256, .i1⟩ : BufTy).Contents (Elt F) :=
  broadcastInDim S1x256x256 ![1, 2] bcast_S256x256_S1x256x256_1_2 (e_v41 (F := F))

def e_v45 : (⟨S1x256x256, .f32⟩ : BufTy).Contents (Elt F) :=
  broadcastInDim S1x256x256 ![1, 2] bcast_S256x256_S1x256x256_1_2 (e_v36 (F := F))

def e_v46 : (⟨S4x256x256, .f32⟩ : BufTy).Contents (Elt F) :=
  broadcastInDim S4x256x256 ![0, 1, 2] bcast_S1x256x256_S4x256x256_0_1_2 (e_v45 (F := F))

def e_v47 : (⟨S4x256x256, .f32⟩ : BufTy).Contents (Elt F) :=
  broadcastInDim S4x256x256 ![0, 1, 2] bcast_S4x1x1_S4x256x256_0_1_2 (e_v31 (F := F))

def e_v48 : (⟨S4x256x256, .f32⟩ : BufTy).Contents (Elt F) :=
  mulf (e_v46 (F := F)) (e_v47 (F := F))

def e_v49 : (⟨S4x256x256, .f32⟩ : BufTy).Contents (Elt F) :=
  Host.exp (e_v48 (F := F))

def e_cst_10 : (⟨S_, .f32⟩ : BufTy).Contents (Elt F) :=
  (constant S_ .f32 0x00000000#32)

def e_call1_v0 : (⟨S_, .f32⟩ : BufTy).Contents (Elt F) :=
  (e_cst_10 (F := F))

def e_call1_v1 : (⟨S4x256x256, .i1⟩ : BufTy).Contents (Elt F) :=
  (broadcastInDim S4x256x256 ![0, 1, 2] bcast_S1x256x256_S4x256x256_0_1_2) (e_v44 (F := F))

def e_call1_v2 : (⟨S4x256x256, .f32⟩ : BufTy).Contents (Elt F) :=
  (broadcastInDim S4x256x256 ![] bcast_S_S4x256x256) (e_call1_v0 (F := F))

def e_v50 : (⟨S4x256x256, .f32⟩ : BufTy).Contents (Elt F) :=
  select (e_call1_v1 (F := F)) (e_v49 (F := F)) (e_call1_v2 (F := F))

def e_cst_11 : (⟨S_, .f32⟩ : BufTy).Contents (Elt F) :=
  (constant S_ .f32 0x3F800000#32)

def e_v51 : (⟨S256x128, .f32⟩ : BufTy).Contents (Elt F) :=
  broadcastInDim S256x128 ![] bcast_S_S256x128 (e_cst_11 (F := F))

def e_v52 : (⟨S256x128, .f32⟩ : BufTy).Contents (Elt F) :=
  addf (e_v43 (F := F)) (e_v51 (F := F))

def e_v53 : (⟨S1x256x128, .f32⟩ : BufTy).Contents (Elt F) :=
  broadcastInDim S1x256x128 ![1, 2] bcast_S256x128_S1x256x128_1_2 (e_v52 (F := F))

def e_v54 : (⟨S4x256x128, .f32⟩ : BufTy).Contents (Elt F) :=
  broadcastInDim S4x256x128 ![0, 1, 2] bcast_S1x256x128_S4x256x128_0_1_2 (e_v53 (F := F))

def e_v55 : (⟨S4x256x128, .f32⟩ : BufTy).Contents (Elt F) :=
  broadcastInDim S4x256x128 ![0, 1, 2] bcast_S4x1x1_S4x256x128_0_1_2 (e_v31 (F := F))

def e_v56 : (⟨S4x256x128, .f32⟩ : BufTy).Contents (Elt F) :=
  mulf (e_v54 (F := F)) (e_v55 (F := F))

def e_v57 : (⟨S4x256x128, .f32⟩ : BufTy).Contents (Elt F) :=
  Host.exp (e_v56 (F := F))

def e_cst_12 : (⟨S_, .f32⟩ : BufTy).Contents (Elt F) :=
  (constant S_ .f32 0x437F0000#32)

def e_v58 : (⟨S256x128, .f32⟩ : BufTy).Contents (Elt F) :=
  broadcastInDim S256x128 ![] bcast_S_S256x128 (e_cst_12 (F := F))

def e_v59 : (⟨S256x128, .f32⟩ : BufTy).Contents (Elt F) :=
  subf (e_v58 (F := F)) (e_v43 (F := F))

def e_v60 : (⟨S1x256x128, .f32⟩ : BufTy).Contents (Elt F) :=
  broadcastInDim S1x256x128 ![1, 2] bcast_S256x128_S1x256x128_1_2 (e_v59 (F := F))

def e_v61 : (⟨S4x256x128, .f32⟩ : BufTy).Contents (Elt F) :=
  broadcastInDim S4x256x128 ![0, 1, 2] bcast_S1x256x128_S4x256x128_0_1_2 (e_v60 (F := F))

def e_v62 : (⟨S4x256x128, .f32⟩ : BufTy).Contents (Elt F) :=
  broadcastInDim S4x256x128 ![0, 1, 2] bcast_S4x1x1_S4x256x128_0_1_2 (e_v31 (F := F))

def e_v63 : (⟨S4x256x128, .f32⟩ : BufTy).Contents (Elt F) :=
  mulf (e_v61 (F := F)) (e_v62 (F := F))

def e_v64 : (⟨S4x256x128, .f32⟩ : BufTy).Contents (Elt F) :=
  Host.exp (e_v63 (F := F))

def e_v65 (a_arg1 : (⟨S1024, .f32⟩ : BufTy).Contents (Elt F)) : (⟨S1x1024, .f32⟩ : BufTy).Contents (Elt F) :=
  shapeCast _ a_arg1 shapeCasts_S1024_S1x1024

def e_v66 (a_arg2 : (⟨S1024x2560, .f32⟩ : BufTy).Contents (Elt F)) : (⟨S1024x2560, .bf16⟩ : BufTy).Contents (Elt F) :=
  truncf .bf16 a_arg2 bitsLt_bf16_f32

def e_v67 (a_arg3 : (⟨S512, .f32⟩ : BufTy).Contents (Elt F)) : (⟨S1x512, .f32⟩ : BufTy).Contents (Elt F) :=
  shapeCast _ a_arg3 shapeCasts_S512_S1x512

def e_v68 (a_arg4 : (⟨S4x128x128, .f32⟩ : BufTy).Contents (Elt F)) : (⟨S4x128x128, .bf16⟩ : BufTy).Contents (Elt F) :=
  truncf .bf16 a_arg4 bitsLt_bf16_f32

def e_v69 (a_arg5 : (⟨S512, .f32⟩ : BufTy).Contents (Elt F)) : (⟨S1x512, .f32⟩ : BufTy).Contents (Elt F) :=
  shapeCast _ a_arg5 shapeCasts_S512_S1x512

def e_v70 (a_arg6 : (⟨S1024x1024, .f32⟩ : BufTy).Contents (Elt F)) : (⟨S1024x1024, .bf16⟩ : BufTy).Contents (Elt F) :=
  truncf .bf16 a_arg6 bitsLt_bf16_f32

end Cert.Proof.MixTab

end
-- ==== Proof.MixTabRead.lean ====
module

public import proofs.«01_k».proof.Proof.Gen.MixerIdeal.Value
public import Idealize.ShloMosaic.Lib.StableHlo.RunRead
public import Idealize.ShloMosaic.PureOps.Ideal.Laws
public import proofs.«01_k».proof.Proof.MixTab

@[expose] public section

set_option maxRecDepth 16384

noncomputable section

namespace Cert.Proof.MixTab

open Idealize.ShloMosaic Idealize.ShloMosaic.TcCoe Idealize.SL.Sem Idealize.ShloMosaic.StableHlo Cert.MixerIdeal Cert.MixerIdeal.Gen Cert.MixerIdeal.Value

variable {F : FTy → Type} [FloatOps F]

/-! What those operations leave in each buffer that is read later. -/

/-- The contents after the first 1 of these stretches. -/
def K1 (V : Valuation τ sig (Elt F)) : Valuation τ sig (Elt F) := after hostOps0 V

set_option maxRecDepth 16384 in
theorem K1_arg0 (V : Valuation τ sig (Elt F)) : K1 V (no_index (Proc.devRef .tc main_arg0)) = V (Proc.devRef .tc main_arg0) := by
  unfold K1
  simp only [hostOps0]
  after_reads_simp

set_option maxRecDepth 16384 in
theorem K1_arg1 (V : Valuation τ sig (Elt F)) : K1 V (no_index (Proc.devRef .tc main_arg1)) = V (Proc.devRef .tc main_arg1) := by
  unfold K1
  simp only [hostOps0]
  after_reads_simp

set_option maxRecDepth 16384 in
theorem K1_arg2 (V : Valuation τ sig (Elt F)) : K1 V (no_index (Proc.devRef .tc main_arg2)) = V (Proc.devRef .tc main_arg2) := by
  unfold K1
  simp only [hostOps0]
  after_reads_simp

set_option maxRecDepth 16384 in
theorem K1_arg3 (V : Valuation τ sig (Elt F)) : K1 V (no_index (Proc.devRef .tc main_arg3)) = V (Proc.devRef .tc main_arg3) := by
  unfold K1
  simp only [hostOps0]
  after_reads_simp

set_option maxRecDepth 16384 in
theorem K1_arg4 (V : Valuation τ sig (Elt F)) : K1 V (no_index (Proc.devRef .tc main_arg4)) = V (Proc.devRef .tc main_arg4) := by
  unfold K1
  simp only [hostOps0]
  after_reads_simp

set_option maxRecDepth 16384 in
theorem K1_arg5 (V : Valuation τ sig (Elt F)) : K1 V (no_index (Proc.devRef .tc main_arg5)) = V (Proc.devRef .tc main_arg5) := by
  unfold K1
  simp only [hostOps0]
  after_reads_simp

set_option maxRecDepth 16384 in
theorem K1_arg6 (V : Valuation τ sig (Elt F)) : K1 V (no_index (Proc.devRef .tc main_arg6)) = V (Proc.devRef .tc main_arg6) := by
  unfold K1
  simp only [hostOps0]
  after_reads_simp

set_option maxRecDepth 16384 in
set_option maxHeartbeats 4000000 in
theorem K1_cst_4 (V : Valuation τ sig (Elt F)) : K1 V (no_index (Proc.devRef .tc main_cst_4)) = e_cst_4 (F := F) := by
  unfold K1
  simp only [hostOps0]
  after_reads_simp
  rfl

set_option maxRecDepth 16384 in
set_option maxHeartbeats 4000000 in
theorem K1_cst_5 (V : Valuation τ sig (Elt F)) : K1 V (no_index (Proc.devRef .tc main_cst_5)) = e_cst_5 (F := F) := by
  unfold K1
  simp only [hostOps0]
  after_reads_simp
  rfl

set_option maxRecDepth 16384 in
set_option maxHeartbeats 4000000 in
theorem K1_v14 (V : Valuation τ sig (Elt F)) : K1 V (no_index (Proc.devRef .tc main_v14)) = e_v14 (F := F) := by
  unfold K1
  simp only [hostOps0]
  after_reads_simp
  rfl

set_option maxRecDepth 16384 in
set_option maxHeartbeats 4000000 in
theorem K1_v15 (V : Valuation τ sig (Elt F)) : K1 V (no_index (Proc.devRef .tc main_v15)) = e_v15 (F := F) := by
  unfold K1
  simp only [hostOps0]
  after_reads_simp
  rfl

set_option maxRecDepth 16384 in
set_option maxHeartbeats 4000000 in
theorem K1_v19 (V : Valuation τ sig (Elt F)) : K1 V (no_index (Proc.devRef .tc main_v19)) = e_v19 (F := F) := by
  unfold K1
  simp only [hostOps0]
  after_reads_simp
  rfl

/-- The contents after the first 2 of these stretches. -/
def K2 (V : Valuation τ sig (Elt F)) : Valuation τ sig (Elt F) := after hostOps0_1 (K1 V)

set_option maxRecDepth 16384 in
theorem K2_arg0 (V : Valuation τ sig (Elt F)) : K2 V (no_index (Proc.devRef .tc main_arg0)) = V (Proc.devRef .tc main_arg0) := by
  unfold K2
  simp only [hostOps0_1]
  after_reads_simp
  exact K1_arg0 V

set_option maxRecDepth 16384 in
theorem K2_arg1 (V : Valuation τ sig (Elt F)) : K2 V (no_index (Proc.devRef .tc main_arg1)) = V (Proc.devRef .tc main_arg1) := by
  unfold K2
  simp only [hostOps0_1]
  after_reads_simp
  exact K1_arg1 V

set_option maxRecDepth 16384 in
theorem K2_arg2 (V : Valuation τ sig (Elt F)) : K2 V (no_index (Proc.devRef .tc main_arg2)) = V (Proc.devRef .tc main_arg2) := by
  unfold K2
  simp only [hostOps0_1]
  after_reads_simp
  exact K1_arg2 V

set_option maxRecDepth 16384 in
theorem K2_arg3 (V : Valuation τ sig (Elt F)) : K2 V (no_index (Proc.devRef .tc main_arg3)) = V (Proc.devRef .tc main_arg3) := by
  unfold K2
  simp only [hostOps0_1]
  after_reads_simp
  exact K1_arg3 V

set_option maxRecDepth 16384 in
theorem K2_arg4 (V : Valuation τ sig (Elt F)) : K2 V (no_index (Proc.devRef .tc main_arg4)) = V (Proc.devRef .tc main_arg4) := by
  unfold K2
  simp only [hostOps0_1]
  after_reads_simp
  exact K1_arg4 V

set_option maxRecDepth 16384 in
theorem K2_arg5 (V : Valuation τ sig (Elt F)) : K2 V (no_index (Proc.devRef .tc main_arg5)) = V (Proc.devRef .tc main_arg5) := by
  unfold K2
  simp only [hostOps0_1]
  after_reads_simp
  exact K1_arg5 V

set_option maxRecDepth 16384 in
theorem K2_arg6 (V : Valuation τ sig (Elt F)) : K2 V (no_index (Proc.devRef .tc main_arg6)) = V (Proc.devRef .tc main_arg6) := by
  unfold K2
  simp only [hostOps0_1]
  after_reads_simp
  exact K1_arg6 V

set_option maxRecDepth 16384 in
theorem K2_v14 (V : Valuation τ sig (Elt F)) : K2 V (no_index (Proc.devRef .tc main_v14)) = e_v14 (F := F) := by
  unfold K2
  simp only [hostOps0_1]
  after_reads_simp
  exact K1_v14 V

set_option maxRecDepth 16384 in
theorem K2_v15 (V : Valuation τ sig (Elt F)) : K2 V (no_index (Proc.devRef .tc main_v15)) = e_v15 (F := F) := by
  unfold K2
  simp only [hostOps0_1]
  after_reads_simp
  exact K1_v15 V

set_option maxRecDepth 16384 in
set_option maxHeartbeats 4000000 in
theorem K2_v20 (V : Valuation τ sig (Elt F)) : K2 V (no_index (Proc.devRef .tc main_v20)) = e_v20 (F := F) := by
  unfold K2
  simp only [hostOps0_1]
  after_reads_simp
  try simp only [K1_cst_4, K1_cst_5, K1_v19]
  rfl

/-- The contents after the first 3 of these stretches. -/
def K3 (V : Valuation τ sig (Elt F)) : Valuation τ sig (Elt F) := after hostOps0_2 (K2 V)

set_option maxRecDepth 16384 in
theorem K3_arg0 (V : Valuation τ sig (Elt F)) : K3 V (no_index (Proc.devRef .tc main_arg0)) = V (Proc.devRef .tc main_arg0) := by
  unfold K3
  simp only [hostOps0_2]
  after_reads_simp
  exact K2_arg0 V

set_option maxRecDepth 16384 in
theorem K3_arg1 (V : Valuation τ sig (Elt F)) : K3 V (no_index (Proc.devRef .tc main_arg1)) = V (Proc.devRef .tc main_arg1) := by
  unfold K3
  simp only [hostOps0_2]
  after_reads_simp
  exact K2_arg1 V

set_option maxRecDepth 16384 in
theorem K3_arg2 (V : Valuation τ sig (Elt F)) : K3 V (no_index (Proc.devRef .tc main_arg2)) = V (Proc.devRef .tc main_arg2) := by
  unfold K3
  simp only [hostOps0_2]
  after_reads_simp
  exact K2_arg2 V

set_option maxRecDepth 16384 in
theorem K3_arg3 (V : Valuation τ sig (Elt F)) : K3 V (no_index (Proc.devRef .tc main_arg3)) = V (Proc.devRef .tc main_arg3) := by
  unfold K3
  simp only [hostOps0_2]
  after_reads_simp
  exact K2_arg3 V

set_option maxRecDepth 16384 in
theorem K3_arg4 (V : Valuation τ sig (Elt F)) : K3 V (no_index (Proc.devRef .tc main_arg4)) = V (Proc.devRef .tc main_arg4) := by
  unfold K3
  simp only [hostOps0_2]
  after_reads_simp
  exact K2_arg4 V

set_option maxRecDepth 16384 in
theorem K3_arg5 (V : Valuation τ sig (Elt F)) : K3 V (no_index (Proc.devRef .tc main_arg5)) = V (Proc.devRef .tc main_arg5) := by
  unfold K3
  simp only [hostOps0_2]
  after_reads_simp
  exact K2_arg5 V

set_option maxRecDepth 16384 in
theorem K3_arg6 (V : Valuation τ sig (Elt F)) : K3 V (no_index (Proc.devRef .tc main_arg6)) = V (Proc.devRef .tc main_arg6) := by
  unfold K3
  simp only [hostOps0_2]
  after_reads_simp
  exact K2_arg6 V

set_option maxRecDepth 16384 in
set_option maxHeartbeats 4000000 in
theorem K3_cst_10 (V : Valuation τ sig (Elt F)) : K3 V (no_index (Proc.devRef .tc main_cst_10)) = e_cst_10 (F := F) := by
  unfold K3
  simp only [hostOps0_2]
  after_reads_simp
  rfl

set_option maxRecDepth 16384 in
theorem K3_v15 (V : Valuation τ sig (Elt F)) : K3 V (no_index (Proc.devRef .tc main_v15)) = e_v15 (F := F) := by
  unfold K3
  simp only [hostOps0_2]
  after_reads_simp
  exact K2_v15 V

set_option maxRecDepth 16384 in
set_option maxHeartbeats 4000000 in
theorem K3_v23 (V : Valuation τ sig (Elt F)) : K3 V (no_index (Proc.devRef .tc main_v23)) = e_v23 (F := F) := by
  unfold K3
  simp only [hostOps0_2]
  after_reads_simp
  try simp only [K2_v14, K2_v20]
  rfl

set_option maxRecDepth 16384 in
set_option maxHeartbeats 4000000 in
theorem K3_v31 (V : Valuation τ sig (Elt F)) : K3 V (no_index (Proc.devRef .tc main_v31)) = e_v31 (F := F) := by
  unfold K3
  simp only [hostOps0_2]
  after_reads_simp
  rfl

set_option maxRecDepth 16384 in
set_option maxHeartbeats 4000000 in
theorem K3_v43 (V : Valuation τ sig (Elt F)) : K3 V (no_index (Proc.devRef .tc main_v43)) = e_v43 (F := F) := by
  unfold K3
  simp only [hostOps0_2]
  after_reads_simp
  rfl

set_option maxRecDepth 16384 in
set_option maxHeartbeats 4000000 in
theorem K3_v44 (V : Valuation τ sig (Elt F)) : K3 V (no_index (Proc.devRef .tc main_v44)) = e_v44 (F := F) := by
  unfold K3
  simp only [hostOps0_2]
  after_reads_simp
  rfl

set_option maxRecDepth 16384 in
set_option maxHeartbeats 4000000 in
theorem K3_v49 (V : Valuation τ sig (Elt F)) : K3 V (no_index (Proc.devRef .tc main_v49)) = e_v49 (F := F) := by
  unfold K3
  simp only [hostOps0_2]
  after_reads_simp
  rfl

/-- The contents after the first 4 of these stretches. -/
def K4 (V : Valuation τ sig (Elt F)) : Valuation τ sig (Elt F) := after hostOps0_3 (K3 V)

set_option maxRecDepth 16384 in
theorem K4_arg0 (V : Valuation τ sig (Elt F)) : K4 V (no_index (Proc.devRef .tc main_arg0)) = V (Proc.devRef .tc main_arg0) := by
  unfold K4
  simp only [hostOps0_3]
  after_reads_simp
  exact K3_arg0 V

set_option maxRecDepth 16384 in
theorem K4_arg1 (V : Valuation τ sig (Elt F)) : K4 V (no_index (Proc.devRef .tc main_arg1)) = V (Proc.devRef .tc main_arg1) := by
  unfold K4
  simp only [hostOps0_3]
  after_reads_simp
  exact K3_arg1 V

set_option maxRecDepth 16384 in
theorem K4_arg2 (V : Valuation τ sig (Elt F)) : K4 V (no_index (Proc.devRef .tc main_arg2)) = V (Proc.devRef .tc main_arg2) := by
  unfold K4
  simp only [hostOps0_3]
  after_reads_simp
  exact K3_arg2 V

set_option maxRecDepth 16384 in
theorem K4_arg3 (V : Valuation τ sig (Elt F)) : K4 V (no_index (Proc.devRef .tc main_arg3)) = V (Proc.devRef .tc main_arg3) := by
  unfold K4
  simp only [hostOps0_3]
  after_reads_simp
  exact K3_arg3 V

set_option maxRecDepth 16384 in
theorem K4_arg4 (V : Valuation τ sig (Elt F)) : K4 V (no_index (Proc.devRef .tc main_arg4)) = V (Proc.devRef .tc main_arg4) := by
  unfold K4
  simp only [hostOps0_3]
  after_reads_simp
  exact K3_arg4 V

set_option maxRecDepth 16384 in
theorem K4_arg5 (V : Valuation τ sig (Elt F)) : K4 V (no_index (Proc.devRef .tc main_arg5)) = V (Proc.devRef .tc main_arg5) := by
  unfold K4
  simp only [hostOps0_3]
  after_reads_simp
  exact K3_arg5 V

set_option maxRecDepth 16384 in
theorem K4_arg6 (V : Valuation τ sig (Elt F)) : K4 V (no_index (Proc.devRef .tc main_arg6)) = V (Proc.devRef .tc main_arg6) := by
  unfold K4
  simp only [hostOps0_3]
  after_reads_simp
  exact K3_arg6 V

set_option maxRecDepth 16384 in
theorem K4_v15 (V : Valuation τ sig (Elt F)) : K4 V (no_index (Proc.devRef .tc main_v15)) = e_v15 (F := F) := by
  unfold K4
  simp only [hostOps0_3]
  after_reads_simp
  exact K3_v15 V

set_option maxRecDepth 16384 in
theorem K4_v23 (V : Valuation τ sig (Elt F)) : K4 V (no_index (Proc.devRef .tc main_v23)) = e_v23 (F := F) := by
  unfold K4
  simp only [hostOps0_3]
  after_reads_simp
  exact K3_v23 V

set_option maxRecDepth 16384 in
theorem K4_v31 (V : Valuation τ sig (Elt F)) : K4 V (no_index (Proc.devRef .tc main_v31)) = e_v31 (F := F) := by
  unfold K4
  simp only [hostOps0_3]
  after_reads_simp
  exact K3_v31 V

set_option maxRecDepth 16384 in
theorem K4_v43 (V : Valuation τ sig (Elt F)) : K4 V (no_index (Proc.devRef .tc main_v43)) = e_v43 (F := F) := by
  unfold K4
  simp only [hostOps0_3]
  after_reads_simp
  exact K3_v43 V

set_option maxRecDepth 16384 in
set_option maxHeartbeats 4000000 in
theorem K4_v50 (V : Valuation τ sig (Elt F)) : K4 V (no_index (Proc.devRef .tc main_v50)) = e_v50 (F := F) := by
  unfold K4
  simp only [hostOps0_3]
  after_reads_simp
  try simp only [K3_cst_10, K3_v44, K3_v49]
  rfl

/-- The contents after the first 5 of these stretches. -/
def K5 (V : Valuation τ sig (Elt F)) : Valuation τ sig (Elt F) := after hostOps0_4 (K4 V)

set_option maxRecDepth 16384 in
theorem K5_arg0 (V : Valuation τ sig (Elt F)) : K5 V (no_index (Proc.devRef .tc main_arg0)) = V (Proc.devRef .tc main_arg0) := by
  unfold K5
  simp only [hostOps0_4]
  after_reads_simp
  exact K4_arg0 V

set_option maxRecDepth 16384 in
theorem K5_arg1 (V : Valuation τ sig (Elt F)) : K5 V (no_index (Proc.devRef .tc main_arg1)) = V (Proc.devRef .tc main_arg1) := by
  unfold K5
  simp only [hostOps0_4]
  after_reads_simp
  exact K4_arg1 V

set_option maxRecDepth 16384 in
theorem K5_arg2 (V : Valuation τ sig (Elt F)) : K5 V (no_index (Proc.devRef .tc main_arg2)) = V (Proc.devRef .tc main_arg2) := by
  unfold K5
  simp only [hostOps0_4]
  after_reads_simp
  exact K4_arg2 V

set_option maxRecDepth 16384 in
theorem K5_arg3 (V : Valuation τ sig (Elt F)) : K5 V (no_index (Proc.devRef .tc main_arg3)) = V (Proc.devRef .tc main_arg3) := by
  unfold K5
  simp only [hostOps0_4]
  after_reads_simp
  exact K4_arg3 V

set_option maxRecDepth 16384 in
theorem K5_arg4 (V : Valuation τ sig (Elt F)) : K5 V (no_index (Proc.devRef .tc main_arg4)) = V (Proc.devRef .tc main_arg4) := by
  unfold K5
  simp only [hostOps0_4]
  after_reads_simp
  exact K4_arg4 V

set_option maxRecDepth 16384 in
theorem K5_arg5 (V : Valuation τ sig (Elt F)) : K5 V (no_index (Proc.devRef .tc main_arg5)) = V (Proc.devRef .tc main_arg5) := by
  unfold K5
  simp only [hostOps0_4]
  after_reads_simp
  exact K4_arg5 V

set_option maxRecDepth 16384 in
theorem K5_arg6 (V : Valuation τ sig (Elt F)) : K5 V (no_index (Proc.devRef .tc main_arg6)) = V (Proc.devRef .tc main_arg6) := by
  unfold K5
  simp only [hostOps0_4]
  after_reads_simp
  exact K4_arg6 V

set_option maxRecDepth 16384 in
theorem K5_v15 (V : Valuation τ sig (Elt F)) : K5 V (no_index (Proc.devRef .tc main_v15)) = e_v15 (F := F) := by
  unfold K5
  simp only [hostOps0_4]
  after_reads_simp
  exact K4_v15 V

set_option maxRecDepth 16384 in
theorem K5_v23 (V : Valuation τ sig (Elt F)) : K5 V (no_index (Proc.devRef .tc main_v23)) = e_v23 (F := F) := by
  unfold K5
  simp only [hostOps0_4]
  after_reads_simp
  exact K4_v23 V

set_option maxRecDepth 16384 in
theorem K5_v50 (V : Valuation τ sig (Elt F)) : K5 V (no_index (Proc.devRef .tc main_v50)) = e_v50 (F := F) := by
  unfold K5
  simp only [hostOps0_4]
  after_reads_simp
  exact K4_v50 V

set_option maxRecDepth 16384 in
set_option maxHeartbeats 4000000 in
theorem K5_v57 (V : Valuation τ sig (Elt F)) : K5 V (no_index (Proc.devRef .tc main_v57)) = e_v57 (F := F) := by
  unfold K5
  simp only [hostOps0_4]
  after_reads_simp
  try simp only [K4_v31, K4_v43]
  rfl

set_option maxRecDepth 16384 in
set_option maxHeartbeats 4000000 in
theorem K5_v64 (V : Valuation τ sig (Elt F)) : K5 V (no_index (Proc.devRef .tc main_v64)) = e_v64 (F := F) := by
  unfold K5
  simp only [hostOps0_4]
  after_reads_simp
  try simp only [K4_v31, K4_v43]
  rfl

set_option maxRecDepth 16384 in
set_option maxHeartbeats 4000000 in
theorem K5_v65 (V : Valuation τ sig (Elt F)) : K5 V (no_index (Proc.devRef .tc main_v65)) = e_v65 (F := F) (V (Proc.devRef .tc main_arg1)) := by
  unfold K5
  simp only [hostOps0_4]
  after_reads_simp
  try simp only [K4_arg1]
  rfl

set_option maxRecDepth 16384 in
set_option maxHeartbeats 4000000 in
theorem K5_v66 (V : Valuation τ sig (Elt F)) : K5 V (no_index (Proc.devRef .tc main_v66)) = e_v66 (F := F) (V (Proc.devRef .tc main_arg2)) := by
  unfold K5
  simp only [hostOps0_4]
  after_reads_simp
  try simp only [K4_arg2]
  rfl

set_option maxRecDepth 16384 in
set_option maxHeartbeats 4000000 in
theorem K5_v67 (V : Valuation τ sig (Elt F)) : K5 V (no_index (Proc.devRef .tc main_v67)) = e_v67 (F := F) (V (Proc.devRef .tc main_arg3)) := by
  unfold K5
  simp only [hostOps0_4]
  after_reads_simp
  try simp only [K4_arg3]
  rfl

set_option maxRecDepth 16384 in
set_option maxHeartbeats 4000000 in
theorem K5_v68 (V : Valuation τ sig (Elt F)) : K5 V (no_index (Proc.devRef .tc main_v68)) = e_v68 (F := F) (V (Proc.devRef .tc main_arg4)) := by
  unfold K5
  simp only [hostOps0_4]
  after_reads_simp
  try simp only [K4_arg4]
  rfl

set_option maxRecDepth 16384 in
set_option maxHeartbeats 4000000 in
theorem K5_v69 (V : Valuation τ sig (Elt F)) : K5 V (no_index (Proc.devRef .tc main_v69)) = e_v69 (F := F) (V (Proc.devRef .tc main_arg5)) := by
  unfold K5
  simp only [hostOps0_4]
  after_reads_simp
  try simp only [K4_arg5]
  rfl

set_option maxRecDepth 16384 in
set_option maxHeartbeats 4000000 in
theorem K5_v70 (V : Valuation τ sig (Elt F)) : K5 V (no_index (Proc.devRef .tc main_v70)) = e_v70 (F := F) (V (Proc.devRef .tc main_arg6)) := by
  unfold K5
  simp only [hostOps0_4]
  after_reads_simp
  try simp only [K4_arg6]
  rfl

/-- The kernel's launch contents are the contents after all of these operations. -/
theorem V_eq (m : (ℓ : Loc nD τ sig) → Buf (Elt F) ℓ) (c : Dev nD) (b : Ref sig .tc) :
    V m c b = K5 (fun b => m (c, b)) (Proc.devRef .tc b) := by
  unfold K5 K4 K3 K2 K1
  simp only [V, List.flatten_cons, List.flatten_nil, List.append_nil, StableHlo.after_append]

end Cert.Proof.MixTab

end
-- ==== Proof.MixTabVal.lean ====
/- The kernel's tables, as real numbers. -/
module

public import proofs.«01_k».proof.Proof.MixTab
public import proofs.«01_k».proof.Proof.MixReal

@[expose] public section

set_option maxRecDepth 16384

noncomputable section

/-! Elements of whole numbers and of the elementary functions at real numbers. -/

namespace Cert.Proof.MixNum

open Idealize.ShloMosaic Cert.Proof.MixReal

theorem sf (n : ℕ) (h : n < 2147483648) : (FloatOps.sitofp FTy.f32 (BitVec.ofNat 32 n) : Ideal .f32) = ((n : ℝ) : EReal) := by
  have e : (BitVec.ofNat 32 n).toInt = n := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e]; rfl

theorem half : ∀ d : Fin 128, IntOp.shrsi ArithUnit.host (BitVec.ofNat 32 d.val) 1#32 = BitVec.ofNat 32 (d.val / 2) := by decide
theorem chunk : ∀ d : Fin 256, IntOp.shrsi ArithUnit.host (BitVec.ofNat 32 d.val) 6#32 = BitVec.ofNat 32 (d.val / 64) := by decide
theorem le4 : ∀ a b : Fin 4, IntOp.cmpi CmpIPredicate.sle (BitVec.ofNat 32 a.val) (BitVec.ofNat 32 b.val) = if a.val ≤ b.val then 1#1 else 0#1 := by decide
theorem evenlane : ∀ d : Fin 128, IntOp.cmpi CmpIPredicate.eq (IntOp.andi (BitVec.ofNat 32 d.val) 1#32) 0#32 = if d.val % 2 = 0 then 1#1 else 0#1 := by decide
theorem abs_pos : ∀ d : Fin 256, IntOp.absi (BitVec.ofNat 32 d.val) = BitVec.ofNat 32 d.val := by decide
theorem abs_neg : ∀ d : Fin 256, IntOp.absi (-BitVec.ofNat 32 d.val) = BitVec.ofNat 32 d.val := by decide
theorem absdist (n m : ℕ) (hn : n < 256) (hm : m < 256) :
    IntOp.absi (IntOp.subi (BitVec.ofNat 32 n) (BitVec.ofNat 32 m)) = BitVec.ofNat 32 (MixReal.dist n m) := by
  unfold MixReal.dist
  by_cases h : m ≤ n
  · have e : IntOp.subi (BitVec.ofNat 32 n) (BitVec.ofNat 32 m) = BitVec.ofNat 32 (n - m) := by
      show BitVec.ofNat 32 n - BitVec.ofNat 32 m = _
      apply BitVec.eq_of_toNat_eq
      simp only [BitVec.toNat_sub, BitVec.toNat_ofNat]
      omega
    rw [e, show (n - m) + (m - n) = n - m by omega]
    exact abs_pos ⟨n - m, by omega⟩
  · have e : IntOp.subi (BitVec.ofNat 32 n) (BitVec.ofNat 32 m) = -BitVec.ofNat 32 (m - n) := by
      show BitVec.ofNat 32 n - BitVec.ofNat 32 m = _
      apply BitVec.eq_of_toNat_eq
      simp only [BitVec.toNat_sub, BitVec.toNat_neg, BitVec.toNat_ofNat]
      omega
    rw [e, show (n - m) + (m - n) = m - n by omega]
    exact abs_neg ⟨m - n, by omega⟩

theorem log_pos {r : ℝ} (h : 0 < r) : Ideal.log (r : EReal) = (Real.log r : EReal) := by
  show (if r ≤ 0 then ⊥ else (Real.log r : EReal)) = _
  rw [if_neg (not_le.mpr h)]
theorem cos_coe (r : ℝ) : Ideal.cos (r : EReal) = (Real.cos r : EReal) := rfl
theorem sin_coe (r : ℝ) : Ideal.sin (r : EReal) = (Real.sin r : EReal) := rfl

theorem bits_63 : (Ideal.ofBits FTy.f32 1115422720#32 : EReal) = ((63 : ℝ) : EReal) := by
  simp [Ideal.ofBits, Ideal.ieee, -EReal.coe_mul]; norm_num
theorem bits_10000 : (Ideal.ofBits FTy.f32 1176256512#32 : EReal) = ((10000 : ℝ) : EReal) := by
  simp [Ideal.ofBits, Ideal.ieee, -EReal.coe_mul]; norm_num
theorem bits_neg1 : (Ideal.ofBits FTy.f32 3212836864#32 : EReal) = ((-1 : ℝ) : EReal) := by
  simp [Ideal.ofBits, Ideal.ieee, -EReal.coe_mul]; norm_num
theorem bits_2 : (Ideal.ofBits FTy.f32 1073741824#32 : EReal) = ((2 : ℝ) : EReal) := by
  simp [Ideal.ofBits, Ideal.ieee, -EReal.coe_mul]; norm_num
theorem bits_neg5 : (Ideal.ofBits FTy.f32 3231711232#32 : EReal) = ((-5 : ℝ) : EReal) := by
  simp [Ideal.ofBits, Ideal.ieee, -EReal.coe_mul]; norm_num
theorem bits_255 : (Ideal.ofBits FTy.f32 1132396544#32 : EReal) = ((255 : ℝ) : EReal) := by
  simp [Ideal.ofBits, Ideal.ieee, -EReal.coe_mul]; norm_num

theorem gam_pos (h : Fin 4) : 0 < gam h := by fin_cases h <;> norm_num [gam]

/-- The logarithm of a head's decay. -/
theorem log_gam (h : Fin 4) :
    Ideal.log1p (-Ideal.pow ((2 : ℝ) : EReal) (((-5 : ℝ) : EReal) - ((h.val : ℝ) : EReal))) = (Real.log (gam h) : EReal) := by
  have e : Ideal.pow ((2 : ℝ) : EReal) (((-5 : ℝ) : EReal) - ((h.val : ℝ) : EReal)) = ((1 / 2 ^ (5 + h.val) : ℝ) : EReal) := by
    rw [← EReal.coe_sub, Ideal.pow_coe_coe]
    congr 1
    rw [show (-5 - (h.val : ℝ)) = -((5 + h.val : ℕ) : ℝ) by push_cast; ring]
    show (2 : ℝ) ^ (-((5 + h.val : ℕ) : ℝ)) = _
    rw [Real.rpow_neg (by norm_num), Real.rpow_natCast, one_div]
  rw [e]
  show Ideal.log (1 + -_) = _
  rw [← EReal.coe_neg, ← EReal.coe_one, ← EReal.coe_add, show (1 + -(1 / 2 ^ (5 + h.val)) : ℝ) = gam h by unfold gam; ring, log_pos (gam_pos h)]

/-- A power of the decay. -/
theorem exp_gam (h : Fin 4) (n : ℕ) : Ideal.exp (((n : ℝ) : EReal) * (Real.log (gam h) : EReal)) = ((gam h ^ n : ℝ) : EReal) := by
  rw [← EReal.coe_mul, Ideal.exp_coe]
  congr 1
  rw [mul_comm, Real.exp_mul, Real.exp_log (gam_pos h), Real.rpow_natCast]

end Cert.Proof.MixNum

namespace Cert.Proof.MixTab

open Idealize.ShloMosaic Cert.MixerIdeal Cert.Proof.MixReal Cert.Proof.MixNum

theorem v14_apply (T : Fin 8192) (d : Fin 128) : e_v14 (F := Ideal) (ix2 T d) = (ang T.val (d.val / 2) : EReal) := by
  pointwise [e_v0, e_v1, e_v2, e_c, e_v3, e_v4, e_v5, e_cst, e_v6, e_v7, e_cst_0, e_v8, e_v9, e_v10, e_v11, e_cst_1, e_v12, e_v13, e_v14]
  rw [half, sf _ (by omega), sf _ (by omega), bits_63, bits_10000, log_pos (by norm_num), Ideal.div_coe (by norm_num), ← EReal.coe_mul, ← EReal.coe_mul,
    Ideal.exp_coe, Ideal.div_coe (Real.exp_ne_zero _), one_mul, ← EReal.coe_mul]
  unfold ang
  rw [Real.rpow_def_of_pos (by norm_num)]
  congr 4
  ring
theorem v15_apply (T : Fin 8192) (d : Fin 128) : e_v15 (F := Ideal) (ix2 T d) = (cosR T.val d : EReal) := by
  pointwise [e_v15, v14_apply]
  rfl
theorem v23_apply (T : Fin 8192) (d : Fin 128) : e_v23 (F := Ideal) (ix2 T d) = (sinR T.val d : EReal) := by
  pointwise [e_v15, v14_apply, e_v2, e_c_2, e_v16, e_v17, e_c_3, e_v18, e_v19, e_cst_4, e_cst_5, e_call0_v0, e_call0_v1, e_v20, e_v21, e_v22, e_v23]
  rw [evenlane, sin_coe, bits_neg1]
  unfold sinR
  by_cases h : d.val % 2 = 0
  · rw [if_pos h, if_pos h]
    show ((-1 : ℝ) : EReal) * _ = _
    rw [← EReal.coe_mul, neg_one_mul]
  · rw [if_neg h, if_neg h]
    exact one_mul _
theorem v30_apply (h : Fin 4) : e_v30 (F := Ideal) (ix1 h) = (Real.log (gam h) : EReal) := by
  pointwise [e_v24, e_cst_6, e_v25, e_v26, e_cst_7, e_v27, e_v28, e_v29, e_v30]
  rw [sf _ (by omega), bits_2, bits_neg5]
  exact log_gam h
theorem v50_apply (h : Fin 4) (n m : Fin 256) : e_v50 (F := Ideal) (ix3 h n m) = ((if m.val / 64 ≤ n.val / 64 then gam h ^ MixReal.dist n.val m.val else 0 : ℝ) : EReal) := by
  pointwise [v30_apply, e_v31, e_v32, e_v33, e_v34, e_v35, e_v36, e_c_8, e_v37, e_v38, e_c_9, e_v39, e_v40, e_v41, e_v44, e_v45, e_v46, e_v47, e_v48, e_v49, e_cst_10, e_call1_v0, e_call1_v1, e_call1_v2, e_v50]
  have hd : MixReal.dist n.val m.val < 2147483648 := by unfold MixReal.dist; omega
  have e4 := le4 ⟨m.val / 64, by omega⟩ ⟨n.val / 64, by omega⟩
  rw [chunk, chunk, e4, absdist _ _ n.isLt m.isLt, sf _ hd, exp_gam]
  show Scalar.select (if m.val / 64 ≤ n.val / 64 then 1#1 else 0#1) _ _ = _
  by_cases h : m.val / 64 ≤ n.val / 64
  · rw [if_pos h, if_pos h]; rfl
  · rw [if_neg h, if_neg h]; rfl
theorem v57_apply (h : Fin 4) (n : Fin 256) (d : Fin 128) : e_v57 (F := Ideal) (ix3 h n d) = ((gam h ^ (n.val + 1) : ℝ) : EReal) := by
  pointwise [v30_apply, e_v31, e_v42, e_v43, e_cst_11, e_v51, e_v52, e_v53, e_v54, e_v55, e_v56, e_v57]
  rw [sf _ (by omega), ← EReal.coe_one, ← EReal.coe_add, ← exp_gam]
  push_cast
  rfl
theorem v64_apply (h : Fin 4) (n : Fin 256) (d : Fin 128) : e_v64 (F := Ideal) (ix3 h n d) = ((gam h ^ (255 - n.val) : ℝ) : EReal) := by
  pointwise [v30_apply, e_v31, e_v42, e_v43, e_cst_12, e_v58, e_v59, e_v60, e_v61, e_v62, e_v63, e_v64]
  rw [sf _ (by omega), bits_255, ← EReal.coe_sub, ← exp_gam, Nat.cast_sub (by omega)]
  norm_num

end Cert.Proof.MixTab

end
-- ==== Proof.MixZ.lean ====
/- The projection of a row: in the kernel's body, in the reference, and as real numbers. -/
module

public import proofs.«01_k».proof.Proof.MixRefPre
public import proofs.«01_k».proof.Proof.MixTile
public import proofs.«01_k».proof.Proof.FfnSpec
public import proofs.«01_k».proof.Proof.MixReal

@[expose] public section

set_option maxRecDepth 16384

noncomputable section

namespace Cert.Proof.MixZ

open Idealize.ShloMosaic Idealize.ShloMosaic.TcCoe Idealize.SL.Sem Cert.Proof.FfnSpec

/-- A normalised row times a column of the input projection. -/
def zrow (x g : Fin 1024 → EReal) (w : Fin 1024 → Fin 2560 → EReal) (c : Fin 2560) : EReal := ∑ k, rms x g k * w k c

theorem pay6_apply (x : Vec Ideal Cert.MixerIdeal.S1x1024x1024 .f32) (r k : Fin 1024) :
    Cert.MixerIdeal.Gen.k0_pay6 x (ix2 r k) = x (ix3 0 r k) := by
  pointwise [Cert.MixerIdeal.Gen.k0_pay6]

theorem pay7_apply (x : Vec Ideal Cert.MixerIdeal.S1x1024x1024 .f32) (g : Vec Ideal Cert.MixerIdeal.S1x1024 .f32)
    (w : Vec Ideal Cert.MixerIdeal.S1024x2560 .bf16) (r : Fin 1024) (c : Fin 2560) :
    Cert.MixerIdeal.Gen.k0_pay7 x g w (ix2 r c) = zrow (fun k => x (ix3 0 r k)) (fun k => g (ix2 0 k)) (fun k c => w (ix2 k c)) c := by
  unfold zrow rms
  pointwise [Cert.MixerIdeal.Gen.k0_pay7, pay6_apply]

open Cert.MixerRefIdeal Cert.Proof.MixRef in
theorem ref_apply (x : Vec Ideal Cert.MixerRefIdeal.S8x8192x1024 .f32) (g : Vec Ideal Cert.MixerRefIdeal.S1024 .f32)
    (w : Vec Ideal Cert.MixerRefIdeal.S1024x2560 .f32) (b : Fin 8) (t : Fin 8192) (c : Fin 2560) :
    e_v13 (F := Ideal) x g w (ix3 b t c) = zrow (fun k => x (ix3 b t k)) (fun k => g (ix1 k)) (fun k c => w (ix2 k c)) c := by
  unfold zrow rms
  pointwise [e_v0, e_cst, e_v1, e_v2, e_cst_0, e_v3, e_v4, e_cst_1, e_v5, e_v6, e_v7, e_v8, e_v9, e_v10, e_v11, e_v12, e_v13]

theorem sum_real {n : ℕ} (f : Fin n → EReal) (h : ∀ k, ∃ r : ℝ, f k = r) : ∃ r : ℝ, ∑ k, f k = r := by
  choose g hg using h
  exact ⟨∑ k, g k, by rw [Finset.sum_congr rfl fun k _ => hg k]; exact MixReal.coe_sum _ _⟩

/-- The projection of real rows by real arrays is real. -/
theorem zrow_real (x g : Fin 1024 → ℝ) (w : Fin 1024 → Fin 2560 → ℝ) (c : Fin 2560) :
    ∃ r : ℝ, zrow (fun k => (x k : EReal)) (fun k => (g k : EReal)) (fun k c => (w k c : EReal)) c = r := by
  have e1 : (Ideal.ofBits .f32 0x44800000#32 : EReal) = ((1024 : ℝ) : EReal) := by
    simp [Ideal.ofBits, Ideal.ieee, -EReal.coe_mul]
    norm_num
  have e2 : (Ideal.ofBits .f32 0x358637BD#32 : EReal) = ((8796093 / 8796093022208 : ℝ) : EReal) := by
    simp [Ideal.ofBits, Ideal.ieee, -EReal.coe_mul]
    norm_num
  have e3 : (∑ k, (x k : EReal) * (x k : EReal)) = ((∑ k, x k * x k : ℝ) : EReal) := by
    simp only [← EReal.coe_mul]; exact MixReal.coe_sum _ _
  have hp : 0 < (∑ k, x k * x k) * (1 / 1024) + 8796093 / 8796093022208 := by
    have : 0 ≤ ∑ k, x k * x k := Finset.sum_nonneg fun k _ => mul_self_nonneg _
    positivity
  refine sum_real _ fun k => ?_
  refine ⟨x k * (Real.sqrt ((∑ k, x k * x k) * (1 / 1024) + 8796093 / 8796093022208))⁻¹ * g k * w k c, ?_⟩
  have e4 : Ideal.rsqrt (Ideal.div (∑ k, (x k : EReal) * (x k : EReal)) (Ideal.ofBits .f32 0x44800000#32) + Ideal.ofBits .f32 0x358637BD#32)
      = (((Real.sqrt ((∑ k, x k * x k) * (1 / 1024) + 8796093 / 8796093022208))⁻¹ : ℝ) : EReal) := by
    rw [e3, e1, e2, Ideal.div_coe (by norm_num), ← EReal.coe_mul, ← EReal.coe_add, MixReal.rsqrt_pos hp]
  show x k * Ideal.rsqrt _ * g k * _ = _
  rw [e4]
  push_cast
  rfl

end Cert.Proof.MixZ

end
-- ==== Proof.MixGoal.lean ====
/- The mixer's result, as a function of its projected rows. -/
module

public import proofs.«01_k».proof.Proof.MixTile
public import proofs.«01_k».proof.Proof.MixReal
public import proofs.«01_k».proof.Proof.MixZ

@[expose] public section

noncomputable section

namespace Cert.Proof.MixGoal

open Idealize.ShloMosaic Cert.MixerIdeal Cert.Proof.MixTile Cert.Proof.MixReal Cert.Proof.MixZ

/-- The result at sequence `i 0`, token `i 1`, lane `i 2`: the input plus the output projection of the token's 1024 mixed lanes;
    `z` are the projected rows of every sequence. -/
def G (z : Fin 8 → ℕ → Fin 2560 → ℝ) (x : Vec Ideal S8x8192x1024 .f32) (gn : Vec Ideal S512 .f32) (wp : Vec Ideal S4x128x128 .f32)
    (ps : Vec Ideal S512 .f32) (wo : Vec Ideal S1024x1024 .f32) : Vec Ideal S8x8192x1024 .f32 := fun i =>
  x i + ∑ j : Fin 1024, catS (z (i 0)) (fun h e => gn (ix1 (lane4 h e))) (fun g k e => wp (ix3 g k e)) (fun g e => ps (ix1 (lane4 g e)))
    (i 1).val j * wo (ix2 j (i 2))

/-- `z` are the projected rows of the normalised input. -/
def IsRows (z : Fin 8 → ℕ → Fin 2560 → ℝ) (x : Vec Ideal S8x8192x1024 .f32) (g : Vec Ideal S1024 .f32) (w : Vec Ideal S1024x2560 .f32) : Prop :=
  ∀ (b : Fin 8) (T : Fin 8192) (c : Fin 2560),
    zrow (fun k => x (ix3 b T k)) (fun k => g (ix1 k)) (fun k c => w (ix2 k c)) c = (z b T.val c : EReal)

end Cert.Proof.MixGoal

end
-- ==== Proof.MixBlks.lean ====
/- The blocks a grid point of the mixer reads. -/
module

public import proofs.«01_k».proof.Proof.MixTabRead
public import proofs.«01_k».proof.Proof.MixTabVal
public import proofs.«01_k».proof.Proof.MixGoal
public import proofs.«01_k».proof.Proof.Gen.MixerIdeal.Value
public import Idealize.ShloMosaic.Lib.Pipeline.ValueKit

@[expose] public section

set_option maxRecDepth 16384

noncomputable section

namespace Cert.Proof.MixBlks

open Idealize.ShloMosaic Idealize.ShloMosaic.TcCoe Idealize.SL.Sem
open Cert.MixerIdeal Cert.MixerIdeal.Gen Cert.Proof.MixTile Cert.Proof.MixReal Cert.Proof.MixTab Cert.Proof.MixGoal Cert.Proof.MixZ

/-! ## The blocks a point reads -/

theorem coord : ∀ t : Fin grid0.N, ((grid0.coords t) 1).val = t.val % 8 := by decide +kernel
theorem idx0 : ∀ t : Fin grid0.N, win0_0.index t 0 = t.val / 8 ∧ win0_0.index t 1 = t.val % 8 ∧ win0_0.index t 2 = 0 := by decide +kernel
theorem idx3 : ∀ t : Fin grid0.N, win0_3.index t 0 = t.val % 8 ∧ win0_3.index t 1 = 0 := by decide +kernel
theorem idx4 : ∀ t : Fin grid0.N, win0_4.index t 0 = t.val % 8 ∧ win0_4.index t 1 = 0 := by decide +kernel
theorem idx12 : ∀ t : Fin grid0.N, win0_12.index t 0 = t.val / 8 ∧ win0_12.index t 1 = t.val % 8 ∧ win0_12.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx5 : ∀ t : Fin grid0.N, win0_5.index t 0 = 0 ∧ win0_5.index t 1 = 0 ∧ win0_5.index t 2 = 0 := by decide +kernel
theorem idx6 : ∀ t : Fin grid0.N, win0_6.index t 0 = 0 ∧ win0_6.index t 1 = 0 ∧ win0_6.index t 2 = 0 := by decide +kernel
theorem idx7 : ∀ t : Fin grid0.N, win0_7.index t 0 = 0 ∧ win0_7.index t 1 = 0 ∧ win0_7.index t 2 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 ∧ win0_9.index t 2 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel

variable (m : (ℓ : Loc nD τ sig) → Buf (Elt Ideal) ℓ) (ρ : Dev nD → PrngReg)

/-- The tile of tokens of point `t`. -/
theorem iblk0_apply (c : Dev nD) (t : Fin cfg0.N) (r k : Fin 1024) (h0 : t.val / 8 < 8) (h1 : 1024 * (t.val % 8) + r.val < 8192) :
    (iblk m c 0 t : Vec Ideal S1x1024x1024 .f32) (ix3 0 r k) = (V m c main_arg0 : Vec Ideal S8x8192x1024 .f32) (ix3 ⟨t.val / 8, h0⟩ ⟨1024 * (t.val % 8) + r.val, h1⟩ k) := by
  unfold iblk
  show (V m c main_arg0 : Vec Ideal S8x8192x1024 .f32) ((win0_0.rect t).emb (ix3 0 r k)) = _
  congr 1
  funext a; apply Fin.ext
  rw [win0_0.rect_emb_val]
  fin_cases a
  · show win0_0.index t 0 * 1 + 0 = _
    rw [(idx0 t).1]; simp
  · show win0_0.index t 1 * 1024 + r.val = _
    rw [(idx0 t).2.1, Nat.mul_comm]; rfl
  · show win0_0.index t 2 * 1024 + k.val = _
    rw [(idx0 t).2.2]; simp
theorem iblk3_apply (c : Dev nD) (t : Fin cfg0.N) (r : Fin 1024) (d : Fin 128) (h1 : 1024 * (t.val % 8) + r.val < 8192) :
    (iblk m c 3 t : Vec Ideal S1024x128 .f32) (ix2 r d) = (V m c main_v15 : Vec Ideal S8192x128 .f32) (ix2 ⟨1024 * (t.val % 8) + r.val, h1⟩ d) := by
  unfold iblk
  show (V m c main_v15 : Vec Ideal S8192x128 .f32) ((win0_3.rect t).emb (ix2 r d)) = _
  congr 1
  funext a; apply Fin.ext
  rw [win0_3.rect_emb_val]
  fin_cases a
  · show win0_3.index t 0 * 1024 + r.val = _
    rw [(idx3 t).1, Nat.mul_comm]; rfl
  · show win0_3.index t 1 * 128 + d.val = _
    rw [(idx3 t).2]; simp
theorem iblk4_apply (c : Dev nD) (t : Fin cfg0.N) (r : Fin 1024) (d : Fin 128) (h1 : 1024 * (t.val % 8) + r.val < 8192) :
    (iblk m c 4 t : Vec Ideal S1024x128 .f32) (ix2 r d) = (V m c main_v23 : Vec Ideal S8192x128 .f32) (ix2 ⟨1024 * (t.val % 8) + r.val, h1⟩ d) := by
  unfold iblk
  show (V m c main_v23 : Vec Ideal S8192x128 .f32) ((win0_4.rect t).emb (ix2 r d)) = _
  congr 1
  funext a; apply Fin.ext
  rw [win0_4.rect_emb_val]
  fin_cases a
  · show win0_4.index t 0 * 1024 + r.val = _
    rw [(idx4 t).1, Nat.mul_comm]; rfl
  · show win0_4.index t 1 * 128 + d.val = _
    rw [(idx4 t).2]; simp
theorem iblk1_eq (c : Dev nD) (t : Fin cfg0.N) : (iblk m c 1 t : Vec Ideal S1x1024 .f32) = V m c main_v65 := by
  unfold iblk
  funext y
  show (V m c main_v65 : Vec Ideal S1x1024 .f32) ((win0_1.rect t).emb y) = _
  congr 1
  funext a; apply Fin.ext
  fin_cases a
  · exact win0_1.rect_emb_val_of_index_zero t 0 (idx1 t).1 y
  · exact win0_1.rect_emb_val_of_index_zero t 1 (idx1 t).2 y
theorem iblk2_eq (c : Dev nD) (t : Fin cfg0.N) : (iblk m c 2 t : Vec Ideal S1024x2560 .bf16) = V m c main_v66 := by
  unfold iblk
  funext y
  show (V m c main_v66 : Vec Ideal S1024x2560 .bf16) ((win0_2.rect t).emb y) = _
  congr 1
  funext a; apply Fin.ext
  fin_cases a
  · exact win0_2.rect_emb_val_of_index_zero t 0 (idx2 t).1 y
  · exact win0_2.rect_emb_val_of_index_zero t 1 (idx2 t).2 y
theorem iblk5_eq (c : Dev nD) (t : Fin cfg0.N) : (iblk m c 5 t : Vec Ideal S4x256x256 .f32) = V m c main_v50 := by
  unfold iblk
  funext y
  show (V m c main_v50 : Vec Ideal S4x256x256 .f32) ((win0_5.rect t).emb y) = _
  congr 1
  funext a; apply Fin.ext
  fin_cases a
  · exact win0_5.rect_emb_val_of_index_zero t 0 (idx5 t).1 y
  · exact win0_5.rect_emb_val_of_index_zero t 1 (idx5 t).2.1 y
  · exact win0_5.rect_emb_val_of_index_zero t 2 (idx5 t).2.2 y
theorem iblk6_eq (c : Dev nD) (t : Fin cfg0.N) : (iblk m c 6 t : Vec Ideal S4x256x128 .f32) = V m c main_v57 := by
  unfold iblk
  funext y
  show (V m c main_v57 : Vec Ideal S4x256x128 .f32) ((win0_6.rect t).emb y) = _
  congr 1
  funext a; apply Fin.ext
  fin_cases a
  · exact win0_6.rect_emb_val_of_index_zero t 0 (idx6 t).1 y
  · exact win0_6.rect_emb_val_of_index_zero t 1 (idx6 t).2.1 y
  · exact win0_6.rect_emb_val_of_index_zero t 2 (idx6 t).2.2 y
theorem iblk7_eq (c : Dev nD) (t : Fin cfg0.N) : (iblk m c 7 t : Vec Ideal S4x256x128 .f32) = V m c main_v64 := by
  unfold iblk
  funext y
  show (V m c main_v64 : Vec Ideal S4x256x128 .f32) ((win0_7.rect t).emb y) = _
  congr 1
  funext a; apply Fin.ext
  fin_cases a
  · exact win0_7.rect_emb_val_of_index_zero t 0 (idx7 t).1 y
  · exact win0_7.rect_emb_val_of_index_zero t 1 (idx7 t).2.1 y
  · exact win0_7.rect_emb_val_of_index_zero t 2 (idx7 t).2.2 y
theorem iblk8_eq (c : Dev nD) (t : Fin cfg0.N) : (iblk m c 8 t : Vec Ideal S1x512 .f32) = V m c main_v67 := by
  unfold iblk
  funext y
  show (V m c main_v67 : Vec Ideal S1x512 .f32) ((win0_8.rect t).emb y) = _
  congr 1
  funext a; apply Fin.ext
  fin_cases a
  · exact win0_8.rect_emb_val_of_index_zero t 0 (idx8 t).1 y
  · exact win0_8.rect_emb_val_of_index_zero t 1 (idx8 t).2 y
theorem iblk9_eq (c : Dev nD) (t : Fin cfg0.N) : (iblk m c 9 t : Vec Ideal S4x128x128 .bf16) = V m c main_v68 := by
  unfold iblk
  funext y
  show (V m c main_v68 : Vec Ideal S4x128x128 .bf16) ((win0_9.rect t).emb y) = _
  congr 1
  funext a; apply Fin.ext
  fin_cases a
  · exact win0_9.rect_emb_val_of_index_zero t 0 (idx9 t).1 y
  · exact win0_9.rect_emb_val_of_index_zero t 1 (idx9 t).2.1 y
  · exact win0_9.rect_emb_val_of_index_zero t 2 (idx9 t).2.2 y
theorem iblk10_eq (c : Dev nD) (t : Fin cfg0.N) : (iblk m c 10 t : Vec Ideal S1x512 .f32) = V m c main_v69 := by
  unfold iblk
  funext y
  show (V m c main_v69 : Vec Ideal S1x512 .f32) ((win0_10.rect t).emb y) = _
  congr 1
  funext a; apply Fin.ext
  fin_cases a
  · exact win0_10.rect_emb_val_of_index_zero t 0 (idx10 t).1 y
  · exact win0_10.rect_emb_val_of_index_zero t 1 (idx10 t).2 y
theorem iblk11_eq (c : Dev nD) (t : Fin cfg0.N) : (iblk m c 11 t : Vec Ideal S1024x1024 .bf16) = V m c main_v70 := by
  unfold iblk
  funext y
  show (V m c main_v70 : Vec Ideal S1024x1024 .bf16) ((win0_11.rect t).emb y) = _
  congr 1
  funext a; apply Fin.ext
  fin_cases a
  · exact win0_11.rect_emb_val_of_index_zero t 0 (idx11 t).1 y
  · exact win0_11.rect_emb_val_of_index_zero t 1 (idx11 t).2 y

/-! ## The arrays the kernel reads, from the arguments -/

theorem row_apply (g : Vec Ideal S1024 .f32) (k : Fin 1024) : e_v65 (F := Ideal) g (ix2 0 k) = g (ix1 k) := by pointwise [e_v65]
theorem gn_apply (g : Vec Ideal S512 .f32) (k : Fin 512) : e_v67 (F := Ideal) g (ix2 0 k) = g (ix1 k) := by pointwise [e_v67]
theorem ps_apply (g : Vec Ideal S512 .f32) (k : Fin 512) : e_v69 (F := Ideal) g (ix2 0 k) = g (ix1 k) := by pointwise [e_v69]

theorem V_arg0 (c : Dev nD) : V m c main_arg0 = m ((c : Thread nD τ).loc main_arg0) := by
  rw [V_eq, K5_arg0]
theorem V_v15 (c : Dev nD) : V m c main_v15 = e_v15 (F := Ideal) := by
  rw [V_eq, K5_v15]
theorem V_v23 (c : Dev nD) : V m c main_v23 = e_v23 (F := Ideal) := by
  rw [V_eq, K5_v23]
theorem V_v50 (c : Dev nD) : V m c main_v50 = e_v50 (F := Ideal) := by
  rw [V_eq, K5_v50]
theorem V_v57 (c : Dev nD) : V m c main_v57 = e_v57 (F := Ideal) := by
  rw [V_eq, K5_v57]
theorem V_v64 (c : Dev nD) : V m c main_v64 = e_v64 (F := Ideal) := by
  rw [V_eq, K5_v64]
theorem V_v65 (c : Dev nD) : V m c main_v65 = e_v65 (F := Ideal) (m ((c : Thread nD τ).loc main_arg1)) := by
  rw [V_eq, K5_v65]
theorem V_v66 (c : Dev nD) : V m c main_v66 = e_v66 (F := Ideal) (m ((c : Thread nD τ).loc main_arg2)) := by
  rw [V_eq, K5_v66]
theorem V_v67 (c : Dev nD) : V m c main_v67 = e_v67 (F := Ideal) (m ((c : Thread nD τ).loc main_arg3)) := by
  rw [V_eq, K5_v67]
theorem V_v68 (c : Dev nD) : V m c main_v68 = e_v68 (F := Ideal) (m ((c : Thread nD τ).loc main_arg4)) := by
  rw [V_eq, K5_v68]
theorem V_v69 (c : Dev nD) : V m c main_v69 = e_v69 (F := Ideal) (m ((c : Thread nD τ).loc main_arg5)) := by
  rw [V_eq, K5_v69]
theorem V_v70 (c : Dev nD) : V m c main_v70 = e_v70 (F := Ideal) (m ((c : Thread nD τ).loc main_arg6)) := by
  rw [V_eq, K5_v70]

end Cert.Proof.MixBlks

end
-- ==== Proof.MixPoint.lean ====
/- The kernel's result array: the induction over the grid's points. -/
module

public import proofs.«01_k».proof.Proof.MixTileR
public import proofs.«01_k».proof.Proof.MixBlks

@[expose] public section

set_option maxRecDepth 16384

noncomputable section

namespace Cert.Proof.MixPoint

open Idealize.ShloMosaic Idealize.ShloMosaic.TcCoe Idealize.SL.Sem
open Cert.MixerIdeal Cert.MixerIdeal.Gen Cert.MixerIdeal.Value Cert.Proof.MixTile Cert.Proof.MixReal Cert.Proof.MixTab Cert.Proof.MixGoal Cert.Proof.MixZ Cert.Proof.MixTileR Cert.Proof.MixBlks

/-- What the scratch holds before tile `u` of a batch: the state of the tokens before it, and the last sixteen rows of the pooling lanes. -/
def inv (zb : ℕ → Fin 2560 → ℝ) (u : ℕ) (S : Vec Ideal S4x128x128 .f32) (H : Vec Ideal S1040x512 .f32) : Prop :=
  (∀ (h : Fin 4) (d e : Fin 128), S (ix3 h d e) = (stR zb h (1024 * u) d e : EReal)) ∧
  ∀ (r : Fin 1040) (j : Fin 512), r.val < 16 → H (ix2 r j)
    = if 16 ≤ 1024 * u + r.val then (zb (1024 * u + r.val - 16) (poolLane j) : EReal) else 0

theorem inv_zero (zb : ℕ → Fin 2560 → ℝ) (u : ℕ) (hu : u = 0) : inv zb u (fun _ => 0) (fun _ => 0) := by
  subst hu
  refine ⟨fun h d e => ?_, fun r j hr => ?_⟩
  · show (0 : EReal) = (st _ _ _ 0 d e : EReal)
    simp [st]
  · rw [if_neg (by omega)]

theorem tile_good (x0 : Vec Ideal S1x1024x1024 .f32) (x1 : Vec Ideal S1x1024 .f32) (x2 : Vec Ideal S1024x2560 .bf16) (x3 x4 : Vec Ideal S1024x128 .f32)
    (x5 : Vec Ideal S4x256x256 .f32) (x6 x7 : Vec Ideal S4x256x128 .f32) (x8 : Vec Ideal S1x512 .f32) (x9 : Vec Ideal S4x128x128 .bf16) (x10 : Vec Ideal S1x512 .f32)
    (x11 : Vec Ideal S1024x1024 .bf16) (S0 : Vec Ideal S4x128x128 .f32) (H : Vec Ideal S1040x512 .f32)
    (z : ℕ → Fin 2560 → ℝ) (t : Fin 8)
    (hZ : ∀ (n : Fin 1024) (c : Fin 2560), k0_pay7 x0 x1 x2 (ix2 n c) = (z (1024 * t.val + n.val) c : EReal))
    (hc : ∀ (n : Fin 1024) (d : Fin 128), x3 (ix2 n d) = (cosR (1024 * t.val + n.val) d : EReal))
    (hs : ∀ (n : Fin 1024) (d : Fin 128), x4 (ix2 n d) = (sinR (1024 * t.val + n.val) d : EReal))
    (hm : ∀ (h : Fin 4) (n m : Fin 256), x5 (ix3 h n m) = ((if m.val / 64 ≤ n.val / 64 then gam h ^ MixReal.dist n.val m.val else 0 : ℝ) : EReal))
    (hq : ∀ (h : Fin 4) (n : Fin 256) (d : Fin 128), x6 (ix3 h n d) = ((gam h ^ (n.val + 1) : ℝ) : EReal))
    (hk : ∀ (h : Fin 4) (n : Fin 256) (d : Fin 128), x7 (ix3 h n d) = ((gam h ^ (255 - n.val) : ℝ) : EReal))
    (hI : inv z t.val S0 H)
    (o : Vec Ideal S1x1024x1024 .f32 × Vec Ideal S4x128x128 .f32 × Vec Ideal S1040x512 .f32)
    (ho1 : o.1 = outT x0 (catG (k0_pay7 x0 x1 x2) x3 x4 x5 x6 x7 x8 x9 x10 t S0 (extOf H (k0_pay7 x0 x1 x2))) x11)
    (ho2 : ∀ (h : Fin 4) (d e : Fin 128), o.2.1 (ix3 h d e) = tState (k0_pay7 x0 x1 x2) x3 x4 x7 S0 h 4 (ix3 0 d e))
    (ho3 : ∀ (r : Fin 1040) (j : Fin 512) (h : r.val < 16), o.2.2 (ix2 r j) = k0_pay7 x0 x1 x2 (ix2 ⟨1008 + r.val, by omega⟩ (poolLane j)))
    (xf : Fin 1024 → Fin 1024 → EReal) (gnf : Fin 4 → Fin 128 → EReal) (wpf : Fin 4 → Fin 128 → Fin 128 → EReal) (psf : Fin 4 → Fin 128 → EReal) (wof : Fin 1024 → Fin 1024 → EReal)
    (h0 : ∀ r k, x0 (ix3 0 r k) = xf r k) (h8 : ∀ h e, x8 (ix2 0 (lane4 h e)) = gnf h e) (h9 : ∀ g k e, x9 (ix3 g k e) = wpf g k e) (h10 : ∀ h e, x10 (ix2 0 (lane4 h e)) = psf h e)
    (h11 : ∀ j k, x11 (ix2 j k) = wof j k) :
    (∀ r k : Fin 1024, o.1 (ix3 0 r k) = xf r k + ∑ j : Fin 1024, catS z gnf wpf psf (1024 * t.val + r.val) j * wof j k) ∧ inv z (t.val + 1) o.2.1 o.2.2 := by
  refine ⟨fun r k => ?_, fun h d e => ?_, fun r j hr => ?_⟩
  · have e8 : (fun h e => x8 (ix2 0 (lane4 h e))) = gnf := funext fun h => funext fun e => h8 h e
    have e9 : (fun g k e => x9 (ix3 g k e)) = wpf := funext fun g => funext fun k => funext fun e => h9 g k e
    have e10 : (fun h e => x10 (ix2 0 (lane4 h e))) = psf := funext fun h => funext fun e => h10 h e
    rw [ho1, outT_apply, h0]
    congr 1
    refine Finset.sum_congr rfl fun j _ => ?_
    rw [catG_real (k0_pay7 x0 x1 x2) x3 x4 x5 x6 x7 x8 x9 x10 S0 H z t hZ hc hs hm hq hk hI.1 hI.2 r j, e8, e9, e10, h11]
  · rw [ho2, tState_real (k0_pay7 x0 x1 x2) x3 x4 x7 S0 z t hZ hc hs hk hI.1 h 4 (le_refl _) d e, show 1024 * t.val + 256 * 4 = 1024 * (t.val + 1) by omega]
  · rw [ho3 r j hr, hZ, if_pos (by omega)]
    congr 2
    show 1024 * t.val + (1008 + r.val) = _
    omega

variable (m : (ℓ : Loc nD τ sig) → Buf (Elt Ideal) ℓ) (ρ : Dev nD → PrngReg) (z : Fin 8 → ℕ → Fin 2560 → ℝ) (c : Dev nD)
  (hz : IsRows z (m ((c : Thread nD τ).loc main_arg0)) (m ((c : Thread nD τ).loc main_arg1)) (m ((c : Thread nD τ).loc main_arg2)))

/-- The result array as a function of the arguments. -/
def GG : Vec Ideal S8x8192x1024 .f32 := G z (m ((c : Thread nD τ).loc main_arg0)) (m ((c : Thread nD τ).loc main_arg3)) (m ((c : Thread nD τ).loc main_arg4))
  (m ((c : Thread nD τ).loc main_arg5)) (m ((c : Thread nD τ).loc main_arg6))

theorem tb (t : Fin cfg0.N) : t.val / 8 < 8 := by have : t.val < 64 := lt_of_lt_of_eq t.isLt N_0; omega
theorem tr (n : ℕ) (r : Fin 1024) : 1024 * (n % 8) + r.val < 8192 := by omega

/-- What point `t` leaves: its block of the result, and the scratch the next tile needs. -/
def good (t : Fin cfg0.N) (o : Vec Ideal S1x1024x1024 .f32 × Vec Ideal S4x128x128 .f32 × Vec Ideal S1040x512 .f32) : Prop :=
  (∀ r k : Fin 1024, o.1 (ix3 0 r k) = GG m z c (ix3 ⟨t.val / 8, tb t⟩ ⟨1024 * (t.val % 8) + r.val, tr t.val r⟩ k))
    ∧ inv (z ⟨t.val / 8, tb t⟩) (t.val % 8 + 1) o.2.1 o.2.2

include hz in
theorem point (t : Fin cfg0.N) (u : Fin 8) (hu : u.val = t.val % 8) (S0 : Vec Ideal S4x128x128 .f32) (H : Vec Ideal S1040x512 .f32)
    (hI : inv (z ⟨t.val / 8, tb t⟩) (t.val % 8) S0 H)
    (o : Vec Ideal S1x1024x1024 .f32 × Vec Ideal S4x128x128 .f32 × Vec Ideal S1040x512 .f32)
    (ho1 : o.1 = outT (iblk m c 0 t) (catG (k0_pay7 (iblk m c 0 t) (iblk m c 1 t) (iblk m c 2 t)) (iblk m c 3 t) (iblk m c 4 t) (iblk m c 5 t) (iblk m c 6 t) (iblk m c 7 t) (iblk m c 8 t) (iblk m c 9 t) (iblk m c 10 t) u S0 (extOf H (k0_pay7 (iblk m c 0 t) (iblk m c 1 t) (iblk m c 2 t)))) (iblk m c 11 t))
    (ho2 : ∀ (h : Fin 4) (d e : Fin 128), o.2.1 (ix3 h d e) = tState (k0_pay7 (iblk m c 0 t) (iblk m c 1 t) (iblk m c 2 t)) (iblk m c 3 t) (iblk m c 4 t) (iblk m c 7 t) S0 h 4 (ix3 0 d e))
    (ho3 : ∀ (r : Fin 1040) (j : Fin 512) (h : r.val < 16), o.2.2 (ix2 r j) = k0_pay7 (iblk m c 0 t) (iblk m c 1 t) (iblk m c 2 t) (ix2 ⟨1008 + r.val, by omega⟩ (poolLane j))) :
    good m z c t o := by
  have key := tile_good (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) S0 H (z ⟨t.val / 8, tb t⟩) u
    (fun n k => by
      rw [pay7_apply, iblk1_eq, iblk2_eq, V_v65, V_v66]
      refine Eq.trans ?_ ((hz ⟨t.val / 8, tb t⟩ ⟨1024 * (t.val % 8) + n.val, tr t.val n⟩ k).trans ?_)
      · congr 1
        · funext j
          rw [iblk0_apply m c t n j (tb t) (tr t.val n), V_arg0]
        · funext j
          exact row_apply _ j
      · rw [hu])
    (fun n d => by rw [iblk3_apply m c t n d (tr t.val n), V_v15, v15_apply, hu])
    (fun n d => by rw [iblk4_apply m c t n d (tr t.val n), V_v23, v23_apply, hu])
    (fun h n j => by rw [iblk5_eq, V_v50, v50_apply])
    (fun h n j => by rw [iblk6_eq, V_v57, v57_apply])
    (fun h n j => by rw [iblk7_eq, V_v64, v64_apply])
    (by rw [hu]; exact hI) o ho1 ho2 ho3
    (fun r k => (m ((c : Thread nD τ).loc main_arg0) : Vec Ideal S8x8192x1024 .f32) (ix3 ⟨t.val / 8, tb t⟩ ⟨1024 * (t.val % 8) + r.val, tr t.val r⟩ k))
    (fun h e => (m ((c : Thread nD τ).loc main_arg3) : Vec Ideal S512 .f32) (ix1 (lane4 h e)))
    (fun g k e => (m ((c : Thread nD τ).loc main_arg4) : Vec Ideal S4x128x128 .f32) (ix3 g k e))
    (fun h e => (m ((c : Thread nD τ).loc main_arg5) : Vec Ideal S512 .f32) (ix1 (lane4 h e)))
    (fun j k => (m ((c : Thread nD τ).loc main_arg6) : Vec Ideal S1024x1024 .f32) (ix2 j k))
    (fun r k => by rw [iblk0_apply m c t r k (tb t) (tr t.val r), V_arg0])
    (fun h e => by rw [iblk8_eq, V_v67]; exact gn_apply _ _)
    (fun g k e => by rw [iblk9_eq, V_v68]; rfl)
    (fun h e => by rw [iblk10_eq, V_v69]; exact ps_apply _ _)
    (fun j k => by rw [iblk11_eq, V_v70]; rfl)
  refine ⟨fun r k => ?_, by rw [← hu]; exact key.2⟩
  refine (key.1 r k).trans ?_
  rw [hu]
  rfl

include hz in
theorem points (t : Fin cfg0.N) (u : Fin 8) (hu : u.val = t.val % 8) (S0 : Vec Ideal S4x128x128 .f32) (H : Vec Ideal S1040x512 .f32)
    (hI : inv (z ⟨t.val / 8, tb t⟩) (t.val % 8) S0 H)
    (o1 : Vec Ideal S1x1024x1024 .f32) (o2 : Vec Ideal S4x128x128 .f32) (o3 : Vec Ideal S1040x512 .f32)
    (ho1 : o1 = outT (iblk m c 0 t) (catG (k0_pay7 (iblk m c 0 t) (iblk m c 1 t) (iblk m c 2 t)) (iblk m c 3 t) (iblk m c 4 t) (iblk m c 5 t) (iblk m c 6 t) (iblk m c 7 t) (iblk m c 8 t) (iblk m c 9 t) (iblk m c 10 t) u S0 (extOf H (k0_pay7 (iblk m c 0 t) (iblk m c 1 t) (iblk m c 2 t)))) (iblk m c 11 t))
    (ho2 : ∀ (h : Fin 4) (d e : Fin 128), o2 (ix3 h d e) = tState (k0_pay7 (iblk m c 0 t) (iblk m c 1 t) (iblk m c 2 t)) (iblk m c 3 t) (iblk m c 4 t) (iblk m c 7 t) S0 h 4 (ix3 0 d e))
    (ho3 : ∀ (r : Fin 1040) (j : Fin 512) (h : r.val < 16), o3 (ix2 r j) = k0_pay7 (iblk m c 0 t) (iblk m c 1 t) (iblk m c 2 t) (ix2 ⟨1008 + r.val, by omega⟩ (poolLane j))) :
    good m z c t (o1, o2, o3) :=
  point m z c hz t u hu S0 H hI (o1, o2, o3) ho1 ho2 ho3

end Cert.Proof.MixPoint

end
-- ==== Proof.MixKernel.lean ====
/- The kernel's result array: the induction over the grid's points. -/
module

public import proofs.«01_k».proof.Proof.MixEndA
public import proofs.«01_k».proof.Proof.MixEndB
public import proofs.«01_k».proof.Proof.MixTileR
public import proofs.«01_k».proof.Proof.MixPoint

@[expose] public section

set_option maxRecDepth 16384

noncomputable section

namespace Cert.Proof.MixKernel

open Idealize.ShloMosaic Idealize.ShloMosaic.TcCoe Idealize.SL.Sem
open Cert.MixerIdeal Cert.MixerIdeal.Gen Cert.MixerIdeal.Value Cert.Proof.MixTile Cert.Proof.MixReal Cert.Proof.MixTab Cert.Proof.MixGoal Cert.Proof.MixZ Cert.Proof.MixTileR Cert.Proof.MixBlks Cert.Proof.MixPoint

variable (m : (ℓ : Loc nD τ sig) → Buf (Elt Ideal) ℓ) (ρ : Dev nD → PrngReg) (z : Fin 8 → ℕ → Fin 2560 → ℝ) (c : Dev nD)
  (hz : IsRows z (m ((c : Thread nD τ).loc main_arg0)) (m ((c : Thread nD τ).loc main_arg1)) (m ((c : Thread nD τ).loc main_arg2)))

include hz in
theorem pointA (t : Fin cfg0.N) (acc : Vec Ideal S1x1024x1024 .f32 × Vec Ideal S4x128x128 .f32 × Vec Ideal S1040x512 .f32) (h0 : t.val % 8 = 0) :
    good m z c t (stAt0 m c t.val t.isLt acc) := by
  rw [stAt0_A m c t acc h0]
  refine points m z c hz t ((grid0.coords t) 1) (coord t) _ _ (inv_zero _ _ h0) _ _ _ ?_ ?_ ?_
  · exact Cert.Proof.MixPiecesA.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
  · exact Cert.Proof.MixPiecesA.state_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
  · exact Cert.Proof.MixPiecesA.keep_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)

include hz in
theorem pointB (t : Fin cfg0.N) (acc : Vec Ideal S1x1024x1024 .f32 × Vec Ideal S4x128x128 .f32 × Vec Ideal S1040x512 .f32) (h0 : ¬t.val % 8 = 0)
    (hI : inv (z ⟨t.val / 8, tb t⟩) (t.val % 8) acc.2.1 acc.2.2) :
    good m z c t (stAt0 m c t.val t.isLt acc) := by
  rw [stAt0_B m c t acc h0]
  refine points m z c hz t ((grid0.coords t) 1) (coord t) _ _ hI _ _ _ ?_ ?_ ?_
  · exact Cert.Proof.MixPiecesB.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.1 acc.2.2 (fun h => h0 ((hcond0_0 t).mp h))
  · exact Cert.Proof.MixPiecesB.state_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.1 acc.2.2 (fun h => h0 ((hcond0_0 t).mp h))
  · exact Cert.Proof.MixPiecesB.keep_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc.2.1 acc.2.2 (fun h => h0 ((hcond0_0 t).mp h))

include hz in
/-- Every point of the grid. -/
theorem all : ∀ (n : ℕ) (hn : n < cfg0.N), good m z c ⟨n, hn⟩ (outsAt0 m c n hn)
  | 0, hn => by
    rw [outsAt0_zero]
    exact pointA m z c hz ⟨0, hn⟩ _ rfl
  | n + 1, hn => by
    rw [outsAt0_succ]
    by_cases h0 : (n + 1) % 8 = 0
    · exact pointA m z c hz ⟨n + 1, hn⟩ _ h0
    · refine pointB m z c hz ⟨n + 1, hn⟩ _ h0 ?_
      have ih := (all n (Nat.lt_of_succ_lt hn)).2
      have e1 : (n + 1) / 8 = n / 8 := by omega
      have e2 : (n + 1) % 8 = n % 8 + 1 := by omega
      simp only [e1, e2]
      exact ih

include hz in
/-- The kernel's whole result. -/
theorem final : (dats m 0 c).arrAt 12 cfg0.N = GG m z c := by
  refine (dats m 0 c).arrAt_eq_of_covers 12 _ (by decide +kernel) fun t hf y => ?_
  show (dats m 0 c).after 12 t y = GG m z c ((win0_12.rect t).emb y)
  rw [after0_12]
  obtain ⟨r, j, rfl⟩ : ∃ r j : Fin 1024, y = ix3 0 r j := ⟨y 1, y 2, by
    refine (eq_ix3 y).trans ?_
    have : y 0 = (0 : Fin 1) := Subsingleton.elim (α := Fin 1) _ _
    rw [this]⟩
  have e : (win0_12.rect t).emb (ix3 0 r j) = (ix3 ⟨t.val / 8, tb t⟩ ⟨1024 * (t.val % 8) + r.val, tr t.val r⟩ j : S8x8192x1024.Idx) := by
    funext a; apply Fin.ext
    rw [win0_12.rect_emb_val]
    fin_cases a
    · show win0_12.index t 0 * 1 + 0 = _
      rw [(idx12 t).1]; simp
    · show win0_12.index t 1 * 1024 + r.val = _
      rw [(idx12 t).2.1, Nat.mul_comm]; rfl
    · show win0_12.index t 2 * 1024 + j.val = _
      rw [(idx12 t).2.2]; simp
  rw [e]
  exact (all m z c hz t.val t.isLt).1 r j

end Cert.Proof.MixKernel

end
-- ==== Proof.MixRefCum.lean ====
/- A running sum along the sequence, as the reference's window sum computes it. -/
module

public import proofs.«01_k».proof.Proof.MixRefPost
public import proofs.«01_k».proof.Proof.MixReal

@[expose] public section

set_option maxRecDepth 16384

noncomputable section

namespace Cert.Proof.MixRefCum

open Idealize.ShloMosaic Cert.MixerRefIdeal Cert.MixerRefIdeal.Gen Cert.Proof.MixReal Cert.Proof.MixRef

/-- A window of the sequence's whole height and one of every other axis. -/
abbrev W : Shape := ⟨4, ![1, 8192, 1, 1]⟩

/-- A window's positions are the numbers below 8192. -/
def wEquiv : W.Idx ≃ Fin 8192 where
  toFun p := p 1
  invFun n := ix4 (0 : Fin 1) n (0 : Fin 1) (0 : Fin 1)
  left_inv p := by
    refine Eq.trans ?_ (eq_ix4 p).symm
    exact congrArg₂ (fun (a : Fin 1) (q : Fin 1 × Fin 1) => (ix4 a (p 1) q.1 q.2 : W.Idx)) (Subsingleton.elim _ _) (Subsingleton.elim (_, _) (_, _))
  right_inv n := rfl

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem sum_shift (f : ℕ → ℝ) (T : ℕ) (hT : T < 8192) :
    ∑ n : Fin 8192, (if 8191 ≤ T + n.val then (f (T + n.val - 8191) : EReal) else 0) = ((∑ s ∈ Finset.range (T + 1), f s : ℝ) : EReal) := by
  rw [Fin.sum_univ_eq_sum_range (fun n => if 8191 ≤ T + n then (f (T + n - 8191) : EReal) else 0) 8192, ← coe_sum]
  generalize hm : (8192 : ℕ) = N at hT
  rw [show N = (N - 1 - T) + (T + 1) by omega, Finset.sum_range_add, Finset.sum_eq_zero (fun n hn => ?_), zero_add]
  · refine Finset.sum_congr rfl fun s hs => ?_
    rw [if_pos (by omega), show T + (N - 1 - T + s) - 8191 = s by omega]
  · have hn := Finset.mem_range.mp hn
    rw [if_neg (by omega)]

/-- A running sum along the sequence. -/
theorem cumsum (x : FVec Ideal S8x8192x4x128 .f32) (f : Fin 8 → ℕ → Fin 4 → Fin 128 → ℝ) (hx : ∀ (b : Fin 8) (T : Fin 8192) (h : Fin 4) (e : Fin 128), x (ix4 b T h e) = (f b T.val h e : EReal))
    (init : FVec Ideal S_ .f32) (hinit : init (Shape.Idx.first h_S_) = 0) (b : Fin 8) (T : Fin 8192) (h : Fin 4) (e : Fin 128) :
    Host.reduceWindowAdd (F := Ideal) ![1, 8192, 1, 1] ![1, 1, 1, 1] ![0, 8191, 0, 0] ![0, 0, 0, 0] x init reduceWindows_S8x8192x4x128_S8x8192x4x128_w1s1p0_0_w8192s1p8191_0_w1s1p0_0_w1s1p0_0 h_S_ (ix4 b T h e)
      = ((∑ s ∈ Finset.range (T.val + 1), f b s h e : ℝ) : EReal) := by
  have hT := T.isLt
  rw [← sum_shift (fun s => f b s h e) T.val hT]
  unfold Host.reduceWindowAdd
  rw [Ideal.hostReduceWindowAdd_def, hinit]
  unfold Ideal.hostReduceWindowAdd Host.reduceWindow
  dsimp only
  rw [foldl_add, zero_add, ← List.ofFn_eq_map, List.sum_ofFn]
  refine Fintype.sum_equiv (W.rowMajor.symm.trans wEquiv) _ _ fun n => ?_
  obtain ⟨p, hp⟩ : ∃ p, W.rowMajor.symm n = p := ⟨_, rfl⟩
  simp only [Equiv.trans_apply, hp]
  have h0 : (p 0).val = 0 := by have : (p 0).val < 1 := (p 0).isLt; omega
  have h2 : (p 2).val = 0 := by have : (p 2).val < 1 := (p 2).isLt; omega
  have h3 : (p 3).val = 0 := by have : (p 3).val < 1 := (p 3).isLt; omega
  have h1 : (p 1).val < 8192 := (p 1).isLt
  show _ = if 8191 ≤ T.val + (p 1).val then _ else _
  split
  · next hin =>
    have hin1 : 8191 ≤ T.val * 1 + (p 1).val ∧ T.val * 1 + (p 1).val - 8191 < 8192 := hin 1
    rw [if_pos (by omega)]
    refine (congrArg x (funext fun a => Fin.ext ?_)).trans (hx b ⟨T.val + (p 1).val - 8191, by omega⟩ h e)
    match a with
    | ⟨0, _⟩ => show b.val * 1 + (p 0).val - 0 = b.val; omega
    | ⟨1, _⟩ => show T.val * 1 + (p 1).val - 8191 = T.val + (p 1).val - 8191; omega
    | ⟨2, _⟩ => show h.val * 1 + (p 2).val - 0 = h.val; omega
    | ⟨3, _⟩ => show e.val * 1 + (p 3).val - 0 = e.val; omega
  · next hin =>
    rw [if_neg fun hle => hin fun a => ?_]
    have hb := b.isLt
    have hh := h.isLt
    have he := e.isLt
    match a with
    | ⟨0, _⟩ => show 0 ≤ b.val * 1 + (p 0).val ∧ b.val * 1 + (p 0).val - 0 < 8; omega
    | ⟨1, _⟩ => show 8191 ≤ T.val * 1 + (p 1).val ∧ T.val * 1 + (p 1).val - 8191 < 8192; omega
    | ⟨2, _⟩ => show 0 ≤ h.val * 1 + (p 2).val ∧ h.val * 1 + (p 2).val - 0 < 4; omega
    | ⟨3, _⟩ => show 0 ≤ e.val * 1 + (p 3).val ∧ e.val * 1 + (p 3).val - 0 < 128; omega

end Cert.Proof.MixRefCum

end
-- ==== Proof.MixRefPoolA.lean ====
/- The reference's running sums along the sequence, over the reals. -/
module

public import proofs.«01_k».proof.Proof.MixRefCum
public import proofs.«01_k».proof.Proof.MixGoal
public import proofs.«01_k».proof.Proof.MixTabVal

@[expose] public section

set_option maxRecDepth 16384

noncomputable section

namespace Cert.Proof.MixRefPoolA

open Idealize.ShloMosaic Cert.MixerRefIdeal Cert.MixerRefIdeal.Gen Cert.Proof.MixReal Cert.Proof.MixNum Cert.Proof.MixRef Cert.Proof.MixSpec Cert.Proof.MixGoal Cert.Proof.MixTile

theorem minlem (n w : ℕ) (hn : n < 65536) (hw : w < 65536) : IntOp.minsi (IntOp.addi (BitVec.ofNat 32 n) 1#32) (BitVec.ofNat 32 w) = BitVec.ofNat 32 (min (n + 1) w) := by
  have e1 : IntOp.addi (BitVec.ofNat 32 n) 1#32 = BitVec.ofNat 32 (n + 1) := by
    apply BitVec.eq_of_toNat_eq
    simp [IntOp.addi, BitVec.toNat_add, BitVec.toNat_ofNat]
  have ht : ∀ k : ℕ, k < 70000 → (BitVec.ofNat 32 k).toInt = k := fun k hk => by
    rw [BitVec.toInt_eq_toNat_of_lt (by rw [BitVec.toNat_ofNat]; omega), BitVec.toNat_ofNat, Nat.mod_eq_of_lt (by omega)]
  rw [e1]
  unfold IntOp.minsi
  rw [BitVec.slt, ht _ (by omega), ht _ (by omega)]
  by_cases h : n + 1 < w
  · rw [if_pos (by simpa using by exact_mod_cast h), min_eq_left h.le]
  · rw [if_neg (by simp; omega), min_eq_right (by omega)]

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

include hp in
theorem v167_apply (b : Fin 8) (T : Fin 8192) (h : Fin 4) (e : Fin 128) : e_v167 (F := Ideal) a18 (ix4 b T h e) = (p b T.val h e : EReal) := by
  rw [← hp]
  pointwise [e_v167]
  try (congr 2; apply Fin.ext; simp [lane4]; omega)
include hp in
theorem v168_apply (b : Fin 8) (T : Fin 8192) (h : Fin 4) (e : Fin 128) : e_v168 (F := Ideal) a18 (ix4 b T h e) = ((∑ s ∈ Finset.range (T.val + 1), p b s h e : ℝ) : EReal) :=
  MixRefCum.cumsum _ p (v167_apply a18 p hp) _ (by pointwise [e_call7_cst, e_call7_v0]; try simp) b T h e

theorem comb (A B C D : FVec Ideal S8x8192x128 .f32) (i : S8x8192x128.Idx) : subf (Host.divf (subf A B) C) D i = Ideal.div (A i - B i) (C i) - D i := rfl

theorem pooled_coe (f : ℕ → ℝ) (T w : ℕ) (hw : 0 < w) :
    Ideal.div (((∑ s ∈ Finset.range (T + 1), f s : ℝ) : EReal) - ((∑ s ∈ Finset.range (T + 1 - w), f s : ℝ) : EReal)) (((min (T + 1) w : ℕ) : ℝ) : EReal) - (f T : EReal) = (pooled f T w : EReal) := by
  have : ((min (T + 1) w : ℕ) : ℝ) ≠ 0 := by
    have : 0 < min (T + 1) w := by omega
    exact_mod_cast this.ne'
  rw [Ideal.div_coe this, ← EReal.coe_sub, ← EReal.coe_mul, ← EReal.coe_sub, ← tail_eq]
  rfl

end Cert.Proof.MixRefPoolA

end
-- ==== Proof.MixRefPoolG0.lean ====
/- The reference's pooling window of 2 tokens, over the reals. -/
module

public import proofs.«01_k».proof.Proof.MixRefPoolA

@[expose] public section

set_option maxRecDepth 16384

noncomputable section

namespace Cert.Proof.MixRefPoolG0

open Idealize.ShloMosaic Cert.MixerRefIdeal Cert.MixerRefIdeal.Gen Cert.Proof.MixReal Cert.Proof.MixNum Cert.Proof.MixRef Cert.Proof.MixSpec Cert.Proof.MixGoal Cert.Proof.MixTile Cert.Proof.MixRefPoolA

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

theorem pd2_lo (o : Vec Ideal S8x8192x128 .f32) (q : Vec Ideal S_ .f32) (b : Fin 8) (T : Fin 8192) (k : Fin 128) (hT : T.val < 2) : extractStridedSlice S8x8192x128 ![0, 0, 0] (pad S8x8194x128 ![0, 2, 0] ![0, 0, 0] ![0, 0, 0] o q pads_S8x8192x128_S8x8194x128_000_200_000 h_S_) slices_S8x8194x128_S8x8192x128_0_0_0 (ix3 b T k) = q (Shape.Idx.first h_S_) := by
  pointwise
  rw [dif_neg (by omega)]
theorem pd2_hi (o : Vec Ideal S8x8192x128 .f32) (q : Vec Ideal S_ .f32) (b : Fin 8) (T : Fin 8192) (k : Fin 128) (hT : 2 ≤ T.val) : extractStridedSlice S8x8192x128 ![0, 0, 0] (pad S8x8194x128 ![0, 2, 0] ![0, 0, 0] ![0, 0, 0] o q pads_S8x8192x128_S8x8194x128_000_200_000 h_S_) slices_S8x8194x128_S8x8192x128_0_0_0 (ix3 b T k) = o (ix3 b ⟨T.val - 2, by omega⟩ k) := by
  pointwise
  rw [dif_pos (by omega)]
theorem v173_lo (b : Fin 8) (T : Fin 8192) (k : Fin 128) (hT : T.val < 2) : e_v173 (F := Ideal) a18 (ix3 b T k) = 0 := by
  unfold e_v173 e_v172
  rw [pd2_lo _ _ b T k hT]
  have e : e_call8_v0 (F := Ideal) (Shape.Idx.first h_S_) = FloatOps.sitofp (F := Ideal) .f32 (BitVec.ofNat 32 0) := rfl
  rw [e, sf 0 (by norm_num), Nat.cast_zero, EReal.coe_zero]
theorem v173_hi (b : Fin 8) (T : Fin 8192) (k : Fin 128) (hT : 2 ≤ T.val) : e_v173 (F := Ideal) a18 (ix3 b T k) = e_v171 (F := Ideal) a18 (ix3 b ⟨T.val - 2, by omega⟩ k) := by
  unfold e_v173 e_v172
  rw [pd2_hi _ _ b T k hT]
theorem v171_apply (b : Fin 8) (T : Fin 8192) (k : Fin 128) : e_v171 (F := Ideal) a18 (ix3 b T k) = e_v168 (F := Ideal) a18 (ix4 b T 0 k) := by
  pointwise [e_v170, e_v171]
theorem v184_apply (b : Fin 8) (T : Fin 8192) (k : Fin 128) : e_v184 (F := Ideal) a18 (ix3 b T k) = e_v167 (F := Ideal) a18 (ix4 b T 0 k) := by
  pointwise [e_v183, e_v184]
theorem v178_apply (T : Fin 8192) : e_v178 (F := Ideal) (ix1 T) = (((min (T.val + 1) 2 : ℕ) : ℝ) : EReal) := by
  have e : e_v178 (F := Ideal) (ix1 T) = FloatOps.sitofp (F := Ideal) .f32 (IntOp.minsi (IntOp.addi (BitVec.ofNat 32 T.val) 1#32) (BitVec.ofNat 32 2)) := by
    pointwise [e_v169, e_c_24, e_v174, e_v175, e_c_25, e_v176, e_v177, e_v178]
  rw [e, minlem T.val 2 (by omega) (by norm_num), sf _ (by omega)]
include hp in
theorem v185_apply (b : Fin 8) (T : Fin 8192) (k : Fin 128) : e_v185 (F := Ideal) a18 (ix3 b T k) = (pooled (fun T => p b T 0 k) T.val 2 : EReal) := by
  have e : e_v185 (F := Ideal) a18 (ix3 b T k) = Ideal.div (e_v171 (F := Ideal) a18 (ix3 b T k) - e_v173 (F := Ideal) a18 (ix3 b T k)) (e_v178 (F := Ideal) (ix1 T)) - e_v184 (F := Ideal) a18 (ix3 b T k) := by
    have e1 : e_v181 (F := Ideal) (ix3 b T k) = e_v178 (F := Ideal) (ix1 T) := by
      pointwise [e_v179, e_v181]
    rw [← e1]
    unfold e_v185 e_v182 e_v180
    exact comb _ _ _ _ _
  have h3 : e_v173 (F := Ideal) a18 (ix3 b T k) = ((∑ s ∈ Finset.range (T.val + 1 - 2), p b s 0 k : ℝ) : EReal) := by
    by_cases hT : T.val < 2
    · rw [v173_lo a18 b T k hT, show T.val + 1 - 2 = 0 by omega]; simp
    · rw [v173_hi a18 b T k (by omega), v171_apply, v168_apply a18 p hp]
      show ((∑ s ∈ Finset.range (T.val - 2 + 1), p b s 0 k : ℝ) : EReal) = _
      rw [show T.val - 2 + 1 = T.val + 1 - 2 by omega]
  rw [e, h3, v171_apply, v168_apply a18 p hp, v178_apply, v184_apply, v167_apply a18 p hp, ← pooled_coe _ _ _ (by norm_num)]

end Cert.Proof.MixRefPoolG0

end
-- ==== Proof.MixRefPoolG1.lean ====
/- The reference's pooling window of 4 tokens, over the reals. -/
module

public import proofs.«01_k».proof.Proof.MixRefPoolA

@[expose] public section

set_option maxRecDepth 16384

noncomputable section

namespace Cert.Proof.MixRefPoolG1

open Idealize.ShloMosaic Cert.MixerRefIdeal Cert.MixerRefIdeal.Gen Cert.Proof.MixReal Cert.Proof.MixNum Cert.Proof.MixRef Cert.Proof.MixSpec Cert.Proof.MixGoal Cert.Proof.MixTile Cert.Proof.MixRefPoolA

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

theorem pd4_lo (o : Vec Ideal S8x8192x128 .f32) (q : Vec Ideal S_ .f32) (b : Fin 8) (T : Fin 8192) (k : Fin 128) (hT : T.val < 4) : extractStridedSlice S8x8192x128 ![0, 0, 0] (pad S8x8196x128 ![0, 4, 0] ![0, 0, 0] ![0, 0, 0] o q pads_S8x8192x128_S8x8196x128_000_400_000 h_S_) slices_S8x8196x128_S8x8192x128_0_0_0 (ix3 b T k) = q (Shape.Idx.first h_S_) := by
  pointwise
  rw [dif_neg (by omega)]
theorem pd4_hi (o : Vec Ideal S8x8192x128 .f32) (q : Vec Ideal S_ .f32) (b : Fin 8) (T : Fin 8192) (k : Fin 128) (hT : 4 ≤ T.val) : extractStridedSlice S8x8192x128 ![0, 0, 0] (pad S8x8196x128 ![0, 4, 0] ![0, 0, 0] ![0, 0, 0] o q pads_S8x8192x128_S8x8196x128_000_400_000 h_S_) slices_S8x8196x128_S8x8192x128_0_0_0 (ix3 b T k) = o (ix3 b ⟨T.val - 4, by omega⟩ k) := by
  pointwise
  rw [dif_pos (by omega)]
theorem v189_lo (b : Fin 8) (T : Fin 8192) (k : Fin 128) (hT : T.val < 4) : e_v189 (F := Ideal) a18 (ix3 b T k) = 0 := by
  unfold e_v189 e_v188
  rw [pd4_lo _ _ b T k hT]
  have e : e_call9_v0 (F := Ideal) (Shape.Idx.first h_S_) = FloatOps.sitofp (F := Ideal) .f32 (BitVec.ofNat 32 0) := rfl
  rw [e, sf 0 (by norm_num), Nat.cast_zero, EReal.coe_zero]
theorem v189_hi (b : Fin 8) (T : Fin 8192) (k : Fin 128) (hT : 4 ≤ T.val) : e_v189 (F := Ideal) a18 (ix3 b T k) = e_v187 (F := Ideal) a18 (ix3 b ⟨T.val - 4, by omega⟩ k) := by
  unfold e_v189 e_v188
  rw [pd4_hi _ _ b T k hT]
theorem v187_apply (b : Fin 8) (T : Fin 8192) (k : Fin 128) : e_v187 (F := Ideal) a18 (ix3 b T k) = e_v168 (F := Ideal) a18 (ix4 b T 1 k) := by
  pointwise [e_v186, e_v187]
theorem v200_apply (b : Fin 8) (T : Fin 8192) (k : Fin 128) : e_v200 (F := Ideal) a18 (ix3 b T k) = e_v167 (F := Ideal) a18 (ix4 b T 1 k) := by
  pointwise [e_v199, e_v200]
theorem v194_apply (T : Fin 8192) : e_v194 (F := Ideal) (ix1 T) = (((min (T.val + 1) 4 : ℕ) : ℝ) : EReal) := by
  have e : e_v194 (F := Ideal) (ix1 T) = FloatOps.sitofp (F := Ideal) .f32 (IntOp.minsi (IntOp.addi (BitVec.ofNat 32 T.val) 1#32) (BitVec.ofNat 32 4)) := by
    pointwise [e_v169, e_c_27, e_v190, e_v191, e_c_28, e_v192, e_v193, e_v194]
  rw [e, minlem T.val 4 (by omega) (by norm_num), sf _ (by omega)]
include hp in
theorem v201_apply (b : Fin 8) (T : Fin 8192) (k : Fin 128) : e_v201 (F := Ideal) a18 (ix3 b T k) = (pooled (fun T => p b T 1 k) T.val 4 : EReal) := by
  have e : e_v201 (F := Ideal) a18 (ix3 b T k) = Ideal.div (e_v187 (F := Ideal) a18 (ix3 b T k) - e_v189 (F := Ideal) a18 (ix3 b T k)) (e_v194 (F := Ideal) (ix1 T)) - e_v200 (F := Ideal) a18 (ix3 b T k) := by
    have e1 : e_v197 (F := Ideal) (ix3 b T k) = e_v194 (F := Ideal) (ix1 T) := by
      pointwise [e_v195, e_v197]
    rw [← e1]
    unfold e_v201 e_v198 e_v196
    exact comb _ _ _ _ _
  have h3 : e_v189 (F := Ideal) a18 (ix3 b T k) = ((∑ s ∈ Finset.range (T.val + 1 - 4), p b s 1 k : ℝ) : EReal) := by
    by_cases hT : T.val < 4
    · rw [v189_lo a18 b T k hT, show T.val + 1 - 4 = 0 by omega]; simp
    · rw [v189_hi a18 b T k (by omega), v187_apply, v168_apply a18 p hp]
      show ((∑ s ∈ Finset.range (T.val - 4 + 1), p b s 1 k : ℝ) : EReal) = _
      rw [show T.val - 4 + 1 = T.val + 1 - 4 by omega]
  rw [e, h3, v187_apply, v168_apply a18 p hp, v194_apply, v200_apply, v167_apply a18 p hp, ← pooled_coe _ _ _ (by norm_num)]

end Cert.Proof.MixRefPoolG1

end
-- ==== Proof.MixRefPoolG2.lean ====
/- The reference's pooling window of 8 tokens, over the reals. -/
module

public import proofs.«01_k».proof.Proof.MixRefPoolA

@[expose] public section

set_option maxRecDepth 16384

noncomputable section

namespace Cert.Proof.MixRefPoolG2

open Idealize.ShloMosaic Cert.MixerRefIdeal Cert.MixerRefIdeal.Gen Cert.Proof.MixReal Cert.Proof.MixNum Cert.Proof.MixRef Cert.Proof.MixSpec Cert.Proof.MixGoal Cert.Proof.MixTile Cert.Proof.MixRefPoolA

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

theorem pd8_lo (o : Vec Ideal S8x8192x128 .f32) (q : Vec Ideal S_ .f32) (b : Fin 8) (T : Fin 8192) (k : Fin 128) (hT : T.val < 8) : extractStridedSlice S8x8192x128 ![0, 0, 0] (pad S8x8200x128 ![0, 8, 0] ![0, 0, 0] ![0, 0, 0] o q pads_S8x8192x128_S8x8200x128_000_800_000 h_S_) slices_S8x8200x128_S8x8192x128_0_0_0 (ix3 b T k) = q (Shape.Idx.first h_S_) := by
  pointwise
  rw [dif_neg (by omega)]
theorem pd8_hi (o : Vec Ideal S8x8192x128 .f32) (q : Vec Ideal S_ .f32) (b : Fin 8) (T : Fin 8192) (k : Fin 128) (hT : 8 ≤ T.val) : extractStridedSlice S8x8192x128 ![0, 0, 0] (pad S8x8200x128 ![0, 8, 0] ![0, 0, 0] ![0, 0, 0] o q pads_S8x8192x128_S8x8200x128_000_800_000 h_S_) slices_S8x8200x128_S8x8192x128_0_0_0 (ix3 b T k) = o (ix3 b ⟨T.val - 8, by omega⟩ k) := by
  pointwise
  rw [dif_pos (by omega)]
theorem v205_lo (b : Fin 8) (T : Fin 8192) (k : Fin 128) (hT : T.val < 8) : e_v205 (F := Ideal) a18 (ix3 b T k) = 0 := by
  unfold e_v205 e_v204
  rw [pd8_lo _ _ b T k hT]
  have e : e_call10_v0 (F := Ideal) (Shape.Idx.first h_S_) = FloatOps.sitofp (F := Ideal) .f32 (BitVec.ofNat 32 0) := rfl
  rw [e, sf 0 (by norm_num), Nat.cast_zero, EReal.coe_zero]
theorem v205_hi (b : Fin 8) (T : Fin 8192) (k : Fin 128) (hT : 8 ≤ T.val) : e_v205 (F := Ideal) a18 (ix3 b T k) = e_v203 (F := Ideal) a18 (ix3 b ⟨T.val - 8, by omega⟩ k) := by
  unfold e_v205 e_v204
  rw [pd8_hi _ _ b T k hT]
theorem v203_apply (b : Fin 8) (T : Fin 8192) (k : Fin 128) : e_v203 (F := Ideal) a18 (ix3 b T k) = e_v168 (F := Ideal) a18 (ix4 b T 2 k) := by
  pointwise [e_v202, e_v203]
theorem v216_apply (b : Fin 8) (T : Fin 8192) (k : Fin 128) : e_v216 (F := Ideal) a18 (ix3 b T k) = e_v167 (F := Ideal) a18 (ix4 b T 2 k) := by
  pointwise [e_v215, e_v216]
theorem v210_apply (T : Fin 8192) : e_v210 (F := Ideal) (ix1 T) = (((min (T.val + 1) 8 : ℕ) : ℝ) : EReal) := by
  have e : e_v210 (F := Ideal) (ix1 T) = FloatOps.sitofp (F := Ideal) .f32 (IntOp.minsi (IntOp.addi (BitVec.ofNat 32 T.val) 1#32) (BitVec.ofNat 32 8)) := by
    pointwise [e_v169, e_c_30, e_v206, e_v207, e_c_31, e_v208, e_v209, e_v210]
  rw [e, minlem T.val 8 (by omega) (by norm_num), sf _ (by omega)]
include hp in
theorem v217_apply (b : Fin 8) (T : Fin 8192) (k : Fin 128) : e_v217 (F := Ideal) a18 (ix3 b T k) = (pooled (fun T => p b T 2 k) T.val 8 : EReal) := by
  have e : e_v217 (F := Ideal) a18 (ix3 b T k) = Ideal.div (e_v203 (F := Ideal) a18 (ix3 b T k) - e_v205 (F := Ideal) a18 (ix3 b T k)) (e_v210 (F := Ideal) (ix1 T)) - e_v216 (F := Ideal) a18 (ix3 b T k) := by
    have e1 : e_v213 (F := Ideal) (ix3 b T k) = e_v210 (F := Ideal) (ix1 T) := by
      pointwise [e_v211, e_v213]
    rw [← e1]
    unfold e_v217 e_v214 e_v212
    exact comb _ _ _ _ _
  have h3 : e_v205 (F := Ideal) a18 (ix3 b T k) = ((∑ s ∈ Finset.range (T.val + 1 - 8), p b s 2 k : ℝ) : EReal) := by
    by_cases hT : T.val < 8
    · rw [v205_lo a18 b T k hT, show T.val + 1 - 8 = 0 by omega]; simp
    · rw [v205_hi a18 b T k (by omega), v203_apply, v168_apply a18 p hp]
      show ((∑ s ∈ Finset.range (T.val - 8 + 1), p b s 2 k : ℝ) : EReal) = _
      rw [show T.val - 8 + 1 = T.val + 1 - 8 by omega]
  rw [e, h3, v203_apply, v168_apply a18 p hp, v210_apply, v216_apply, v167_apply a18 p hp, ← pooled_coe _ _ _ (by norm_num)]

end Cert.Proof.MixRefPoolG2

end
-- ==== Proof.MixRefPoolG3.lean ====
/- The reference's pooling window of 16 tokens, over the reals. -/
module

public import proofs.«01_k».proof.Proof.MixRefPoolA

@[expose] public section

set_option maxRecDepth 16384

noncomputable section

namespace Cert.Proof.MixRefPoolG3

open Idealize.ShloMosaic Cert.MixerRefIdeal Cert.MixerRefIdeal.Gen Cert.Proof.MixReal Cert.Proof.MixNum Cert.Proof.MixRef Cert.Proof.MixSpec Cert.Proof.MixGoal Cert.Proof.MixTile Cert.Proof.MixRefPoolA

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

theorem pd16_lo (o : Vec Ideal S8x8192x128 .f32) (q : Vec Ideal S_ .f32) (b : Fin 8) (T : Fin 8192) (k : Fin 128) (hT : T.val < 16) : extractStridedSlice S8x8192x128 ![0, 0, 0] (pad S8x8208x128 ![0, 16, 0] ![0, 0, 0] ![0, 0, 0] o q pads_S8x8192x128_S8x8208x128_000_1600_000 h_S_) slices_S8x8208x128_S8x8192x128_0_0_0 (ix3 b T k) = q (Shape.Idx.first h_S_) := by
  pointwise
  rw [dif_neg (by omega)]
theorem pd16_hi (o : Vec Ideal S8x8192x128 .f32) (q : Vec Ideal S_ .f32) (b : Fin 8) (T : Fin 8192) (k : Fin 128) (hT : 16 ≤ T.val) : extractStridedSlice S8x8192x128 ![0, 0, 0] (pad S8x8208x128 ![0, 16, 0] ![0, 0, 0] ![0, 0, 0] o q pads_S8x8192x128_S8x8208x128_000_1600_000 h_S_) slices_S8x8208x128_S8x8192x128_0_0_0 (ix3 b T k) = o (ix3 b ⟨T.val - 16, by omega⟩ k) := by
  pointwise
  rw [dif_pos (by omega)]
theorem v221_lo (b : Fin 8) (T : Fin 8192) (k : Fin 128) (hT : T.val < 16) : e_v221 (F := Ideal) a18 (ix3 b T k) = 0 := by
  unfold e_v221 e_v220
  rw [pd16_lo _ _ b T k hT]
  have e : e_call11_v0 (F := Ideal) (Shape.Idx.first h_S_) = FloatOps.sitofp (F := Ideal) .f32 (BitVec.ofNat 32 0) := rfl
  rw [e, sf 0 (by norm_num), Nat.cast_zero, EReal.coe_zero]
theorem v221_hi (b : Fin 8) (T : Fin 8192) (k : Fin 128) (hT : 16 ≤ T.val) : e_v221 (F := Ideal) a18 (ix3 b T k) = e_v219 (F := Ideal) a18 (ix3 b ⟨T.val - 16, by omega⟩ k) := by
  unfold e_v221 e_v220
  rw [pd16_hi _ _ b T k hT]
theorem v219_apply (b : Fin 8) (T : Fin 8192) (k : Fin 128) : e_v219 (F := Ideal) a18 (ix3 b T k) = e_v168 (F := Ideal) a18 (ix4 b T 3 k) := by
  pointwise [e_v218, e_v219]
theorem v232_apply (b : Fin 8) (T : Fin 8192) (k : Fin 128) : e_v232 (F := Ideal) a18 (ix3 b T k) = e_v167 (F := Ideal) a18 (ix4 b T 3 k) := by
  pointwise [e_v231, e_v232]
theorem v226_apply (T : Fin 8192) : e_v226 (F := Ideal) (ix1 T) = (((min (T.val + 1) 16 : ℕ) : ℝ) : EReal) := by
  have e : e_v226 (F := Ideal) (ix1 T) = FloatOps.sitofp (F := Ideal) .f32 (IntOp.minsi (IntOp.addi (BitVec.ofNat 32 T.val) 1#32) (BitVec.ofNat 32 16)) := by
    pointwise [e_v169, e_c_33, e_v222, e_v223, e_c_34, e_v224, e_v225, e_v226]
  rw [e, minlem T.val 16 (by omega) (by norm_num), sf _ (by omega)]
include hp in
theorem v233_apply (b : Fin 8) (T : Fin 8192) (k : Fin 128) : e_v233 (F := Ideal) a18 (ix3 b T k) = (pooled (fun T => p b T 3 k) T.val 16 : EReal) := by
  have e : e_v233 (F := Ideal) a18 (ix3 b T k) = Ideal.div (e_v219 (F := Ideal) a18 (ix3 b T k) - e_v221 (F := Ideal) a18 (ix3 b T k)) (e_v226 (F := Ideal) (ix1 T)) - e_v232 (F := Ideal) a18 (ix3 b T k) := by
    have e1 : e_v229 (F := Ideal) (ix3 b T k) = e_v226 (F := Ideal) (ix1 T) := by
      pointwise [e_v227, e_v229]
    rw [← e1]
    unfold e_v233 e_v230 e_v228
    exact comb _ _ _ _ _
  have h3 : e_v221 (F := Ideal) a18 (ix3 b T k) = ((∑ s ∈ Finset.range (T.val + 1 - 16), p b s 3 k : ℝ) : EReal) := by
    by_cases hT : T.val < 16
    · rw [v221_lo a18 b T k hT, show T.val + 1 - 16 = 0 by omega]; simp
    · rw [v221_hi a18 b T k (by omega), v219_apply, v168_apply a18 p hp]
      show ((∑ s ∈ Finset.range (T.val - 16 + 1), p b s 3 k : ℝ) : EReal) = _
      rw [show T.val - 16 + 1 = T.val + 1 - 16 by omega]
  rw [e, h3, v219_apply, v168_apply a18 p hp, v226_apply, v232_apply, v167_apply a18 p hp, ← pooled_coe _ _ _ (by norm_num)]

end Cert.Proof.MixRefPoolG3

end
-- ==== Proof.MixRefDots.lean ====
/- The products of the reference's retention and pooling at an index, and the reads and writes of one chunk in its loop. -/
module

public import proofs.«01_k».proof.Proof.MixRefPre
public import proofs.«01_k».proof.Proof.MixReal

@[expose] public section

set_option maxRecDepth 16384

noncomputable section

namespace Cert.Proof.MixRefDots

open Idealize.ShloMosaic Cert.MixerRefIdeal Cert.MixerRefIdeal.Gen Cert.Proof.MixReal Cert.Proof.MixRef

theorem dot_qk (A B : FVec Ideal S8x128x64x4x128 .f32) (b : Fin 8) (c : Fin 128) (h : Fin 4) (n m : Fin 64) : Host.dotGeneral (F := Ideal) dot_S8x128x64x4x128_S8x128x64x4x128_S8x128x4x64x64_4_4_2_2_013_013 none A B (ix5 b c h n m) = ∑ d : Fin 128, A (ix5 b c n h d) * B (ix5 b c m h d) := by
  pointwise

theorem dot_pv (A : FVec Ideal S8x128x64x4x128 .f32) (B : FVec Ideal S8x128x4x64x64 .f32) (b : Fin 8) (c : Fin 128) (h : Fin 4) (n : Fin 64) (e : Fin 128) : Host.dotGeneral (F := Ideal) dot_S8x128x64x4x128_S8x128x4x64x64_S8x128x4x128x64_2_4_4_3_013_012 none A B (ix5 b c h e n) = ∑ m : Fin 64, A (ix5 b c m h e) * B (ix5 b c h n m) := by
  pointwise

theorem dot_kv (A B : FVec Ideal S8x64x4x128 .f32) (b : Fin 8) (h : Fin 4) (d e : Fin 128) : Host.dotGeneral (F := Ideal) dot_S8x64x4x128_S8x64x4x128_S8x4x128x128_1_1_3_3_02_02 none A B (ix4 b h d e) = ∑ m : Fin 64, A (ix4 b m h d) * B (ix4 b m h e) := by
  pointwise

theorem dot_sq (A : FVec Ideal S8x4x128x128 .f32) (B : FVec Ideal S8x64x4x128 .f32) (b : Fin 8) (h : Fin 4) (n : Fin 64) (e : Fin 128) : Host.dotGeneral (F := Ideal) dot_S8x4x128x128_S8x64x4x128_S8x4x128x64_2_3_3_1_01_02 none A B (ix4 b h e n) = ∑ d : Fin 128, A (ix4 b h d e) * B (ix4 b n h d) := by
  pointwise

theorem dot_pool (A : FVec Ideal S4x128x128 .f32) (B : FVec Ideal S8x8192x4x128 .f32) (b : Fin 8) (T : Fin 8192) (h : Fin 4) (e : Fin 128) : Host.dotGeneral (F := Ideal) dot_S4x128x128_S8x8192x4x128_S4x128x8x8192_1_3_2_01_0_2 none A B (ix4 h e b T) = ∑ d : Fin 128, A (ix3 h d e) * B (ix4 b T h d) := by
  pointwise

variable (o : Vec Ideal S8x128x64x4x128 .f32) (cr : Vec Ideal S128x8x64x4x128 .f32) (u : Vec Ideal S1x8x64x4x128 .f32)
theorem s1 (b : Fin 8) (T : Fin 8192) (h : Fin 4) (e : Fin 128) : shapeCast S8x8192x4x128 o shapeCasts_S8x128x64x4x128_S8x8192x4x128 (ix4 b T h e) = o (ix5 b ⟨T.val / 64, by omega⟩ ⟨T.val % 64, by omega⟩ h e) := by
  pointwise
theorem s2 (st : Fin 5 → Int) (i : Fin 128) (h0 : st 0 = i.val) (h1 : st 1 = 0) (h2 : st 2 = 0) (h3 : st 3 = 0) (h4 : st 4 = 0) (b : Fin 8) (n : Fin 64) (h : Fin 4) (e : Fin 128) : Host.dynamicSlice S1x8x64x4x128 cr st sliceFits_S128x8x64x4x128_S1x8x64x4x128 (ix5 0 b n h e) = cr (ix5 i b n h e) := by
  have e0 : (min (max (i.val : Int) 0) ((127 : ℕ) : Int)).toNat = i.val := by omega
  have e1 : (min (max (0 : Int) 0) ((0 : ℕ) : Int)).toNat = 0 := rfl
  pointwise [Host.clampedStart, h0, h1, h2, h3, h4]
  simp only [e0, e1, Nat.zero_add]
theorem s3 (st : Fin 5 → Int) (i k : Fin 128) (h0 : st 0 = i.val) (h1 : st 1 = 0) (h2 : st 2 = 0) (h3 : st 3 = 0) (h4 : st 4 = 0) (b : Fin 8) (n : Fin 64) (h : Fin 4) (e : Fin 128) : Host.dynamicUpdateSlice cr u st sliceFits_S128x8x64x4x128_S1x8x64x4x128 (ix5 k b n h e) = if k = i then u (ix5 0 b n h e) else cr (ix5 k b n h e) := by
  have e0 : (min (max (i.val : Int) 0) ((127 : ℕ) : Int)).toNat = i.val := by omega
  have e1 : (min (max (0 : Int) 0) ((0 : ℕ) : Int)).toNat = 0 := rfl
  pointwise [Host.clampedStart, h0, h1, h2, h3, h4]
  simp only [e0, e1, Nat.zero_add, Nat.sub_zero]
  by_cases hk : k = i
  · subst hk
    rw [dif_pos (by omega), if_pos rfl]
    congr 2
    apply Fin.ext; simp
  · rw [dif_neg (by have : k.val ≠ i.val := fun h => hk (Fin.ext h); omega), if_neg hk]

end Cert.Proof.MixRefDots

end
-- ==== Proof.MixRefPool.lean ====
/- The reference's pooling windows at an index, over the reals. -/
module

public import proofs.«01_k».proof.Proof.MixRefPoolG0
public import proofs.«01_k».proof.Proof.MixRefPoolG1
public import proofs.«01_k».proof.Proof.MixRefPoolG2
public import proofs.«01_k».proof.Proof.MixRefPoolG3
public import proofs.«01_k».proof.Proof.MixRefDots

@[expose] public section

set_option maxRecDepth 16384

noncomputable section

namespace Cert.Proof.MixRefPool

open Idealize.ShloMosaic Cert.MixerRefIdeal Cert.MixerRefIdeal.Gen Cert.Proof.MixReal Cert.Proof.MixNum Cert.Proof.MixRef Cert.Proof.MixSpec Cert.Proof.MixGoal Cert.Proof.MixTile Cert.Proof.MixRefPoolA Cert.Proof.MixRefPoolG0 Cert.Proof.MixRefPoolG1 Cert.Proof.MixRefPoolG2 Cert.Proof.MixRefPoolG3

variable (a18 : Vec Ideal S8x8192x512 .f32) (p : Fin 8 → ℕ → Fin 4 → Fin 128 → ℝ)
variable (hp : ∀ (b : Fin 8) (T : Fin 8192) (h : Fin 4) (e : Fin 128), a18 (ix3 b T (lane4 h e)) = (p b T.val h e : EReal))

theorem v238_0 (b : Fin 8) (T : Fin 8192) (k : Fin 128) : e_v238 (F := Ideal) a18 (ix4 b T 0 k) = e_v185 (F := Ideal) a18 (ix3 b T k) := by
  pointwise [e_v234, e_v238]
theorem v238_1 (b : Fin 8) (T : Fin 8192) (k : Fin 128) : e_v238 (F := Ideal) a18 (ix4 b T 1 k) = e_v201 (F := Ideal) a18 (ix3 b T k) := by
  pointwise [e_v235, e_v238]
theorem v238_2 (b : Fin 8) (T : Fin 8192) (k : Fin 128) : e_v238 (F := Ideal) a18 (ix4 b T 2 k) = e_v217 (F := Ideal) a18 (ix3 b T k) := by
  pointwise [e_v236, e_v238]
theorem v238_3 (b : Fin 8) (T : Fin 8192) (k : Fin 128) : e_v238 (F := Ideal) a18 (ix4 b T 3 k) = e_v233 (F := Ideal) a18 (ix3 b T k) := by
  pointwise [e_v237, e_v238]
include hp in
theorem v238_apply (b : Fin 8) (T : Fin 8192) (g : Fin 4) (k : Fin 128) : e_v238 (F := Ideal) a18 (ix4 b T g k) = (pooled (fun T => p b T g k) T.val (2 ^ (g.val + 1)) : EReal) := by
  match g with
  | ⟨0, _⟩ => exact (v238_0 a18 b T k).trans (v185_apply a18 p hp b T k)
  | ⟨1, _⟩ => exact (v238_1 a18 b T k).trans (v201_apply a18 p hp b T k)
  | ⟨2, _⟩ => exact (v238_2 a18 b T k).trans (v217_apply a18 p hp b T k)
  | ⟨3, _⟩ => exact (v238_3 a18 b T k).trans (v233_apply a18 p hp b T k)

variable (a4 : Vec Ideal S4x128x128 .f32) (a5 : Vec Ideal S512 .f32)

include hp in
theorem v240_apply (b : Fin 8) (T : Fin 8192) (g : Fin 4) (e : Fin 128) : e_v240 (F := Ideal) a4 a18 (ix4 b T g e)
    = ∑ k : Fin 128, (pooled (fun T => p b T g k) T.val (2 ^ (g.val + 1)) : EReal) * a4 (ix3 g k e) := by
  have h : e_v240 (F := Ideal) a4 a18 (ix4 b T g e) = e_v239 (F := Ideal) a4 a18 (ix4 g e b T) := by
    pointwise [e_v240]
  rw [h]
  unfold e_v239
  rw [MixRefDots.dot_pool]
  refine Finset.sum_congr rfl fun k _ => ?_
  rw [v238_apply a18 p hp, mul_comm]
include hp in
theorem v244_apply (b : Fin 8) (T : Fin 8192) (g : Fin 4) (e : Fin 128) : e_v244 (F := Ideal) a4 a5 a18 (ix3 b T (lane4 g e))
    = (∑ k : Fin 128, (pooled (fun T => p b T g k) T.val (2 ^ (g.val + 1)) : EReal) * a4 (ix3 g k e)) * a5 (ix1 (lane4 g e)) := by
  have h1 : ∀ j : Fin 512, e_v244 (F := Ideal) a4 a5 a18 (ix3 b T j) = e_v240 (F := Ideal) a4 a18 (ix4 b T ⟨j.val / 128, by omega⟩ ⟨j.val % 128, by omega⟩) * a5 (ix1 j) := by
    intro j
    pointwise [e_v241, e_v242, e_v243, e_v244]
  rw [h1, show (⟨(lane4 g e).val / 128, by omega⟩ : Fin 4) = g from Fin.ext (by unfold lane4; simp only []; omega),
    show (⟨(lane4 g e).val % 128, by omega⟩ : Fin 128) = e from Fin.ext (by unfold lane4; simp only []; omega), v240_apply a18 p hp]

end Cert.Proof.MixRefPool

end
-- ==== Proof.MixRefNorm.lean ====
/- The reference's normalised, gated retention at an index. -/
module

public import proofs.«01_k».proof.Proof.MixRefPost
public import proofs.«01_k».proof.Proof.MixGoal

@[expose] public section

set_option maxRecDepth 16384

noncomputable section

namespace Cert.Proof.MixRefNorm

open Idealize.ShloMosaic Cert.MixerRefIdeal Cert.MixerRefIdeal.Gen Cert.Proof.MixReal Cert.Proof.MixRef Cert.Proof.MixSpec Cert.Proof.MixGoal Cert.Proof.MixTile

variable (a3 : Vec Ideal S512 .f32) (a133 : Vec Ideal S8x128x64x4x128 .f32) (a8 : Vec Ideal S128x8x64x4x128 .f32) (a17 : Vec Ideal S8x8192x512 .f32)

theorem v146_apply (b : Fin 8) (T : Fin 8192) (h : Fin 4) : e_v146 (F := Ideal) a133 a8 (ix4 b T h 0) = mean (fun e => e_v142 (F := Ideal) a133 a8 (ix4 b T h e)) := by
  pointwise [e_cst_18, e_v143, e_v144, e_cst_19, e_v145, e_v146]
  unfold mean
  first | rfl | rw [Ideal.ofBits_zero, zero_add] | simp
theorem v148_apply (b : Fin 8) (T : Fin 8192) (h : Fin 4) (e : Fin 128) : e_v148 (F := Ideal) a133 a8 (ix4 b T h e) = e_v142 (F := Ideal) a133 a8 (ix4 b T h e) - mean (fun e => e_v142 (F := Ideal) a133 a8 (ix4 b T h e)) := by
  pointwise [e_v147, e_v148, v146_apply]
theorem v149_apply (b : Fin 8) (T : Fin 8192) (h : Fin 4) (e : Fin 128) : e_v149 (F := Ideal) a133 a8 (ix4 b T h e) = e_v148 (F := Ideal) a133 a8 (ix4 b T h e) * e_v148 (F := Ideal) a133 a8 (ix4 b T h e) := by
  pointwise [e_v149]
theorem v153_apply (b : Fin 8) (T : Fin 8192) (h : Fin 4) : e_v153 (F := Ideal) a133 a8 (ix4 b T h 0) = mean (fun e => e_v149 (F := Ideal) a133 a8 (ix4 b T h e)) := by
  pointwise [e_cst_20, e_v150, e_v151, e_cst_21, e_v152, e_v153]
  unfold mean
  first | rfl | rw [Ideal.ofBits_zero, zero_add] | simp
theorem v155_apply (b : Fin 8) (T : Fin 8192) (h : Fin 4) (e : Fin 128) : e_v155 (F := Ideal) a133 a8 (ix4 b T h e) = e_v142 (F := Ideal) a133 a8 (ix4 b T h e) - mean (fun e => e_v142 (F := Ideal) a133 a8 (ix4 b T h e)) := by
  pointwise [e_v154, e_v155, v146_apply]
theorem v160_apply (b : Fin 8) (T : Fin 8192) (h : Fin 4) (e : Fin 128) : e_v160 (F := Ideal) a133 a8 (ix4 b T h e)
    = e_v155 (F := Ideal) a133 a8 (ix4 b T h e) * Ideal.rsqrt (e_v153 (F := Ideal) a133 a8 (ix4 b T h 0) + Ideal.ofBits FTy.f32 0x3727C5AC#32) := by
  pointwise [e_cst_22, e_v156, e_v157, e_v158, e_v159, e_v160]
theorem v164_apply (b : Fin 8) (T : Fin 8192) (h : Fin 4) (e : Fin 128) : e_v164 (F := Ideal) a3 a133 a8 (ix3 b T (lane4 h e))
    = gno (fun e => e_v142 (F := Ideal) a133 a8 (ix4 b T h e)) (fun e => a3 (ix1 (lane4 h e))) e := by
  have h1 : e_v164 (F := Ideal) a3 a133 a8 (ix3 b T (lane4 h e)) = e_v161 (F := Ideal) a133 a8 (ix3 b T (lane4 h e)) * a3 (ix1 (lane4 h e)) := by
    pointwise [e_v162, e_v163, e_v164]
  have h2 : ∀ j : Fin 512, e_v161 (F := Ideal) a133 a8 (ix3 b T j) = e_v160 (F := Ideal) a133 a8 (ix4 b T ⟨j.val / 128, by omega⟩ ⟨j.val % 128, by omega⟩) := by
    intro j
    pointwise [e_v161]
  rw [h1, h2, show (⟨(lane4 h e).val / 128, by omega⟩ : Fin 4) = h from Fin.ext (by unfold lane4; simp only []; omega),
    show (⟨(lane4 h e).val % 128, by omega⟩ : Fin 128) = e from Fin.ext (by unfold lane4; simp only []; omega),
    v160_apply, v155_apply, v153_apply]
  simp only [v149_apply, v148_apply]
  rfl
theorem v166_apply (b : Fin 8) (T : Fin 8192) (h : Fin 4) (e : Fin 128) : e_v166 (F := Ideal) a3 a133 a8 a17 (ix3 b T (lane4 h e))
    = gated (a17 (ix3 b T (lane4 h e))) (gno (fun e => e_v142 (F := Ideal) a133 a8 (ix4 b T h e)) (fun e => a3 (ix1 (lane4 h e))) e) := by
  have h1 : ∀ j : Fin 512, e_v166 (F := Ideal) a3 a133 a8 a17 (ix3 b T j) = a17 (ix3 b T j) * Ideal.logistic (a17 (ix3 b T j)) * e_v164 (F := Ideal) a3 a133 a8 (ix3 b T j) := by
    intro j
    pointwise [e_call6_v0, e_call6_v1, e_call6_cst, e_call6_v2, e_call6_v3, e_call6_cst_0, e_call6_v4, e_call6_v5, e_v165, e_v166]
    try rfl
  rw [h1, v164_apply]
  rfl

end Cert.Proof.MixRefNorm

end
-- ==== Proof.MixRefOut.lean ====
/- The reference's last operations: the two parts of the retention joined, the pooled lanes beside it, the output projection. -/
module

public import proofs.«01_k».proof.Proof.MixRefPool
public import proofs.«01_k».proof.Proof.MixRefNorm
public import proofs.«01_k».proof.Proof.MixRefDots
public import proofs.«01_k».proof.Proof.MixGoal

@[expose] public section

set_option maxRecDepth 16384

noncomputable section

namespace Cert.Proof.MixRefOut

open Idealize.ShloMosaic Cert.MixerRefIdeal Cert.MixerRefIdeal.Gen Cert.Proof.MixReal Cert.Proof.MixNum Cert.Proof.MixRef Cert.Proof.MixSpec Cert.Proof.MixTile

theorem addf_at {S : Shape} (A B : FVec Ideal S .f32) (i : S.Idx) : addf A B i = A i + B i := rfl
theorem fromLoop (o : Vec Ideal S128x8x64x4x128 .f32) (b : Fin 8) (c : Fin 128) (n : Fin 64) (h : Fin 4) (e : Fin 128) :
    transpose S8x128x64x4x128 [1, 0, 2, 3, 4] o transposes_S128x8x64x4x128_S8x128x64x4x128_1_0_2_3_4 (ix5 b c n h e) = o (ix5 c b n h e) := by
  pointwise
theorem cut17 (o : Vec Ideal S8x8192x2560 .f32) (b : Fin 8) (T : Fin 8192) (j : Fin 512) :
    extractStridedSlice S8x8192x512 ![0, 0, 1536] o slices_S8x8192x2560_S8x8192x512_0_0_1536 (ix3 b T j) = o (ix3 b T ⟨1536 + j.val, by omega⟩) := by
  pointwise
theorem cut18 (o : Vec Ideal S8x8192x2560 .f32) (b : Fin 8) (T : Fin 8192) (j : Fin 512) :
    extractStridedSlice S8x8192x512 ![0, 0, 2048] o slices_S8x8192x2560_S8x8192x512_0_0_2048 (ix3 b T j) = o (ix3 b T ⟨2048 + j.val, by omega⟩) := by
  pointwise
theorem join2 (A B : Vec Ideal S8x8192x512 .f32) (b : Fin 8) (T : Fin 8192) (j : Fin 1024) :
    concatenate S8x8192x1024 2 [⟨S8x8192x512, A⟩, ⟨S8x8192x512, B⟩] concatenates_S8x8192x512_S8x8192x512_S8x8192x1024_d2 (ix3 b T j)
      = if h : j.val < 512 then A (ix3 b T ⟨j.val, h⟩) else B (ix3 b T ⟨j.val - 512, by omega⟩) := by
  by_cases h : j.val < 512
  · rw [dif_pos h]
    pointwise [h]
  · rw [dif_neg h]
    pointwise [h]
theorem dot_out (A : FVec Ideal S8x8192x1024 .f32) (B : FVec Ideal S1024x1024 .f32) (b : Fin 8) (T : Fin 8192) (c : Fin 1024) :
    Host.dotGeneral (F := Ideal) dot_S8x8192x1024_S1024x1024_S8x8192x1024_2_0_01_1_n_n none A B (ix3 b T c)
      = ∑ j : Fin 1024, A (ix3 b T j) * B (ix2 j c) := by
  pointwise
theorem lane4_div (j : ℕ) (hj : j < 512) : lane4 ⟨j / 128, by omega⟩ ⟨j % 128, by omega⟩ = ⟨j, hj⟩ := Fin.ext (by unfold lane4; simp only []; omega)

variable (z : Fin 8 → ℕ → Fin 2560 → ℝ)

section rows
variable (x : Vec Ideal S8x8192x1024 .f32) (g : Vec Ideal S1024 .f32) (w : Vec Ideal S1024x2560 .f32)
variable (hZ : ∀ (b : Fin 8) (T : Fin 8192) (c : Fin 2560), e_v13 (F := Ideal) x g w (ix3 b T c) = (z b T.val c : EReal))

include hZ in
/-- The gates' lanes of the projected rows. -/
theorem v17_apply (b : Fin 8) (T : Fin 8192) (h : Fin 4) (e : Fin 128) : e_v17 (F := Ideal) x g w (ix3 b T (lane4 h e)) = (zl (z b) T.val ⟨12 + h.val, by omega⟩ e : EReal) := by
  unfold e_v17
  rw [cut17, hZ]
  unfold zl lane4
  congr 2
  exact Fin.ext (by simp; omega)
include hZ in
/-- The pooled lanes of the projected rows. -/
theorem v18_apply (b : Fin 8) (T : Fin 8192) (h : Fin 4) (e : Fin 128) : e_v18 (F := Ideal) x g w (ix3 b T (lane4 h e)) = (zl (z b) T.val ⟨16 + h.val, by omega⟩ e : EReal) := by
  unfold e_v18
  rw [cut18, hZ]
  unfold zl lane4
  congr 2
  exact Fin.ext (by simp; omega)
end rows

variable (a133 : Vec Ideal S8x128x64x4x128 .f32) (a8 : Vec Ideal S128x8x64x4x128 .f32) (a17 a18 : Vec Ideal S8x8192x512 .f32)
variable (a0 : Vec Ideal S8x8192x1024 .f32) (a3 : Vec Ideal S512 .f32) (a4 : Vec Ideal S4x128x128 .f32) (a5 : Vec Ideal S512 .f32) (a6 : Vec Ideal S1024x1024 .f32)
variable (h133 : ∀ (b : Fin 8) (c : Fin 128) (n : Fin 64) (h : Fin 4) (e : Fin 128), a133 (ix5 b c n h e) = ((∑ m ∈ Finset.range 64, (∑ d, qR (z b) h (64 * c.val + n.val) d * kR (z b) h (64 * c.val + m) d) * gam h ^ MixReal.dist n.val m * vR (z b) h (64 * c.val + m) e : ℝ) : EReal))
variable (h8 : ∀ (c : Fin 128) (b : Fin 8) (n : Fin 64) (h : Fin 4) (e : Fin 128), a8 (ix5 c b n h e) = ((∑ d, qR (z b) h (64 * c.val + n.val) d * gam h ^ (n.val + 1) * stR (z b) h (64 * c.val) d e : ℝ) : EReal))
variable (h17 : ∀ (b : Fin 8) (T : Fin 8192) (h : Fin 4) (e : Fin 128), a17 (ix3 b T (lane4 h e)) = (zl (z b) T.val ⟨12 + h.val, by omega⟩ e : EReal))
variable (h18 : ∀ (b : Fin 8) (T : Fin 8192) (h : Fin 4) (e : Fin 128), a18 (ix3 b T (lane4 h e)) = (zl (z b) T.val ⟨16 + h.val, by omega⟩ e : EReal))

include h133 h8 in
/-- The sum of the two parts of the retention is the retention of the whole sequence. -/
theorem v142_apply (b : Fin 8) (T : Fin 8192) (h : Fin 4) (e : Fin 128) : e_v142 (F := Ideal) a133 a8 (ix4 b T h e) = (retR (z b) h T.val e : EReal) := by
  unfold e_v142
  rw [MixRefDots.s1]
  unfold e_v141 e_v140
  rw [addf_at, fromLoop, h133, h8, ← EReal.coe_add]
  have hr := ret_block (qR (z b) h) (kR (z b) h) (vR (z b) h) (gam h) (64 * (T.val / 64)) (T.val % 64) 64 (by omega) (by omega) e
  rw [show 64 * (T.val / 64) + T.val % 64 = T.val by omega] at hr
  unfold retR stR
  simp only [show 64 * (T.val / 64) + T.val % 64 = T.val by omega]
  rw [hr]

include h133 h8 h17 in
theorem ret_lane (b : Fin 8) (T : Fin 8192) (h : Fin 4) (e : Fin 128) : e_v166 (F := Ideal) a3 a133 a8 a17 (ix3 b T (lane4 h e)) = retS (z b) (fun h e => a3 (ix1 (lane4 h e))) T.val h e := by
  rw [MixRefNorm.v166_apply, h17]
  simp only [v142_apply z a133 a8 h133 h8]
  unfold retS
  rfl

include h18 in
theorem pool_lane (b : Fin 8) (T : Fin 8192) (g : Fin 4) (e : Fin 128) : e_v244 (F := Ideal) a4 a5 a18 (ix3 b T (lane4 g e)) = poolS (z b) (fun g k e => a4 (ix3 g k e)) (fun g e => a5 (ix1 (lane4 g e))) T.val g e := by
  rw [MixRefPool.v244_apply a18 (fun b T h e => zl (z b) T ⟨16 + h.val, by omega⟩ e) h18]
  unfold poolS
  rfl

include h133 h8 h17 h18 in
/-- Lane `j` of the joined row. -/
theorem v245_apply (b : Fin 8) (T : Fin 8192) (j : Fin 1024) : e_v245 (F := Ideal) a3 a4 a5 a133 a8 a17 a18 (ix3 b T j)
    = catS (z b) (fun h e => a3 (ix1 (lane4 h e))) (fun g k e => a4 (ix3 g k e)) (fun g e => a5 (ix1 (lane4 g e))) T.val j := by
  unfold e_v245
  rw [join2]
  unfold catS
  by_cases h : j.val < 512
  · rw [dif_pos h, dif_pos h, ← lane4_div j.val h, ret_lane z a133 a8 a17 a3 h133 h8 h17]
  · rw [dif_neg h, dif_neg h, ← lane4_div (j.val - 512) (by omega), pool_lane z a18 a4 a5 h18]
    congr 1
    exact Fin.ext (show (j.val - 512) % 128 = j.val % 128 by omega)

include h133 h8 h17 h18 in
/-- The reference's result is the mathematics' one. -/
theorem out : e_v247 (F := Ideal) a0 a3 a4 a5 a6 a133 a8 a17 a18 = MixGoal.G z a0 a3 a4 a5 a6 := by
  funext i
  obtain ⟨b, T, c, rfl⟩ : ∃ (b : Fin 8) (T : Fin 8192) (c : Fin 1024), i = ix3 b T c := ⟨i 0, i 1, i 2, eq_ix3 i⟩
  unfold e_v247 e_v246
  rw [addf_at, dot_out]
  simp only [v245_apply z a133 a8 a17 a18 a3 a4 a5 h133 h8 h17 h18]
  rfl

end Cert.Proof.MixRefOut

end
-- ==== Proof.MixRefQ.lean ====
/- The reference's heads and tables, as real numbers. -/
module

public import proofs.«01_k».proof.Proof.MixRefPre
public import proofs.«01_k».proof.Proof.MixReal
public import proofs.«01_k».proof.Proof.MixTabVal

@[expose] public section

set_option maxRecDepth 16384

noncomputable section

namespace Cert.Proof.MixRefQ

open Idealize.ShloMosaic Cert.MixerRefIdeal Cert.Proof.MixReal Cert.Proof.MixNum Cert.Proof.MixRef

theorem bits_64 : (Ideal.ofBits FTy.f32 0x42800000#32 : EReal) = ((64 : ℝ) : EReal) := by
  simp [Ideal.ofBits, Ideal.ieee, -EReal.coe_mul]; norm_num
theorem bits_ks : (Ideal.ofBits FTy.f32 0x3DB504F3#32 : EReal) = (ks : EReal) := kscale_eq

/-! ## The tables -/

theorem v20_lo (i : Fin 63) : e_call0_v15 (F := Ideal) (ix1 i) = (((i.val : ℝ) / 63 : ℝ) : EReal) := by
  pointwise [e_cst_2, e_cst_3, e_call0_v0, e_call0_v1, e_call0_v4, e_call0_cst_0, e_call0_v5, e_call0_v6, e_call0_v7, e_call0_cst_1, e_call0_v8, e_call0_v9, e_call0_v10, e_call0_v11, e_call0_v12, e_call0_v13, e_call0_v14, e_call0_v15]
  rw [sf _ (by omega), bits_63, Ideal.div_coe (by norm_num), zero_mul, zero_add, ← EReal.coe_mul, mul_one_div]
theorem v20_hi (i : Fin 1) : e_call0_v16 (F := Ideal) (ix1 i) = ((1 : ℝ) : EReal) := by
  pointwise [e_cst_3, e_call0_v1, e_call0_v16]
  rfl
theorem v92_apply (h : Fin 4) : e_v92 (F := Ideal) (ix1 h) = (Real.log (gam h) : EReal) := by
  pointwise [e_v86, e_cst_11, e_v87, e_v88, e_cst_12, e_v89, e_v90, e_v91, e_v92]
  rw [sf _ (by omega), bits_2, bits_neg5]
  exact log_gam h
theorem v105_apply (h : Fin 4) (n j : Fin 64) : e_v105 (F := Ideal) (ix3 h n j) = ((gam h ^ MixReal.dist n.val j.val : ℝ) : EReal) := by
  pointwise [v92_apply, e_v93, e_v94, e_v95, e_v96, e_v97, e_v98, e_v99, e_v100, e_v101, e_v102, e_v103, e_v104, e_v105]
  rw [sf _ (by omega), sf _ (by omega), ← EReal.coe_sub, ← exp_gam]
  congr 2
  show max (((n.val : ℝ) - (j.val : ℝ) : ℝ) : EReal) (-(((n.val : ℝ) - (j.val : ℝ) : ℝ) : EReal)) = _
  rw [← EReal.coe_neg]
  unfold MixReal.dist
  rcases le_total n.val j.val with hh | hh
  · have : (n.val : ℝ) ≤ j.val := by exact_mod_cast hh
    rw [max_eq_right (EReal.coe_le_coe_iff.mpr (by linarith)), Nat.sub_eq_zero_of_le hh, zero_add, Nat.cast_sub hh]; congr 1; ring
  · have : (j.val : ℝ) ≤ n.val := by exact_mod_cast hh
    rw [max_eq_left (EReal.coe_le_coe_iff.mpr (by linarith)), Nat.sub_eq_zero_of_le hh, add_zero, Nat.cast_sub hh]
theorem v113_apply (n : Fin 64) (h : Fin 4) : e_v113 (F := Ideal) (ix2 n h) = ((gam h ^ (n.val + 1) : ℝ) : EReal) := by
  pointwise [v92_apply, e_v93, e_v106, e_cst_13, e_v107, e_v108, e_v109, e_v110, e_v111, e_v112, e_v113]
  rw [sf _ (by omega), ← EReal.coe_one, ← EReal.coe_add, ← exp_gam]
  push_cast
  rfl
theorem v121_apply (n : Fin 64) (h : Fin 4) : e_v121 (F := Ideal) (ix2 n h) = ((gam h ^ (63 - n.val) : ℝ) : EReal) := by
  pointwise [v92_apply, e_v93, e_v114, e_cst_14, e_v115, e_v116, e_v117, e_v118, e_v119, e_v120, e_v121]
  rw [sf _ (by omega), bits_63, ← EReal.coe_sub, ← exp_gam, Nat.cast_sub (by omega)]
  norm_num
theorem v124_apply (h : Fin 4) : e_v124 (F := Ideal) (ix1 h) = ((gam h ^ 64 : ℝ) : EReal) := by
  pointwise [v92_apply, e_cst_15, e_v122, e_v123, e_v124]
  rw [bits_64, ← exp_gam]
  norm_num

end Cert.Proof.MixRefQ

end
-- ==== Proof.MixRefTabs.lean ====
/- The reference's tables of angles. -/
module

public import proofs.«01_k».proof.Proof.MixRefQ

@[expose] public section

set_option maxRecDepth 16384

noncomputable section

namespace Cert.Proof.MixRefTabs

open Idealize.ShloMosaic Cert.MixerRefIdeal Cert.MixerRefIdeal.Gen Cert.Proof.MixReal Cert.Proof.MixNum Cert.Proof.MixRef

/-! ## The tables of the angles -/

theorem v20_apply (i : Fin 64) : e_v20 (F := Ideal) (ix1 i) = (((i.val : ℝ) / 63 : ℝ) : EReal) := by
  by_cases h : i.val < 63
  · have e : e_v20 (F := Ideal) (ix1 i) = e_call0_v15 (F := Ideal) (ix1 ⟨i.val, h⟩) := by
      pointwise [e_v20, h]
    rw [e, MixRefQ.v20_lo]
  · have e : e_v20 (F := Ideal) (ix1 i) = e_call0_v16 (F := Ideal) (ix1 ⟨i.val - 63, by omega⟩) := by
      pointwise [e_v20, h]
    rw [e, MixRefQ.v20_hi, show i.val = 63 by omega]
    norm_num
theorem v30_apply (T : Fin 8192) (i : Fin 64) : e_v30 (F := Ideal) (ix2 T i) = (ang T.val i.val : EReal) := by
  pointwise [v20_apply, e_cst_4, e_cst_5, e_v21, e_v22, e_v23, e_v24, e_v25, e_v26, e_v27, e_v28, e_v29, e_v30]
  have hne : Real.rpow 10000 ((i.val : ℝ) / 63) ≠ 0 := (Real.rpow_pos_of_pos (by norm_num) _).ne'
  rw [sf _ (by omega), bits_10000, Ideal.pow_coe_coe, Ideal.div_coe hne, ← EReal.coe_one, ← EReal.coe_mul, ← EReal.coe_mul, one_mul]
  rfl
theorem v31_apply (T : Fin 8192) (i : Fin 64) : e_v31 (F := Ideal) (ix2 T i) = (Real.cos (ang T.val i.val) : EReal) := by
  pointwise [e_v31, v30_apply]
  rfl
theorem v33_apply (T : Fin 8192) (i : Fin 64) : e_v33 (F := Ideal) (ix2 T i) = (Real.sin (ang T.val i.val) : EReal) := by
  pointwise [e_v33, v30_apply]
  rfl

theorem v52_lo (i : Fin 63) : e_call1_v15 (F := Ideal) (ix1 i) = (((i.val : ℝ) / 63 : ℝ) : EReal) := by
  exact MixRefQ.v20_lo i
theorem v52_hi (i : Fin 1) : e_call1_v16 (F := Ideal) (ix1 i) = ((1 : ℝ) : EReal) := by
  exact MixRefQ.v20_hi i
theorem v52_apply (i : Fin 64) : e_v52 (F := Ideal) (ix1 i) = (((i.val : ℝ) / 63 : ℝ) : EReal) := by
  by_cases h : i.val < 63
  · have e : e_v52 (F := Ideal) (ix1 i) = e_call1_v15 (F := Ideal) (ix1 ⟨i.val, h⟩) := by
      pointwise [e_v52, h]
    rw [e, v52_lo]
  · have e : e_v52 (F := Ideal) (ix1 i) = e_call1_v16 (F := Ideal) (ix1 ⟨i.val - 63, by omega⟩) := by
      pointwise [e_v52, h]
    rw [e, v52_hi, show i.val = 63 by omega]
    norm_num
theorem v62_apply (T : Fin 8192) (i : Fin 64) : e_v62 (F := Ideal) (ix2 T i) = (ang T.val i.val : EReal) := by
  pointwise [v52_apply, e_cst_8, e_cst_9, e_v53, e_v54, e_v55, e_v56, e_v57, e_v58, e_v59, e_v60, e_v61, e_v62]
  have hne : Real.rpow 10000 ((i.val : ℝ) / 63) ≠ 0 := (Real.rpow_pos_of_pos (by norm_num) _).ne'
  rw [sf _ (by omega), bits_10000, Ideal.pow_coe_coe, Ideal.div_coe hne, ← EReal.coe_one, ← EReal.coe_mul, ← EReal.coe_mul, one_mul]
  rfl
theorem v63_apply (T : Fin 8192) (i : Fin 64) : e_v63 (F := Ideal) (ix2 T i) = (Real.cos (ang T.val i.val) : EReal) := by
  pointwise [e_v63, v62_apply]
  rfl
theorem v65_apply (T : Fin 8192) (i : Fin 64) : e_v65 (F := Ideal) (ix2 T i) = (Real.sin (ang T.val i.val) : EReal) := by
  pointwise [e_v65, v62_apply]
  rfl

end Cert.Proof.MixRefTabs

end
-- ==== Proof.MixRefRot.lean ====
/- The reference's rotation and its splits into heads and chunks, on any operand. -/
module

public import proofs.«01_k».proof.Proof.MixRefTabs

@[expose] public section

set_option maxRecDepth 16384

noncomputable section

namespace Cert.Proof.MixRefRot

open Idealize.ShloMosaic Cert.MixerRefIdeal Cert.MixerRefIdeal.Gen Cert.Proof.MixReal Cert.Proof.MixNum Cert.Proof.MixRef Cert.Proof.MixRefTabs

/-! ## The rotation -/

theorem rot_even (f : Fin 128 → ℝ) (T : ℕ) (d : Fin 128) (hd : d.val % 2 = 0) :
    f ⟨2 * (d.val / 2), by omega⟩ * Real.cos (ang T (d.val / 2)) - f ⟨2 * (d.val / 2) + 1, by omega⟩ * Real.sin (ang T (d.val / 2)) = rotR f T d := by
  unfold rotR cosR sinR
  rw [if_pos hd, show (⟨2 * (d.val / 2), by omega⟩ : Fin 128) = d from Fin.ext (by show 2 * (d.val / 2) = d.val; omega),
    show (⟨2 * (d.val / 2) + 1, by omega⟩ : Fin 128) = MixSpec.swp d from Fin.ext (by unfold MixSpec.swp; split <;> (simp only []; omega))]
  ring
theorem rot_odd (f : Fin 128 → ℝ) (T : ℕ) (d : Fin 128) (hd : d.val % 2 = 1) :
    f ⟨2 * (d.val / 2), by omega⟩ * Real.sin (ang T (d.val / 2)) + f ⟨2 * (d.val / 2) + 1, by omega⟩ * Real.cos (ang T (d.val / 2)) = rotR f T d := by
  unfold rotR cosR sinR
  rw [if_neg (by omega), show (⟨2 * (d.val / 2) + 1, by omega⟩ : Fin 128) = d from Fin.ext (by show 2 * (d.val / 2) + 1 = d.val; omega),
    show (⟨2 * (d.val / 2), by omega⟩ : Fin 128) = MixSpec.swp d from Fin.ext (by unfold MixSpec.swp; split <;> (simp only []; omega))]
  ring

theorem headQ (o : Vec Ideal S8x8192x2560 .f32) (b : Fin 8) (T : Fin 8192) (h : Fin 4) (d : Fin 128) :
    shapeCast S8x8192x4x128 (extractStridedSlice S8x8192x512 ![0, 0, 0] o slices_S8x8192x2560_S8x8192x512_0_0_0) shapeCasts_S8x8192x512_S8x8192x4x128 (ix4 b T h d) = o (ix3 b T ⟨128 * (0 + h.val) + d.val, by omega⟩) := by
  pointwise
  congr 2; apply Fin.ext; simp; omega
theorem headK (o : Vec Ideal S8x8192x2560 .f32) (b : Fin 8) (T : Fin 8192) (h : Fin 4) (d : Fin 128) :
    shapeCast S8x8192x4x128 (extractStridedSlice S8x8192x512 ![0, 0, 512] o slices_S8x8192x2560_S8x8192x512_0_0_512) shapeCasts_S8x8192x512_S8x8192x4x128 (ix4 b T h d) = o (ix3 b T ⟨128 * (4 + h.val) + d.val, by omega⟩) := by
  pointwise
  congr 2; apply Fin.ext; simp; omega
theorem headV (o : Vec Ideal S8x8192x2560 .f32) (b : Fin 8) (T : Fin 8192) (h : Fin 4) (d : Fin 128) :
    shapeCast S8x8192x4x128 (extractStridedSlice S8x8192x512 ![0, 0, 1024] o slices_S8x8192x2560_S8x8192x512_0_0_1024) shapeCasts_S8x8192x512_S8x8192x4x128 (ix4 b T h d) = o (ix3 b T ⟨128 * (8 + h.val) + d.val, by omega⟩) := by
  pointwise
  congr 2; apply Fin.ext; simp; omega
theorem evens (o : Vec Ideal S8x8192x4x128 .f32) (b : Fin 8) (T : Fin 8192) (h : Fin 4) (i : Fin 64) :
    Host.slice S8x8192x4x64 ![0, 0, 0, 0] ![1, 1, 1, 2] o slicesBy_S8x8192x4x128_S8x8192x4x64_0s1_0s1_0s1_0s2 (ix4 b T h i) = o (ix4 b T h ⟨2 * i.val, by omega⟩) := by
  pointwise
  try (congr 2; apply Fin.ext; simp; omega)
theorem odds (o : Vec Ideal S8x8192x4x128 .f32) (b : Fin 8) (T : Fin 8192) (h : Fin 4) (i : Fin 64) :
    Host.slice S8x8192x4x64 ![0, 0, 0, 1] ![1, 1, 1, 2] o slicesBy_S8x8192x4x128_S8x8192x4x64_0s1_0s1_0s1_1s2 (ix4 b T h i) = o (ix4 b T h ⟨2 * i.val + 1, by omega⟩) := by
  pointwise
  try (congr 2; apply Fin.ext; simp; omega)
theorem chunks (o : Vec Ideal S8x8192x4x128 .f32) (b : Fin 8) (c : Fin 128) (n : Fin 64) (h : Fin 4) (d : Fin 128) :
    shapeCast S8x128x64x4x128 o shapeCasts_S8x8192x4x128_S8x128x64x4x128 (ix5 b c n h d) = o (ix4 b ⟨64 * c.val + n.val, by omega⟩ h d) := by
  pointwise
  try (congr 2; apply Fin.ext; simp; omega)
theorem mulf_at {S : Shape} (A B : FVec Ideal S .f32) (i : S.Idx) : mulf A B i = A i * B i := rfl
theorem toLoop (o : Vec Ideal S8x128x64x4x128 .f32) (b : Fin 8) (c : Fin 128) (n : Fin 64) (h : Fin 4) (d : Fin 128) :
    transpose S128x8x64x4x128 [1, 0, 2, 3, 4] o transposes_S8x128x64x4x128_S128x8x64x4x128_1_0_2_3_4 (ix5 c b n h d) = o (ix5 b c n h d) := by
  pointwise
theorem tr133 (o : Vec Ideal S8x128x4x128x64 .f32) (b : Fin 8) (c : Fin 128) (n : Fin 64) (h : Fin 4) (e : Fin 128) :
    transpose S8x128x64x4x128 [0, 1, 4, 2, 3] o transposes_S8x128x4x128x64_S8x128x64x4x128_0_1_4_2_3 (ix5 b c n h e) = o (ix5 b c h e n) := by
  pointwise
theorem v130_eq (b : Fin 8) (c : Fin 128) (h : Fin 4) (n m : Fin 64) : e_v130 (F := Ideal) (ix5 b c h n m) = e_v105 (F := Ideal) (ix3 h n m) := by
  pointwise [e_v129, e_v130]
theorem v83_eq (b : Fin 8) (T : Fin 8192) (h : Fin 4) (d : Fin 128) : e_v83 (F := Ideal) (ix4 b T h d) = Ideal.ofBits FTy.f32 0x3DB504F3#32 := by
  pointwise [e_v83, e_cst_10]

end Cert.Proof.MixRefRot

end
-- ==== Proof.MixRefHeadQ.lean ====
/- The reference's rotated queries, over the reals. -/
module

public import proofs.«01_k».proof.Proof.MixRefRot

@[expose] public section

set_option maxRecDepth 16384

noncomputable section

namespace Cert.Proof.MixRefHeadQ

open Idealize.ShloMosaic Cert.MixerRefIdeal Cert.MixerRefIdeal.Gen Cert.Proof.MixReal Cert.Proof.MixNum Cert.Proof.MixRef Cert.Proof.MixRefTabs Cert.Proof.MixRefRot

variable (x : Vec Ideal S8x8192x1024 .f32) (g : Vec Ideal S1024 .f32) (w : Vec Ideal S1024x2560 .f32) (z : Fin 8 → ℕ → Fin 2560 → ℝ)
variable (hZ : ∀ (b : Fin 8) (T : Fin 8192) (c : Fin 2560), e_v13 (F := Ideal) x g w (ix3 b T c) = (z b T.val c : EReal))

include hZ in
theorem v19_apply (b : Fin 8) (T : Fin 8192) (h : Fin 4) (d : Fin 128) : e_v19 (F := Ideal) x g w (ix4 b T h d) = (zl (z b) T.val ⟨h.val, by omega⟩ d : EReal) := by
  have e : e_v19 (F := Ideal) x g w (ix4 b T h d) = e_v13 (F := Ideal) x g w (ix3 b T ⟨128 * (0 + h.val) + d.val, by omega⟩) := by
    unfold e_v19 e_v14
    rw [headQ]
  rw [e, hZ]
  unfold zl
  congr 2 <;> simp
include hZ in
theorem v35_apply (b : Fin 8) (T : Fin 8192) (h : Fin 4) (i : Fin 64) : e_v35 (F := Ideal) x g w (ix4 b T h i) = (zl (z b) T.val ⟨h.val, by omega⟩ ⟨2 * i.val, by omega⟩ : EReal) := by
  have e : e_v35 (F := Ideal) x g w (ix4 b T h i) = e_v19 (F := Ideal) x g w (ix4 b T h ⟨2 * i.val, by omega⟩) := by
    unfold e_v35
    rw [evens]
  rw [e, v19_apply x g w z hZ]
include hZ in
theorem v36_apply (b : Fin 8) (T : Fin 8192) (h : Fin 4) (i : Fin 64) : e_v36 (F := Ideal) x g w (ix4 b T h i) = (zl (z b) T.val ⟨h.val, by omega⟩ ⟨2 * i.val + 1, by omega⟩ : EReal) := by
  have e : e_v36 (F := Ideal) x g w (ix4 b T h i) = e_v19 (F := Ideal) x g w (ix4 b T h ⟨2 * i.val + 1, by omega⟩) := by
    unfold e_v36
    rw [odds]
  rw [e, v19_apply x g w z hZ]
include hZ in
theorem v41_apply (b : Fin 8) (T : Fin 8192) (h : Fin 4) (i : Fin 64) : e_v41 (F := Ideal) x g w (ix4 b T h i) = ((zl (z b) T.val ⟨h.val, by omega⟩ ⟨2 * i.val, by omega⟩ * Real.cos (ang T.val i.val) - zl (z b) T.val ⟨h.val, by omega⟩ ⟨2 * i.val + 1, by omega⟩ * Real.sin (ang T.val i.val) : ℝ) : EReal) := by
  have e : e_v41 (F := Ideal) x g w (ix4 b T h i) = e_v35 (F := Ideal) x g w (ix4 b T h i) * e_v31 (F := Ideal) (ix2 T i) - e_v36 (F := Ideal) x g w (ix4 b T h i) * e_v33 (F := Ideal) (ix2 T i) := by
    pointwise [e_v32, e_v34, e_v37, e_v38, e_v39, e_v40, e_v41]
  rw [e, v35_apply x g w z hZ, v36_apply x g w z hZ, v31_apply, v33_apply, ← EReal.coe_mul, ← EReal.coe_mul, ← EReal.coe_sub]
include hZ in
theorem v46_apply (b : Fin 8) (T : Fin 8192) (h : Fin 4) (i : Fin 64) : e_v46 (F := Ideal) x g w (ix4 b T h i) = ((zl (z b) T.val ⟨h.val, by omega⟩ ⟨2 * i.val, by omega⟩ * Real.sin (ang T.val i.val) + zl (z b) T.val ⟨h.val, by omega⟩ ⟨2 * i.val + 1, by omega⟩ * Real.cos (ang T.val i.val) : ℝ) : EReal) := by
  have e : e_v46 (F := Ideal) x g w (ix4 b T h i) = e_v35 (F := Ideal) x g w (ix4 b T h i) * e_v33 (F := Ideal) (ix2 T i) + e_v36 (F := Ideal) x g w (ix4 b T h i) * e_v31 (F := Ideal) (ix2 T i) := by
    pointwise [e_v32, e_v34, e_v42, e_v43, e_v44, e_v45, e_v46]
  rw [e, v35_apply x g w z hZ, v36_apply x g w z hZ, v31_apply, v33_apply, ← EReal.coe_mul, ← EReal.coe_mul, ← EReal.coe_add]
theorem v49_0 (b : Fin 8) (T : Fin 8192) (h : Fin 4) (i : Fin 64) : e_v49 (F := Ideal) x g w (ix5 b T h i 0) = e_v41 (F := Ideal) x g w (ix4 b T h i) := by
  pointwise [e_v47, e_v48, e_v49]
theorem v49_1 (b : Fin 8) (T : Fin 8192) (h : Fin 4) (i : Fin 64) : e_v49 (F := Ideal) x g w (ix5 b T h i 1) = e_v46 (F := Ideal) x g w (ix4 b T h i) := by
  pointwise [e_v47, e_v48, e_v49]
theorem v50_eq (b : Fin 8) (T : Fin 8192) (h : Fin 4) (d : Fin 128) : e_v50 (F := Ideal) x g w (ix4 b T h d) = e_v49 (F := Ideal) x g w (ix5 b T h ⟨d.val / 2, by omega⟩ ⟨d.val % 2, by omega⟩) := by
  pointwise [e_v50]
include hZ in
theorem v50_apply (b : Fin 8) (T : Fin 8192) (h : Fin 4) (d : Fin 128) : e_v50 (F := Ideal) x g w (ix4 b T h d) = (rotR (zl (z b) T.val ⟨h.val, by omega⟩) T.val d : EReal) := by
  rw [v50_eq]
  rcases Nat.mod_two_eq_zero_or_one d.val with hd | hd
  · rw [show (⟨d.val % 2, by omega⟩ : Fin 2) = 0 from Fin.ext hd, v49_0, v41_apply x g w z hZ, ← rot_even _ _ d hd]
  · rw [show (⟨d.val % 2, by omega⟩ : Fin 2) = 1 from Fin.ext hd, v49_1, v46_apply x g w z hZ, ← rot_odd _ _ d hd]

end Cert.Proof.MixRefHeadQ

end
-- ==== Proof.MixRefHeadK.lean ====
/- The reference's rotated keys, over the reals. -/
module

public import proofs.«01_k».proof.Proof.MixRefRot

@[expose] public section

set_option maxRecDepth 16384

noncomputable section

namespace Cert.Proof.MixRefHeadK

open Idealize.ShloMosaic Cert.MixerRefIdeal Cert.MixerRefIdeal.Gen Cert.Proof.MixReal Cert.Proof.MixNum Cert.Proof.MixRef Cert.Proof.MixRefTabs Cert.Proof.MixRefRot

variable (x : Vec Ideal S8x8192x1024 .f32) (g : Vec Ideal S1024 .f32) (w : Vec Ideal S1024x2560 .f32) (z : Fin 8 → ℕ → Fin 2560 → ℝ)
variable (hZ : ∀ (b : Fin 8) (T : Fin 8192) (c : Fin 2560), e_v13 (F := Ideal) x g w (ix3 b T c) = (z b T.val c : EReal))

include hZ in
theorem v51_apply (b : Fin 8) (T : Fin 8192) (h : Fin 4) (d : Fin 128) : e_v51 (F := Ideal) x g w (ix4 b T h d) = (zl (z b) T.val ⟨4 + h.val, by omega⟩ d : EReal) := by
  have e : e_v51 (F := Ideal) x g w (ix4 b T h d) = e_v13 (F := Ideal) x g w (ix3 b T ⟨128 * (4 + h.val) + d.val, by omega⟩) := by
    unfold e_v51 e_v15
    rw [headK]
  rw [e, hZ]
  unfold zl
  congr 2 <;> simp
include hZ in
theorem v67_apply (b : Fin 8) (T : Fin 8192) (h : Fin 4) (i : Fin 64) : e_v67 (F := Ideal) x g w (ix4 b T h i) = (zl (z b) T.val ⟨4 + h.val, by omega⟩ ⟨2 * i.val, by omega⟩ : EReal) := by
  have e : e_v67 (F := Ideal) x g w (ix4 b T h i) = e_v51 (F := Ideal) x g w (ix4 b T h ⟨2 * i.val, by omega⟩) := by
    unfold e_v67
    rw [evens]
  rw [e, v51_apply x g w z hZ]
include hZ in
theorem v68_apply (b : Fin 8) (T : Fin 8192) (h : Fin 4) (i : Fin 64) : e_v68 (F := Ideal) x g w (ix4 b T h i) = (zl (z b) T.val ⟨4 + h.val, by omega⟩ ⟨2 * i.val + 1, by omega⟩ : EReal) := by
  have e : e_v68 (F := Ideal) x g w (ix4 b T h i) = e_v51 (F := Ideal) x g w (ix4 b T h ⟨2 * i.val + 1, by omega⟩) := by
    unfold e_v68
    rw [odds]
  rw [e, v51_apply x g w z hZ]
include hZ in
theorem v73_apply (b : Fin 8) (T : Fin 8192) (h : Fin 4) (i : Fin 64) : e_v73 (F := Ideal) x g w (ix4 b T h i) = ((zl (z b) T.val ⟨4 + h.val, by omega⟩ ⟨2 * i.val, by omega⟩ * Real.cos (ang T.val i.val) - zl (z b) T.val ⟨4 + h.val, by omega⟩ ⟨2 * i.val + 1, by omega⟩ * Real.sin (ang T.val i.val) : ℝ) : EReal) := by
  have e : e_v73 (F := Ideal) x g w (ix4 b T h i) = e_v67 (F := Ideal) x g w (ix4 b T h i) * e_v63 (F := Ideal) (ix2 T i) - e_v68 (F := Ideal) x g w (ix4 b T h i) * e_v65 (F := Ideal) (ix2 T i) := by
    pointwise [e_v64, e_v66, e_v69, e_v70, e_v71, e_v72, e_v73]
  rw [e, v67_apply x g w z hZ, v68_apply x g w z hZ, v63_apply, v65_apply, ← EReal.coe_mul, ← EReal.coe_mul, ← EReal.coe_sub]
include hZ in
theorem v78_apply (b : Fin 8) (T : Fin 8192) (h : Fin 4) (i : Fin 64) : e_v78 (F := Ideal) x g w (ix4 b T h i) = ((zl (z b) T.val ⟨4 + h.val, by omega⟩ ⟨2 * i.val, by omega⟩ * Real.sin (ang T.val i.val) + zl (z b) T.val ⟨4 + h.val, by omega⟩ ⟨2 * i.val + 1, by omega⟩ * Real.cos (ang T.val i.val) : ℝ) : EReal) := by
  have e : e_v78 (F := Ideal) x g w (ix4 b T h i) = e_v67 (F := Ideal) x g w (ix4 b T h i) * e_v65 (F := Ideal) (ix2 T i) + e_v68 (F := Ideal) x g w (ix4 b T h i) * e_v63 (F := Ideal) (ix2 T i) := by
    pointwise [e_v64, e_v66, e_v74, e_v75, e_v76, e_v77, e_v78]
  rw [e, v67_apply x g w z hZ, v68_apply x g w z hZ, v63_apply, v65_apply, ← EReal.coe_mul, ← EReal.coe_mul, ← EReal.coe_add]
theorem v81_0 (b : Fin 8) (T : Fin 8192) (h : Fin 4) (i : Fin 64) : e_v81 (F := Ideal) x g w (ix5 b T h i 0) = e_v73 (F := Ideal) x g w (ix4 b T h i) := by
  pointwise [e_v79, e_v80, e_v81]
theorem v81_1 (b : Fin 8) (T : Fin 8192) (h : Fin 4) (i : Fin 64) : e_v81 (F := Ideal) x g w (ix5 b T h i 1) = e_v78 (F := Ideal) x g w (ix4 b T h i) := by
  pointwise [e_v79, e_v80, e_v81]
theorem v82_eq (b : Fin 8) (T : Fin 8192) (h : Fin 4) (d : Fin 128) : e_v82 (F := Ideal) x g w (ix4 b T h d) = e_v81 (F := Ideal) x g w (ix5 b T h ⟨d.val / 2, by omega⟩ ⟨d.val % 2, by omega⟩) := by
  pointwise [e_v82]
include hZ in
theorem v82_apply (b : Fin 8) (T : Fin 8192) (h : Fin 4) (d : Fin 128) : e_v82 (F := Ideal) x g w (ix4 b T h d) = (rotR (zl (z b) T.val ⟨4 + h.val, by omega⟩) T.val d : EReal) := by
  rw [v82_eq]
  rcases Nat.mod_two_eq_zero_or_one d.val with hd | hd
  · rw [show (⟨d.val % 2, by omega⟩ : Fin 2) = 0 from Fin.ext hd, v81_0, v73_apply x g w z hZ, ← rot_even _ _ d hd]
  · rw [show (⟨d.val % 2, by omega⟩ : Fin 2) = 1 from Fin.ext hd, v81_1, v78_apply x g w z hZ, ← rot_odd _ _ d hd]

end Cert.Proof.MixRefHeadK

end
-- ==== Proof.MixRefHeads.lean ====
/- The reference's heads in chunks, over the reals. -/
module

public import proofs.«01_k».proof.Proof.MixRefHeadQ
public import proofs.«01_k».proof.Proof.MixRefHeadK
public import proofs.«01_k».proof.Proof.MixRefDots

@[expose] public section

set_option maxRecDepth 16384

noncomputable section

namespace Cert.Proof.MixRefHeads

open Idealize.ShloMosaic Cert.MixerRefIdeal Cert.MixerRefIdeal.Gen Cert.Proof.MixReal Cert.Proof.MixNum Cert.Proof.MixRef Cert.Proof.MixRefTabs Cert.Proof.MixRefRot Cert.Proof.MixRefHeadQ Cert.Proof.MixRefHeadK

variable (x : Vec Ideal S8x8192x1024 .f32) (g : Vec Ideal S1024 .f32) (w : Vec Ideal S1024x2560 .f32) (z : Fin 8 → ℕ → Fin 2560 → ℝ)
variable (hZ : ∀ (b : Fin 8) (T : Fin 8192) (c : Fin 2560), e_v13 (F := Ideal) x g w (ix3 b T c) = (z b T.val c : EReal))

/-! ## The heads in chunks -/

include hZ in
theorem v84_apply (b : Fin 8) (T : Fin 8192) (h : Fin 4) (d : Fin 128) : e_v84 (F := Ideal) x g w (ix4 b T h d) = (kR (z b) h T.val d : EReal) := by
  unfold e_v84
  rw [mulf_at, v83_eq, v82_apply x g w z hZ, MixRefQ.bits_ks, ← EReal.coe_mul]
  rfl
include hZ in
theorem v85_apply (b : Fin 8) (T : Fin 8192) (h : Fin 4) (d : Fin 128) : e_v85 (F := Ideal) x g w (ix4 b T h d) = (vR (z b) h T.val d : EReal) := by
  have e : e_v85 (F := Ideal) x g w (ix4 b T h d) = e_v13 (F := Ideal) x g w (ix3 b T ⟨128 * (8 + h.val) + d.val, by omega⟩) := by
    unfold e_v85 e_v16
    rw [headV]
  rw [e, hZ]
  rfl
include hZ in
theorem v125_apply (b : Fin 8) (c : Fin 128) (n : Fin 64) (h : Fin 4) (d : Fin 128) : e_v125 (F := Ideal) x g w (ix5 b c n h d) = (qR (z b) h (64 * c.val + n.val) d : EReal) := by
  have e : e_v125 (F := Ideal) x g w (ix5 b c n h d) = e_v50 (F := Ideal) x g w (ix4 b ⟨64 * c.val + n.val, by omega⟩ h d) := by
    unfold e_v125
    rw [chunks]
  rw [e, v50_apply x g w z hZ]
  rfl
include hZ in
theorem v126_apply (b : Fin 8) (c : Fin 128) (n : Fin 64) (h : Fin 4) (d : Fin 128) : e_v126 (F := Ideal) x g w (ix5 b c n h d) = (kR (z b) h (64 * c.val + n.val) d : EReal) := by
  have e : e_v126 (F := Ideal) x g w (ix5 b c n h d) = e_v84 (F := Ideal) x g w (ix4 b ⟨64 * c.val + n.val, by omega⟩ h d) := by
    unfold e_v126
    rw [chunks]
  rw [e, v84_apply x g w z hZ]

include hZ in
theorem v127_apply (b : Fin 8) (c : Fin 128) (n : Fin 64) (h : Fin 4) (d : Fin 128) : e_v127 (F := Ideal) x g w (ix5 b c n h d) = (vR (z b) h (64 * c.val + n.val) d : EReal) := by
  have e : e_v127 (F := Ideal) x g w (ix5 b c n h d) = e_v85 (F := Ideal) x g w (ix4 b ⟨64 * c.val + n.val, by omega⟩ h d) := by
    unfold e_v127
    rw [chunks]
  rw [e, v85_apply x g w z hZ]

include hZ in
theorem v134_apply (b : Fin 8) (c : Fin 128) (n : Fin 64) (h : Fin 4) (d : Fin 128) : e_v134 (F := Ideal) x g w (ix5 c b n h d) = (qR (z b) h (64 * c.val + n.val) d : EReal) := by
  have e : e_v134 (F := Ideal) x g w (ix5 c b n h d) = e_v125 (F := Ideal) x g w (ix5 b c n h d) := by
    unfold e_v134
    rw [toLoop]
  rw [e, v125_apply x g w z hZ]
include hZ in
theorem v135_apply (b : Fin 8) (c : Fin 128) (n : Fin 64) (h : Fin 4) (d : Fin 128) : e_v135 (F := Ideal) x g w (ix5 c b n h d) = (kR (z b) h (64 * c.val + n.val) d : EReal) := by
  have e : e_v135 (F := Ideal) x g w (ix5 c b n h d) = e_v126 (F := Ideal) x g w (ix5 b c n h d) := by
    unfold e_v135
    rw [toLoop]
  rw [e, v126_apply x g w z hZ]
include hZ in
theorem v136_apply (b : Fin 8) (c : Fin 128) (n : Fin 64) (h : Fin 4) (d : Fin 128) : e_v136 (F := Ideal) x g w (ix5 c b n h d) = (vR (z b) h (64 * c.val + n.val) d : EReal) := by
  have e : e_v136 (F := Ideal) x g w (ix5 c b n h d) = e_v127 (F := Ideal) x g w (ix5 b c n h d) := by
    unfold e_v136
    rw [toLoop]
  rw [e, v127_apply x g w z hZ]

end Cert.Proof.MixRefHeads

end
-- ==== Proof.MixRefIntra.lean ====
/- The reference's retention inside one chunk, over the reals. -/
module

public import proofs.«01_k».proof.Proof.MixRefHeads

@[expose] public section

set_option maxRecDepth 16384

noncomputable section

namespace Cert.Proof.MixRefIntra

open Idealize.ShloMosaic Cert.MixerRefIdeal Cert.MixerRefIdeal.Gen Cert.Proof.MixReal Cert.Proof.MixNum Cert.Proof.MixRef Cert.Proof.MixRefHeads Cert.Proof.MixRefRot

variable (x : Vec Ideal S8x8192x1024 .f32) (g : Vec Ideal S1024 .f32) (w : Vec Ideal S1024x2560 .f32) (z : Fin 8 → ℕ → Fin 2560 → ℝ)
variable (hZ : ∀ (b : Fin 8) (T : Fin 8192) (c : Fin 2560), e_v13 (F := Ideal) x g w (ix3 b T c) = (z b T.val c : EReal))

include hZ in
theorem v131_apply (b : Fin 8) (c : Fin 128) (h : Fin 4) (n m : Fin 64) : e_v131 (F := Ideal) x g w (ix5 b c h n m) = (((∑ d, qR (z b) h (64 * c.val + n.val) d * kR (z b) h (64 * c.val + m.val) d) * gam h ^ MixReal.dist n.val m.val : ℝ) : EReal) := by
  have e : e_v131 (F := Ideal) x g w (ix5 b c h n m) = e_v128 (F := Ideal) x g w (ix5 b c h n m) * e_v105 (F := Ideal) (ix3 h n m) := by
    unfold e_v131
    rw [mulf_at, v130_eq]
  rw [e, MixRefQ.v105_apply]
  unfold e_v128
  rw [MixRefDots.dot_qk]
  simp only [v125_apply x g w z hZ, v126_apply x g w z hZ, ← EReal.coe_mul, coe_sum]
include hZ in
theorem v133_apply (b : Fin 8) (c : Fin 128) (n : Fin 64) (h : Fin 4) (e : Fin 128) : e_v133 (F := Ideal) x g w (ix5 b c n h e) = ((∑ m ∈ Finset.range 64, (∑ d, qR (z b) h (64 * c.val + n.val) d * kR (z b) h (64 * c.val + m) d) * gam h ^ MixReal.dist n.val m * vR (z b) h (64 * c.val + m) e : ℝ) : EReal) := by
  have e' : e_v133 (F := Ideal) x g w (ix5 b c n h e) = e_v132 (F := Ideal) x g w (ix5 b c h e n) := by
    unfold e_v133
    rw [tr133]
  rw [e']
  unfold e_v132
  rw [MixRefDots.dot_pv]
  simp only [v127_apply x g w z hZ, v131_apply x g w z hZ, ← EReal.coe_mul, coe_sum]
  rw [← Fin.sum_univ_eq_sum_range (fun m => (∑ d, qR (z b) h (64 * c.val + n.val) d * kR (z b) h (64 * c.val + m) d) * gam h ^ MixReal.dist n.val m * vR (z b) h (64 * c.val + m) e) 64]
  congr 1
  exact Finset.sum_congr rfl fun m _ => mul_comm _ _

end Cert.Proof.MixRefIntra

end
-- ==== Proof.MixRefStep.lean ====
/- One trip of the reference's loop at an index. -/
module

public import proofs.«01_k».proof.Proof.MixRefLoop
public import proofs.«01_k».proof.Proof.MixRefDots

@[expose] public section

set_option maxRecDepth 16384

noncomputable section

namespace Cert.Proof.MixRefStep

open Idealize.ShloMosaic Idealize.ShloMosaic.StableHlo Cert.MixerRefIdeal Cert.MixerRefIdeal.Gen Cert.MixerRefIdeal.Value Cert.Proof.MixReal Cert.Proof.MixRef

/-- The start of chunk `a6` in an array of chunks. -/
def st6 (a6 : (⟨S_, .i32⟩ : BufTy).Contents (Elt Ideal)) : Fin 5 → Int := fun k => (((![a6, constantI S_ 32 0#32, constantI S_ 32 0#32, constantI S_ 32 0#32, constantI S_ 32 0#32] : Fin 5 → (⟨S_, .i32⟩ : BufTy).Contents (Elt Ideal))) k (Shape.Idx.first h_S_)).toInt
/-- Chunk `a6` of an array of chunks. -/
def sl6 (a : FVec Ideal S128x8x64x4x128 .f32) (a6 : IVec S_ 32) : FVec Ideal S8x64x4x128 .f32 :=
  shapeCast S8x64x4x128 (Host.dynamicSlice S1x8x64x4x128 a (st6 a6) sliceFits_S128x8x64x4x128_S1x8x64x4x128) shapeCasts_S1x8x64x4x128_S8x64x4x128
/-- The state after one chunk. -/
def nx7 (a1 a2 : FVec Ideal S128x8x64x4x128 .f32) (a4 : FVec Ideal S4 .f32) (a5 : FVec Ideal S64x4 .f32) (a6 : IVec S_ 32) (a7 : FVec Ideal S8x4x128x128 .f32) : FVec Ideal S8x4x128x128 .f32 :=
  addf (F := Ideal) (φ := .f32) (mulf (F := Ideal) (φ := .f32) a7 (broadcastInDim S8x4x128x128 ![0, 1, 2, 3] bcast_S1x4x1x1_S8x4x128x128_0_1_2_3 (broadcastInDim S1x4x1x1 ![1, 2, 3] bcast_S4x1x1_S1x4x1x1_1_2_3 (broadcastInDim S4x1x1 ![0] bcast_S4_S4x1x1_0 a4)))) (Host.dotGeneral (F := Ideal) (φ₁ := .f32) (φ₂ := .f32) dot_S8x64x4x128_S8x64x4x128_S8x4x128x128_1_1_3_3_02_02 none (mulf (F := Ideal) (φ := .f32) (sl6 a1 a6) (broadcastInDim S8x64x4x128 ![0, 1, 2, 3] bcast_S1x64x4x1_S8x64x4x128_0_1_2_3 (broadcastInDim S1x64x4x1 ![1, 2, 3] bcast_S64x4x1_S1x64x4x1_1_2_3 (broadcastInDim S64x4x1 ![0, 1] bcast_S64x4_S64x4x1_0_1 a5)))) (sl6 a2 a6))
/-- The contributions of the state before a chunk, after that chunk. -/
def nx8 (a0 : FVec Ideal S128x8x64x4x128 .f32) (a3 : FVec Ideal S64x4 .f32) (a6 : IVec S_ 32) (a7 : FVec Ideal S8x4x128x128 .f32) (a8 : FVec Ideal S128x8x64x4x128 .f32) : FVec Ideal S128x8x64x4x128 .f32 :=
  Host.dynamicUpdateSlice a8 (broadcastInDim S1x8x64x4x128 ![1, 2, 3, 4] bcast_S8x64x4x128_S1x8x64x4x128_1_2_3_4 (transpose S8x64x4x128 [0, 3, 1, 2] (Host.dotGeneral (F := Ideal) (φ₁ := .f32) (φ₂ := .f32) dot_S8x4x128x128_S8x64x4x128_S8x4x128x64_2_3_3_1_01_02 none a7 (mulf (F := Ideal) (φ := .f32) (sl6 a0 a6) (broadcastInDim S8x64x4x128 ![0, 1, 2, 3] bcast_S1x64x4x1_S8x64x4x128_0_1_2_3 (broadcastInDim S1x64x4x1 ![1, 2, 3] bcast_S64x4x1_S1x64x4x1_1_2_3 (broadcastInDim S64x4x1 ![0, 1] bcast_S64x4_S64x4x1_0_1 a3))))) transposes_S8x4x128x64_S8x64x4x128_0_3_1_2)) (st6 a6) updateFits_S128x8x64x4x128_S1x8x64x4x128

variable (a0 a1 a2 a8 : Vec Ideal S128x8x64x4x128 .f32) (a3 a5 : Vec Ideal S64x4 .f32) (a4 : Vec Ideal S4 .f32) (a7 : Vec Ideal S8x4x128x128 .f32)

/-- The counter at chunk `i`. -/
def ctr (i : ℕ) : IVec S_ 32 := fun _ => BitVec.ofNat 32 i

theorem st6_0 (i : Fin 128) : st6 (ctr i.val) 0 = i.val := by
  show (BitVec.ofNat 32 i.val).toInt = _
  rw [BitVec.toInt_eq_toNat_of_lt (by rw [BitVec.toNat_ofNat]; omega), BitVec.toNat_ofNat, Nat.mod_eq_of_lt (by omega)]
theorem st6_1 (i : Fin 128) : st6 (ctr i.val) 1 = 0 := rfl
theorem st6_2 (i : Fin 128) : st6 (ctr i.val) 2 = 0 := rfl
theorem st6_3 (i : Fin 128) : st6 (ctr i.val) 3 = 0 := rfl
theorem st6_4 (i : Fin 128) : st6 (ctr i.val) 4 = 0 := rfl

theorem drop1 (o : Vec Ideal S1x8x64x4x128 .f32) (b : Fin 8) (n : Fin 64) (h : Fin 4) (d : Fin 128) : shapeCast S8x64x4x128 o shapeCasts_S1x8x64x4x128_S8x64x4x128 (ix4 b n h d) = o (ix5 0 b n h d) := by
  pointwise
theorem sl6_apply (i : Fin 128) (b : Fin 8) (n : Fin 64) (h : Fin 4) (d : Fin 128) : sl6 a0 (ctr i.val) (ix4 b n h d) = a0 (ix5 i b n h d) := by
  unfold sl6
  rw [drop1]
  exact MixRefDots.s2 a0 (st6 (ctr i.val)) i (st6_0 i) (st6_1 i) (st6_2 i) (st6_3 i) (st6_4 i) b n h d
theorem tab (b : Fin 8) (n : Fin 64) (h : Fin 4) (d : Fin 128) : broadcastInDim S8x64x4x128 ![0, 1, 2, 3] bcast_S1x64x4x1_S8x64x4x128_0_1_2_3 (broadcastInDim S1x64x4x1 ![1, 2, 3] bcast_S64x4x1_S1x64x4x1_1_2_3 (broadcastInDim S64x4x1 ![0, 1] bcast_S64x4_S64x4x1_0_1 a3)) (ix4 b n h d) = a3 (ix2 n h) := by
  pointwise
theorem dec (b : Fin 8) (h : Fin 4) (d e : Fin 128) : broadcastInDim S8x4x128x128 ![0, 1, 2, 3] bcast_S1x4x1x1_S8x4x128x128_0_1_2_3 (broadcastInDim S1x4x1x1 ![1, 2, 3] bcast_S4x1x1_S1x4x1x1_1_2_3 (broadcastInDim S4x1x1 ![0] bcast_S4_S4x1x1_0 a4)) (ix4 b h d e) = a4 (ix1 h) := by
  pointwise
theorem nx7_apply (i : Fin 128) (b : Fin 8) (h : Fin 4) (d e : Fin 128) : nx7 a1 a2 a4 a5 (ctr i.val) a7 (ix4 b h d e)
    = a7 (ix4 b h d e) * a4 (ix1 h) + ∑ m : Fin 64, (a1 (ix5 i b m h d) * a5 (ix2 m h)) * a2 (ix5 i b m h e) := by
  unfold nx7
  refine congrArg₂ (fun (p q : EReal) => p + q) (congrArg (fun q : EReal => a7 (ix4 b h d e) * q) (dec a4 b h d e)) ((MixRefDots.dot_kv _ _ b h d e).trans (Finset.sum_congr rfl fun m _ => ?_))
  exact congrArg₂ (fun (p q : EReal) => p * q) (congrArg₂ (fun (p q : EReal) => p * q) (sl6_apply a1 i b m h d) (tab a5 b m h d)) (sl6_apply a2 i b m h e)
theorem lift1 (o : Vec Ideal S8x4x128x64 .f32) (b : Fin 8) (n : Fin 64) (h : Fin 4) (e : Fin 128) : broadcastInDim S1x8x64x4x128 ![1, 2, 3, 4] bcast_S8x64x4x128_S1x8x64x4x128_1_2_3_4 (transpose S8x64x4x128 [0, 3, 1, 2] o transposes_S8x4x128x64_S8x64x4x128_0_3_1_2) (ix5 0 b n h e) = o (ix4 b h e n) := by
  pointwise
theorem nx8_apply (i k : Fin 128) (b : Fin 8) (n : Fin 64) (h : Fin 4) (e : Fin 128) : nx8 a0 a3 (ctr i.val) a7 a8 (ix5 k b n h e)
    = if k = i then ∑ d : Fin 128, a7 (ix4 b h d e) * (a0 (ix5 i b n h d) * a3 (ix2 n h)) else a8 (ix5 k b n h e) := by
  unfold nx8
  refine (MixRefDots.s3 a8 _ (st6 (ctr i.val)) i k (st6_0 i) (st6_1 i) (st6_2 i) (st6_3 i) (st6_4 i) b n h e).trans ?_
  refine congrArg (fun q : EReal => if k = i then q else a8 (ix5 k b n h e)) ?_
  rw [lift1]
  refine (MixRefDots.dot_sq _ _ b h n e).trans (Finset.sum_congr rfl fun d _ => ?_)
  exact congrArg (fun q : EReal => a7 (ix4 b h d e) * q) (congrArg₂ (fun (p q : EReal) => p * q) (sl6_apply a0 i b n h d) (tab a3 b n h d))

/-! ## The loop -/

abbrev Val := Valuation τ sig (Elt Ideal)
def g0 (V : Val) : Vec Ideal S128x8x64x4x128 .f32 := V (Proc.devRef .tc main_v139_0)
def g1 (V : Val) : Vec Ideal S128x8x64x4x128 .f32 := V (Proc.devRef .tc main_v139_1)
def g2 (V : Val) : Vec Ideal S128x8x64x4x128 .f32 := V (Proc.devRef .tc main_v139_2)
def g3 (V : Val) : Vec Ideal S64x4 .f32 := V (Proc.devRef .tc main_v139_3)
def g4 (V : Val) : Vec Ideal S4 .f32 := V (Proc.devRef .tc main_v139_4)
def g5 (V : Val) : Vec Ideal S64x4 .f32 := V (Proc.devRef .tc main_v139_5)
def g6 (V : Val) : IVec S_ 32 := V (Proc.devRef .tc main_v139_6)
def g7 (V : Val) : Vec Ideal S8x4x128x128 .f32 := V (Proc.devRef .tc main_v139_7)
def g8 (V : Val) : Vec Ideal S128x8x64x4x128 .f32 := V (Proc.devRef .tc main_v139_8)

theorem step7 (V : Val) : step_main_v139_7 V = nx7 (g1 V) (g2 V) (g4 V) (g5 V) (g6 V) (g7 V) := by
  unfold step_main_v139_7 nx7 sl6 st6 g1 g2 g4 g5 g6 g7
  rfl
theorem step8 (V : Val) : step_main_v139_8 V = nx8 (g0 V) (g3 V) (g6 V) (g7 V) (g8 V) := by
  unfold step_main_v139_8 nx8 sl6 st6 g0 g3 g6 g7 g8
  rfl

end Cert.Proof.MixRefStep

end
-- ==== Proof.MixRefState.lean ====
/- The state the reference's loop carries from chunk to chunk, over the reals. -/
module

public import proofs.«01_k».proof.Proof.MixRefLoop
public import proofs.«01_k».proof.Proof.MixRefStep

@[expose] public section

set_option maxRecDepth 16384

noncomputable section

namespace Cert.Proof.MixRefState

open Idealize.ShloMosaic Idealize.ShloMosaic.StableHlo Cert.MixerRefIdeal Cert.MixerRefIdeal.Gen Cert.MixerRefIdeal.Value Cert.Proof.MixReal Cert.Proof.MixRef Cert.Proof.MixRefStep

variable (z : Fin 8 → ℕ → Fin 2560 → ℝ)

/-- What the loop holds before chunk `i`. -/
structure Inv (V : Val) (i : ℕ) : Prop where
  q : ∀ (b : Fin 8) (c : Fin 128) (n : Fin 64) (h : Fin 4) (d : Fin 128), g0 V (ix5 c b n h d) = (qR (z b) h (64 * c.val + n.val) d : EReal)
  k : ∀ (b : Fin 8) (c : Fin 128) (n : Fin 64) (h : Fin 4) (d : Fin 128), g1 V (ix5 c b n h d) = (kR (z b) h (64 * c.val + n.val) d : EReal)
  v : ∀ (b : Fin 8) (c : Fin 128) (n : Fin 64) (h : Fin 4) (d : Fin 128), g2 V (ix5 c b n h d) = (vR (z b) h (64 * c.val + n.val) d : EReal)
  qd : ∀ (n : Fin 64) (h : Fin 4), g3 V (ix2 n h) = ((gam h ^ (n.val + 1) : ℝ) : EReal)
  gd : ∀ (h : Fin 4), g4 V (ix1 h) = ((gam h ^ 64 : ℝ) : EReal)
  kd : ∀ (n : Fin 64) (h : Fin 4), g5 V (ix2 n h) = ((gam h ^ (63 - n.val) : ℝ) : EReal)
  c : g6 V = ctr i
  s : ∀ (b : Fin 8) (h : Fin 4) (d e : Fin 128), g7 V (ix4 b h d e) = (stR (z b) h (64 * i) d e : EReal)
  x : ∀ (k : Fin 128), k.val < i → ∀ (b : Fin 8) (n : Fin 64) (h : Fin 4) (e : Fin 128), g8 V (ix5 k b n h e)
    = ((∑ d, qR (z b) h (64 * k.val + n.val) d * gam h ^ (n.val + 1) * stR (z b) h (64 * k.val) d e : ℝ) : EReal)

theorem Inv.step (V : Val) (i : Fin 128) (H : Inv z V i.val) : Inv z (STEP V) (i.val + 1) where
  q := (show g0 (STEP V) = g0 V from STEP_main_v139_0 V) ▸ H.q
  k := (show g1 (STEP V) = g1 V from STEP_main_v139_1 V) ▸ H.k
  v := (show g2 (STEP V) = g2 V from STEP_main_v139_2 V) ▸ H.v
  qd := (show g3 (STEP V) = g3 V from STEP_main_v139_3 V) ▸ H.qd
  gd := (show g4 (STEP V) = g4 V from STEP_main_v139_4 V) ▸ H.gd
  kd := (show g5 (STEP V) = g5 V from STEP_main_v139_5 V) ▸ H.kd
  c := by
    have e : g6 (STEP V) = addi (g6 V) (constantI S_ 32 1#32) := STEP_main_v139_6 V
    rw [e, H.c]
    funext j
    show BitVec.ofNat 32 i.val + 1#32 = BitVec.ofNat 32 (i.val + 1)
    exact (BitVec.ofNat_add _ _).symm
  s b h d e := by
    have e1 : g7 (STEP V) = nx7 (g1 V) (g2 V) (g4 V) (g5 V) (ctr i.val) (g7 V) := by
      rw [← H.c, ← step7]; exact STEP_main_v139_7 V
    rw [e1, nx7_apply, H.s, H.gd, show 64 * (i.val + 1) = 64 * i.val + 64 by ring]
    unfold stR
    rw [st_add]
    simp only [H.k, H.kd, H.v, ← EReal.coe_mul, coe_sum, ← EReal.coe_add]
    rw [Fin.sum_univ_eq_sum_range (fun m => kR (z b) h (64 * i.val + m) d * gam h ^ (63 - m) * vR (z b) h (64 * i.val + m) e) 64]
  x k hk b n h e := by
    have e1 : g8 (STEP V) = nx8 (g0 V) (g3 V) (ctr i.val) (g7 V) (g8 V) := by
      rw [← H.c, ← step8]; exact STEP_main_v139_8 V
    rw [e1, nx8_apply]
    by_cases hki : k = i
    · subst hki
      rw [if_pos rfl]
      simp only [H.s, H.q, H.qd, ← EReal.coe_mul, coe_sum]
      congr 1
      exact Finset.sum_congr rfl fun d _ => mul_comm _ _
    · rw [if_neg hki, H.x k (by have : k.val ≠ i.val := fun q => hki (Fin.ext q); omega)]

theorem Inv.iterate (V : Val) (H : Inv z V 0) : ∀ i, i ≤ 128 → Inv z (STEP^[i] V) i
  | 0, _ => H
  | i + 1, hi => by
    rw [Function.iterate_succ_apply']
    exact Inv.step z _ ⟨i, by omega⟩ (Inv.iterate V H i (by omega))

end Cert.Proof.MixRefState

end
-- ==== Proof.MixRefFinal.lean ====
/- The reference's result as the mathematics' one. -/
module

public import proofs.«01_k».proof.Proof.MixRefOut
public import proofs.«01_k».proof.Proof.MixRefIntra
public import proofs.«01_k».proof.Proof.MixRefState
public import proofs.«01_k».proof.Proof.MixRefPostRead
public import proofs.«01_k».proof.Proof.MixRefPreRead
public import proofs.«01_k».proof.Proof.MixZ

@[expose] public section

set_option maxRecDepth 16384

noncomputable section

namespace Cert.Proof.MixRefFinal

open Idealize.ShloMosaic Idealize.ShloMosaic.StableHlo Cert.MixerRefIdeal Cert.MixerRefIdeal.Gen Cert.MixerRefIdeal.Value Cert.Proof.MixReal Cert.Proof.MixRef Cert.Proof.MixRefStep Cert.Proof.MixRefState Cert.Proof.MixRefHeads Cert.Proof.MixRefIntra Cert.Proof.MixRefOut

theorem bits_0 : (Ideal.ofBits .f32 0x00000000#32 : EReal) = ((0 : ℝ) : EReal) := by
  simp [Ideal.ofBits, Ideal.ieee]
theorem zero7 (b : Fin 8) (h : Fin 4) (d e : Fin 128) : e_v137 (F := Ideal) (ix4 b h d e) = Ideal.ofBits .f32 0x00000000#32 := by
  pointwise [e_cst_16, e_v137]

theorem g0_at (W : Val) : g0 W = W (Proc.devRef .tc main_v139_0) := rfl
theorem g1_at (W : Val) : g1 W = W (Proc.devRef .tc main_v139_1) := rfl
theorem g2_at (W : Val) : g2 W = W (Proc.devRef .tc main_v139_2) := rfl
theorem g8_at (W : Val) : g8 W = W (Proc.devRef .tc main_v139_8) := rfl

variable (z : Fin 8 → ℕ → Fin 2560 → ℝ) (V : Val)
variable (hZ : ∀ (b : Fin 8) (T : Fin 8192) (c : Fin 2560), e_v13 (F := Ideal) (V (Proc.devRef .tc main_arg0)) (V (Proc.devRef .tc main_arg1)) (V (Proc.devRef .tc main_arg2)) (ix3 b T c) = (z b T.val c : EReal))

include hZ in
/-- What the loop holds when it begins. -/
theorem start : Inv z (P5 V) 0 where
  q b c n h d := by
    have e := (g0_at (P5 V)).trans (P5_v139_0 (F := Ideal) V)
    generalize g0 (P5 V) = Y at *
    subst e
    unfold e_v139_0
    exact v134_apply _ _ _ z hZ b c n h d
  k b c n h d := by
    have e := (g1_at (P5 V)).trans (P5_v139_1 (F := Ideal) V)
    generalize g1 (P5 V) = Y at *
    subst e
    unfold e_v139_1
    exact v135_apply _ _ _ z hZ b c n h d
  v b c n h d := by
    have e := (g2_at (P5 V)).trans (P5_v139_2 (F := Ideal) V)
    generalize g2 (P5 V) = Y at *
    subst e
    unfold e_v139_2
    exact v136_apply _ _ _ z hZ b c n h d
  qd n h := by
    unfold g3
    rw [P5_v139_3]
    unfold e_v139_3
    rw [MixRefQ.v113_apply]
  gd h := by
    unfold g4
    rw [P5_v139_4]
    unfold e_v139_4
    rw [MixRefQ.v124_apply]
  kd n h := by
    unfold g5
    rw [P5_v139_5]
    unfold e_v139_5
    rw [MixRefQ.v121_apply]
  c := by
    unfold g6
    rw [P5_v139_6]
    rfl
  s b h d e := by
    unfold g7
    rw [P5_v139_7]
    unfold e_v139_7
    rw [zero7, bits_0]
    unfold stR st
    simp
  x k hk := absurd hk (Nat.not_lt_zero _)

variable (m : (ℓ : Loc nD τ sig) → Buf (Elt Ideal) ℓ) (c : Dev nD)
variable (hz : MixGoal.IsRows z (m ((c.tc : Thread nD τ).loc main_arg0)) (m ((c.tc : Thread nD τ).loc main_arg1)) (m ((c.tc : Thread nD τ).loc main_arg2)))

include hz in
/-- The reference's whole result. -/
theorem final : Q13 (L m c) (Proc.devRef .tc main_v247) = MixGoal.G z (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  have hZ : ∀ (b : Fin 8) (T : Fin 8192) (j : Fin 2560), e_v13 (F := Ideal) (launchContents m c (Proc.devRef .tc main_arg0)) (launchContents m c (Proc.devRef .tc main_arg1)) (launchContents m c (Proc.devRef .tc main_arg2)) (ix3 b T j) = (z b T.val j : EReal) :=
    fun b T j => (MixZ.ref_apply _ _ _ b T j).trans (hz b T j)
  have I := Inv.iterate z _ (start z _ hZ) 128 le_rfl
  have e8 : L m c (Proc.devRef .tc main_v139_8) = g8 (STEP^[128] (P5 (launchContents m c))) := (L_v139_8 m c).trans (g8_at _).symm
  have Ix := I.x
  generalize g8 (STEP^[128] (P5 (launchContents m c))) = Y at *
  clear I
  rw [Q13_v247, L_arg0, L_arg3, L_arg4, L_arg5, L_arg6, L_v133, L_v17, L_v18, e8, P5_v133, P5_v17, P5_v18]
  exact out z _ _ _ _ _ _ _ _ _ (v133_apply _ _ _ z hZ) (fun k b n h e => Ix k k.isLt b n h e) (v17_apply z _ _ _ hZ) (v18_apply z _ _ _ hZ)

end Cert.Proof.MixRefFinal

end
-- ==== Proof.MixPre.lean ====
/- Finite arguments are real numbers. -/
module

public import proofs.«01_k».proof.Pre_finite
public import Idealize.ShloMosaic.Lib.Exec
public import proofs.«01_k».proof.Proof.MixReal

@[expose] public section

set_option maxRecDepth 16384

noncomputable section

namespace Cert.Proof.MixPre

open Idealize.ShloMosaic Cert.Pre_finite

/-- The shape relations of the test of finiteness. -/
theorem facts : Cert.Pre_finite.Facts where
  bcast_S_S8x8192x1024 := by decide
  bcast_S_S1024 := by decide
  bcast_S_S1024x2560 := by decide

/-- A value whose absolute value is below infinity is a real number. -/
theorem real_of_lt (a : EReal) (h : max a (-a) < ⊤) : ∃ r : ℝ, a = r := by
  induction a with
  | bot => simp at h
  | coe r => exact ⟨r, rfl⟩
  | top => simp at h

/-- The printed bound is infinity. -/
theorem bits_inf : (Ideal.ofBits .f32 0x7F800000#32 : EReal) = ⊤ := by
  simp [Ideal.ofBits, Ideal.ieee]

/-- One comparison with infinity that holds makes the entry real. -/
theorem real_at {S : Shape} (hb : S_.BroadcastsInDim S (![] : Fin 0 → Fin S.rank)) (x : FVec Ideal S .f32) (i : S.Idx)
    (h : cmpf .olt (Host.absf x) (broadcastInDim S ![] hb (constant S_ .f32 0x7F800000#32 : FVec Ideal S_ .f32)) i = 1#1) : ∃ r : ℝ, x i = r := by
  have h' : Ideal.cmp .olt (max (x i) (-(x i))) (Ideal.ofBits .f32 0x7F800000#32) = 1#1 := h
  rw [bits_inf] at h'
  refine real_of_lt _ ?_
  by_contra hn
  simp [Ideal.cmp, hn] at h'

attribute [local instance] facts

variable (a0 : FVec Ideal S8x8192x1024 .f32) (a1 : FVec Ideal S1024 .f32) (a2 : FVec Ideal S1024x2560 .f32) (a3 : FVec Ideal S512 .f32)
variable (a4 : FVec Ideal S4x128x128 .f32) (a5 : FVec Ideal S512 .f32) (a6 : FVec Ideal S1024x1024 .f32)

/-- Where the test of finiteness holds, the arguments are real. -/
theorem real_0 (h : (fn (F := Ideal) a0 a1 a2 a3 a4 a5 a6).1 = fun _ => 1#1) (i : S8x8192x1024.Idx) : ∃ r : ℝ, a0 i = r := real_at _ a0 i (congrFun h i)
theorem real_1 (h : (fn (F := Ideal) a0 a1 a2 a3 a4 a5 a6).2.1 = fun _ => 1#1) (i : S1024.Idx) : ∃ r : ℝ, a1 i = r := real_at _ a1 i (congrFun h i)
theorem real_2 (h : (fn (F := Ideal) a0 a1 a2 a3 a4 a5 a6).2.2 = fun _ => 1#1) (i : S1024x2560.Idx) : ∃ r : ℝ, a2 i = r := real_at _ a2 i (congrFun h i)

end Cert.Proof.MixPre

end
-- ==== Proof.MixValue.lean ====
/- The mixer: kernel and reference end with equal results on finite arguments. -/
module

public import proofs.«01_k».proof.Proof.MixKernel
public import proofs.«01_k».proof.Proof.MixRefFinal
public import proofs.«01_k».proof.Proof.MixPre
public import proofs.«01_k».proof.Defs

@[expose] public section

set_option maxRecDepth 16384

noncomputable section

namespace Cert.Proof

open Idealize.ShloMosaic Idealize.SL.Sem

/-- Real inputs have real projected rows. -/
theorem rows_exist (x : Vec Ideal Cert.MixerIdeal.S8x8192x1024 .f32) (g : Vec Ideal Cert.MixerIdeal.S1024 .f32) (w : Vec Ideal Cert.MixerIdeal.S1024x2560 .f32)
    (hx : ∀ i, ∃ r : ℝ, x i = r) (hg : ∀ i, ∃ r : ℝ, g i = r) (hw : ∀ i, ∃ r : ℝ, w i = r) :
    ∃ z : Fin 8 → ℕ → Fin 2560 → ℝ, MixGoal.IsRows z x g w := by
  choose xr hxr using hx
  choose gr hgr using hg
  choose wr hwr using hw
  have h : ∀ (b : Fin 8) (T : Fin 8192) (c : Fin 2560), ∃ r : ℝ,
      MixZ.zrow (fun k => x (ix3 b T k)) (fun k => g (ix1 k)) (fun k c => w (ix2 k c)) c = r := by
    intro b T c
    simp only [hxr, hgr, hwr]
    exact MixZ.zrow_real (fun k => xr (ix3 b T k)) (fun k => gr (ix1 k)) (fun k c => wr (ix2 k c)) c
  choose zr hzr using h
  refine ⟨fun b T c => if hT : T < 8192 then zr b ⟨T, hT⟩ c else 0, fun b T c => (hzr b T c).trans ?_⟩
  simp only [T.isLt, dif_pos]

/-- On finite arguments the kernel and the reference end with the same result, and leave their arguments as they were. -/
theorem mixer_algebraic : Cert.algebraic_MixerIdeal_MixerRefIdeal_pre_finite (hMixerIdeal := Cert.MixerIdeal.Gen.facts)
    (hMixerRefIdeal := Cert.MixerRefIdeal.Gen.facts) (hPre_finite := MixPre.facts) := by
  intro m ρ m' ρ' hpre hagree
  have hz := fun c => rows_exist _ _ _ (MixPre.real_0 _ _ _ _ _ _ _ (hpre c).1) (MixPre.real_1 _ _ _ _ _ _ _ (hpre c).2.1) (MixPre.real_2 _ _ _ _ _ _ _ (hpre c).2.2)
  choose z hz using hz
  refine ⟨fun c => MixPoint.GG m (z c) c,
    (θ_run _ _ _).mono (fun _ h c => ⟨(h c).1.trans (MixKernel.final m (z c) c (hz c)), (h c).2⟩) (Cert.MixerIdeal.Value.run_blocks m ρ),
    (θ_run _ _ _).mono (fun _ h c => ⟨(h c).1.trans ?_, (h c).2⟩) (MixRef.run (F := Ideal) m' ρ')⟩
  obtain ⟨e0, e1, e2, e3, e4, e5, e6⟩ := hagree c
  refine (MixRefFinal.final (z c) m' c ?_).trans ?_
  · rw [e0, e1, e2]
    exact hz c
  · rw [e0, e3, e4, e5, e6]
    rfl

end Cert.Proof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import Idealize.ShloMosaic.Adequacy
public import Idealize.ShloMosaic.Init
public import proofs.«01_k».proof.Proof.Gen.FfnIdeal.Value
public import proofs.«01_k».proof.Proof.Gen.FfnRefIdeal.Run
public import proofs.«01_k».proof.Proof.Gen.MixerIdeal.Value
public import proofs.«01_k».proof.Proof.Gen.Mixer.Frame
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.MixerRefIdeal.Run
public import proofs.«01_k».proof.Proof.Gen.FfnMid.Frame
public import proofs.«01_k».proof.Proof.Gen.FfnMidIdeal.Value
public import proofs.«01_k».proof.Proof.Gen.FfnMidRefIdeal.Run
public import proofs.«01_k».proof.Proof.Gen.FfnMidRefIdeal.Read

public import proofs.«01_k».proof.Proof.FfnKernel
public import proofs.«01_k».proof.Proof.FfnReference
public import proofs.«01_k».proof.Proof.FfnMidKernel
public import proofs.«01_k».proof.Proof.FfnMidReference
public import proofs.«01_k».proof.Proof.QkvKernel
public import proofs.«01_k».proof.Proof.QkvReference
public import proofs.«01_k».proof.Proof.MixRefLoop
public import proofs.«01_k».proof.Proof.MixValue
public import proofs.«01_k».proof.Proof.Gen.FfnRefIdeal.Read

@[expose] public section

noncomputable section

namespace Cert.Proof

open Idealize.ShloMosaic Idealize.ShloMosaic.TcCoe Idealize.SL.Sem

/-- The reference's result, device by device, is the kernel's function of the arguments. -/
theorem ffn_reference (m : (ℓ : Loc Cert.FfnRefIdeal.nD Cert.FfnRefIdeal.τ Cert.FfnRefIdeal.sig) → Buf (Elt Ideal) ℓ)
    (c : Dev Cert.FfnRefIdeal.nD) :
    (Cert.FfnRefIdeal.Value.res_out0 m c : Vec Ideal Cert.FfnIdeal.S65536x1024 .f32)
      = FfnKernel.G (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1))
          (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))
          (m ((c.tc : Thread Cert.FfnRefIdeal.nD Cert.FfnRefIdeal.τ).loc Cert.FfnRefIdeal.main_arg4)) := by
  funext i
  obtain ⟨r, j, rfl⟩ : ∃ (r : Fin 65536) (j : Fin 1024), i = ix2 r j := ⟨i 0, i 1, eq_ix2 i⟩
  show Cert.FfnRefIdeal.Value.res_main_v31 m c (ix2 r j) = _
  rw [Cert.FfnRefIdeal.Read.val_main_v31_eq]
  exact FfnReference.v31_apply _ _ _ _ _ r j

theorem ffn_frame_ref : Cert.quiescent_FfnRefIdeal (hFfnRefIdeal := Cert.FfnRefIdeal.Gen.facts) := fun m ρ _ =>
  (θ_run _ _ _).mono (fun r h => ⟨fun c => (h c).2, sem_eq_zero_of_no_sems (by decide) r.2⟩) (Cert.FfnRefIdeal.Value.run m ρ)

theorem ffn_algebraic : Cert.algebraic_FfnIdeal_FfnRefIdeal (hFfnIdeal := Cert.FfnIdeal.Gen.facts) (hFfnRefIdeal := Cert.FfnRefIdeal.Gen.facts) := by
  intro m ρ m' ρ' _ hagree
  refine ⟨fun c => FfnKernel.G _ _ _ _ _, FfnKernel.run m ρ,
    (θ_run _ _ _).mono (fun _ h c => ⟨(h c).1.trans ?_, (h c).2⟩) (Cert.FfnRefIdeal.Value.run m' ρ')⟩
  refine (ffn_reference m' c).trans ?_
  rw [(hagree c).1, (hagree c).2.1, (hagree c).2.2.1, (hagree c).2.2.2.1, (hagree c).2.2.2.2]

/-- The middle layers' feed-forward reference, token by token, is the kernel's function of the arguments. -/
theorem ffnmid_reference (x0 : Vec Ideal Cert.FfnMidRefIdeal.S8x8192x1024 .f32) (x1 : Vec Ideal Cert.FfnMidRefIdeal.S1024 .f32)
    (x2 : Vec Ideal Cert.FfnMidRefIdeal.S1024x4096 .f32) (x3 : Vec Ideal Cert.FfnMidRefIdeal.S4096x1024 .f32) :
    (Cert.FfnMidRefIdeal.Read.val_main_v18 (F := Ideal) x0 x1 x2 x3 : Vec Ideal Cert.FfnMidIdeal.S65536x1024 .f32) = FfnMidKernel.G x0 x1 x2 x3 := by
  funext i
  obtain ⟨r, j, rfl⟩ : ∃ (r : Fin 65536) (j : Fin 1024), i = ix2 r j := ⟨i 0, i 1, eq_ix2 i⟩
  exact FfnMidReference.v18_apply _ _ _ _ r j

theorem ffnmid_frame_ref : Cert.quiescent_FfnMidRefIdeal (hFfnMidRefIdeal := Cert.FfnMidRefIdeal.Gen.facts) := fun m ρ _ =>
  (θ_run _ _ _).mono (fun r h => ⟨fun c => (h c).2, sem_eq_zero_of_no_sems (by decide) r.2⟩) (Cert.FfnMidRefIdeal.Value.run m ρ)

theorem ffnmid_algebraic : Cert.algebraic_FfnMidIdeal_FfnMidRefIdeal (hFfnMidIdeal := Cert.FfnMidIdeal.Gen.facts)
    (hFfnMidRefIdeal := Cert.FfnMidRefIdeal.Gen.facts) := by
  intro m ρ m' ρ' _ hagree
  refine ⟨fun c => FfnMidKernel.G _ _ _ _, FfnMidKernel.run m ρ,
    (θ_run _ _ _).mono (fun _ h c => ⟨(h c).1.trans ?_, (h c).2⟩) (Cert.FfnMidRefIdeal.Value.run m' ρ')⟩
  rw [Cert.FfnMidRefIdeal.Read.val_main_v18_eq, ffnmid_reference, (hagree c).1, (hagree c).2.1, (hagree c).2.2.1, (hagree c).2.2.2.1]

/-- The reference's queries are the kernel's function of the arguments. -/
theorem qkv_reference_q (x0 : Vec Ideal Cert.QkvRefIdeal.S8x8192x1024 .f32) (x1 : Vec Ideal Cert.QkvRefIdeal.S1024 .f32)
    (x2 : Vec Ideal Cert.QkvRefIdeal.S1024x3072 .f32) :
    (Cert.QkvRefIdeal.Read.val_main_v21 (F := Ideal) x0 x1 x2 : Vec Ideal Cert.QkvIdeal.S8x8x8192x128 .bf16) = QkvKernel.Gq x0 x1 x2 := by
  funext i
  obtain ⟨b, p, s, l, rfl⟩ : ∃ (b p : Fin 8) (s : Fin 8192) (l : Fin 128), i = ix4 b p s l := ⟨i 0, i 1, i 2, i 3, eq_ix4 i⟩
  refine (QkvReference.v21_apply _ _ _ b p s l).trans ?_
  refine congrArg (· * _) (QkvBlock.col_congr (fun k => rfl) (fun k => rfl) (fun k => ?_))
  exact congrArg x2 (congrArg (ix2 k) (Fin.ext (Nat.zero_add _).symm))
/-- The same for the keys. -/
theorem qkv_reference_k (x0 : Vec Ideal Cert.QkvRefIdeal.S8x8192x1024 .f32) (x1 : Vec Ideal Cert.QkvRefIdeal.S1024 .f32)
    (x2 : Vec Ideal Cert.QkvRefIdeal.S1024x3072 .f32) :
    (Cert.QkvRefIdeal.Read.val_main_v24 (F := Ideal) x0 x1 x2 : Vec Ideal Cert.QkvIdeal.S8x8x8192x128 .bf16) = QkvKernel.Gk x0 x1 x2 := by
  funext i
  obtain ⟨b, p, s, l, rfl⟩ : ∃ (b p : Fin 8) (s : Fin 8192) (l : Fin 128), i = ix4 b p s l := ⟨i 0, i 1, i 2, i 3, eq_ix4 i⟩
  exact QkvReference.v24_apply _ _ _ b p s l
/-- The same for the values. -/
theorem qkv_reference_v (x0 : Vec Ideal Cert.QkvRefIdeal.S8x8192x1024 .f32) (x1 : Vec Ideal Cert.QkvRefIdeal.S1024 .f32)
    (x2 : Vec Ideal Cert.QkvRefIdeal.S1024x3072 .f32) :
    (Cert.QkvRefIdeal.Read.val_main_v27 (F := Ideal) x0 x1 x2 : Vec Ideal Cert.QkvIdeal.S8x8x8192x128 .bf16) = QkvKernel.Gv x0 x1 x2 := by
  funext i
  obtain ⟨b, p, s, l, rfl⟩ : ∃ (b p : Fin 8) (s : Fin 8192) (l : Fin 128), i = ix4 b p s l := ⟨i 0, i 1, i 2, i 3, eq_ix4 i⟩
  exact QkvReference.v27_apply _ _ _ b p s l

theorem qkv_frame_ref : Cert.quiescent_QkvRefIdeal (hQkvRefIdeal := Cert.QkvRefIdeal.Gen.facts) := fun m ρ _ =>
  (θ_run _ _ _).mono (fun r h => ⟨fun c => (h c).2.2.2, sem_eq_zero_of_no_sems (by decide) r.2⟩) (Cert.QkvRefIdeal.Value.run m ρ)

/-- The projection call and the reference leave the same queries, keys and values. -/
theorem qkv_algebraic : Cert.algebraic_QkvIdeal_QkvRefIdeal (hQkvIdeal := Cert.QkvIdeal.Gen.facts)
    (hQkvRefIdeal := Cert.QkvRefIdeal.Gen.facts) := by
  intro m ρ m' ρ' _ hagree
  refine ⟨fun c => QkvKernel.Gq _ _ _, fun c => QkvKernel.Gk _ _ _, fun c => QkvKernel.Gv _ _ _, QkvKernel.run m ρ,
    (θ_run _ _ _).mono (fun _ h c => ⟨(h c).1.trans ?_, (h c).2.1.trans ?_, (h c).2.2.1.trans ?_, (h c).2.2.2⟩)
      (Cert.QkvRefIdeal.Value.run m' ρ')⟩
  · rw [Cert.QkvRefIdeal.Read.val_main_v21_eq, qkv_reference_q, (hagree c).1, (hagree c).2.1, (hagree c).2.2]
  · rw [Cert.QkvRefIdeal.Read.val_main_v24_eq, qkv_reference_k, (hagree c).1, (hagree c).2.1, (hagree c).2.2]
  · rw [Cert.QkvRefIdeal.Read.val_main_v27_eq, qkv_reference_v, (hagree c).1, (hagree c).2.1, (hagree c).2.2]

/-- The four named constants are the constants the kernel prints. -/
theorem mixer_preserves : Cert.preserves_Mixer_MixerIdeal :=
  ⟨IdealRules.named_const.statement _ _ _ _ _ rfl, IdealRules.named_const.statement _ _ _ _ _ rfl,
    IdealRules.named_const.statement _ _ _ _ _ rfl, IdealRules.named_const.statement _ _ _ _ _ rfl⟩

theorem mixer_frame_ref : Cert.quiescent_MixerRefIdeal (hMixerRefIdeal := Cert.MixerRefIdeal.Gen.facts) := fun m ρ _ =>
  (θ_run _ _ _).mono (fun r h => ⟨fun c => (h c).2, sem_eq_zero_of_no_sems (by decide) r.2⟩) (MixRef.run (F := Ideal) m ρ)

/-- Everything the certificate states. -/
theorem claim : Cert.Claim := ⟨Cert.Mixer.Gen.facts, Cert.MixerIdeal.Gen.facts, Cert.MixerRefIdeal.Gen.facts,
  Cert.Ffn.Gen.facts, Cert.FfnIdeal.Gen.facts, Cert.FfnRefIdeal.Gen.facts,
  Cert.FfnMid.Gen.facts, Cert.FfnMidIdeal.Gen.facts, Cert.FfnMidRefIdeal.Gen.facts,
  Cert.Qkv.Gen.facts, Cert.QkvIdeal.Gen.facts, Cert.QkvRefIdeal.Gen.facts, MixPre.facts,
  fun m ρ _ => Cert.Mixer.Gen.frame m ρ, fun m ρ _ => Cert.MixerIdeal.Gen.frame m ρ, fun m ρ _ => Cert.MixerIdeal.Gen.frame m ρ, mixer_frame_ref, fun m ρ _ => mixer_frame_ref m ρ trivial,
  fun m ρ _ => Cert.Ffn.Gen.frame m ρ, fun m ρ _ => Cert.FfnIdeal.Gen.frame m ρ, ffn_frame_ref,
  fun m ρ _ => Cert.FfnMid.Gen.frame m ρ, fun m ρ _ => Cert.FfnMidIdeal.Gen.frame m ρ, ffnmid_frame_ref,
  fun m ρ _ => Cert.Qkv.Gen.frame m ρ, fun m ρ _ => Cert.QkvIdeal.Gen.frame m ρ, qkv_frame_ref,
  mixer_preserves, mixer_algebraic, trivial, ffn_algebraic, trivial, ffnmid_algebraic, trivial, qkv_algebraic⟩

end Cert.Proof

end
